-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 [hPre_tables2 : Cert.Pre_tables2.Facts] (m : (ℓ : Loc Cert.Kernel2.nD Cert.Kernel2.τ Cert.Kernel2.sig) → Buf (Elt Bits) ℓ) : Prop :=
  ∀ c : Dev Cert.Kernel2.nD,
    (Cert.Pre_tables2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_tables2 : Cert.Pre_tables2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_tables2 : Cert.Pre_tables2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_experts : Cert.Pre_experts.Facts] (m : (ℓ : Loc Cert.Kernel7.nD Cert.Kernel7.τ Cert.Kernel7.sig) → Buf (Elt Bits) ℓ) : Prop :=
  ∀ c : Dev Cert.Kernel7.nD,
    (Cert.Pre_experts.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2))) = (fun _ => 1#1)

def Pre_Kernel7Ideal [hPre_experts : Cert.Pre_experts.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_experts.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal [hPre_experts : Cert.Pre_experts.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_experts.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_tables2 : Cert.Pre_tables2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_tables2 : Cert.Pre_tables2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_tables2 : Cert.Pre_tables2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] [hPre_experts : Cert.Pre_experts.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] [hPre_experts : Cert.Pre_experts.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] [hPre_experts : Cert.Pre_experts.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_tables2 : Cert.Pre_tables2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)) (v5 : (c : Dev Cert.Kernel3Ideal.nD) → Buf (Elt Ideal) ((c.tc : Thread Cert.Kernel3Ideal.nD Cert.Kernel3Ideal.τ).loc Cert.Kernel3Ideal.main_v10_5)) (v6 : (c : Dev Cert.Kernel3Ideal.nD) → Buf (Elt Ideal) ((c.tc : Thread Cert.Kernel3Ideal.nD Cert.Kernel3Ideal.τ).loc Cert.Kernel3Ideal.main_v10_6)) (v7 : (c : Dev Cert.Kernel3Ideal.nD) → Buf (Elt Ideal) ((c.tc : Thread Cert.Kernel3Ideal.nD Cert.Kernel3Ideal.τ).loc Cert.Kernel3Ideal.main_v10_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_v10_5) = v5 c
          ∧ r.2.mem ((c.tc : Thread Cert.Kernel3Ideal.nD Cert.Kernel3Ideal.τ).loc Cert.Kernel3Ideal.main_v10_6) = v6 c
          ∧ r.2.mem ((c.tc : Thread Cert.Kernel3Ideal.nD Cert.Kernel3Ideal.τ).loc Cert.Kernel3Ideal.main_v10_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v52) = v1 c
          ∧ r.2.mem ((c.tc : Thread Cert.Reference3Ideal.nD Cert.Reference3Ideal.τ).loc Cert.Reference3Ideal.main_v57) = v2 c
          ∧ r.2.mem ((c.tc : Thread Cert.Reference3Ideal.nD Cert.Reference3Ideal.τ).loc Cert.Reference3Ideal.main_v63) = v3 c
          ∧ r.2.mem ((c.tc : Thread Cert.Reference3Ideal.nD Cert.Reference3Ideal.τ).loc Cert.Reference3Ideal.main_v70) = v4 c
          ∧ r.2.mem ((c.tc : Thread Cert.Reference3Ideal.nD Cert.Reference3Ideal.τ).loc Cert.Reference3Ideal.main_v73) = v5 c
          ∧ r.2.mem ((c.tc : Thread Cert.Reference3Ideal.nD Cert.Reference3Ideal.τ).loc Cert.Reference3Ideal.main_v80) = v6 c
          ∧ r.2.mem ((c.tc : Thread Cert.Reference3Ideal.nD Cert.Reference3Ideal.τ).loc Cert.Reference3Ideal.main_v81) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v41_0)) (v1 : (c : Dev Cert.Kernel4Ideal.nD) → Buf (Elt Ideal) ((c.tc : Thread Cert.Kernel4Ideal.nD Cert.Kernel4Ideal.τ).loc Cert.Kernel4Ideal.main_v41_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v41_0) = v0 c
          ∧ r.2.mem ((c.tc : Thread Cert.Kernel4Ideal.nD Cert.Kernel4Ideal.τ).loc Cert.Kernel4Ideal.main_v41_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v83) = v0 c
          ∧ r.2.mem ((c.tc : Thread Cert.Reference4Ideal.nD Cert.Reference4Ideal.τ).loc Cert.Reference4Ideal.main_v85) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v67) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] [hPre_experts : Cert.Pre_experts.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_tables : Cert.Pre_tables.Facts) (hPre_tables2 : Cert.Pre_tables2.Facts) (hPre_experts : Cert.Pre_experts.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal) (hPre_tables := hPre_tables)
    ∧ quiescent_Kernel2 (hKernel2 := hKernel2) (hPre_tables2 := hPre_tables2)
    ∧ quiescent_Kernel2Ideal (hKernel2Ideal := hKernel2Ideal) (hPre_tables2 := hPre_tables2)
    ∧ quiescent_Reference2Ideal (hReference2Ideal := hReference2Ideal) (hPre_tables2 := hPre_tables2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_experts := hPre_experts)
    ∧ quiescent_Kernel7Ideal (hKernel7Ideal := hKernel7Ideal) (hPre_experts := hPre_experts)
    ∧ quiescent_Reference7Ideal (hReference7Ideal := hReference7Ideal) (hPre_experts := hPre_experts)
    ∧ preserves_Kernel_KernelIdeal
    ∧ algebraic_KernelIdeal_ReferenceIdeal (hKernelIdeal := hKernelIdeal) (hReferenceIdeal := hReferenceIdeal) (hPre_tables := hPre_tables)
    ∧ preserves_Kernel2_Kernel2Ideal
    ∧ algebraic_Kernel2Ideal_Reference2Ideal (hKernel2Ideal := hKernel2Ideal) (hReference2Ideal := hReference2Ideal) (hPre_tables2 := hPre_tables2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_experts := hPre_experts)
-- ==== Pre_experts.lean ====
abbrev S32 : Shape := ⟨1, ![32]⟩
abbrev S4x32768 : Shape := ⟨2, ![4, 32768]⟩
abbrev S_ : Shape := ⟨0, ![]⟩

class Facts : Prop where
  bcast_S_S4x32768 : S_.BroadcastsInDim S4x32768 (![] : Fin 0 → Fin S4x32768.rank)
  reducesTo_S4x32768_S_d0_1 : S4x32768.ReducesTo [0, 1] S_
  h_S_ : 0 < S_.numel

variable [Facts]

def fn {F : FTy → Type} [FloatOps F] (main_arg0 : IVec S32 32) (main_arg1 : IVec S4x32768 32) (main_arg2 : IVec S4x32768 32) : IVec S_ 1 :=
  let main_c : IVec S_ 32 := constantI S_ 32 0#32
  let main_v0 : IVec S4x32768 32 := broadcastInDim S4x32768 ![] bcast_S_S4x32768 main_c
  let main_v1 : IVec S4x32768 1 := cmpi .sge main_arg1 main_v0
  let main_c_0 : IVec S_ 32 := constantI S_ 32 32#32
  let main_v2 : IVec S4x32768 32 := broadcastInDim S4x32768 ![] bcast_S_S4x32768 main_c_0
  let main_v3 : IVec S4x32768 1 := cmpi .slt main_arg1 main_v2
  let main_v4 : IVec S4x32768 1 := andi main_v1 main_v3
  let main_c_1 : IVec S_ 1 := constantI S_ 1 1#1
  let main_v5 : IVec S_ 1 := (fun x v => Host.reduce IntOp.andi x v reducesTo_S4x32768_S_d0_1 h_S_) main_v4 main_c_1
  main_v5
-- ==== Pre_tables.lean ====
abbrev S159 : Shape := ⟨1, ![159]⟩
abbrev S1 : Shape := ⟨1, ![1]⟩
abbrev S162816x1024 : Shape := ⟨2, ![162816, 1024]⟩
abbrev S2x32x2048x2048 : Shape := ⟨4, ![2, 32, 2048, 2048]⟩
abbrev S2x32x2048 : Shape := ⟨3, ![2, 32, 2048]⟩
abbrev S_ : Shape := ⟨0, ![]⟩

class Facts : Prop where
  bcast_S_S159 : S_.BroadcastsInDim S159 (![] : Fin 0 → Fin S159.rank)
  reducesTo_S159_S_d0 : S159.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S159 32) (main_arg1 : IVec S1 32) (main_arg2 : IVec S162816x1024 32) (main_arg3 : FVec F S2x32x2048x2048 .f32) (main_arg4 : FVec F S2x32x2048 .f32) (main_arg5 : FVec F S2x32x2048x2048 .f32) (main_arg6 : FVec F S2x32x2048 .f32) : IVec S_ 1 :=
  let main_c : IVec S_ 32 := constantI S_ 32 0#32
  let main_v0 : IVec S159 32 := broadcastInDim S159 ![] bcast_S_S159 main_c
  let main_v1 : IVec S159 1 := cmpi .sge main_arg0 main_v0
  let main_c_0 : IVec S_ 32 := constantI S_ 32 32#32
  let main_v2 : IVec S159 32 := broadcastInDim S159 ![] bcast_S_S159 main_c_0
  let main_v3 : IVec S159 1 := cmpi .slt main_arg0 main_v2
  let main_v4 : IVec S159 1 := andi main_v1 main_v3
  let main_c_1 : IVec S_ 1 := constantI S_ 1 1#1
  let main_v5 : IVec S_ 1 := (fun x v => Host.reduce IntOp.andi x v reducesTo_S159_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 159#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_tables2.lean ====
abbrev S159 : Shape := ⟨1, ![159]⟩
abbrev S1 : Shape := ⟨1, ![1]⟩
abbrev S162816x2048 : Shape := ⟨2, ![162816, 2048]⟩
abbrev S2x32x2048x2048 : Shape := ⟨4, ![2, 32, 2048, 2048]⟩
abbrev S2x32x2048 : Shape := ⟨3, ![2, 32, 2048]⟩
abbrev S_ : Shape := ⟨0, ![]⟩

class Facts : Prop where
  bcast_S_S159 : S_.BroadcastsInDim S159 (![] : Fin 0 → Fin S159.rank)
  reducesTo_S159_S_d0 : S159.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S159 32) (main_arg1 : IVec S1 32) (main_arg2 : FVec F S162816x2048 .bf16) (main_arg3 : FVec F S2x32x2048x2048 .f32) (main_arg4 : FVec F S2x32x2048 .f32) : IVec S_ 1 :=
  let main_c : IVec S_ 32 := constantI S_ 32 0#32
  let main_v0 : IVec S159 32 := broadcastInDim S159 ![] bcast_S_S159 main_c
  let main_v1 : IVec S159 1 := cmpi .sge main_arg0 main_v0
  let main_c_0 : IVec S_ 32 := constantI S_ 32 32#32
  let main_v2 : IVec S159 32 := broadcastInDim S159 ![] bcast_S_S159 main_c_0
  let main_v3 : IVec S159 1 := cmpi .slt main_arg0 main_v2
  let main_v4 : IVec S159 1 := andi main_v1 main_v3
  let main_c_1 : IVec S_ 1 := constantI S_ 1 1#1
  let main_v5 : IVec S_ 1 := (fun x v => Host.reduce IntOp.andi x v reducesTo_S159_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 159#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S159 : Shape := ⟨1, ![159]⟩
abbrev S1 : Shape := ⟨1, ![1]⟩
abbrev S162816x1024 : Shape := ⟨2, ![162816, 1024]⟩
abbrev S2x32x2048x2048 : Shape := ⟨4, ![2, 32, 2048, 2048]⟩
abbrev S2x32x2048 : Shape := ⟨3, ![2, 32, 2048]⟩
abbrev S2x32x1x2048 : Shape := ⟨4, ![2, 32, 1, 2048]⟩
abbrev S162816x2048 : Shape := ⟨2, ![162816, 2048]⟩
abbrev S1024x1024 : Shape := ⟨2, ![1024, 1024]⟩
abbrev S1x1x2048x512 : Shape := ⟨4, ![1, 1, 2048, 512]⟩
abbrev S1x1x1x512 : Shape := ⟨4, ![1, 1, 1, 512]⟩
abbrev S1024x512 : Shape := ⟨2, ![1024, 512]⟩
abbrev S1024x2048 : Shape := ⟨2, ![1024, 2048]⟩
abbrev S2048x512 : Shape := ⟨2, ![2048, 512]⟩
abbrev S1x512 : Shape := ⟨2, ![1, 512]⟩

abbrev nBuf : Space → Nat
  | .hbm => 8
  | .vmem => 13
  | .smem => 2
  | _ => 0

abbrev bufTy : (tb : Table) → Fin (tcTables nBuf tb) → BufTy
  | .hbm, ⟨0, _⟩ => ⟨S162816x1024, .i32⟩
  | .hbm, ⟨1, _⟩ => ⟨S2x32x2048x2048, .f32⟩
  | .hbm, ⟨2, _⟩ => ⟨S2x32x2048, .f32⟩
  | .hbm, ⟨3, _⟩ => ⟨S2x32x2048x2048, .f32⟩
  | .hbm, ⟨4, _⟩ => ⟨S2x32x2048, .f32⟩
  | .hbm, ⟨5, _⟩ => ⟨S2x32x1x2048, .f32⟩
  | .hbm, ⟨6, _⟩ => ⟨S2x32x1x2048, .f32⟩
  | .hbm, ⟨7, _⟩ => ⟨S162816x2048, .bf16⟩
  | .local _ .vmem, ⟨0, _⟩ => ⟨S1024x1024, .i32⟩
  | .local _ .vmem, ⟨1, _⟩ => ⟨S1024x1024, .i32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x1x512, .f32⟩
  | .local _ .vmem, ⟨5, _⟩ => ⟨S1x1x1x512, .f32⟩
  | .local _ .vmem, ⟨6, _⟩ => ⟨S1x1x2048x512, .f32⟩
  | .local _ .vmem, ⟨7, _⟩ => ⟨S1x1x2048x512, .f32⟩
  | .local _ .vmem, ⟨8, _⟩ => ⟨S1x1x1x512, .f32⟩
  | .local _ .vmem, ⟨9, _⟩ => ⟨S1x1x1x512, .f32⟩
  | .local _ .vmem, ⟨10, _⟩ => ⟨S1024x512, .bf16⟩
  | .local _ .vmem, ⟨11, _⟩ => ⟨S1024x512, .bf16⟩
  | .local _ .vmem, ⟨12, _⟩ => ⟨S1024x2048, .bf16⟩
  | .local _ .smem, ⟨0, _⟩ => ⟨S159, .i32⟩
  | .local _ .smem, ⟨1, _⟩ => ⟨S1, .i32⟩
  | _, _ => ⟨S162816x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![159, 4], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v0 : BitVec 32) : BitVec 1 :=
  let arg0 : BitVec 32 := BitVec.ofNat 32 (i 0).val
  let v1 : BitVec 1 := Scalar.cmpi .slt arg0 v0
  let v6 : BitVec 32 := Scalar.extui v1
  let c0_i32_1 : BitVec 32 := 0#32
  let v7 : BitVec 1 := Scalar.cmpi .ne v6 c0_i32_1
  v7

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v8 : BitVec 1 := Scalar.xori v1 v_true
  let v9 : BitVec 32 := Scalar.extui v8
  let c0_i32_2 : BitVec 32 := 0#32
  let v10 : BitVec 1 := Scalar.cmpi .ne v9 c0_i32_2
  v10

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S159.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S159) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (k0_off1_inb : ∀ i : grid0.Coords, ∀ a, (k0_off1 i) a + S1.size a ≤ S159.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S159) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  let c0_i32_1 : BitVec 32 := 0#32
  ![c0_i32.toNat, v1.toNat, c0_i32_0.toNat, v4.toNat]

def cc0_transform_3 (k0_off1_inb : ∀ i : grid0.Coords, ∀ a, (k0_off1 i) a + S1.size a ≤ S159.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S159) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  let c0_i32_1 : BitVec 32 := 0#32
  ![c0_i32.toNat, v1.toNat, c0_i32_0.toNat, v4.toNat]

def cc0_transform_4 (k0_off1_inb : ∀ i : grid0.Coords, ∀ a, (k0_off1 i) a + S1.size a ≤ S159.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S159) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  let c0_i32_1 : BitVec 32 := 0#32
  ![c0_i32.toNat, v1.toNat, c0_i32_0.toNat, v4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S159 : Shape := ⟨1, ![159]⟩
abbrev S1 : Shape := ⟨1, ![1]⟩
abbrev S162816x1024 : Shape := ⟨2, ![162816, 1024]⟩
abbrev S2x32x2048x2048 : Shape := ⟨4, ![2, 32, 2048, 2048]⟩
abbrev S2x32x2048 : Shape := ⟨3, ![2, 32, 2048]⟩
abbrev S_ : Shape := ⟨0, ![]⟩
abbrev S162816x2048 : Shape := ⟨2, ![162816, 2048]⟩
abbrev S159x1024x2048 : Shape := ⟨3, ![159, 1024, 2048]⟩
abbrev S1x32x2048x2048 : Shape := ⟨4, ![1, 32, 2048, 2048]⟩
abbrev S32x2048x2048 : Shape := ⟨3, ![32, 2048, 2048]⟩
abbrev S159x1 : Shape := ⟨2, ![159, 1]⟩
abbrev S159x2048x2048 : Shape := ⟨3, ![159, 2048, 2048]⟩
abbrev S1x32x2048 : Shape := ⟨3, ![1, 32, 2048]⟩
abbrev S32x2048 : Shape := ⟨2, ![32, 2048]⟩
abbrev S159x2048 : Shape := ⟨2, ![159, 2048]⟩
abbrev S159x1x2048 : Shape := ⟨3, ![159, 1, 2048]⟩
abbrev S159x1x1 : Shape := ⟨3, ![159, 1, 1]⟩

abbrev nBuf : Space → Nat
  | .hbm => 108
  | .vmem => 0
  | .smem => 0
  | _ => 0

abbrev bufTy : (tb : Table) → Fin (tcTables nBuf tb) → BufTy
  | .hbm, ⟨0, _⟩ => ⟨S159, .i32⟩
  | .hbm, ⟨1, _⟩ => ⟨S1, .i32⟩
  | .hbm, ⟨2, _⟩ => ⟨S162816x1024, .i32⟩
  | .hbm, ⟨3, _⟩ => ⟨S2x32x2048x2048, .f32⟩
  | .hbm, ⟨4, _⟩ => ⟨S2x32x2048, .f32⟩
  | .hbm, ⟨5, _⟩ => ⟨S2x32x2048x2048, .f32⟩
  | .hbm, ⟨6, _⟩ => ⟨S2x32x2048, .f32⟩
  | .hbm, ⟨7, _⟩ => ⟨S_, .i32⟩
  | .hbm, ⟨8, _⟩ => ⟨S162816x1024, .i32⟩
  | .hbm, ⟨9, _⟩ => ⟨S162816x1024, .i32⟩
  | .hbm, ⟨10, _⟩ => ⟨S162816x1024, .f32⟩
  | .hbm, ⟨11, _⟩ => ⟨S_, .i32⟩
  | .hbm, ⟨12, _⟩ => ⟨S162816x1024, .i32⟩
  | .hbm, ⟨13, _⟩ => ⟨S162816x1024, .i32⟩
  | .hbm, ⟨14, _⟩ => ⟨S162816x1024, .f32⟩
  | .hbm, ⟨15, _⟩ => ⟨S162816x2048, .f32⟩
  | .hbm, ⟨16, _⟩ => ⟨S159x1024x2048, .f32⟩
  | .hbm, ⟨17, _⟩ => ⟨S1x32x2048x2048, .f32⟩
  | .hbm, ⟨18, _⟩ => ⟨S32x2048x2048, .f32⟩
  | .hbm, ⟨19, _⟩ => ⟨S_, .i32⟩
  | .hbm, ⟨20, _⟩ => ⟨S159, .i32⟩
  | .hbm, ⟨21, _⟩ => ⟨S159, .i1⟩
  | .hbm, ⟨22, _⟩ => ⟨S_, .i32⟩
  | .hbm, ⟨23, _⟩ => ⟨S159, .i32⟩
  | .hbm, ⟨24, _⟩ => ⟨S159, .i32⟩
  | .hbm, ⟨25, _⟩ => ⟨S159, .i32⟩
  | .hbm, ⟨26, _⟩ => ⟨S159x1, .i32⟩
  | .hbm, ⟨27, _⟩ => ⟨S159x2048x2048, .f32⟩
  | .hbm, ⟨28, _⟩ => ⟨S159x1024x2048, .f32⟩
  | .hbm, ⟨29, _⟩ => ⟨S1x32x2048, .f32⟩
  | .hbm, ⟨30, _⟩ => ⟨S32x2048, .f32⟩
  | .hbm, ⟨31, _⟩ => ⟨S_, .i32⟩
  | .hbm, ⟨32, _⟩ => ⟨S159, .i32⟩
  | .hbm, ⟨33, _⟩ => ⟨S159, .i1⟩
  | .hbm, ⟨34, _⟩ => ⟨S_, .i32⟩
  | .hbm, ⟨35, _⟩ => ⟨S159, .i32⟩
  | .hbm, ⟨36, _⟩ => ⟨S159, .i32⟩
  | .hbm, ⟨37, _⟩ => ⟨S159, .i32⟩
  | .hbm, ⟨38, _⟩ => ⟨S159x1, .i32⟩
  | .hbm, ⟨39, _⟩ => ⟨S159x2048, .f32⟩
  | .hbm, ⟨40, _⟩ => ⟨S159x1x2048, .f32⟩
  | .hbm, ⟨41, _⟩ => ⟨S159x1024x2048, .f32⟩
  | .hbm, ⟨42, _⟩ => ⟨S159x1024x2048, .f32⟩
  | .hbm, ⟨43, _⟩ => ⟨S1x32x2048x2048, .f32⟩
  | .hbm, ⟨44, _⟩ => ⟨S32x2048x2048, .f32⟩
  | .hbm, ⟨45, _⟩ => ⟨S_, .i32⟩
  | .hbm, ⟨46, _⟩ => ⟨S159, .i32⟩
  | .hbm, ⟨47, _⟩ => ⟨S159, .i1⟩
  | .hbm, ⟨48, _⟩ => ⟨S_, .i32⟩
  | .hbm, ⟨49, _⟩ => ⟨S159, .i32⟩
  | .hbm, ⟨50, _⟩ => ⟨S159, .i32⟩
  | .hbm, ⟨51, _⟩ => ⟨S159, .i32⟩
  | .hbm, ⟨52, _⟩ => ⟨S159x1, .i32⟩
  | .hbm, ⟨53, _⟩ => ⟨S159x2048x2048, .f32⟩
  | .hbm, ⟨54, _⟩ => ⟨S159x1024x2048, .f32⟩
  | .hbm, ⟨55, _⟩ => ⟨S1x32x2048, .f32⟩
  | .hbm, ⟨56, _⟩ => ⟨S32x2048, .f32⟩
  | .hbm, ⟨57, _⟩ => ⟨S_, .i32⟩
  | .hbm, ⟨58, _⟩ => ⟨S159, .i32⟩
  | .hbm, ⟨59, _⟩ => ⟨S159, .i1⟩
  | .hbm, ⟨60, _⟩ => ⟨S_, .i32⟩
  | .hbm, ⟨61, _⟩ => ⟨S159, .i32⟩
  | .hbm, ⟨62, _⟩ => ⟨S159, .i32⟩
  | .hbm, ⟨63, _⟩ => ⟨S159, .i32⟩
  | .hbm, ⟨64, _⟩ => ⟨S159x1, .i32⟩
  | .hbm, ⟨65, _⟩ => ⟨S159x2048, .f32⟩
  | .hbm, ⟨66, _⟩ => ⟨S159x1x2048, .f32⟩
  | .hbm, ⟨67, _⟩ => ⟨S159x1024x2048, .f32⟩
  | .hbm, ⟨68, _⟩ => ⟨S159x1024x2048, .f32⟩
  | .hbm, ⟨69, _⟩ => ⟨S_, .f32⟩
  | .hbm, ⟨70, _⟩ => ⟨S159x1024x2048, .f32⟩
  | .hbm, ⟨71, _⟩ => ⟨S159x1024x2048, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S159x1024x2048, .f32⟩
  | .hbm, ⟨76, _⟩ => ⟨S159x1024x2048, .f32⟩
  | .hbm, ⟨77, _⟩ => ⟨S_, .f32⟩
  | .hbm, ⟨78, _⟩ => ⟨S159x1024x2048, .f32⟩
  | .hbm, ⟨79, _⟩ => ⟨S159x1024x2048, .f32⟩
  | .hbm, ⟨80, _⟩ => ⟨S_, .f32⟩
  | .hbm, ⟨81, _⟩ => ⟨S159x1024x2048, .f32⟩
  | .hbm, ⟨82, _⟩ => ⟨S159x1024x2048, .f32⟩
  | .hbm, ⟨83, _⟩ => ⟨S159x1024x2048, .f32⟩
  | .hbm, ⟨84, _⟩ => ⟨S159x1024x2048, .f32⟩
  | .hbm, ⟨85, _⟩ => ⟨S_, .f32⟩
  | .hbm, ⟨86, _⟩ => ⟨S159x1024x2048, .f32⟩
  | .hbm, ⟨87, _⟩ => ⟨S159x1024x2048, .f32⟩
  | .hbm, ⟨88, _⟩ => ⟨S_, .f32⟩
  | .hbm, ⟨89, _⟩ => ⟨S159x1024x2048, .f32⟩
  | .hbm, ⟨90, _⟩ => ⟨S159x1024x2048, .f32⟩
  | .hbm, ⟨91, _⟩ => ⟨S159x1024x2048, .f32⟩
  | .hbm, ⟨92, _⟩ => ⟨S_, .f32⟩
  | .hbm, ⟨93, _⟩ => ⟨S159x1024x2048, .f32⟩
  | .hbm, ⟨94, _⟩ => ⟨S159x1024x2048, .f32⟩
  | .hbm, ⟨95, _⟩ => ⟨S159x1024x2048, .f32⟩
  | .hbm, ⟨96, _⟩ => ⟨S159, .i32⟩
  | .hbm, ⟨97, _⟩ => ⟨S_, .i32⟩
  | .hbm, ⟨98, _⟩ => ⟨S159, .i32⟩
  | .hbm, ⟨99, _⟩ => ⟨S159, .i1⟩
  | .hbm, ⟨100, _⟩ => ⟨S159x1x1, .i1⟩
  | .hbm, ⟨101, _⟩ => ⟨S_, .f32⟩
  | .hbm, ⟨102, _⟩ => ⟨S_, .f32⟩
  | .hbm, ⟨103, _⟩ => ⟨S159x1024x2048, .i1⟩
  | .hbm, ⟨104, _⟩ => ⟨S159x1024x2048, .f32⟩
  | .hbm, ⟨105, _⟩ => ⟨S159x1024x2048, .f32⟩
  | .hbm, ⟨106, _⟩ => ⟨S162816x2048, .f32⟩
  | .hbm, ⟨107, _⟩ => ⟨S162816x2048, .bf16⟩
  | _, _ => ⟨S159, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_cst_10 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_14 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]
-- ==== Kernel2.lean ====
abbrev S159 : Shape := ⟨1, ![159]⟩
abbrev S1 : Shape := ⟨1, ![1]⟩
abbrev S162816x2048 : Shape := ⟨2, ![162816, 2048]⟩
abbrev S2x32x2048x2048 : Shape := ⟨4, ![2, 32, 2048, 2048]⟩
abbrev S2x32x2048 : Shape := ⟨3, ![2, 32, 2048]⟩
abbrev S2x32x1x2048 : Shape := ⟨4, ![2, 32, 1, 2048]⟩
abbrev S1024x2048 : Shape := ⟨2, ![1024, 2048]⟩
abbrev S1x1x2048x1024 : Shape := ⟨4, ![1, 1, 2048, 1024]⟩
abbrev S1x1x1x1024 : Shape := ⟨4, ![1, 1, 1, 1024]⟩
abbrev S1024x1024 : Shape := ⟨2, ![1024, 1024]⟩
abbrev S2048x1024 : Shape := ⟨2, ![2048, 1024]⟩
abbrev S1x1024 : Shape := ⟨2, ![1, 1024]⟩

abbrev nBuf : Space → Nat
  | .hbm => 5
  | .vmem => 8
  | .smem => 2
  | _ => 0

abbrev bufTy : (tb : Table) → Fin (tcTables nBuf tb) → BufTy
  | .hbm, ⟨0, _⟩ => ⟨S162816x2048, .bf16⟩
  | .hbm, ⟨1, _⟩ => ⟨S2x32x2048x2048, .f32⟩
  | .hbm, ⟨2, _⟩ => ⟨S2x32x2048, .f32⟩
  | .hbm, ⟨3, _⟩ => ⟨S2x32x1x2048, .f32⟩
  | .hbm, ⟨4, _⟩ => ⟨S162816x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1024x1024, .bf16⟩
  | .local _ .vmem, ⟨7, _⟩ => ⟨S1024x1024, .bf16⟩
  | .local _ .smem, ⟨0, _⟩ => ⟨S159, .i32⟩
  | .local _ .smem, ⟨1, _⟩ => ⟨S1, .i32⟩
  | _, _ => ⟨S162816x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 159], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg1 : BitVec 32 := BitVec.ofNat 32 (i 1).val
  let v1 : BitVec 1 := Scalar.cmpi .slt arg1 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S159.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S159) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S159.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S159) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S159 : Shape := ⟨1, ![159]⟩
abbrev S1 : Shape := ⟨1, ![1]⟩
abbrev S162816x2048 : Shape := ⟨2, ![162816, 2048]⟩
abbrev S2x32x2048x2048 : Shape := ⟨4, ![2, 32, 2048, 2048]⟩
abbrev S2x32x2048 : Shape := ⟨3, ![2, 32, 2048]⟩
abbrev S159x1024x2048 : Shape := ⟨3, ![159, 1024, 2048]⟩
abbrev S1x32x2048x2048 : Shape := ⟨4, ![1, 32, 2048, 2048]⟩
abbrev S32x2048x2048 : Shape := ⟨3, ![32, 2048, 2048]⟩
abbrev S_ : Shape := ⟨0, ![]⟩
abbrev S159x1 : Shape := ⟨2, ![159, 1]⟩
abbrev S159x2048x2048 : Shape := ⟨3, ![159, 2048, 2048]⟩
abbrev S1x32x2048 : Shape := ⟨3, ![1, 32, 2048]⟩
abbrev S32x2048 : Shape := ⟨2, ![32, 2048]⟩
abbrev S159x2048 : Shape := ⟨2, ![159, 2048]⟩
abbrev S159x1x2048 : Shape := ⟨3, ![159, 1, 2048]⟩
abbrev S159x1x1 : Shape := ⟨3, ![159, 1, 1]⟩

abbrev nBuf : Space → Nat
  | .hbm => 45
  | .vmem => 0
  | .smem => 0
  | _ => 0

abbrev bufTy : (tb : Table) → Fin (tcTables nBuf tb) → BufTy
  | .hbm, ⟨0, _⟩ => ⟨S159, .i32⟩
  | .hbm, ⟨1, _⟩ => ⟨S1, .i32⟩
  | .hbm, ⟨2, _⟩ => ⟨S162816x2048, .bf16⟩
  | .hbm, ⟨3, _⟩ => ⟨S2x32x2048x2048, .f32⟩
  | .hbm, ⟨4, _⟩ => ⟨S2x32x2048, .f32⟩
  | .hbm, ⟨5, _⟩ => ⟨S162816x2048, .f32⟩
  | .hbm, ⟨6, _⟩ => ⟨S159x1024x2048, .f32⟩
  | .hbm, ⟨7, _⟩ => ⟨S1x32x2048x2048, .f32⟩
  | .hbm, ⟨8, _⟩ => ⟨S32x2048x2048, .f32⟩
  | .hbm, ⟨9, _⟩ => ⟨S_, .i32⟩
  | .hbm, ⟨10, _⟩ => ⟨S159, .i32⟩
  | .hbm, ⟨11, _⟩ => ⟨S159, .i1⟩
  | .hbm, ⟨12, _⟩ => ⟨S_, .i32⟩
  | .hbm, ⟨13, _⟩ => ⟨S159, .i32⟩
  | .hbm, ⟨14, _⟩ => ⟨S159, .i32⟩
  | .hbm, ⟨15, _⟩ => ⟨S159, .i32⟩
  | .hbm, ⟨16, _⟩ => ⟨S159x1, .i32⟩
  | .hbm, ⟨17, _⟩ => ⟨S159x2048x2048, .f32⟩
  | .hbm, ⟨18, _⟩ => ⟨S159x1024x2048, .f32⟩
  | .hbm, ⟨19, _⟩ => ⟨S1x32x2048, .f32⟩
  | .hbm, ⟨20, _⟩ => ⟨S32x2048, .f32⟩
  | .hbm, ⟨21, _⟩ => ⟨S_, .i32⟩
  | .hbm, ⟨22, _⟩ => ⟨S159, .i32⟩
  | .hbm, ⟨23, _⟩ => ⟨S159, .i1⟩
  | .hbm, ⟨24, _⟩ => ⟨S_, .i32⟩
  | .hbm, ⟨25, _⟩ => ⟨S159, .i32⟩
  | .hbm, ⟨26, _⟩ => ⟨S159, .i32⟩
  | .hbm, ⟨27, _⟩ => ⟨S159, .i32⟩
  | .hbm, ⟨28, _⟩ => ⟨S159x1, .i32⟩
  | .hbm, ⟨29, _⟩ => ⟨S159x2048, .f32⟩
  | .hbm, ⟨30, _⟩ => ⟨S159x1x2048, .f32⟩
  | .hbm, ⟨31, _⟩ => ⟨S159x1024x2048, .f32⟩
  | .hbm, ⟨32, _⟩ => ⟨S159x1024x2048, .f32⟩
  | .hbm, ⟨33, _⟩ => ⟨S159, .i32⟩
  | .hbm, ⟨34, _⟩ => ⟨S_, .i32⟩
  | .hbm, ⟨35, _⟩ => ⟨S159, .i32⟩
  | .hbm, ⟨36, _⟩ => ⟨S159, .i1⟩
  | .hbm, ⟨37, _⟩ => ⟨S159x1x1, .i1⟩
  | .hbm, ⟨38, _⟩ => ⟨S_, .f32⟩
  | .hbm, ⟨39, _⟩ => ⟨S_, .f32⟩
  | .hbm, ⟨40, _⟩ => ⟨S159x1024x2048, .i1⟩
  | .hbm, ⟨41, _⟩ => ⟨S159x1024x2048, .f32⟩
  | .hbm, ⟨42, _⟩ => ⟨S159x1024x2048, .f32⟩
  | .hbm, ⟨43, _⟩ => ⟨S162816x2048, .f32⟩
  | .hbm, ⟨44, _⟩ => ⟨S162816x2048, .bf16⟩
  | _, _ => ⟨S159, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S2x16384x2048 : Shape := ⟨3, ![2, 16384, 2048]⟩
abbrev S2x2048 : Shape := ⟨2, ![2, 2048]⟩
abbrev S2x1x2048 : Shape := ⟨3, ![2, 1, 2048]⟩
abbrev S2x2048x3608 : Shape := ⟨3, ![2, 2048, 3608]⟩
abbrev S1x2048x3584 : Shape := ⟨3, ![1, 2048, 3584]⟩
abbrev S2048x3584 : Shape := ⟨2, ![2048, 3584]⟩
abbrev S1x2048x24 : Shape := ⟨3, ![1, 2048, 24]⟩
abbrev S2048x24 : Shape := ⟨2, ![2048, 24]⟩
abbrev S_ : Shape := ⟨0, ![]⟩
abbrev S2048x128 : Shape := ⟨2, ![2048, 128]⟩
abbrev S1x2048 : Shape := ⟨2, ![1, 2048]⟩
abbrev S2048 : Shape := ⟨1, ![2048]⟩
abbrev S2x16384x1024 : Shape := ⟨3, ![2, 16384, 1024]⟩
abbrev S2x1024x16384 : Shape := ⟨3, ![2, 1024, 16384]⟩
abbrev S2x4x16384x128 : Shape := ⟨4, ![2, 4, 16384, 128]⟩
abbrev S2x2x16384x256 : Shape := ⟨4, ![2, 2, 16384, 256]⟩
abbrev S2x2x64x144x256 : Shape := ⟨5, ![2, 2, 64, 144, 256]⟩
abbrev S2x2x16384x128 : Shape := ⟨4, ![2, 2, 16384, 128]⟩
abbrev S2x2x128x144x128 : Shape := ⟨5, ![2, 2, 128, 144, 128]⟩
abbrev S2x24x16384 : Shape := ⟨3, ![2, 24, 16384]⟩
abbrev S1x512x2048 : Shape := ⟨3, ![1, 512, 2048]⟩
abbrev S1x1x2048 : Shape := ⟨3, ![1, 1, 2048]⟩
abbrev S1x512x1024 : Shape := ⟨3, ![1, 512, 1024]⟩
abbrev S1x1024x512 : Shape := ⟨3, ![1, 1024, 512]⟩
abbrev S1x4x512x128 : Shape := ⟨4, ![1, 4, 512, 128]⟩
abbrev S1x2x512x256 : Shape := ⟨4, ![1, 2, 512, 256]⟩
abbrev S1x2x2x144x256 : Shape := ⟨5, ![1, 2, 2, 144, 256]⟩
abbrev S1x2x512x128 : Shape := ⟨4, ![1, 2, 512, 128]⟩
abbrev S1x2x4x144x128 : Shape := ⟨5, ![1, 2, 4, 144, 128]⟩
abbrev S1x24x512 : Shape := ⟨3, ![1, 24, 512]⟩
abbrev S512x2048 : Shape := ⟨2, ![512, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S2048x512 : Shape := ⟨2, ![2048, 512]⟩
abbrev S512x512 : Shape := ⟨2, ![512, 512]⟩
abbrev S512x128 : Shape := ⟨2, ![512, 128]⟩
abbrev S128x512 : Shape := ⟨2, ![128, 512]⟩
abbrev S1x128x512 : Shape := ⟨3, ![1, 128, 512]⟩
abbrev S1x1x512x128 : Shape := ⟨4, ![1, 1, 512, 128]⟩
abbrev S128x256 : Shape := ⟨2, ![128, 256]⟩
abbrev S1x1x1x128x256 : Shape := ⟨5, ![1, 1, 1, 128, 256]⟩
abbrev S16x256 : Shape := ⟨2, ![16, 256]⟩
abbrev S1x1x1x16x256 : Shape := ⟨5, ![1, 1, 1, 16, 256]⟩
abbrev S128x128 : Shape := ⟨2, ![128, 128]⟩
abbrev S1x1x1x128x128 : Shape := ⟨5, ![1, 1, 1, 128, 128]⟩
abbrev S16x128 : Shape := ⟨2, ![16, 128]⟩
abbrev S1x1x1x16x128 : Shape := ⟨5, ![1, 1, 1, 16, 128]⟩
abbrev S24x512 : Shape := ⟨2, ![24, 512]⟩

abbrev nBuf : Space → Nat
  | .hbm => 25
  | .vmem => 25
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S2x1x2048, .f32⟩
  | .hbm, ⟨3, _⟩ => ⟨S2x1x2048, .f32⟩
  | .hbm, ⟨4, _⟩ => ⟨S2x2048x3608, .f32⟩
  | .hbm, ⟨5, _⟩ => ⟨S1x2048x3584, .f32⟩
  | .hbm, ⟨6, _⟩ => ⟨S2048x3584, .f32⟩
  | .hbm, ⟨7, _⟩ => ⟨S2048x3584, .bf16⟩
  | .hbm, ⟨8, _⟩ => ⟨S1x2048x24, .f32⟩
  | .hbm, ⟨9, _⟩ => ⟨S2048x24, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S2x16384x1024, .f32⟩
  | .hbm, ⟨18, _⟩ => ⟨S2x1024x16384, .bf16⟩
  | .hbm, ⟨19, _⟩ => ⟨S2x4x16384x128, .f32⟩
  | .hbm, ⟨20, _⟩ => ⟨S2x2x16384x256, .bf16⟩
  | .hbm, ⟨21, _⟩ => ⟨S2x2x64x144x256, .bf16⟩
  | .hbm, ⟨22, _⟩ => ⟨S2x2x16384x128, .bf16⟩
  | .hbm, ⟨23, _⟩ => ⟨S2x2x128x144x128, .bf16⟩
  | .hbm, ⟨24, _⟩ => ⟨S2x24x16384, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x3584, .bf16⟩
  | .local _ .vmem, ⟨8, _⟩ => ⟨S2048x128, .bf16⟩
  | .local _ .vmem, ⟨9, _⟩ => ⟨S1x512x1024, .f32⟩
  | .local _ .vmem, ⟨10, _⟩ => ⟨S1x512x1024, .f32⟩
  | .local _ .vmem, ⟨11, _⟩ => ⟨S1x1024x512, .bf16⟩
  | .local _ .vmem, ⟨12, _⟩ => ⟨S1x1024x512, .bf16⟩
  | .local _ .vmem, ⟨13, _⟩ => ⟨S1x4x512x128, .f32⟩
  | .local _ .vmem, ⟨14, _⟩ => ⟨S1x4x512x128, .f32⟩
  | .local _ .vmem, ⟨15, _⟩ => ⟨S1x2x512x256, .bf16⟩
  | .local _ .vmem, ⟨16, _⟩ => ⟨S1x2x512x256, .bf16⟩
  | .local _ .vmem, ⟨17, _⟩ => ⟨S1x2x2x144x256, .bf16⟩
  | .local _ .vmem, ⟨18, _⟩ => ⟨S1x2x2x144x256, .bf16⟩
  | .local _ .vmem, ⟨19, _⟩ => ⟨S1x2x512x128, .bf16⟩
  | .local _ .vmem, ⟨20, _⟩ => ⟨S1x2x512x128, .bf16⟩
  | .local _ .vmem, ⟨21, _⟩ => ⟨S1x2x4x144x128, .bf16⟩
  | .local _ .vmem, ⟨22, _⟩ => ⟨S1x2x4x144x128, .bf16⟩
  | .local _ .vmem, ⟨23, _⟩ => ⟨S1x24x512, .f32⟩
  | .local _ .vmem, ⟨24, _⟩ => ⟨S1x24x512, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev main_v10_6 : Ref sig .tc := ⟨.hbm, 23, rfl⟩
abbrev main_v10_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x2x144x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x4x144x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x24x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S2x16384x2048 : Shape := ⟨3, ![2, 16384, 2048]⟩
abbrev S2x2048 : Shape := ⟨2, ![2, 2048]⟩
abbrev S2x1x2048 : Shape := ⟨3, ![2, 1, 2048]⟩
abbrev S2x2048x3608 : Shape := ⟨3, ![2, 2048, 3608]⟩
abbrev S1x2048 : Shape := ⟨2, ![1, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S1x2048x3608 : Shape := ⟨3, ![1, 2048, 3608]⟩
abbrev S2048x3608 : Shape := ⟨2, ![2048, 3608]⟩
abbrev S2x16384x3608 : Shape := ⟨3, ![2, 16384, 3608]⟩
abbrev S2x16384x1024 : Shape := ⟨3, ![2, 16384, 1024]⟩
abbrev S2x16384x256 : Shape := ⟨3, ![2, 16384, 256]⟩
abbrev S2x16384x24 : Shape := ⟨3, ![2, 16384, 24]⟩
abbrev S16384 : Shape := ⟨1, ![16384]⟩
abbrev S16384x1 : Shape := ⟨2, ![16384, 1]⟩
abbrev S128 : Shape := ⟨1, ![128]⟩
abbrev S1x128 : Shape := ⟨2, ![1, 128]⟩
abbrev S16384x128 : Shape := ⟨2, ![16384, 128]⟩
abbrev S2x1024x16384 : Shape := ⟨3, ![2, 1024, 16384]⟩
abbrev S2x16384x2x128 : Shape := ⟨4, ![2, 16384, 2, 128]⟩
abbrev S2x2x16384x128 : Shape := ⟨4, ![2, 2, 16384, 128]⟩
abbrev S2x4x16384x128 : Shape := ⟨4, ![2, 4, 16384, 128]⟩
abbrev S2x2x16384x256 : Shape := ⟨4, ![2, 2, 16384, 256]⟩
abbrev S2x2x64x256x128 : Shape := ⟨5, ![2, 2, 64, 256, 128]⟩
abbrev S2x2x64x128x256 : Shape := ⟨5, ![2, 2, 64, 128, 256]⟩
abbrev S2x2x64x16x256 : Shape := ⟨5, ![2, 2, 64, 16, 256]⟩
abbrev S2x2x64x144x256 : Shape := ⟨5, ![2, 2, 64, 144, 256]⟩
abbrev S2x2x128x128x128 : Shape := ⟨5, ![2, 2, 128, 128, 128]⟩
abbrev S2x2x128x16x128 : Shape := ⟨5, ![2, 2, 128, 16, 128]⟩
abbrev S2x2x128x144x128 : Shape := ⟨5, ![2, 2, 128, 144, 128]⟩
abbrev S2x24x16384 : Shape := ⟨3, ![2, 24, 16384]⟩

abbrev nBuf : Space → Nat
  | .hbm => 138
  | .vmem => 0
  | .smem => 0
  | _ => 0

abbrev hbmTy0_0 (i : Nat) : BufTy := match i % 128 with
  | 0 => ⟨S2x16384x2048, .f32⟩
  | 1 => ⟨S2x2048, .f32⟩
  | 2 => ⟨S2x1x2048, .f32⟩
  | 3 => ⟨S2x1x2048, .f32⟩
  | 4 => ⟨S2x2048x3608, .f32⟩
  | 5 => ⟨S1x2048, .f32⟩
  | 6 => ⟨S2048, .f32⟩
  | 7 => ⟨S2x16384x2048, .f32⟩
  | 8 => ⟨S_, .f32⟩
  | 9 => ⟨S2x16384, .f32⟩
  | 10 => ⟨S2x16384x1, .f32⟩
  | 11 => ⟨S_, .f32⟩
  | 12 => ⟨S2x16384x1, .f32⟩
  | 13 => ⟨S2x16384x1, .f32⟩
  | 14 => ⟨S_, .f32⟩
  | 15 => ⟨S2x16384x1, .f32⟩
  | 16 => ⟨S2x16384x1, .f32⟩
  | 17 => ⟨S2x16384x1, .f32⟩
  | 18 => ⟨S2x16384x2048, .f32⟩
  | 19 => ⟨S2x16384x2048, .f32⟩
  | 20 => ⟨S1x1x2048, .f32⟩
  | 21 => ⟨S2x16384x2048, .f32⟩
  | 22 => ⟨S2x16384x2048, .f32⟩
  | 23 => ⟨S_, .f32⟩
  | 24 => ⟨S2x1x2048, .f32⟩
  | 25 => ⟨S2x1x2048, .f32⟩
  | 26 => ⟨S2x16384x2048, .f32⟩
  | 27 => ⟨S2x16384x2048, .f32⟩
  | 28 => ⟨S2x16384x2048, .f32⟩
  | 29 => ⟨S2x16384x2048, .f32⟩
  | 30 => ⟨S1x2048x3608, .f32⟩
  | 31 => ⟨S2048x3608, .f32⟩
  | 32 => ⟨S2x16384x3608, .f32⟩
  | 33 => ⟨S2x16384x1024, .f32⟩
  | 34 => ⟨S2x16384x256, .f32⟩
  | 35 => ⟨S2x16384x256, .f32⟩
  | 36 => ⟨S2x16384x256, .f32⟩
  | 37 => ⟨S2x16384x256, .f32⟩
  | 38 => ⟨S2x16384x256, .f32⟩
  | 39 => ⟨S2x16384x256, .f32⟩
  | 40 => ⟨S2x16384x24, .f32⟩
  | 41 => ⟨S2x16384x24, .f32⟩
  | 42 => ⟨S2x16384x24, .f32⟩
  | 43 => ⟨S_, .f32⟩
  | 44 => ⟨S2x16384x24, .f32⟩
  | 45 => ⟨S2x16384x24, .f32⟩
  | 46 => ⟨S_, .f32⟩
  | 47 => ⟨S2x16384x24, .f32⟩
  | 48 => ⟨S2x16384x24, .f32⟩
  | 49 => ⟨S16384, .i32⟩
  | 50 => ⟨S_, .i32⟩
  | 51 => ⟨S_, .i32⟩
  | 52 => ⟨S16384, .i32⟩
  | 53 => ⟨S16384, .i32⟩
  | 54 => ⟨S16384, .i32⟩
  | 55 => ⟨S_, .i32⟩
  | 56 => ⟨S16384, .i32⟩
  | 57 => ⟨S16384, .i1⟩
  | 58 => ⟨S16384, .i32⟩
  | 59 => ⟨S16384, .i32⟩
  | 60 => ⟨S_, .i32⟩
  | 61 => ⟨S16384, .i32⟩
  | 62 => ⟨S16384, .i1⟩
  | 63 => ⟨S16384, .i1⟩
  | 64 => ⟨S_, .i32⟩
  | 65 => ⟨S16384, .i32⟩
  | 66 => ⟨S16384, .i32⟩
  | 67 => ⟨S16384, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S16384, .i32⟩
  | 75 => ⟨S16384, .i32⟩
  | 76 => ⟨S_, .i32⟩
  | 77 => ⟨S16384, .i32⟩
  | 78 => ⟨S16384, .i1⟩
  | 79 => ⟨S_, .i32⟩
  | 80 => ⟨S16384, .i32⟩
  | 81 => ⟨S16384, .i1⟩
  | 82 => ⟨S_, .i32⟩
  | 83 => ⟨S_, .i1⟩
  | 84 => ⟨S16384, .i1⟩
  | 85 => ⟨S16384, .i1⟩
  | 86 => ⟨S16384, .i1⟩
  | 87 => ⟨S16384, .i32⟩
  | 88 => ⟨S16384, .i32⟩
  | 89 => ⟨S16384, .i32⟩
  | 90 => ⟨S16384x1, .i32⟩
  | 91 => ⟨S128, .i32⟩
  | 92 => ⟨S1x128, .i32⟩
  | 93 => ⟨S16384x128, .i32⟩
  | 94 => ⟨S16384x128, .i32⟩
  | 95 => ⟨S16384x128, .i1⟩
  | 96 => ⟨S_, .f32⟩
  | 97 => ⟨S_, .f32⟩
  | 98 => ⟨S16384x128, .f32⟩
  | 99 => ⟨S16384x128, .f32⟩
  | 100 => ⟨S16384x128, .f32⟩
  | 101 => ⟨S2x16384x1024, .f32⟩
  | 102 => ⟨S_, .f32⟩
  | 103 => ⟨S2x16384x1024, .f32⟩
  | 104 => ⟨S2x16384x1024, .f32⟩
  | 105 => ⟨S2x1024x16384, .f32⟩
  | 106 => ⟨S2x1024x16384, .bf16⟩
  | 107 => ⟨S2x16384x2x128, .f32⟩
  | 108 => ⟨S2x2x16384x128, .f32⟩
  | 109 => ⟨S2x16384x2x128, .f32⟩
  | 110 => ⟨S2x2x16384x128, .f32⟩
  | 111 => ⟨S2x4x16384x128, .f32⟩
  | 112 => ⟨S2x16384x2x128, .f32⟩
  | 113 => ⟨S2x2x16384x128, .f32⟩
  | 114 => ⟨S2x2x16384x128, .f32⟩
  | 115 => ⟨S2x2x16384x128, .f32⟩
  | 116 => ⟨S2x2x16384x256, .f32⟩
  | 117 => ⟨S2x2x16384x256, .bf16⟩
  | 118 => ⟨S2x16384x2x128, .f32⟩
  | 119 => ⟨S2x2x16384x128, .f32⟩
  | 120 => ⟨S2x2x64x256x128, .f32⟩
  | 121 => ⟨S2x2x64x128x256, .f32⟩
  | 122 => ⟨S_, .f32⟩
  | 123 => ⟨S2x2x64x16x256, .f32⟩
  | 124 => ⟨S2x2x64x144x256, .f32⟩
  | 125 => ⟨S2x2x64x144x256, .bf16⟩
  | 126 => ⟨S2x16384x2x128, .f32⟩
  | 127 => ⟨S2x2x16384x128, .f32⟩
  | _ => ⟨S2x16384x2048, .f32⟩

abbrev hbmTy0_1 (i : Nat) : BufTy := match i % 128 with
  | 0 => ⟨S2x2x16384x128, .bf16⟩
  | 1 => ⟨S2x16384x2x128, .f32⟩
  | 2 => ⟨S2x2x16384x128, .f32⟩
  | 3 => ⟨S2x2x128x128x128, .f32⟩
  | 4 => ⟨S2x2x128x128x128, .f32⟩
  | 5 => ⟨S_, .f32⟩
  | 6 => ⟨S2x2x128x16x128, .f32⟩
  | 7 => ⟨S2x2x128x144x128, .f32⟩
  | 8 => ⟨S2x2x128x144x128, .bf16⟩
  | 9 => ⟨S2x24x16384, .f32⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_c : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_0 : Ref sig .tc := ⟨.hbm, 64, rfl⟩
abbrev main_call0_v12 : Ref sig .tc := ⟨.hbm, 65, rfl⟩
abbrev main_call0_v13 : Ref sig .tc := ⟨.hbm, 66, rfl⟩
abbrev main_v39 : Ref sig .tc := ⟨.hbm, 67, rfl⟩
abbrev main_c_5 : Ref sig .tc := ⟨.hbm, 68, rfl⟩
abbrev main_call1_v0 : Ref sig .tc := ⟨.hbm, 69, rfl⟩
abbrev main_call1_c : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_c_1 : Ref sig .tc := ⟨.hbm, 76, rfl⟩
abbrev main_call1_v5 : Ref sig .tc := ⟨.hbm, 77, rfl⟩
abbrev main_call1_v6 : Ref sig .tc := ⟨.hbm, 78, rfl⟩
abbrev main_call1_c_2 : Ref sig .tc := ⟨.hbm, 79, rfl⟩
abbrev main_call1_v7 : Ref sig .tc := ⟨.hbm, 80, rfl⟩
abbrev main_call1_v8 : Ref sig .tc := ⟨.hbm, 81, rfl⟩
abbrev main_call1_c_3 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_6 : Ref sig .tc := ⟨.hbm, 96, rfl⟩
abbrev main_cst_7 : Ref sig .tc := ⟨.hbm, 97, rfl⟩
abbrev main_call2_v0 : Ref sig .tc := ⟨.hbm, 98, rfl⟩
abbrev main_call2_v1 : Ref sig .tc := ⟨.hbm, 99, rfl⟩
abbrev main_v47 : Ref sig .tc := ⟨.hbm, 100, rfl⟩
abbrev main_v48 : Ref sig .tc := ⟨.hbm, 101, rfl⟩
abbrev main_cst_8 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_9 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_10 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩

abbrev nD : Nat := 1
abbrev τ : Topo := Topo.v7x

variable {F : FTy → Type} [FloatOps F]
-- ==== Kernel4.lean ====
abbrev S2x4x16384x128 : Shape := ⟨4, ![2, 4, 16384, 128]⟩
abbrev S2x32x128 : Shape := ⟨3, ![2, 32, 128]⟩
abbrev S2x4096x512 : Shape := ⟨3, ![2, 4096, 512]⟩
abbrev S2x512 : Shape := ⟨2, ![2, 512]⟩
abbrev S2x512x128 : Shape := ⟨3, ![2, 512, 128]⟩
abbrev S2x128 : Shape := ⟨2, ![2, 128]⟩
abbrev S1x32x128 : Shape := ⟨3, ![1, 32, 128]⟩
abbrev S32x128 : Shape := ⟨2, ![32, 128]⟩
abbrev S2x1x4096 : Shape := ⟨3, ![2, 1, 4096]⟩
abbrev S1x4096x512 : Shape := ⟨3, ![1, 4096, 512]⟩
abbrev S4096x512 : Shape := ⟨2, ![4096, 512]⟩
abbrev S1x512 : Shape := ⟨2, ![1, 512]⟩
abbrev S512 : Shape := ⟨1, ![512]⟩
abbrev S2x1x512 : Shape := ⟨3, ![2, 1, 512]⟩
abbrev S1x512x128 : Shape := ⟨3, ![1, 512, 128]⟩
abbrev S512x128 : Shape := ⟨2, ![512, 128]⟩
abbrev S1x128 : Shape := ⟨2, ![1, 128]⟩
abbrev S128 : Shape := ⟨1, ![128]⟩
abbrev S2x1x128 : Shape := ⟨3, ![2, 1, 128]⟩
abbrev S2x4x1024x2048 : Shape := ⟨4, ![2, 4, 1024, 2048]⟩
abbrev S2x4x1024x128 : Shape := ⟨4, ![2, 4, 1024, 128]⟩
abbrev S2x4x128x1024 : Shape := ⟨4, ![2, 4, 128, 1024]⟩
abbrev S1x1x1024x2048 : Shape := ⟨4, ![1, 1, 1024, 2048]⟩
abbrev S1x1x4096 : Shape := ⟨3, ![1, 1, 4096]⟩
abbrev S1x1x512 : Shape := ⟨3, ![1, 1, 512]⟩
abbrev S1x1x128 : Shape := ⟨3, ![1, 1, 128]⟩
abbrev S1x1x1024x128 : Shape := ⟨4, ![1, 1, 1024, 128]⟩
abbrev S1x1x128x1024 : Shape := ⟨4, ![1, 1, 128, 1024]⟩
abbrev S1024x2048 : Shape := ⟨2, ![1024, 2048]⟩
abbrev S1x4096 : Shape := ⟨2, ![1, 4096]⟩
abbrev S1x2048 : Shape := ⟨2, ![1, 2048]⟩
abbrev S1x2048x512 : Shape := ⟨3, ![1, 2048, 512]⟩
abbrev S2048x512 : Shape := ⟨2, ![2048, 512]⟩
abbrev S1024x512 : Shape := ⟨2, ![1024, 512]⟩
abbrev S1024x128 : Shape := ⟨2, ![1024, 128]⟩
abbrev S128x1024 : Shape := ⟨2, ![128, 1024]⟩

abbrev nBuf : Space → Nat
  | .hbm => 54
  | .vmem => 16
  | .smem => 0
  | _ => 0

abbrev bufTy : (tb : Table) → Fin (tcTables nBuf tb) → BufTy
  | .hbm, ⟨0, _⟩ => ⟨S2x4x16384x128, .f32⟩
  | .hbm, ⟨1, _⟩ => ⟨S2x32x128, .f32⟩
  | .hbm, ⟨2, _⟩ => ⟨S2x4096x512, .f32⟩
  | .hbm, ⟨3, _⟩ => ⟨S2x512, .f32⟩
  | .hbm, ⟨4, _⟩ => ⟨S2x512x128, .f32⟩
  | .hbm, ⟨5, _⟩ => ⟨S2x128, .f32⟩
  | .hbm, ⟨6, _⟩ => ⟨S2x32x128, .f32⟩
  | .hbm, ⟨7, _⟩ => ⟨S2x4096x512, .f32⟩
  | .hbm, ⟨8, _⟩ => ⟨S2x512, .f32⟩
  | .hbm, ⟨9, _⟩ => ⟨S2x512x128, .f32⟩
  | .hbm, ⟨10, _⟩ => ⟨S2x128, .f32⟩
  | .hbm, ⟨11, _⟩ => ⟨S1x32x128, .f32⟩
  | .hbm, ⟨12, _⟩ => ⟨S32x128, .f32⟩
  | .hbm, ⟨13, _⟩ => ⟨S1x32x128, .f32⟩
  | .hbm, ⟨14, _⟩ => ⟨S32x128, .f32⟩
  | .hbm, ⟨15, _⟩ => ⟨S1x32x128, .f32⟩
  | .hbm, ⟨16, _⟩ => ⟨S1x32x128, .f32⟩
  | .hbm, ⟨17, _⟩ => ⟨S2x32x128, .f32⟩
  | .hbm, ⟨18, _⟩ => ⟨S2x1x4096, .f32⟩
  | .hbm, ⟨19, _⟩ => ⟨S1x4096x512, .f32⟩
  | .hbm, ⟨20, _⟩ => ⟨S4096x512, .f32⟩
  | .hbm, ⟨21, _⟩ => ⟨S1x4096x512, .f32⟩
  | .hbm, ⟨22, _⟩ => ⟨S4096x512, .f32⟩
  | .hbm, ⟨23, _⟩ => ⟨S1x4096x512, .f32⟩
  | .hbm, ⟨24, _⟩ => ⟨S1x4096x512, .f32⟩
  | .hbm, ⟨25, _⟩ => ⟨S2x4096x512, .f32⟩
  | .hbm, ⟨26, _⟩ => ⟨S2x4096x512, .bf16⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S512, .f32⟩
  | .hbm, ⟨31, _⟩ => ⟨S1x512, .f32⟩
  | .hbm, ⟨32, _⟩ => ⟨S1x512, .f32⟩
  | .hbm, ⟨33, _⟩ => ⟨S2x512, .f32⟩
  | .hbm, ⟨34, _⟩ => ⟨S2x1x512, .f32⟩
  | .hbm, ⟨35, _⟩ => ⟨S1x512x128, .f32⟩
  | .hbm, ⟨36, _⟩ => ⟨S512x128, .f32⟩
  | .hbm, ⟨37, _⟩ => ⟨S1x512x128, .f32⟩
  | .hbm, ⟨38, _⟩ => ⟨S512x128, .f32⟩
  | .hbm, ⟨39, _⟩ => ⟨S1x512x128, .f32⟩
  | .hbm, ⟨40, _⟩ => ⟨S1x512x128, .f32⟩
  | .hbm, ⟨41, _⟩ => ⟨S2x512x128, .f32⟩
  | .hbm, ⟨42, _⟩ => ⟨S2x512x128, .bf16⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S1x128, .f32⟩
  | .hbm, ⟨49, _⟩ => ⟨S2x128, .f32⟩
  | .hbm, ⟨50, _⟩ => ⟨S2x1x128, .f32⟩
  | .hbm, ⟨51, _⟩ => ⟨S2x4x1024x2048, .f32⟩
  | .hbm, ⟨52, _⟩ => ⟨S2x4x1024x128, .bf16⟩
  | .hbm, ⟨53, _⟩ => ⟨S2x4x128x1024, .bf16⟩
  | .local _ .vmem, ⟨0, _⟩ => ⟨S1x1x1024x2048, .f32⟩
  | .local _ .vmem, ⟨1, _⟩ => ⟨S1x1x1024x2048, .f32⟩
  | .local _ .vmem, ⟨2, _⟩ => ⟨S1x1x4096, .f32⟩
  | .local _ .vmem, ⟨3, _⟩ => ⟨S1x1x4096, .f32⟩
  | .local _ .vmem, ⟨4, _⟩ => ⟨S1x4096x512, .bf16⟩
  | .local _ .vmem, ⟨5, _⟩ => ⟨S1x4096x512, .bf16⟩
  | .local _ .vmem, ⟨6, _⟩ => ⟨S1x1x512, .f32⟩
  | .local _ .vmem, ⟨7, _⟩ => ⟨S1x1x512, .f32⟩
  | .local _ .vmem, ⟨8, _⟩ => ⟨S1x512x128, .bf16⟩
  | .local _ .vmem, ⟨9, _⟩ => ⟨S1x512x128, .bf16⟩
  | .local _ .vmem, ⟨10, _⟩ => ⟨S1x1x128, .f32⟩
  | .local _ .vmem, ⟨11, _⟩ => ⟨S1x1x128, .f32⟩
  | .local _ .vmem, ⟨12, _⟩ => ⟨S1x1x1024x128, .bf16⟩
  | .local _ .vmem, ⟨13, _⟩ => ⟨S1x1x1024x128, .bf16⟩
  | .local _ .vmem, ⟨14, _⟩ => ⟨S1x1x128x1024, .bf16⟩
  | .local _ .vmem, ⟨15, _⟩ => ⟨S1x1x128x1024, .bf16⟩
  | _, _ => ⟨S2x4x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41_0 : Ref sig .tc := ⟨.hbm, 52, rfl⟩
abbrev main_v41_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S2x4x16384x128 : Shape := ⟨4, ![2, 4, 16384, 128]⟩
abbrev S2x32x128 : Shape := ⟨3, ![2, 32, 128]⟩
abbrev S2x4096x512 : Shape := ⟨3, ![2, 4096, 512]⟩
abbrev S2x512 : Shape := ⟨2, ![2, 512]⟩
abbrev S2x512x128 : Shape := ⟨3, ![2, 512, 128]⟩
abbrev S2x128 : Shape := ⟨2, ![2, 128]⟩
abbrev S2x2x16384x128 : Shape := ⟨4, ![2, 2, 16384, 128]⟩
abbrev S1x32x128 : Shape := ⟨3, ![1, 32, 128]⟩
abbrev S32x128 : Shape := ⟨2, ![32, 128]⟩
abbrev S1x4096x512 : Shape := ⟨3, ![1, 4096, 512]⟩
abbrev S4096x512 : Shape := ⟨2, ![4096, 512]⟩
abbrev S1x512 : Shape := ⟨2, ![1, 512]⟩
abbrev S512 : Shape := ⟨1, ![512]⟩
abbrev S1x512x128 : Shape := ⟨3, ![1, 512, 128]⟩
abbrev S512x128 : Shape := ⟨2, ![512, 128]⟩
abbrev S1x128 : Shape := ⟨2, ![1, 128]⟩
abbrev S128 : Shape := ⟨1, ![128]⟩
abbrev S2x2x1024x16x128 : Shape := ⟨5, ![2, 2, 1024, 16, 128]⟩
abbrev S2x2x1023x16x128 : Shape := ⟨5, ![2, 2, 1023, 16, 128]⟩
abbrev S2x2x1x16x128 : Shape := ⟨5, ![2, 2, 1, 16, 128]⟩
abbrev S2x2x1024x32x128 : Shape := ⟨5, ![2, 2, 1024, 32, 128]⟩
abbrev S1x1x1x32x128 : Shape := ⟨5, ![1, 1, 1, 32, 128]⟩
abbrev S2x2x1024x4096 : Shape := ⟨4, ![2, 2, 1024, 4096]⟩
abbrev S2x2x1024x512 : Shape := ⟨4, ![2, 2, 1024, 512]⟩
abbrev S1x1x1x512 : Shape := ⟨4, ![1, 1, 1, 512]⟩
abbrev S_ : Shape := ⟨0, ![]⟩
abbrev S2x2x1024x128 : Shape := ⟨4, ![2, 2, 1024, 128]⟩
abbrev S1x1x1x128 : Shape := ⟨4, ![1, 1, 1, 128]⟩
abbrev S2x4x1024x128 : Shape := ⟨4, ![2, 4, 1024, 128]⟩
abbrev S2x4x128x1024 : Shape := ⟨4, ![2, 4, 128, 1024]⟩

abbrev nBuf : Space → Nat
  | .hbm => 105
  | .vmem => 0
  | .smem => 0
  | _ => 0

abbrev bufTy : (tb : Table) → Fin (tcTables nBuf tb) → BufTy
  | .hbm, ⟨0, _⟩ => ⟨S2x4x16384x128, .f32⟩
  | .hbm, ⟨1, _⟩ => ⟨S2x32x128, .f32⟩
  | .hbm, ⟨2, _⟩ => ⟨S2x4096x512, .f32⟩
  | .hbm, ⟨3, _⟩ => ⟨S2x512, .f32⟩
  | .hbm, ⟨4, _⟩ => ⟨S2x512x128, .f32⟩
  | .hbm, ⟨5, _⟩ => ⟨S2x128, .f32⟩
  | .hbm, ⟨6, _⟩ => ⟨S2x32x128, .f32⟩
  | .hbm, ⟨7, _⟩ => ⟨S2x4096x512, .f32⟩
  | .hbm, ⟨8, _⟩ => ⟨S2x512, .f32⟩
  | .hbm, ⟨9, _⟩ => ⟨S2x512x128, .f32⟩
  | .hbm, ⟨10, _⟩ => ⟨S2x128, .f32⟩
  | .hbm, ⟨11, _⟩ => ⟨S2x2x16384x128, .f32⟩
  | .hbm, ⟨12, _⟩ => ⟨S1x32x128, .f32⟩
  | .hbm, ⟨13, _⟩ => ⟨S32x128, .f32⟩
  | .hbm, ⟨14, _⟩ => ⟨S1x4096x512, .f32⟩
  | .hbm, ⟨15, _⟩ => ⟨S4096x512, .f32⟩
  | .hbm, ⟨16, _⟩ => ⟨S1x512, .f32⟩
  | .hbm, ⟨17, _⟩ => ⟨S512, .f32⟩
  | .hbm, ⟨18, _⟩ => ⟨S1x512x128, .f32⟩
  | .hbm, ⟨19, _⟩ => ⟨S512x128, .f32⟩
  | .hbm, ⟨20, _⟩ => ⟨S1x128, .f32⟩
  | .hbm, ⟨21, _⟩ => ⟨S128, .f32⟩
  | .hbm, ⟨22, _⟩ => ⟨S2x2x1024x16x128, .f32⟩
  | .hbm, ⟨23, _⟩ => ⟨S2x2x1023x16x128, .f32⟩
  | .hbm, ⟨24, _⟩ => ⟨S2x2x1x16x128, .f32⟩
  | .hbm, ⟨25, _⟩ => ⟨S2x2x1024x16x128, .f32⟩
  | .hbm, ⟨26, _⟩ => ⟨S2x2x1024x32x128, .f32⟩
  | .hbm, ⟨27, _⟩ => ⟨S1x1x1x32x128, .f32⟩
  | .hbm, ⟨28, _⟩ => ⟨S2x2x1024x32x128, .f32⟩
  | .hbm, ⟨29, _⟩ => ⟨S2x2x1024x32x128, .f32⟩
  | .hbm, ⟨30, _⟩ => ⟨S2x2x1024x4096, .f32⟩
  | .hbm, ⟨31, _⟩ => ⟨S2x2x1024x512, .f32⟩
  | .hbm, ⟨32, _⟩ => ⟨S1x1x1x512, .f32⟩
  | .hbm, ⟨33, _⟩ => ⟨S2x2x1024x512, .f32⟩
  | .hbm, ⟨34, _⟩ => ⟨S2x2x1024x512, .f32⟩
  | .hbm, ⟨35, _⟩ => ⟨S2x2x1024x512, .f32⟩
  | .hbm, ⟨36, _⟩ => ⟨S2x2x1024x512, .f32⟩
  | .hbm, ⟨37, _⟩ => ⟨S_, .f32⟩
  | .hbm, ⟨38, _⟩ => ⟨S2x2x1024x512, .f32⟩
  | .hbm, ⟨39, _⟩ => ⟨S2x2x1024x512, .f32⟩
  | .hbm, ⟨40, _⟩ => ⟨S2x2x1024x512, .f32⟩
  | .hbm, ⟨41, _⟩ => ⟨S_, .f32⟩
  | .hbm, ⟨42, _⟩ => ⟨S2x2x1024x512, .f32⟩
  | .hbm, ⟨43, _⟩ => ⟨S2x2x1024x512, .f32⟩
  | .hbm, ⟨44, _⟩ => ⟨S2x2x1024x512, .f32⟩
  | .hbm, ⟨45, _⟩ => ⟨S_, .f32⟩
  | .hbm, ⟨46, _⟩ => ⟨S2x2x1024x512, .f32⟩
  | .hbm, ⟨47, _⟩ => ⟨S2x2x1024x512, .f32⟩
  | .hbm, ⟨48, _⟩ => ⟨S_, .f32⟩
  | .hbm, ⟨49, _⟩ => ⟨S2x2x1024x512, .f32⟩
  | .hbm, ⟨50, _⟩ => ⟨S2x2x1024x512, .f32⟩
  | .hbm, ⟨51, _⟩ => ⟨S2x2x1024x512, .f32⟩
  | .hbm, ⟨52, _⟩ => ⟨S2x2x1024x128, .f32⟩
  | .hbm, ⟨53, _⟩ => ⟨S1x1x1x128, .f32⟩
  | .hbm, ⟨54, _⟩ => ⟨S2x2x1024x128, .f32⟩
  | .hbm, ⟨55, _⟩ => ⟨S2x2x1024x128, .f32⟩
  | .hbm, ⟨56, _⟩ => ⟨S2x2x16384x128, .f32⟩
  | .hbm, ⟨57, _⟩ => ⟨S1x32x128, .f32⟩
  | .hbm, ⟨58, _⟩ => ⟨S32x128, .f32⟩
  | .hbm, ⟨59, _⟩ => ⟨S1x4096x512, .f32⟩
  | .hbm, ⟨60, _⟩ => ⟨S4096x512, .f32⟩
  | .hbm, ⟨61, _⟩ => ⟨S1x512, .f32⟩
  | .hbm, ⟨62, _⟩ => ⟨S512, .f32⟩
  | .hbm, ⟨63, _⟩ => ⟨S1x512x128, .f32⟩
  | .hbm, ⟨64, _⟩ => ⟨S512x128, .f32⟩
  | .hbm, ⟨65, _⟩ => ⟨S1x128, .f32⟩
  | .hbm, ⟨66, _⟩ => ⟨S128, .f32⟩
  | .hbm, ⟨67, _⟩ => ⟨S2x2x1024x16x128, .f32⟩
  | .hbm, ⟨68, _⟩ => ⟨S2x2x1023x16x128, .f32⟩
  | .hbm, ⟨69, _⟩ => ⟨S2x2x1x16x128, .f32⟩
  | .hbm, ⟨70, _⟩ => ⟨S2x2x1024x16x128, .f32⟩
  | .hbm, ⟨71, _⟩ => ⟨S2x2x1024x32x128, .f32⟩
  | .hbm, ⟨72, _⟩ => ⟨S1x1x1x32x128, .f32⟩
  | .hbm, ⟨73, _⟩ => ⟨S2x2x1024x32x128, .f32⟩
  | .hbm, ⟨74, _⟩ => ⟨S2x2x1024x32x128, .f32⟩
  | .hbm, ⟨75, _⟩ => ⟨S2x2x1024x4096, .f32⟩
  | .hbm, ⟨76, _⟩ => ⟨S2x2x1024x512, .f32⟩
  | .hbm, ⟨77, _⟩ => ⟨S1x1x1x512, .f32⟩
  | .hbm, ⟨78, _⟩ => ⟨S2x2x1024x512, .f32⟩
  | .hbm, ⟨79, _⟩ => ⟨S2x2x1024x512, .f32⟩
  | .hbm, ⟨80, _⟩ => ⟨S2x2x1024x512, .f32⟩
  | .hbm, ⟨81, _⟩ => ⟨S2x2x1024x512, .f32⟩
  | .hbm, ⟨82, _⟩ => ⟨S_, .f32⟩
  | .hbm, ⟨83, _⟩ => ⟨S2x2x1024x512, .f32⟩
  | .hbm, ⟨84, _⟩ => ⟨S2x2x1024x512, .f32⟩
  | .hbm, ⟨85, _⟩ => ⟨S2x2x1024x512, .f32⟩
  | .hbm, ⟨86, _⟩ => ⟨S_, .f32⟩
  | .hbm, ⟨87, _⟩ => ⟨S2x2x1024x512, .f32⟩
  | .hbm, ⟨88, _⟩ => ⟨S2x2x1024x512, .f32⟩
  | .hbm, ⟨89, _⟩ => ⟨S2x2x1024x512, .f32⟩
  | .hbm, ⟨90, _⟩ => ⟨S_, .f32⟩
  | .hbm, ⟨91, _⟩ => ⟨S2x2x1024x512, .f32⟩
  | .hbm, ⟨92, _⟩ => ⟨S2x2x1024x512, .f32⟩
  | .hbm, ⟨93, _⟩ => ⟨S_, .f32⟩
  | .hbm, ⟨94, _⟩ => ⟨S2x2x1024x512, .f32⟩
  | .hbm, ⟨95, _⟩ => ⟨S2x2x1024x512, .f32⟩
  | .hbm, ⟨96, _⟩ => ⟨S2x2x1024x512, .f32⟩
  | .hbm, ⟨97, _⟩ => ⟨S2x2x1024x128, .f32⟩
  | .hbm, ⟨98, _⟩ => ⟨S1x1x1x128, .f32⟩
  | .hbm, ⟨99, _⟩ => ⟨S2x2x1024x128, .f32⟩
  | .hbm, ⟨100, _⟩ => ⟨S2x2x1024x128, .f32⟩
  | .hbm, ⟨101, _⟩ => ⟨S2x4x1024x128, .f32⟩
  | .hbm, ⟨102, _⟩ => ⟨S2x4x1024x128, .bf16⟩
  | .hbm, ⟨103, _⟩ => ⟨S2x4x128x1024, .f32⟩
  | .hbm, ⟨104, _⟩ => ⟨S2x4x128x1024, .bf16⟩
  | _, _ => ⟨S2x4x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_3 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_4 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_5 : Ref sig .tc := ⟨.hbm, 90, rfl⟩
abbrev main_v73 : Ref sig .tc := ⟨.hbm, 91, rfl⟩
abbrev main_v74 : Ref sig .tc := ⟨.hbm, 92, rfl⟩
abbrev main_cst_6 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩

abbrev nD : Nat := 1
abbrev τ : Topo := Topo.v7x

variable {F : FTy → Type} [FloatOps F]
-- ==== Kernel5.lean ====
abbrev S2x16384x1024 : Shape := ⟨3, ![2, 16384, 1024]⟩
abbrev S2x4x256x256 : Shape := ⟨4, ![2, 4, 256, 256]⟩
abbrev S2x1024 : Shape := ⟨2, ![2, 1024]⟩
abbrev S1x4x256x256 : Shape := ⟨4, ![1, 4, 256, 256]⟩
abbrev S4x256x256 : Shape := ⟨3, ![4, 256, 256]⟩
abbrev S1x1024 : Shape := ⟨2, ![1, 1024]⟩
abbrev S1024 : Shape := ⟨1, ![1024]⟩
abbrev S1x512x1024 : Shape := ⟨3, ![1, 512, 1024]⟩
abbrev S528x1024 : Shape := ⟨2, ![528, 1024]⟩
abbrev S16x1024 : Shape := ⟨2, ![16, 1024]⟩
abbrev S512x1024 : Shape := ⟨2, ![512, 1024]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S1x512x256 : Shape := ⟨3, ![1, 512, 256]⟩

abbrev nBuf : Space → Nat
  | .hbm => 10
  | .vmem => 7
  | .smem => 0
  | _ => 0

abbrev bufTy : (tb : Table) → Fin (tcTables nBuf tb) → BufTy
  | .hbm, ⟨0, _⟩ => ⟨S2x16384x1024, .f32⟩
  | .hbm, ⟨1, _⟩ => ⟨S2x4x256x256, .f32⟩
  | .hbm, ⟨2, _⟩ => ⟨S2x1024, .f32⟩
  | .hbm, ⟨3, _⟩ => ⟨S1x4x256x256, .f32⟩
  | .hbm, ⟨4, _⟩ => ⟨S4x256x256, .f32⟩
  | .hbm, ⟨5, _⟩ => ⟨S4x256x256, .bf16⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S2x16384x1024, .bf16⟩
  | .local _ .vmem, ⟨0, _⟩ => ⟨S1x512x1024, .f32⟩
  | .local _ .vmem, ⟨1, _⟩ => ⟨S1x512x1024, .f32⟩
  | .local _ .vmem, ⟨2, _⟩ => ⟨S4x256x256, .bf16⟩
  | .local _ .vmem, ⟨3, _⟩ => ⟨S1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S528x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x16384x1024 : Shape := ⟨3, ![2, 16384, 1024]⟩
abbrev S2x4x256x256 : Shape := ⟨4, ![2, 4, 256, 256]⟩
abbrev S2x1024 : Shape := ⟨2, ![2, 1024]⟩
abbrev S16384 : Shape := ⟨1, ![16384]⟩
abbrev S2x16384x256 : Shape := ⟨3, ![2, 16384, 256]⟩
abbrev S_ : Shape := ⟨0, ![]⟩
abbrev S1x16384x1 : Shape := ⟨3, ![1, 16384, 1]⟩
abbrev S1x1x256x256 : Shape := ⟨4, ![1, 1, 256, 256]⟩
abbrev S256x256 : Shape := ⟨2, ![256, 256]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x4x256x256, .f32⟩
  | .hbm, ⟨2, _⟩ => ⟨S2x1024, .f32⟩
  | .hbm, ⟨3, _⟩ => ⟨S16384, .i32⟩
  | .hbm, ⟨4, _⟩ => ⟨S2x16384x256, .f32⟩
  | .hbm, ⟨5, _⟩ => ⟨S_, .f32⟩
  | .hbm, ⟨6, _⟩ => ⟨S_, .f32⟩
  | .hbm, ⟨7, _⟩ => ⟨S2x16384x256, .f32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .f32⟩
  | .hbm, ⟨15, _⟩ => ⟨S1x16384x1, .f32⟩
  | .hbm, ⟨16, _⟩ => ⟨S2x16384x256, .f32⟩
  | .hbm, ⟨17, _⟩ => ⟨S2x16384x256, .f32⟩
  | .hbm, ⟨18, _⟩ => ⟨S2x16384x256, .f32⟩
  | .hbm, ⟨19, _⟩ => ⟨S1x1x256x256, .f32⟩
  | .hbm, ⟨20, _⟩ => ⟨S256x256, .f32⟩
  | .hbm, ⟨21, _⟩ => ⟨S2x16384x256, .f32⟩
  | .hbm, ⟨22, _⟩ => ⟨S2x16384x256, .f32⟩
  | .hbm, ⟨23, _⟩ => ⟨S_, .f32⟩
  | .hbm, ⟨24, _⟩ => ⟨S_, .f32⟩
  | .hbm, ⟨25, _⟩ => ⟨S2x16384x256, .f32⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .f32⟩
  | .hbm, ⟨33, _⟩ => ⟨S1x16384x1, .f32⟩
  | .hbm, ⟨34, _⟩ => ⟨S2x16384x256, .f32⟩
  | .hbm, ⟨35, _⟩ => ⟨S2x16384x256, .f32⟩
  | .hbm, ⟨36, _⟩ => ⟨S2x16384x256, .f32⟩
  | .hbm, ⟨37, _⟩ => ⟨S1x1x256x256, .f32⟩
  | .hbm, ⟨38, _⟩ => ⟨S256x256, .f32⟩
  | .hbm, ⟨39, _⟩ => ⟨S2x16384x256, .f32⟩
  | .hbm, ⟨40, _⟩ => ⟨S2x16384x256, .f32⟩
  | .hbm, ⟨41, _⟩ => ⟨S_, .f32⟩
  | .hbm, ⟨42, _⟩ => ⟨S_, .f32⟩
  | .hbm, ⟨43, _⟩ => ⟨S2x16384x256, .f32⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S16384, .f32⟩
  | .hbm, ⟨51, _⟩ => ⟨S1x16384x1, .f32⟩
  | .hbm, ⟨52, _⟩ => ⟨S2x16384x256, .f32⟩
  | .hbm, ⟨53, _⟩ => ⟨S2x16384x256, .f32⟩
  | .hbm, ⟨54, _⟩ => ⟨S2x16384x256, .f32⟩
  | .hbm, ⟨55, _⟩ => ⟨S1x1x256x256, .f32⟩
  | .hbm, ⟨56, _⟩ => ⟨S256x256, .f32⟩
  | .hbm, ⟨57, _⟩ => ⟨S2x16384x256, .f32⟩
  | .hbm, ⟨58, _⟩ => ⟨S2x16384x256, .f32⟩
  | .hbm, ⟨59, _⟩ => ⟨S_, .f32⟩
  | .hbm, ⟨60, _⟩ => ⟨S_, .f32⟩
  | .hbm, ⟨61, _⟩ => ⟨S2x16384x256, .f32⟩
  | .hbm, ⟨62, _⟩ => ⟨S_, .i32⟩
  | .hbm, ⟨63, _⟩ => ⟨S16384, .i32⟩
  | .hbm, ⟨64, _⟩ => ⟨S16384, .i32⟩
  | .hbm, ⟨65, _⟩ => ⟨S_, .i32⟩
  | .hbm, ⟨66, _⟩ => ⟨S16384, .i32⟩
  | .hbm, ⟨67, _⟩ => ⟨S16384, .i32⟩
  | .hbm, ⟨68, _⟩ => ⟨S16384, .f32⟩
  | .hbm, ⟨69, _⟩ => ⟨S1x16384x1, .f32⟩
  | .hbm, ⟨70, _⟩ => ⟨S2x16384x256, .f32⟩
  | .hbm, ⟨71, _⟩ => ⟨S2x16384x256, .f32⟩
  | .hbm, ⟨72, _⟩ => ⟨S2x16384x256, .f32⟩
  | .hbm, ⟨73, _⟩ => ⟨S1x1x256x256, .f32⟩
  | .hbm, ⟨74, _⟩ => ⟨S256x256, .f32⟩
  | .hbm, ⟨75, _⟩ => ⟨S2x16384x256, .f32⟩
  | .hbm, ⟨76, _⟩ => ⟨S2x16384x1024, .f32⟩
  | .hbm, ⟨77, _⟩ => ⟨S1x1024, .f32⟩
  | .hbm, ⟨78, _⟩ => ⟨S1024, .f32⟩
  | .hbm, ⟨79, _⟩ => ⟨S1x1x1024, .f32⟩
  | .hbm, ⟨80, _⟩ => ⟨S2x16384x1024, .f32⟩
  | .hbm, ⟨81, _⟩ => ⟨S2x16384x1024, .f32⟩
  | .hbm, ⟨82, _⟩ => ⟨S2x16384x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_c_8 : Ref sig .tc := ⟨.hbm, 62, rfl⟩
abbrev main_v49 : Ref sig .tc := ⟨.hbm, 63, rfl⟩
abbrev main_v50 : Ref sig .tc := ⟨.hbm, 64, rfl⟩
abbrev main_c_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩

abbrev nD : Nat := 1
abbrev τ : Topo := Topo.v7x

variable {F : FTy → Type} [FloatOps F]
-- ==== Kernel6.lean ====
abbrev S2x2048 : Shape := ⟨2, ![2, 2048]⟩
abbrev S2x2048x12288 : Shape := ⟨3, ![2, 2048, 12288]⟩
abbrev S2x12288 : Shape := ⟨2, ![2, 12288]⟩
abbrev S_ : Shape := ⟨0, ![]⟩
abbrev S8x2048 : Shape := ⟨2, ![8, 2048]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048x12288, .f32⟩
  | .hbm, ⟨2, _⟩ => ⟨S2x12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S2x1x12288, .f32⟩
  | .hbm, ⟨7, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2x2048 : Shape := ⟨2, ![2, 2048]⟩
abbrev S2x2048x12288 : Shape := ⟨3, ![2, 2048, 12288]⟩
abbrev S2x12288 : Shape := ⟨2, ![2, 12288]⟩
abbrev S_ : Shape := ⟨0, ![]⟩
abbrev S8x2048 : Shape := ⟨2, ![8, 2048]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 34
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048x12288, .f32⟩
  | .hbm, ⟨2, _⟩ => ⟨S2x12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S1x2048x12288, .f32⟩
  | .hbm, ⟨16, _⟩ => ⟨S2048x12288, .f32⟩
  | .hbm, ⟨17, _⟩ => ⟨S8x12288, .f32⟩
  | .hbm, ⟨18, _⟩ => ⟨S1x12288, .f32⟩
  | .hbm, ⟨19, _⟩ => ⟨S12288, .f32⟩
  | .hbm, ⟨20, _⟩ => ⟨S1x12288, .f32⟩
  | .hbm, ⟨21, _⟩ => ⟨S8x12288, .f32⟩
  | .hbm, ⟨22, _⟩ => ⟨S8x12288, .f32⟩
  | .hbm, ⟨23, _⟩ => ⟨S1x2048x12288, .f32⟩
  | .hbm, ⟨24, _⟩ => ⟨S2048x12288, .f32⟩
  | .hbm, ⟨25, _⟩ => ⟨S8x12288, .f32⟩
  | .hbm, ⟨26, _⟩ => ⟨S1x12288, .f32⟩
  | .hbm, ⟨27, _⟩ => ⟨S12288, .f32⟩
  | .hbm, ⟨28, _⟩ => ⟨S1x12288, .f32⟩
  | .hbm, ⟨29, _⟩ => ⟨S8x12288, .f32⟩
  | .hbm, ⟨30, _⟩ => ⟨S8x12288, .f32⟩
  | .hbm, ⟨31, _⟩ => ⟨S1x8x12288, .f32⟩
  | .hbm, ⟨32, _⟩ => ⟨S1x8x12288, .f32⟩
  | .hbm, ⟨33, _⟩ => ⟨S2x8x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== Kernel7.lean ====
abbrev S32 : Shape := ⟨1, ![32]⟩
abbrev S4x32768 : Shape := ⟨2, ![4, 32768]⟩
abbrev S1 : Shape := ⟨1, ![1]⟩

abbrev nBuf : Space → Nat
  | .hbm => 4
  | .vmem => 3
  | .smem => 1
  | _ => 0

abbrev bufTy : (tb : Table) → Fin (tcTables nBuf tb) → BufTy
  | .hbm, ⟨0, _⟩ => ⟨S32, .i32⟩
  | .hbm, ⟨1, _⟩ => ⟨S4x32768, .i32⟩
  | .hbm, ⟨2, _⟩ => ⟨S4x32768, .i32⟩
  | .hbm, ⟨3, _⟩ => ⟨S4x32768, .i32⟩
  | .local _ .vmem, ⟨0, _⟩ => ⟨S4x32768, .i32⟩
  | .local _ .vmem, ⟨1, _⟩ => ⟨S4x32768, .i32⟩
  | .local _ .vmem, ⟨2, _⟩ => ⟨S4x32768, .i32⟩
  | .local _ .smem, ⟨0, _⟩ => ⟨S32, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32768 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x32768 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x32768 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference7Ideal.lean ====
abbrev S32 : Shape := ⟨1, ![32]⟩
abbrev S4x32768 : Shape := ⟨2, ![4, 32768]⟩
abbrev S_ : Shape := ⟨0, ![]⟩
abbrev S4x32768x1 : Shape := ⟨3, ![4, 32768, 1]⟩

abbrev nBuf : Space → Nat
  | .hbm => 13
  | .vmem => 0
  | .smem => 0
  | _ => 0

abbrev bufTy : (tb : Table) → Fin (tcTables nBuf tb) → BufTy
  | .hbm, ⟨0, _⟩ => ⟨S32, .i32⟩
  | .hbm, ⟨1, _⟩ => ⟨S4x32768, .i32⟩
  | .hbm, ⟨2, _⟩ => ⟨S4x32768, .i32⟩
  | .hbm, ⟨3, _⟩ => ⟨S_, .i32⟩
  | .hbm, ⟨4, _⟩ => ⟨S4x32768, .i32⟩
  | .hbm, ⟨5, _⟩ => ⟨S4x32768, .i1⟩
  | .hbm, ⟨6, _⟩ => ⟨S_, .i32⟩
  | .hbm, ⟨7, _⟩ => ⟨S4x32768, .i32⟩
  | .hbm, ⟨8, _⟩ => ⟨S4x32768, .i32⟩
  | .hbm, ⟨9, _⟩ => ⟨S4x32768, .i32⟩
  | .hbm, ⟨10, _⟩ => ⟨S4x32768x1, .i32⟩
  | .hbm, ⟨11, _⟩ => ⟨S4x32768, .i32⟩
  | .hbm, ⟨12, _⟩ => ⟨S4x32768, .i32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.UpKit.lean ====
/- The launch of the experts' up-projection, for every contents of its two tables: the host's two reshapes, the
   tables as the region finds them, the blocks its windows read. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Up

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the region is entered: after the two reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer neither reshape writes is found as launched. -/
theorem V_of_ne (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The tables' contents when the region is entered (one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables' side condition: every block inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tb0 : Memref sig .tc .smem S159 .i32 := Memref.whole main_arg0
abbrev htb0 : tb0.IsWhole := Memref.isWhole_whole _
abbrev tb1 : Memref sig .tc .smem S1 .i32 := Memref.whole main_arg1
abbrev htb1 : tb1.IsWhole := Memref.isWhole_whole _

abbrev TbBuf (c : Dev nD) {S : Shape} {e : EltTy} (M : Memref sig .tc .smem S e) : Type :=
  Buf (Elt F) (M.view.loc (c : Thread nD τ))
/-- A table held at half the full share. -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) :
    (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-! An input window's buffer holds its block at every point, for proof data over these arrays that keep it. -/

theorem before0 (hO : Ok m) {c : Dev nD} (dat : Dat τ (Elt F) Unit ℕ (UR sig nD τ) ℕ (cfgM m hO) c)
    (hA : dat.A 0 = V m c (Pipeline.arrRef spec0 0)) (hk : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hk]; unfold Dat.blockOf iblk; rw [hA]; try rfl) t d).trans
    (by unfold Dat.fetched Dat.blockOf iblk; rw [hA]; try rfl)

theorem before1 (hO : Ok m) {c : Dev nD} (dat : Dat τ (Elt F) Unit ℕ (UR sig nD τ) ℕ (cfgM m hO) c)
    (hA : dat.A 1 = V m c (Pipeline.arrRef spec0 1)) (hk : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hk]; unfold Dat.blockOf iblk; rw [hA]; try rfl) t d).trans
    (by unfold Dat.fetched Dat.blockOf iblk; rw [hA]; try rfl)

theorem before2 (hO : Ok m) {c : Dev nD} (dat : Dat τ (Elt F) Unit ℕ (UR sig nD τ) ℕ (cfgM m hO) c)
    (hA : dat.A 2 = V m c (Pipeline.arrRef spec0 2)) (hk : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [hk]; unfold Dat.blockOf iblk; rw [hA]; try rfl) t d).trans
    (by unfold Dat.fetched Dat.blockOf iblk; rw [hA]; try rfl)

theorem before3 (hO : Ok m) {c : Dev nD} (dat : Dat τ (Elt F) Unit ℕ (UR sig nD τ) ℕ (cfgM m hO) c)
    (hA : dat.A 3 = V m c (Pipeline.arrRef spec0 3)) (hk : ∀ t, dat.after 3 t = iblk m hO c 3 t)
    (t : Fin (cfgM m hO).N) (d) : dat.before 3 t d = iblk m hO c 3 t :=
  (dat.before_in_eq_fetched 3 rfl (fun _ => rfl) (fun _ _ _ => rfl)
    (fun t => by rw [hk]; unfold Dat.blockOf iblk; rw [hA]; try rfl) t d).trans
    (by unfold Dat.fetched Dat.blockOf iblk; rw [hA]; try rfl)

theorem before4 (hO : Ok m) {c : Dev nD} (dat : Dat τ (Elt F) Unit ℕ (UR sig nD τ) ℕ (cfgM m hO) c)
    (hA : dat.A 4 = V m c (Pipeline.arrRef spec0 4)) (hk : ∀ t, dat.after 4 t = iblk m hO c 4 t)
    (t : Fin (cfgM m hO).N) (d) : dat.before 4 t d = iblk m hO c 4 t :=
  (dat.before_in_eq_fetched 4 rfl (fun _ => rfl) (fun _ _ _ => rfl)
    (fun t => by rw [hk]; unfold Dat.blockOf iblk; rw [hA]; try rfl) t d).trans
    (by unfold Dat.fetched Dat.blockOf iblk; rw [hA]; try rfl)

/-- The scratch as a memref, and the invariant's scratch part. -/
abbrev scM : Memref sig .tc .vmem S1024x2048 .bf16 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Up

end
-- ==== Proof.UpBody.lean ====
/- The body of the experts' up-projection at one point, by what its table word says: the three runs, each with what
   it leaves in the result's buffer and in the scratch. -/
module

public import proofs.«01_k».proof.Proof.UpKit
public import Idealize.ShloMosaic.Lib.ValueIdxCore

@[expose] public section

set_option maxRecDepth 16384

noncomputable section

namespace Cert.KernelIdeal.Up

open Cert.KernelIdeal.Gen
open Idealize.ShloMosaic.ValueIdx (ix2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A block of packed rows as the 2048 columns the body unpacks it to. -/
def unp (x : Vec F S1024x1024 .i32) : Vec F S1024x2048 .bf16 := fun y =>
  if h : (y 1).val < 1024 then k0_pay1 x (ix2 (y 0) (⟨(y 1).val, h⟩ : Fin 1024))
  else k0_pay2 x (ix2 (y 0) (⟨(y 1).val - 1024, by have : (y 1).val < 2048 := (y 1).isLt; omega⟩ : Fin 1024))

/-- The number of used blocks, as the body and the index maps read it. -/
def nuOf (pf : pre0.Contents (Elt F)) : BitVec 32 := pf.at 1 (Rect.unit (s := S1) ![0] S1.size inb_S1_S1_0) numel1_S1

/-- The condition under which the body unpacks its rows: a used block, at its first column tile. -/
abbrev firstC (i : grid0.Coords) (nu : BitVec 32) : Prop :=
  Scalar.cmpi .ne (Scalar.extui (Scalar.andi (Scalar.cmpi .slt (BitVec.ofNat 32 (i 0).val) nu) (Scalar.cmpi .eq (BitVec.ofNat 32 (i 1).val) 0#32))) 0#32 = 1#1

/-- What the scratch holds after the body. -/
def scrOf (i : grid0.Coords) (nu : BitVec 32) (x0 : Vec F S1024x1024 .i32) (xs : Vec F S1024x2048 .bf16) : Vec F S1024x2048 .bf16 :=
  if firstC i nu then unp x0 else xs

/-- What the result's buffer holds after the body. -/
def outOf (i : grid0.Coords) (nu : BitVec 32) (xs : Vec F S1024x2048 .bf16) (x1 : Vec F S1x1x2048x512 .f32) (x2 : Vec F S1x1x1x512 .f32) (x3 : Vec F S1x1x2048x512 .f32) (x4 : Vec F S1x1x1x512 .f32) : Vec F S1024x512 .bf16 :=
  if k0_cond2 i nu = 1#1 then k0_pay4 xs x1 x2 x3 x4 else k0_pay3

/-- The two stores of the unpacked halves leave the unpacked rows. -/
theorem read_unp (v : View sig .tc .vmem S1024x2048 .bf16) (f : v.ty.Contents (Elt F)) (x : Vec F S1024x1024 .i32) :
    v.read (Elt F) (v.writes (Elt F) f
      [⟨Rect.unit ![0, 1024] ![1024, 1024] inb_S1024x2048_S1024x1024_0_1024, k0_pay2 x⟩,
       ⟨Rect.unit ![0, 0] ![1024, 1024] inb_S1024x2048_S1024x1024_0_0, k0_pay1 x⟩]) = unp x := by
  funext y
  unfold unp
  by_cases h : (y 1).val < 1024
  · rw [dif_pos h, View.read_writes_cons_unit_of_not_mem _ _ _ _ _ y rfl (1 : Fin 2) (.inl h)]
    exact View.read_writes_cons_unit_of_mem _ _ _ _ _ y _ rfl (by
      intro a
      match a with
      | 0 => exact (Nat.zero_add _).symm
      | 1 => exact (Nat.zero_add _).symm)
  · rw [dif_neg h]
    exact View.read_writes_cons_unit_of_mem _ _ _ _ _ y _ rfl (by
      intro a
      match a with
      | 0 => exact (Nat.zero_add _).symm
      | 1 => exact (by omega : (y 1).val = 1024 + ((y 1).val - 1024)))

/-- The negated condition. -/
theorem cond3_iff (i : grid0.Coords) (nu : BitVec 32) : k0_cond3 i nu = 1#1 ↔ ¬ k0_cond2 i nu = 1#1 := by
  unfold k0_cond3 k0_cond2
  dsimp only
  generalize Scalar.cmpi CmpIPredicate.slt (BitVec.ofNat 32 (i 0).val) nu = b
  revert b; decide

set_option maxHeartbeats 1000000 in
theorem run_body (c : Dev nD) (i : grid0.Coords) (arg4 : Memref sig .tc .vmem S1024x1024 .i32) (harg4 : arg4.IsWhole) (arg5 : Memref sig .tc .vmem S1x1x2048x512 .f32) (harg5 : arg5.IsWhole) (arg6 : Memref sig .tc .vmem S1x1x1x512 .f32) (harg6 : arg6.IsWhole) (arg7 : Memref sig .tc .vmem S1x1x2048x512 .f32) (harg7 : arg7.IsWhole) (arg8 : Memref sig .tc .vmem S1x1x1x512 .f32) (harg8 : arg8.IsWhole) (arg9 : Memref sig .tc .vmem S1024x512 .bf16) (harg9 : arg9.IsWhole) (arg10 : Memref sig .tc .vmem S1024x2048 .bf16) (harg10 : arg10.IsWhole)
    (x0 : Vec F S1024x1024 .i32) (x1 : Vec F S1x1x2048x512 .f32) (x2 : Vec F S1x1x1x512 .f32) (x3 : Vec F S1x1x2048x512 .f32) (x4 : Vec F S1x1x1x512 .f32) (xs : Vec F S1024x2048 .bf16) (pf : pre0.Contents (Elt F))
     (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs ∗ tbPt c tb0 (pf 0) ∗ tbPt c tb1 (pf 1)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (outOf i (nuOf pf) (scrOf i (nuOf pf) x0 xs) x1 x2 x3 x4) ∗ owns (c : Thread nD τ) arg10 fullShare (scrOf i (nuOf pf) x0 xs) ∗ tbPt c tb0 (pf 0) ∗ tbPt c tb1 (pf 1)) -∗ K ⟨⟩))
          ⊢ wp frame (wpE (defs₀ (F := F)) Variants.none c none) E (cc0_moe_ffn_up i tb0 htb0 tb1 htb1 arg4 harg4 arg5 harg5 arg6 harg6 arg7 harg7 arg8 harg8 arg9 harg9 arg10 harg10) K := by
    simp only [cc0_moe_ffn_up_eq_skeleton]; unfold cc0_moe_ffn_up_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, HT0, HT1, Hk⟩
    sl_exec
    sl_step
    have hr : run_body.sl.r pf = nuOf pf := rfl
    have hv : run_body.sl.v11 c i arg4 arg10 pf f0 fs0 = scrOf i (nuOf pf) x0 xs := by
      unfold run_body.sl.v11 scrOf
      rw [hr]
      refine (View.readAt_full _ _ _).trans ?_
      split
      · rw [View.readAt_full, hf0]; exact read_unp _ _ _
      · exact hfs0
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr
      swap; · iexact H5
      ipureintro
      rw [hr, hv]
      unfold outOf
      by_cases h2 : k0_cond2 i (nuOf pf) = 1#1
      · rw [dif_neg (fun h => (cond3_iff _ _).mp h h2), dif_pos h2, if_pos h2]
        rw [View.read_writes_full, View.readAt_full, View.readAt_full, View.readAt_full, View.readAt_full, hf1, hf2, hf3, hf4]
      · rw [dif_pos ((cond3_iff _ _).mpr h2), if_neg h2]
        exact View.read_writes_full _ _ _ _ _
    isplitl [HS0]
    · iexists _; isplitr
      swap; · iexact HS0
      ipureintro
      rw [hr]
      unfold scrOf
      split
      · rw [View.readAt_full, hf0]; exact read_unp _ _ _
      · exact hfs0
    isplitl [HT0]; · iexact HT0
    iexact HT1

end Cert.KernelIdeal.Up

end
-- ==== Proof.UpRun.lean ====
/- The experts' up-projection run to the end, for every contents of its tables under the side condition that the
   blocks lie inside their arrays: the scratch carried between points is known where a used block reads it. -/
module

public import proofs.«01_k».proof.Proof.UpBody
public import Idealize.ShloMosaic.Lib.Pipeline.ValueKit

@[expose] public section

set_option maxRecDepth 16384

noncomputable section

namespace Cert.KernelIdeal.Up

open Cert.KernelIdeal.Gen
open Idealize.ShloMosaic.ValueIdx (ix2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The coordinates of point `t`: block `t / 4`, column tile `t % 4`. -/
theorem coords0 : ∀ t : Fin grid0.N, (grid0.coords t 0).val = t.val / 4 := by decide +kernel
theorem coords1 : ∀ t : Fin grid0.N, (grid0.coords t 1).val = t.val % 4 := by decide +kernel

/-- The used condition at a point depends on the block alone. -/
theorem cond2_congr (t t' : Fin grid0.N) (h : t.val / 4 = t'.val / 4) (nu : BitVec 32) :
    k0_cond2 (grid0.coords t) nu = k0_cond2 (grid0.coords t') nu := by
  unfold k0_cond2; rw [coords0, coords0, h]

/-- The rows are unpacked exactly at a used block's first column tile. -/
theorem firstC_iff (t : Fin grid0.N) (nu : BitVec 32) :
    firstC (grid0.coords t) nu ↔ (k0_cond2 (grid0.coords t) nu = 1#1 ∧ t.val % 4 = 0) := by
  unfold firstC k0_cond2
  dsimp only
  generalize Scalar.cmpi CmpIPredicate.slt (BitVec.ofNat 32 (grid0.coords t 0).val) nu = b
  rw [coords1]
  have h4 : t.val % 4 < 4 := Nat.mod_lt _ (by decide)
  generalize t.val % 4 = j at h4
  revert j b; decide

attribute [local irreducible] k0_cond2 k0_cond3

/-- The rows' block does not move within a row block. -/
theorem iblk0_congr (hO : Ok m) (c : Dev nD) (t t' : Fin (cfgM m hO).N) (h : t.val / 4 = t'.val / 4) :
    iblk m hO c 0 t = iblk m hO c 0 t' := by
  have hix : ((cfgM m hO).win 0).index t = ((cfgM m hO).win 0).index t' := by
    refine hreads0_0 (tbl m) (grid0.coords t) (grid0.coords t') ?_
    intro a ha
    match a with
    | 0 => exact Fin.ext ((coords0 t).trans (h.trans (coords0 t').symm))
    | 1 => exact absurd ha (by decide)
  funext y
  refine congrArg (V m c main_arg2) (funext fun a => Fin.ext ?_)
  have e1 := Window.rect_emb_val ((cfgM m hO).win 0) t y a
  have e2 := Window.rect_emb_val ((cfgM m hO).win 0) t' y a
  rw [hix] at e1
  exact e1.trans e2.symm

/-- What is known of the scratch before position `n`: within a used row block it holds the block's rows. -/
def Good (hO : Ok m) (c : Dev nD) (n : ℕ) (d : Vec F S1024x2048 .bf16) : Prop :=
  ∀ h : n < (cfgM m hO).N, n % 4 ≠ 0 → k0_cond2 (grid0.coords ⟨n, h⟩) (nuOf (tbl m)) = 1#1 → d = unp (iblk m hO c 0 ⟨n, h⟩)

/-- What the result's buffer holds after point `t`. -/
def outAt (hO : Ok m) (c : Dev nD) (t : Fin (cfgM m hO).N) : Vec F S1024x512 .bf16 :=
  outOf (grid0.coords t) (nuOf (tbl m)) (unp (iblk m hO c 0 t)) (iblk m hO c 1 t) (iblk m hO c 2 t) (iblk m hO c 3 t) (iblk m hO c 4 t)

/-- The scratch after the body is as known before the next position. -/
theorem good_succ (hO : Ok m) (c : Dev nD) (t : Fin (cfgM m hO).N) (d : Vec F S1024x2048 .bf16) (hg : Good m hO c t.val d) :
    Good m hO c (t.val + 1) (scrOf (grid0.coords t) (nuOf (tbl m)) (iblk m hO c 0 t) d) := by
  intro h hn hc
  have hd : t.val / 4 = (t.val + 1) / 4 := by omega
  rw [← cond2_congr t ⟨t.val + 1, h⟩ hd] at hc
  rw [← iblk0_congr m hO c t ⟨t.val + 1, h⟩ hd]
  unfold scrOf
  split
  · rfl
  · rename_i hf
    exact hg t.isLt (fun h0 => hf ((firstC_iff t _).mpr ⟨hc, h0⟩)) hc

/-- What the body stores is the point's block of the result. -/
theorem out_eq (hO : Ok m) (c : Dev nD) (t : Fin (cfgM m hO).N) (d : Vec F S1024x2048 .bf16) (hg : Good m hO c t.val d) :
    outOf (grid0.coords t) (nuOf (tbl m)) (scrOf (grid0.coords t) (nuOf (tbl m)) (iblk m hO c 0 t) d) (iblk m hO c 1 t) (iblk m hO c 2 t) (iblk m hO c 3 t) (iblk m hO c 4 t)
      = outAt m hO c t := by
  unfold outAt outOf
  by_cases hc : k0_cond2 (grid0.coords t) (nuOf (tbl m)) = 1#1
  · rw [if_pos hc, if_pos hc]
    congr 1
    unfold scrOf
    split
    · rfl
    · rename_i hf
      exact hg t.isLt (fun h0 => hf ((firstC_iff t _).mpr ⟨hc, h0⟩)) hc
  · rw [if_neg hc, if_neg hc]

/-- The invariant before position `n`. -/
def Phi (hO : Ok m) (c : Dev nD) (n : ℕ) : sProp 𝕄 :=
  iprop(iprop((∃ d, ⌜Good m hO c n d⌝ ∗ owns (c : Thread nD τ) scM fullShare d) ∗ (∃ r, prngReg c r)) ∗ Pipeline.ΦT pre0 (tbl m) c)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := Phi m hO c t.val
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = outAt m hO c t := by dsimp only [dats]; try rfl

/-- The two conditions of the result's stores are each other's negation: at every point one holds. -/
theorem idle5 (i : grid0.Coords) (w : BitVec 32) : (!(k0_cond2 i w == 1#1) && !(k0_cond3 i w == 1#1)) = false := by
  have h := cond3_iff i w
  by_cases h2 : k0_cond2 i w = 1#1
  · simp [h2]
  · simp [h2, h.mpr h2]

theorem live5 (hO : Ok m) (t : Fin (cfgM m hO).N) : (cfgM m hO).idle 5 (grid0.coords t) = false := by
  have e : (cfgM m hO).idle = idle0 (tbl m) := rfl
  rw [e]
  exact idle5 (grid0.coords t) ((tbl m).atD 1 ![0])

abbrev ms0 (hO : Ok m) (t : Fin (cfgM m hO).N) : Memref sig .tc .vmem S1024x1024 .i32 := spec0_0.stage ((cfgM m hO).slots t 0)
abbrev ms1 (hO : Ok m) (t : Fin (cfgM m hO).N) : Memref sig .tc .vmem S1x1x2048x512 .f32 := spec0_1.stage ((cfgM m hO).slots t 1)
abbrev ms2 (hO : Ok m) (t : Fin (cfgM m hO).N) : Memref sig .tc .vmem S1x1x1x512 .f32 := spec0_2.stage ((cfgM m hO).slots t 2)
abbrev ms3 (hO : Ok m) (t : Fin (cfgM m hO).N) : Memref sig .tc .vmem S1x1x2048x512 .f32 := spec0_3.stage ((cfgM m hO).slots t 3)
abbrev ms4 (hO : Ok m) (t : Fin (cfgM m hO).N) : Memref sig .tc .vmem S1x1x1x512 .f32 := spec0_4.stage ((cfgM m hO).slots t 4)
abbrev ms5 (hO : Ok m) (t : Fin (cfgM m hO).N) : Memref sig .tc .vmem S1024x512 .bf16 := spec0_5.stage ((cfgM m hO).slots t 5)

/-- The body at point `t`, on what the pipeline calls it with. -/
abbrev bodyAt (a : (pcfg0 (F := F)).Adm) (t : Fin (cfg0 a).N) : Prog (TpuEff nD τ sig (Elt F) Λ₀ .tc) PUnit :=
  cc0_moe_ffn_up (grid0.coords t) tb0 htb0 tb1 htb1 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) scM (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 1600000 in
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0 m hO _ (A_eq m hO c 0) (after0 m hO c), before1 m hO _ (A_eq m hO c 1) (after1 m hO c),
    before2 m hO _ (A_eq m hO c 2) (after2 m hO c), before3 m hO _ (A_eq m hO c 3) (after3 m hO c),
    before4 m hO _ (A_eq m hO c 4) (after4 m hO c)]
  rw [show (dats m hO 0 c).owesAt () t.succ = (dats m hO 0 c).owesAt () t.castSucc from rfl]
  rw [show (dats m hO 0 c).Φ t.succ = Phi m hO c (t.val + 1) from rfl, show (dats m hO 0 c).Φ t.castSucc = Phi m hO c t.val from rfl]
  unfold Phi
  rw [PhiT_eq]
  rw [show (dats m hO 0 c).leavesExact 0 t = owns (c : Thread nD τ) (ms0 m hO t) fullShare ((dats m hO 0 c).after 0 t) from rfl, after0]
  rw [show (dats m hO 0 c).leavesExact 1 t = owns (c : Thread nD τ) (ms1 m hO t) fullShare ((dats m hO 0 c).after 1 t) from rfl, after1]
  rw [show (dats m hO 0 c).leavesExact 2 t = owns (c : Thread nD τ) (ms2 m hO t) fullShare ((dats m hO 0 c).after 2 t) from rfl, after2]
  rw [show (dats m hO 0 c).leavesExact 3 t = owns (c : Thread nD τ) (ms3 m hO t) fullShare ((dats m hO 0 c).after 3 t) from rfl, after3]
  rw [show (dats m hO 0 c).leavesExact 4 t = owns (c : Thread nD τ) (ms4 m hO t) fullShare ((dats m hO 0 c).after 4 t) from rfl, after4]
  rw [show (dats m hO 0 c).leavesExact 5 t = owns (c : Thread nD τ) (ms5 m hO t) fullShare ((dats m hO 0 c).after 5 t) from by
    unfold Dat.leavesExact; rw [live5 m hO t]; try rfl, after5]
  iintro ⟨⟨⟨⟨%d, %hg, HS⟩, Hg⟩, ⟨HT0, HT1⟩⟩, Ho, ⟨%d0, H0⟩, ⟨%d1, H1⟩, ⟨%d2, H2⟩, ⟨%d3, H3⟩, ⟨%d4, H4⟩, ⟨%d5, H5⟩⟩
  rw [← out_eq m hO c t d hg]
  iapply (run_body c (grid0.coords t) _ _ _ _ _ _ _ _ _ _ _ _ _ _ (iblk m hO c 0 t) (iblk m hO c 1 t) (iblk m hO c 2 t) (iblk m hO c 3 t) (iblk m hO c 4 t) d (tbl m) Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  isplitl [HT0]; · iexact HT0
  isplitl [HT1]; · iexact HT1
  iintro ⟨H0, H1, H2, H3, H4, H5, HS, HT0, HT1⟩
  isplitl [HS Hg HT0 HT1]
  · isplitl [HS Hg]
    · isplitl [HS]
      · iexists _; isplitr
        swap; · iexact HS
        ipureintro; exact good_succ m hO c t d hg
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 from rfl, PhiA_eq]
  unfold Phi
  iintro ⟨⟨⟨%d, HS⟩, Hg⟩, HT⟩
  isplitl [HS Hg]
  · isplitl [HS]
    · iexists d; isplitr
      swap; · iexact HS
      ipureintro; exact fun _ h => absurd rfl h
    iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = Phi m hO c (Fin.last (cfgM m hO).N).val from rfl, PhiA_eq]
  unfold Phi
  iintro ⟨⟨⟨%d, -, HS⟩, Hg⟩, -⟩
  isplitl [HS]
  · iexists d; iexact HS
  iexact Hg

set_option backward.isDefEq.respectTransparency.types false in
/-- The run: the arrays at what the proof data say, every other buffer as the region found it, every counter at zero. -/
theorem run_all (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The arguments end as launched, the result at the array of the written-back blocks, every counter at zero. -/
theorem run_main (hO : Ok m) : θ_run defs (onTc (τ := τ) (main (F := F))) ⟨m, fun _ => 0, ρ⟩ (fun r => (∀ c : Dev nD,
      r.2.mem ((c.tc : Thread nD τ).loc main_v2) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 5,
      ((h.1 c).2 main_arg0 (by decide : main_arg0 ∈ Pipeline.restRefs sig spec0)).trans (V_of_ne m c _ (by decide) (by decide)),
      ((h.1 c).2 main_arg1 (by decide : main_arg1 ∈ Pipeline.restRefs sig spec0)).trans (V_of_ne m c _ (by decide) (by decide)),
      ((h.1 c).1 0).trans (((dats m hO 0 c).arrAt_in 0 rfl _).trans ((A_eq m hO c 0).trans (V_of_ne m c main_arg2 (by decide) (by decide)))),
      ((h.1 c).1 1).trans (((dats m hO 0 c).arrAt_in 1 rfl _).trans ((A_eq m hO c 1).trans (V_of_ne m c main_arg3 (by decide) (by decide)))),
      ((h.1 c).2 main_arg4 (by decide : main_arg4 ∈ Pipeline.restRefs sig spec0)).trans (V_of_ne m c _ (by decide) (by decide)),
      ((h.1 c).1 3).trans (((dats m hO 0 c).arrAt_in 3 rfl _).trans ((A_eq m hO c 3).trans (V_of_ne m c main_arg5 (by decide) (by decide)))),
      ((h.1 c).2 main_arg6 (by decide : main_arg6 ∈ Pipeline.restRefs sig spec0)).trans (V_of_ne m c _ (by decide) (by decide))⟩, h.2⟩) (run_all m ρ hO)

end Cert.KernelIdeal.Up

end
-- ==== Proof.UpSide.lean ====
/- What the precondition says of the tables of the experts' up-projection, and from it the launch's side condition:
   every block the index maps name lies inside its array. -/
module

public import proofs.«01_k».proof.Proof.UpKit
public import proofs.«01_k».proof.Pre_tables
public import Idealize.ShloMosaic.Lib.ReduceAll
public import Idealize.ShloMosaic.Lib.ValueIdxCore

@[expose] public section

set_option maxRecDepth 16384

noncomputable section

namespace Cert.KernelIdeal.Up

open Cert.KernelIdeal.Gen
open Idealize.ShloMosaic.ValueIdx (ix1 ix2)
open Idealize.ShloMosaic Idealize.ShloMosaic.TcCoe

variable {F : FTy → Type} [FloatOps F]

theorem and_one {a b : BitVec 1} (h : IntOp.andi a b = 1#1) : a = 1#1 ∧ b = 1#1 := by
  revert a b; decide

theorem word_nonneg {x : BitVec 32} (h : IntOp.cmpi .sge x 0#32 = 1#1) : x.toNat < 2 ^ 31 := by
  have h' : (0#32).sle x = true := by
    unfold IntOp.cmpi at h; dsimp only at h; revert h; cases (0#32).sle x <;> simp
  rw [BitVec.sle_eq_decide] at h'
  have := of_decide_eq_true h'
  rw [BitVec.toInt_eq_toNat_cond x] at this
  have hx := x.isLt
  simp only [BitVec.toInt_zero] at this
  split at this <;> omega

theorem word_range {x : BitVec 32} {n : ℕ} (hn : n < 2 ^ 31) (h0 : x.toNat < 2 ^ 31) (h : IntOp.cmpi .slt x (BitVec.ofNat 32 n) = 1#1) : x.toNat < n := by
  have h' : x.slt (BitVec.ofNat 32 n) = true := by
    unfold IntOp.cmpi at h; dsimp only at h; revert h; cases x.slt (BitVec.ofNat 32 n) <;> simp
  rw [BitVec.slt_eq_decide] at h'
  have := of_decide_eq_true h'
  rw [BitVec.toInt_eq_toNat_cond x, BitVec.toInt_eq_toNat_cond, BitVec.toNat_ofNat, Nat.mod_eq_of_lt (by omega), if_pos (by omega), if_pos (by omega)] at this
  omega

/-- A word between 1 and 159, read signed. -/
theorem word_used {x : BitVec 32} (h : IntOp.cmpi .sge x 1#32 = 1#1) (h' : IntOp.cmpi .sle x 159#32 = 1#1) : 1 ≤ x.toNat ∧ x.toNat ≤ 159 := by
  have e : (1#32).sle x = true := by
    unfold IntOp.cmpi at h; dsimp only at h; revert h; cases (1#32).sle x <;> simp
  have e' : x.sle 159#32 = true := by
    unfold IntOp.cmpi at h'; dsimp only at h'; revert h'; cases x.sle 159#32 <;> simp
  rw [BitVec.sle_eq_decide] at e e'
  have d := of_decide_eq_true e
  have d' := of_decide_eq_true e'
  rw [BitVec.toInt_eq_toNat_cond x] at d d'
  have hx := x.isLt
  rw [show (1#32).toInt = 1 from rfl] at d
  rw [show (159#32).toInt = 159 from rfl] at d'
  split at d <;> split at d' <;> omega

/-- The tables hold expert numbers and a number of used blocks. -/
def Words (be : IVec S159 32) (nu : IVec S1 32) : Prop :=
  (∀ i, (be i).toNat < 32) ∧ ∀ i, 1 ≤ (nu i).toNat ∧ (nu i).toNat ≤ 159

/-- The precondition, read. -/
theorem words_of_pre [Cert.Pre_tables.Facts] {be nu x2 x3 x4 x5 x6}
    (h : Cert.Pre_tables.fn (F := F) be nu x2 x3 x4 x5 x6 = fun _ => 1#1) : Words be nu := by
  haveI : Subsingleton Cert.Pre_tables.S_.Idx := ⟨fun a b => funext fun k => k.elim0⟩
  have h0 := congrFun h (fun a => a.elim0)
  unfold Cert.Pre_tables.fn at h0
  obtain ⟨h1, h2⟩ := and_one h0
  refine ⟨fun i => ?_, fun i => ?_⟩
  · have e := Host.reduce_andi_all _ _ _ _ _ h1 i
    obtain ⟨a, b⟩ := and_one e
    exact word_range (n := 32) (by decide) (word_nonneg a) b
  · have e := Host.reduce_andi_all _ _ _ _ _ h2 i
    obtain ⟨a, b⟩ := and_one e
    exact word_used a b

variable (pf : pre0.Contents (Elt F))

/-- The row block the rows' index map names is the position's, or the last used one's. -/
theorem rows_word {n : ℕ} {nu : BitVec 32} (hn : n < 159) (h1 : 1 ≤ nu.toNat) (h2 : nu.toNat ≤ 159) :
    (Scalar.minsi (BitVec.ofNat 32 n) (Scalar.subi nu 1#32)).toNat = min n (nu.toNat - 1) := by
  have hs : (Scalar.subi nu 1#32).toNat = nu.toNat - 1 := by
    show (nu - 1#32).toNat = _
    rw [BitVec.toNat_sub_of_le (by rw [BitVec.le_def]; exact h1)]; rfl
  show (if (BitVec.ofNat 32 n).slt (Scalar.subi nu 1#32) then BitVec.ofNat 32 n else Scalar.subi nu 1#32).toNat = _
  have e : (BitVec.ofNat 32 n).toNat = n := by rw [BitVec.toNat_ofNat, Nat.mod_eq_of_lt (by omega)]
  have i1 : (BitVec.ofNat 32 n).toInt = n := by rw [BitVec.toInt_eq_toNat_cond, e, if_pos (by omega)]
  have i2 : (Scalar.subi nu 1#32).toInt = ((nu.toNat - 1 : ℕ) : ℤ) := by rw [BitVec.toInt_eq_toNat_cond, hs, if_pos (by omega)]
  rw [BitVec.slt_eq_decide, i1, i2]
  split
  · rename_i h; have := of_decide_eq_true h; rw [e]; omega
  · rename_i h; have : ¬ ((n : ℤ) < ((nu.toNat - 1 : ℕ) : ℤ)) := fun h' => h (decide_eq_true h'); rw [hs]; omega

/-- The column tile the weights' index maps name is one of the four. -/
theorem cols_word (b : BitVec 1) {n : ℕ} (hn : n < 4) : (Scalar.select b (BitVec.ofNat 32 n) 3#32).toNat < 4 := by
  unfold Scalar.select
  split
  · rw [BitVec.toNat_ofNat, Nat.mod_eq_of_lt (by omega)]; exact hn
  · decide

theorem ok_of_words (h : Words (pf 0) (pf 1)) : ok0 pf := by
  have hc0 : ∀ i : grid0.Coords, (i 0).val < 159 := fun i => (i 0).isLt
  have hc1 : ∀ i : grid0.Coords, (i 1).val < 4 := fun i => (i 1).isLt
  refine ⟨fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩⟩
  · match a with
    | 0 =>
      show ((Scalar.minsi (BitVec.ofNat 32 (i 0).val) (Scalar.subi (pf.at 1 (Rect.unit (s := S1) ![0] S1.size inb_S1_S1_0) numel1_S1) 1#32)).toNat + 1) * 1024 ≤ 162816
      have hw : 1 ≤ (pf.at 1 (Rect.unit (s := S1) ![0] S1.size inb_S1_S1_0) numel1_S1 : BitVec 32).toNat ∧ (pf.at 1 (Rect.unit (s := S1) ![0] S1.size inb_S1_S1_0) numel1_S1 : BitVec 32).toNat ≤ 159 := h.2 _
      rw [rows_word (hc0 i) hw.1 hw.2]
      have := hc0 i; omega
    | 1 => show (0 + 1) * 1024 ≤ 1024; decide
  · match a with
    | 0 => show (0 + 1) * 1 ≤ 2; decide
    | 1 =>
      show ((pf.at 0 (Rect.unit (s := S159) _ S1.size (k0_off1_inb i)) numel1_S1 : BitVec 32).toNat + 1) * 1 ≤ 32
      have hw : (pf.at 0 (Rect.unit (s := S159) _ S1.size (k0_off1_inb i)) numel1_S1 : BitVec 32).toNat < 32 := h.1 _
      omega
    | 2 => show (0 + 1) * 2048 ≤ 2048; decide
    | 3 =>
      show ((Scalar.select _ (BitVec.ofNat 32 (i 1).val) 3#32).toNat + 1) * 512 ≤ 2048
      have := cols_word (Scalar.cmpi .slt (BitVec.ofNat 32 (i 0).val) (pf.at 1 (Rect.unit (s := S1) ![0] S1.size inb_S1_S1_0) numel1_S1)) (hc1 i)
      omega
  · match a with
    | 0 => show (0 + 1) * 1 ≤ 2; decide
    | 1 =>
      show ((pf.at 0 (Rect.unit (s := S159) _ S1.size (k0_off1_inb i)) numel1_S1 : BitVec 32).toNat + 1) * 1 ≤ 32
      have hw : (pf.at 0 (Rect.unit (s := S159) _ S1.size (k0_off1_inb i)) numel1_S1 : BitVec 32).toNat < 32 := h.1 _
      omega
    | 2 => show (0 + 1) * 1 ≤ 1; decide
    | 3 =>
      show ((Scalar.select _ (BitVec.ofNat 32 (i 1).val) 3#32).toNat + 1) * 512 ≤ 2048
      have := cols_word (Scalar.cmpi .slt (BitVec.ofNat 32 (i 0).val) (pf.at 1 (Rect.unit (s := S1) ![0] S1.size inb_S1_S1_0) numel1_S1)) (hc1 i)
      omega
  · match a with
    | 0 => show (0 + 1) * 1 ≤ 2; decide
    | 1 =>
      show ((pf.at 0 (Rect.unit (s := S159) _ S1.size (k0_off1_inb i)) numel1_S1 : BitVec 32).toNat + 1) * 1 ≤ 32
      have hw : (pf.at 0 (Rect.unit (s := S159) _ S1.size (k0_off1_inb i)) numel1_S1 : BitVec 32).toNat < 32 := h.1 _
      omega
    | 2 => show (0 + 1) * 2048 ≤ 2048; decide
    | 3 =>
      show ((Scalar.select _ (BitVec.ofNat 32 (i 1).val) 3#32).toNat + 1) * 512 ≤ 2048
      have := cols_word (Scalar.cmpi .slt (BitVec.ofNat 32 (i 0).val) (pf.at 1 (Rect.unit (s := S1) ![0] S1.size inb_S1_S1_0) numel1_S1)) (hc1 i)
      omega
  · match a with
    | 0 => show (0 + 1) * 1 ≤ 2; decide
    | 1 =>
      show ((pf.at 0 (Rect.unit (s := S159) _ S1.size (k0_off1_inb i)) numel1_S1 : BitVec 32).toNat + 1) * 1 ≤ 32
      have hw : (pf.at 0 (Rect.unit (s := S159) _ S1.size (k0_off1_inb i)) numel1_S1 : BitVec 32).toNat < 32 := h.1 _
      omega
    | 2 => show (0 + 1) * 1 ≤ 1; decide
    | 3 =>
      show ((Scalar.select _ (BitVec.ofNat 32 (i 1).val) 3#32).toNat + 1) * 512 ≤ 2048
      have := cols_word (Scalar.cmpi .slt (BitVec.ofNat 32 (i 0).val) (pf.at 1 (Rect.unit (s := S1) ![0] S1.size inb_S1_S1_0) numel1_S1)) (hc1 i)
      omega

/-- The launch's tables are the arguments. -/
theorem tbl0_eq (m : (ℓ : Loc nD τ sig) → Buf (Elt F) ℓ) : tbl m 0 = m (((0 : Dev nD) : Thread nD τ).loc main_arg0) :=
  V_of_ne m 0 main_arg0 (by decide) (by decide)
theorem tbl1_eq (m : (ℓ : Loc nD τ sig) → Buf (Elt F) ℓ) : tbl m 1 = m (((0 : Dev nD) : Thread nD τ).loc main_arg1) :=
  V_of_ne m 0 main_arg1 (by decide) (by decide)

theorem ok_of_args (m : (ℓ : Loc nD τ sig) → Buf (Elt F) ℓ)
    (h : Words (m (((0 : Dev nD) : Thread nD τ).loc main_arg0)) (m (((0 : Dev nD) : Thread nD τ).loc main_arg1))) : Ok m :=
  ok_of_words (tbl m) (by rw [tbl0_eq, tbl1_eq]; exact h)

end Cert.KernelIdeal.Up

end
-- ==== Proof.UpPlain.lean ====
/- The experts' up-projection in plain formulas over the extended reals: a packed row's entries, a row's two products
   with its expert's matrices, the gated activation, zero past the used blocks. -/
module

public import proofs.«01_k».proof.Proof.UpSide
public import Idealize.ShloMosaic.Lib.Pointwise.Tactic
public import Idealize.ShloMosaic.PureOps.Ideal.Laws

@[expose] public section

noncomputable section

namespace Cert.KernelIdeal.Up

open Idealize.ShloMosaic.ValueIdx (ix1 ix2 ix3 ix4)
open Idealize.ShloMosaic hiding ix1 ix2 ix3 ix4

/-- Entry `k` of packed row `r`: the word's high half for the first 1024 columns, its low half for the others. -/
def rowAt (xs : IVec S162816x1024 32) (r : Fin 162816) (k : Fin 2048) : EReal :=
  if h : k.val < 1024 then FloatOps.ofBits (F := Ideal) .f32 (IntOp.andi (xs (ix2 r (⟨k.val, h⟩ : Fin 1024))) 4294901760#32)
  else FloatOps.ofBits (F := Ideal) .f32 (xs (ix2 r (⟨k.val - 1024, by have := k.isLt; omega⟩ : Fin 1024)) <<< 16#32)

/-- The activation of a gate and a linear part. -/
def act (g u : EReal) : EReal :=
  FloatOps.mulf (F := Ideal) (φ := .f32)
    (FloatOps.mulf (F := Ideal) (φ := .f32) (FloatOps.minimumf (F := Ideal) (φ := .f32) g (FloatOps.ofBits .f32 0x40E00000#32))
      (FloatOps.logistic (F := Ideal) (φ := .f32) (FloatOps.mulf (F := Ideal) (φ := .f32) (FloatOps.ofBits .f32 0x3FD9DB23#32)
        (FloatOps.minimumf (F := Ideal) (φ := .f32) g (FloatOps.ofBits .f32 0x40E00000#32)))))
    (FloatOps.addf (F := Ideal) (φ := .f32)
      (FloatOps.minimumf (F := Ideal) (φ := .f32) (FloatOps.ofBits .f32 0x40E00000#32)
        (FloatOps.maximumf (F := Ideal) (φ := .f32) (FloatOps.ofBits .f32 0xC0E00000#32) u))
      (FloatOps.ofBits .f32 0x3F800000#32))

/-- The expert a block of rows is given to. -/
def expert {be : IVec S159 32} {nu : IVec S1 32} (h : Words be nu) (b : Fin 159) : Fin 32 := ⟨(be (ix1 b)).toNat, h.1 _⟩

/-- A row's product with column `f` of its expert's matrix, and the expert's bias. -/
def lin {be : IVec S159 32} {nu : IVec S1 32} (h : Words be nu) (xs : IVec S162816x1024 32) (w : FVec Ideal S2x32x2048x2048 .f32)
    (bias : FVec Ideal S2x32x2048 .f32) (b : Fin 159) (r : Fin 162816) (f : Fin 2048) : EReal :=
  (∑ k : Fin 2048, rowAt xs r k * w (ix4 (0 : Fin 2) (expert h b) k f)) + bias (ix3 (0 : Fin 2) (expert h b) f)

/-- The block a row lies in. -/
def blockOf (r : Fin 162816) : Fin 159 := ⟨r.val / 1024, by have := r.isLt; omega⟩

/-- The up-projection's result. -/
def hidden {be : IVec S159 32} {nu : IVec S1 32} (h : Words be nu) (xs : IVec S162816x1024 32) (wg : FVec Ideal S2x32x2048x2048 .f32)
    (bg : FVec Ideal S2x32x2048 .f32) (wu : FVec Ideal S2x32x2048x2048 .f32) (bu : FVec Ideal S2x32x2048 .f32) : FVec Ideal S162816x2048 .bf16 := fun y =>
  if (y 0).val / 1024 < (nu (ix1 (0 : Fin 1))).toNat then
    act (lin h xs wg bg (blockOf (y 0)) (y 0) (y 1)) (lin h xs wu bu (blockOf (y 0)) (y 0) (y 1))
  else 0

/-- A block's number below the number of used blocks, as words compare. -/
theorem used_iff {n : ℕ} (hn : n < 159) {nu : BitVec 32} (h1 : 1 ≤ nu.toNat) (h2 : nu.toNat ≤ 159) :
    IntOp.cmpi .slt (BitVec.ofNat 32 n) nu = 1#1 ↔ n < nu.toNat := by
  have e : (BitVec.ofNat 32 n).toNat = n := by rw [BitVec.toNat_ofNat, Nat.mod_eq_of_lt (by omega)]
  have hs : (BitVec.ofNat 32 n).slt nu = decide (n < nu.toNat) := by
    rw [BitVec.slt_eq_decide, BitVec.toInt_eq_toNat_cond, BitVec.toInt_eq_toNat_cond, e, if_pos (by omega), if_pos (by omega)]
    exact decide_eq_decide.mpr Int.ofNat_lt
  unfold IntOp.cmpi
  dsimp only
  rw [hs]
  by_cases h : n < nu.toNat <;> simp [h]

end Cert.KernelIdeal.Up

end
-- ==== Proof.UpRef.lean ====
/- The reference of the experts' up-projection read at an entry: the plain formulas. -/
module

public import proofs.«01_k».proof.Proof.UpPlain
public import proofs.«01_k».proof.Proof.Gen.ReferenceIdeal.Read
public import Idealize.ShloMosaic.Lib.Routing.Ops
public import Idealize.ShloMosaic.Lib.IdealHost

@[expose] public section

set_option maxRecDepth 16384

noncomputable section

namespace Cert.ReferenceIdeal.Up

open Cert.ReferenceIdeal.Read
open Idealize.ShloMosaic.ValueIdx (ix1 ix2 ix3 ix4)
open Cert.KernelIdeal.Up (Words rowAt act expert lin blockOf hidden used_iff)
open Idealize.ShloMosaic hiding ix1 ix2 ix3 ix4

/-- A matrix per block, by its expert's number. -/
theorem gather_matrix {α : Type} (x : S32x2048x2048.Idx → α) (idx : IVec S159x1 32) (b : Fin 159) (k f : Fin 2048) (e : Fin 32)
    (he : idx (ix2 b (0 : Fin 1)) = BitVec.ofNat 32 e.val) :
    Host.gather gather_S32x2048x2048_S159x1_S159x2048x2048_12_0_n_n_0_1_120482048 x idx (ix3 b k f) = x (ix3 e k f) := by
  unfold Host.gather
  refine congrArg x (funext fun a => Fin.ext ?_)
  let d := gather_S32x2048x2048_S159x1_S159x2048x2048_12_0_n_n_0_1_120482048
  match a with
  | ⟨0, _⟩ =>
    show d.start (ix3 b k f) idx 0 + d.batchCoord (ix3 b k f) 0 + d.offCoord (ix3 b k f) 0 = e.val
    rw [d.batchCoord_eq_zero _ _ (by decide), d.offCoord_eq_zero _ _ (by decide)]
    simp only [Nat.add_zero]
    unfold GatherDims.start
    rw [dif_pos (show (0 : Fin 3) ∈ d.startIndexMap by decide)]
    have hsi : d.siIdx (ix3 b k f) ⟨d.startIndexMap.idxOf 0, List.idxOf_lt_length_iff.2 (by decide)⟩ = ix2 b (0 : Fin 1) := by
      funext b'
      match b' with
      | ⟨0, _⟩ => rfl
      | ⟨1, _⟩ => rfl
    have hbl := e.isLt
    rw [hsi, he, StableHlo.Predicate.toInt_ofNat_small _ (by omega)]
    show min ((e.val : Int)).toNat 31 = e.val
    omega
  | ⟨1, _⟩ =>
    show d.start (ix3 b k f) idx 1 + d.batchCoord (ix3 b k f) 1 + d.offCoord (ix3 b k f) 1 = k.val
    rw [d.batchCoord_eq_zero _ _ (by decide), Nat.add_zero]
    unfold GatherDims.start
    rw [dif_neg (show (1 : Fin 3) ∉ d.startIndexMap by decide), Nat.zero_add]
    rfl
  | ⟨2, _⟩ =>
    show d.start (ix3 b k f) idx 2 + d.batchCoord (ix3 b k f) 2 + d.offCoord (ix3 b k f) 2 = f.val
    rw [d.batchCoord_eq_zero _ _ (by decide), Nat.add_zero]
    unfold GatherDims.start
    rw [dif_neg (show (2 : Fin 3) ∉ d.startIndexMap by decide), Nat.zero_add]
    rfl

variable {be : IVec S159 32} {nu : IVec S1 32} (h : Words be nu)

/-- The expert's number is not negative, so the index stays as it is. -/
theorem expert_word (b : Fin 159) : Scalar.select (IntOp.cmpi .slt (be (ix1 b)) 0#32) (IntOp.addi (be (ix1 b)) 32#32) (be (ix1 b)) = BitVec.ofNat 32 (expert h b).val := by
  have hl := h.1 (ix1 b)
  have e : (be (ix1 b)).slt 0#32 = false := by
    rw [BitVec.slt_eq_decide, BitVec.toInt_eq_toNat_cond, if_pos (by omega)]
    exact decide_eq_false (by simp)
  unfold IntOp.cmpi
  dsimp only
  rw [e]
  show be (ix1 b) = _
  exact (BitVec.eq_of_toNat_eq (by rw [BitVec.toNat_ofNat]; exact (Nat.mod_eq_of_lt (by omega)).symm))

theorem index15 (b : Fin 159) : val_main_v15 (F := Ideal) be (ix2 b (0 : Fin 1)) = BitVec.ofNat 32 (expert h b).val :=
by
  have e : idx_main_v15 (ix2 b (0 : Fin 1)) = ix1 b := funext fun a => match a with | 0 => rfl
  rw [val_main_v15_apply, e, val_main_v14_apply, val_main_v11_apply, val_main_v13_apply, val_main_v10_apply, val_main_v12_apply, val_main_c_1_apply, val_main_c_2_apply]
  exact expert_word h b
theorem index25 (b : Fin 159) : val_main_v25 (F := Ideal) be (ix2 b (0 : Fin 1)) = BitVec.ofNat 32 (expert h b).val :=
by
  have e : idx_main_v25 (ix2 b (0 : Fin 1)) = ix1 b := funext fun a => match a with | 0 => rfl
  rw [val_main_v25_apply, e, val_main_v24_apply, val_main_v21_apply, val_main_v23_apply, val_main_v20_apply, val_main_v22_apply, val_main_c_3_apply, val_main_c_4_apply]
  exact expert_word h b
theorem index37 (b : Fin 159) : val_main_v37 (F := Ideal) be (ix2 b (0 : Fin 1)) = BitVec.ofNat 32 (expert h b).val :=
by
  have e : idx_main_v37 (ix2 b (0 : Fin 1)) = ix1 b := funext fun a => match a with | 0 => rfl
  rw [val_main_v37_apply, e, val_main_v36_apply, val_main_v33_apply, val_main_v35_apply, val_main_v32_apply, val_main_v34_apply, val_main_c_5_apply, val_main_c_6_apply]
  exact expert_word h b
theorem index47 (b : Fin 159) : val_main_v47 (F := Ideal) be (ix2 b (0 : Fin 1)) = BitVec.ofNat 32 (expert h b).val :=
by
  have e : idx_main_v47 (ix2 b (0 : Fin 1)) = ix1 b := funext fun a => match a with | 0 => rfl
  rw [val_main_v47_apply, e, val_main_v46_apply, val_main_v43_apply, val_main_v45_apply, val_main_v42_apply, val_main_v44_apply, val_main_c_7_apply, val_main_c_8_apply]
  exact expert_word h b

variable (xs : IVec S162816x1024 32) (w : FVec Ideal S2x32x2048x2048 .f32) (bias : FVec Ideal S2x32x2048 .f32)

theorem rows_eq (r : Fin 162816) (k : Fin 2048) : val_main_v6 (F := Ideal) xs (ix2 r k) = rowAt xs r k := by
  unfold val_main_v6 rowAt
  split
  · rename_i hk
    exact (concatenate_pair_apply_left (t := S162816x2048) (s₁ := S162816x1024) (s₂ := S162816x1024) (1 : Fin 2) _ _ _ (ix2 r k) rfl (ix2 r (⟨k.val, hk⟩ : Fin 1024)) (fun b => by
      match b with
      | 0 => rfl
      | 1 => rfl)).trans rfl
  · rename_i hk
    exact (concatenate_pair_apply_right (t := S162816x2048) (s₁ := S162816x1024) (s₂ := S162816x1024) (1 : Fin 2) _ _ _ (ix2 r k) rfl rfl (ix2 r (⟨k.val - 1024, by have := k.isLt; omega⟩ : Fin 1024)) (fun b hb => by
      match b with
      | 0 => rfl
      | 1 => exact absurd rfl hb) (by show k.val - 1024 + 1024 = k.val; omega)).trans rfl

theorem block_eq (b : Fin 159) (p : Fin 1024) (k : Fin 2048) (r : Fin 162816) (hr : r.val = b.val * 1024 + p.val) :
    val_main_v7 (F := Ideal) xs (ix3 b p k) = rowAt xs r k := by
  rw [val_main_v7_apply, ← rows_eq]
  refine congrArg _ (funext fun a => Fin.ext ?_)
  have hk := k.isLt
  match a with
  | 0 => show ((b.val * 1024 + p.val) * 2048 + k.val) / 2048 = r.val; omega
  | 1 => show ((b.val * 1024 + p.val) * 2048 + k.val) % 2048 = k.val; omega

theorem matrix_eq (e : Fin 32) (k f : Fin 2048) : val_main_v9 (F := Ideal) w (ix3 e k f) = w (ix4 (0 : Fin 2) e k f) := by
  rw [val_main_v9_apply, val_main_v8_apply]
  refine congrArg w (funext fun a => Fin.ext ?_)
  have he := e.isLt
  have hk := k.isLt
  have hf := f.isLt
  match a with
  | 0 => rfl
  | 1 => show ((e.val * 2048 + k.val) * 2048 + f.val) / 4194304 % 32 = e.val; omega
  | 2 => show ((e.val * 2048 + k.val) * 2048 + f.val) / 2048 % 2048 = k.val; omega
  | 3 => show ((e.val * 2048 + k.val) * 2048 + f.val) % 2048 = f.val; omega

theorem bias_eq (e : Fin 32) (f : Fin 2048) : val_main_v19 (F := Ideal) bias (ix2 e f) = bias (ix3 (0 : Fin 2) e f) := by
  rw [val_main_v19_apply, val_main_v18_apply]
  refine congrArg bias (funext fun a => Fin.ext ?_)
  have he := e.isLt
  have hf := f.isLt
  match a with
  | 0 => rfl
  | 1 => show (e.val * 2048 + f.val) / 2048 % 32 = e.val; omega
  | 2 => show (e.val * 2048 + f.val) % 2048 = f.val; omega

/-- The gate's linear part. -/
theorem gate_eq (b : Fin 159) (p : Fin 1024) (f : Fin 2048) (r : Fin 162816) (hr : r.val = b.val * 1024 + p.val) :
    val_main_v29 (F := Ideal) be xs w bias (ix3 b p f) = lin h xs w bias b r f := by
  rw [val_main_v29_apply, val_main_v17_apply]
  unfold lin
  change HAdd.hAdd (α := EReal) (β := EReal) (γ := EReal) _ _ = _
  refine congrArg₂ (HAdd.hAdd (α := EReal) (β := EReal) (γ := EReal)) (Finset.sum_congr rfl fun k _ => congrArg₂ (HMul.hMul (α := EReal) (β := EReal) (γ := EReal)) ?_ ?_) ?_
  · exact (congrArg _ (funext fun a => match a with | 0 => rfl | 1 => rfl | 2 => rfl)).trans (block_eq xs b p k r hr)
  · refine (congrArg _ (funext fun a => match a with | 0 => rfl | 1 => rfl | 2 => rfl : ridx_main_v17 (ix3 b p f) k = ix3 b k f)).trans ?_
    unfold val_main_v16
    exact (gather_matrix _ _ b k f (expert h b) (index15 h b)).trans (matrix_eq w _ k f)
  · rw [val_main_v28_apply, val_main_v27_apply]
    have e : idx_main_v27 (idx_main_v28 (ix3 b p f)) = ix2 b f := funext fun a => match a with | 0 => rfl | 1 => rfl
    rw [e]
    unfold val_main_v26
    exact (Routing.gather_row _ rfl rfl rfl rfl rfl _ _ b f (expert h b) (index25 h b) (by decide)).trans (bias_eq bias _ f)

theorem matrix_eq' (e : Fin 32) (k f : Fin 2048) : val_main_v31 (F := Ideal) w (ix3 e k f) = w (ix4 (0 : Fin 2) e k f) := matrix_eq w e k f
theorem bias_eq' (e : Fin 32) (f : Fin 2048) : val_main_v41 (F := Ideal) bias (ix2 e f) = bias (ix3 (0 : Fin 2) e f) := bias_eq bias e f

/-- The other linear part. -/
theorem up_eq (b : Fin 159) (p : Fin 1024) (f : Fin 2048) (r : Fin 162816) (hr : r.val = b.val * 1024 + p.val) :
    val_main_v51 (F := Ideal) be xs w bias (ix3 b p f) = lin h xs w bias b r f := by
  rw [val_main_v51_apply, val_main_v39_apply]
  unfold lin
  change HAdd.hAdd (α := EReal) (β := EReal) (γ := EReal) _ _ = _
  refine congrArg₂ (HAdd.hAdd (α := EReal) (β := EReal) (γ := EReal)) (Finset.sum_congr rfl fun k _ => congrArg₂ (HMul.hMul (α := EReal) (β := EReal) (γ := EReal)) ?_ ?_) ?_
  · exact (congrArg _ (funext fun a => match a with | 0 => rfl | 1 => rfl | 2 => rfl)).trans (block_eq xs b p k r hr)
  · refine (congrArg _ (funext fun a => match a with | 0 => rfl | 1 => rfl | 2 => rfl : ridx_main_v39 (ix3 b p f) k = ix3 b k f)).trans ?_
    unfold val_main_v38
    exact (gather_matrix _ _ b k f (expert h b) (index37 h b)).trans (matrix_eq' w _ k f)
  · rw [val_main_v50_apply, val_main_v49_apply]
    have e : idx_main_v49 (idx_main_v50 (ix3 b p f)) = ix2 b f := funext fun a => match a with | 0 => rfl | 1 => rfl
    rw [e]
    unfold val_main_v48
    exact (Routing.gather_row _ rfl rfl rfl rfl rfl _ _ b f (expert h b) (index47 h b) (by decide)).trans (bias_eq' bias _ f)

variable (w' : FVec Ideal S2x32x2048x2048 .f32) (bias' : FVec Ideal S2x32x2048 .f32)

/-- The gated activation. -/
theorem act_eq (i : S159x1024x2048.Idx) :
    val_main_v66 (F := Ideal) be xs w bias w' bias' i = act (val_main_v29 (F := Ideal) be xs w bias i) (val_main_v51 (F := Ideal) be xs w' bias' i) := by
  have one : FloatOps.ofBits (F := Ideal) .f32 0x3F800000#32 = (1 : EReal) := Ideal.ofBits_one_f32
  rw [val_main_v66_apply, val_main_v63_apply, val_main_v65_apply, val_main_v54_apply, val_main_v62_apply, val_main_v61_apply, val_main_v60_apply,
    val_main_v59_apply, val_main_v58_apply, val_main_v57_apply, val_main_v56_apply, val_main_v55_apply, val_main_v53_apply, val_main_v52_apply,
    val_main_v64_apply, val_main_call0_v4_apply, val_main_call0_v2_apply, val_main_call0_v1_apply, val_main_call0_v3_apply, val_main_call0_v0_apply,
    val_main_cst_apply, val_main_cst_9_apply, val_main_cst_10_apply, val_main_cst_11_apply, val_main_cst_12_apply, val_main_cst_13_apply, val_main_cst_14_apply]
  unfold act
  generalize val_main_v29 (F := Ideal) be xs w bias i = g
  generalize val_main_v51 (F := Ideal) be xs w' bias' i = u
  rw [one]
  rfl

/-- The whole result. -/
theorem result_eq : val_main_v74 (F := Ideal) be nu xs w bias w' bias' = hidden h xs w bias w' bias' := by
  funext y
  obtain ⟨r, f, rfl⟩ : ∃ (r : Fin 162816) (f : Fin 2048), y = ix2 r f := ⟨y 0, y 1, ValueIdx.eq_ix2 y⟩
  have h0 := r.isLt
  have h1 := f.isLt
  obtain ⟨b, hb⟩ : ∃ b : Fin 159, b.val = r.val / 1024 := ⟨⟨r.val / 1024, by omega⟩, rfl⟩
  obtain ⟨p, hp⟩ : ∃ p : Fin 1024, p.val = r.val % 1024 := ⟨⟨r.val % 1024, by omega⟩, rfl⟩
  have hi : idx_main_v73 (ix2 r f) = ix3 b p (f) := funext fun a => Fin.ext (by
    match a with
    | 0 => show (r.val * 2048 + f.val) / 2097152 = b.val; omega
    | 1 => show (r.val * 2048 + f.val) / 2048 % 1024 = p.val; omega
    | 2 => show (r.val * 2048 + f.val) % 2048 = f.val; omega)
  have hbb : blockOf (r) = b := Fin.ext hb.symm
  rw [val_main_v74_apply, val_main_v73_apply, hi, val_main_v72_apply, act_eq, gate_eq h xs w bias b p (f) (r) (by omega),
    up_eq h xs w' bias' b p (f) (r) (by omega), val_main_call1_v1_apply, val_main_v71_apply, val_main_v70_apply, val_main_v67_apply, val_main_v69_apply]
  have hn : val_main_v68 (F := Ideal) nu (idx_main_v69 (idx_main_v71 (idx_main_call1_v1 (ix3 b p (f))))) = nu (ix1 (0 : Fin 1)) := by
    unfold val_main_v68
    have e : idx_main_v69 (idx_main_v71 (idx_main_call1_v1 (ix3 b p f))) = fun a => a.elim0 := funext fun a => a.elim0
    rw [e]
    exact shapeCast_apply _ _ _ _ (by decide)
  rw [hn]
  have hz : val_main_call1_v2 (F := Ideal) (ix3 b p (f)) = (0 : EReal) := by
    rw [val_main_call1_v2_apply]
    exact Ideal.ofBits_zero_f32
  have he : hidden h xs w bias w' bias' (ix2 r f) = if r.val / 1024 < (nu (ix1 (0 : Fin 1))).toNat then
      act (lin h xs w bias (blockOf r) r f) (lin h xs w' bias' (blockOf r) r f) else 0 := rfl
  rw [he, hbb, hz, ← hb]
  have hu := used_iff (n := b.val) b.isLt (h.2 (ix1 (0 : Fin 1))).1 (h.2 (ix1 (0 : Fin 1))).2
  by_cases hc : b.val < (nu (ix1 (0 : Fin 1))).toNat
  · rw [if_pos hc]
    show Scalar.select (IntOp.cmpi .slt (BitVec.ofNat 32 b.val) (nu (ix1 (0 : Fin 1)))) _ _ = _
    rw [hu.mpr hc]
    rfl
  · rw [if_neg hc]
    show Scalar.select (IntOp.cmpi .slt (BitVec.ofNat 32 b.val) (nu (ix1 (0 : Fin 1)))) _ _ = _
    unfold Scalar.select
    exact if_neg fun e => hc (hu.mp e)

end Cert.ReferenceIdeal.Up

end
-- ==== Proof.UpValue.lean ====
/- The experts' up-projection over the extended reals: a block's payload by the plain formulas, the blocks its windows
   read, and from them the whole result. -/
module

public import proofs.«01_k».proof.Proof.UpPlain
public import proofs.«01_k».proof.Proof.UpRun
public import Idealize.ShloMosaic.Lib.Pipeline.Covers
public import Idealize.ShloMosaic.Lib.IdealHost
public import Idealize.ShloMosaic.Lib.Claim

@[expose] public section

set_option maxRecDepth 16384

noncomputable section

namespace Cert.KernelIdeal.Up

open Cert.KernelIdeal.Gen
open Idealize.ShloMosaic.ValueIdx (ix1 ix2 ix3 ix4 contrEquiv1)
open Idealize.ShloMosaic hiding ix1 ix2 ix3 ix4
open Idealize.ShloMosaic.TcCoe
open Idealize.ShloMosaic.Pipeline (Dat Cfg Window)

/-- A block's product with a tile of a matrix. -/
theorem product_apply (x : FVec Ideal S1024x2048 .bf16) (w : FVec Ideal S2048x512 .bf16) (p : Fin 1024) (q : Fin 512) :
    matmul dot_S1024x2048_S2048x512_S1024x512_1_0_0_1_n_n none x w (constant S1024x512 .f32 0x00000000#32) (ix2 p q)
      = ∑ k : Fin 2048, (x (ix2 p k) : EReal) * w (ix2 k q) := by
  refine (Ideal.matmul_constant_zero_apply _ none _ _ _).trans ?_
  refine Fintype.sum_equiv (contrEquiv1 dot_S1024x2048_S2048x512_S1024x512_1_0_0_1_n_n 2048 rfl rfl) _ _ fun k => ?_
  refine congrArg₂ (HMul.hMul (α := EReal) (β := EReal) (γ := EReal)) (congrArg x (funext fun a => Fin.ext ?_)) (congrArg w (funext fun a => Fin.ext ?_))
  · match a with
    | 0 => rfl
    | 1 => rfl
  · match a with
    | 0 => rfl
    | 1 => rfl

/-- A bias's row, read at a column. -/
theorem row_apply (x : FVec Ideal S1x1x1x512 .f32) (p : Fin 1024) (q : Fin 512) :
    broadcastTo S1024x512 (shapeCast S1x512 x shapeCasts_S1x1x1x512_S1x512) broadcasts_S1x512_S1024x512 (ix2 p q)
      = x (ix4 (0 : Fin 1) (0 : Fin 1) (0 : Fin 1) q) := by
  rw [broadcastTo_apply _ _ _ (ix2 (0 : Fin 1) q) (fun a => by
    match a with
    | 0 => rfl
    | 1 => rfl)]
  exact shapeCast_apply _ _ _ _ (by rw [Shape.rowMajor_val_four, Shape.rowMajor_val_two]; show ((0 * 1 + 0) * 1 + 0) * 512 + q.val = 0 * 512 + q.val; omega)

/-- A tile of an expert's matrix as the product reads it. -/
theorem tile_apply (x : FVec Ideal S1x1x2048x512 .f32) (k : Fin 2048) (q : Fin 512) :
    (truncf .bf16 (shapeCast S2048x512 x shapeCasts_S1x1x2048x512_S2048x512) bitsLt_bf16_f32 (ix2 k q) : EReal)
      = x (ix4 (0 : Fin 1) (0 : Fin 1) k q) :=
  shapeCast_apply _ _ _ _ (by rw [Shape.rowMajor_val_four, Shape.rowMajor_val_two]; show ((0 * 1 + 0) * 2048 + k.val) * 512 + q.val = k.val * 512 + q.val; omega)

/-- A used block's payload. -/
theorem payload_apply (xs : Vec Ideal S1024x2048 .bf16) (x1 : Vec Ideal S1x1x2048x512 .f32) (x2 : Vec Ideal S1x1x1x512 .f32)
    (x3 : Vec Ideal S1x1x2048x512 .f32) (x4 : Vec Ideal S1x1x1x512 .f32) (p : Fin 1024) (q : Fin 512) :
    k0_pay4 (F := Ideal) xs x1 x2 x3 x4 (ix2 p q)
      = act ((∑ k : Fin 2048, (xs (ix2 p k) : EReal) * x1 (ix4 (0 : Fin 1) (0 : Fin 1) k q)) + x2 (ix4 (0 : Fin 1) (0 : Fin 1) (0 : Fin 1) q))
          ((∑ k : Fin 2048, (xs (ix2 p k) : EReal) * x3 (ix4 (0 : Fin 1) (0 : Fin 1) k q)) + x4 (ix4 (0 : Fin 1) (0 : Fin 1) (0 : Fin 1) q)) := by
  rw [← row_apply x2 p q, ← row_apply x4 p q]
  simp only [← tile_apply]
  rw [← product_apply, ← product_apply]
  rfl

/-- The unpacked rows of a block of packed rows. -/
theorem unp_apply (x : Vec Ideal S1024x1024 .i32) (xs : IVec S162816x1024 32) (r : Fin 162816) (p : Fin 1024)
    (hx : ∀ q : Fin 1024, x (ix2 p q) = xs (ix2 r q)) (k : Fin 2048) :
    (unp (F := Ideal) x (ix2 p k) : EReal) = rowAt xs r k := by
  unfold unp rowAt
  by_cases h : k.val < 1024
  · rw [dif_pos (show ((ix2 p k : S1024x2048.Idx) 1).val < 1024 from h), dif_pos h, ← hx]
    unfold k0_pay1
    rw [shapeCast_apply _ _ _ (ix2 p (⟨k.val, h⟩ : Fin 1024)) rfl]
    rfl
  · rw [dif_neg (show ¬ ((ix2 p k : S1024x2048.Idx) 1).val < 1024 from h), dif_neg h, ← hx]
    unfold k0_pay2
    rw [shapeCast_apply _ _ _ (ix2 p (⟨k.val - 1024, by have := k.isLt; omega⟩ : Fin 1024)) rfl]
    rfl

/-- The tables' words, as the index maps read them. -/
theorem used_word (pf : pre0.Contents (Elt Ideal)) :
    (pf.at 1 (Rect.unit (s := S1) ![0] S1.size inb_S1_S1_0) numel1_S1 : BitVec 32) = pf 1 (ix1 (0 : Fin 1)) :=
  congrArg (pf 1) (funext fun (a : Fin 1) => match a with | 0 => Subsingleton.elim (α := Fin 1) _ _)

theorem expert_word (pf : pre0.Contents (Elt Ideal)) (i : grid0.Coords) :
    (pf.at 0 (Rect.unit (s := S159) (k0_off1 i) S1.size (k0_off1_inb i)) numel1_S1 : BitVec 32) = pf 0 (ix1 (i 0)) :=
  congrArg (pf 0) (funext fun (a : Fin 1) => match a with
    | 0 => Fin.ext (n := 159) (by
      have h : (i 0).val < 159 := (i 0).isLt
      show (BitVec.ofNat 32 (i 0).val).toNat + 1 * 0 = (i 0).val
      rw [BitVec.toNat_ofNat, Nat.mod_eq_of_lt (by omega)]; omega))

variable (m : (ℓ : Loc nD τ sig) → Buf (Elt Ideal) ℓ)

/-- In a used block the rows' window is at the block. -/
theorem index0 {pf : pre0.Contents (Elt Ideal)} (h : Words (pf 0) (pf 1)) (i : grid0.Coords) (hu : (i 0).val < (pf 1 (ix1 (0 : Fin 1)) : BitVec 32).toNat) :
    cc0_transform_0 inb_S1_S1_0 numel1_S1 pf i = ![(i 0).val, 0] := by
  have h1 := h.2 (ix1 (0 : Fin 1))
  have hi : (i 0).val < 159 := (i 0).isLt
  unfold cc0_transform_0
  dsimp only
  rw [used_word, rows_word hi h1.1 h1.2, Nat.min_eq_left (by omega)]
  rfl

theorem index1 {pf : pre0.Contents (Elt Ideal)} (h : Words (pf 0) (pf 1)) (i : grid0.Coords) (hu : (i 0).val < (pf 1 (ix1 (0 : Fin 1)) : BitVec 32).toNat) :
    cc0_transform_1 k0_off1_inb numel1_S1 inb_S1_S1_0 pf i = ![0, (expert h (i 0)).val, 0, (i 1).val] := by
  have h1 := h.2 (ix1 (0 : Fin 1))
  have hi : (i 0).val < 159 := (i 0).isLt
  have hj : (i 1).val < 4 := (i 1).isLt
  have e1 := expert_word pf i
  unfold k0_off1 at e1
  unfold cc0_transform_1
  dsimp only at e1 ⊢
  rw [used_word, e1, show Scalar.cmpi .slt (BitVec.ofNat 32 (i 0).val) (pf 1 (ix1 (0 : Fin 1)) : BitVec 32) = 1#1 from (used_iff hi h1.1 h1.2).mpr hu]
  show ![0, (expert h (i 0)).val, 0, (BitVec.ofNat 32 (i 1).val).toNat] = _
  rw [BitVec.toNat_ofNat, Nat.mod_eq_of_lt (by omega)]

/-- The gate's biases as the region finds them: the argument with a unit axis. -/
theorem gate_bias (c : Dev nD) (e : Fin 32) (f : Fin 2048) :
    V m c main_v0 (ix4 (0 : Fin 2) e (0 : Fin 1) f) = m ((c : Thread nD τ).loc main_arg4) (ix3 (0 : Fin 2) e f) := by
  entry_read
  exact shapeCast_apply _ _ _ _ ((Shape.rowMajor_val_three (d := ![2, 32, 2048]) _).trans (Eq.trans
    (by show (0 * 32 + e.val) * 2048 + f.val = ((0 * 32 + e.val) * 1 + 0) * 2048 + f.val; omega) (Shape.rowMajor_val_four (d := ![2, 32, 1, 2048]) _).symm))

theorem up_bias (c : Dev nD) (e : Fin 32) (f : Fin 2048) :
    V m c main_v1 (ix4 (0 : Fin 2) e (0 : Fin 1) f) = m ((c : Thread nD τ).loc main_arg6) (ix3 (0 : Fin 2) e f) := by
  entry_read
  exact shapeCast_apply _ _ _ _ ((Shape.rowMajor_val_three (d := ![2, 32, 2048]) _).trans (Eq.trans
    (by show (0 * 32 + e.val) * 2048 + f.val = ((0 * 32 + e.val) * 1 + 0) * 2048 + f.val; omega) (Shape.rowMajor_val_four (d := ![2, 32, 1, 2048]) _).symm))

/-- A used block's entry from its block's rows, its expert's tiles and biases. -/
theorem used_entry {be : IVec S159 32} {nu : IVec S1 32} (h : Words be nu) (xs : IVec S162816x1024 32) (wg : FVec Ideal S2x32x2048x2048 .f32)
    (bg : FVec Ideal S2x32x2048 .f32) (wu : FVec Ideal S2x32x2048x2048 .f32) (bu : FVec Ideal S2x32x2048 .f32)
    (x0 : Vec Ideal S1024x1024 .i32) (x1 : Vec Ideal S1x1x2048x512 .f32) (x2 : Vec Ideal S1x1x1x512 .f32)
    (x3 : Vec Ideal S1x1x2048x512 .f32) (x4 : Vec Ideal S1x1x1x512 .f32) (b : Fin 159) (p : Fin 1024) (q : Fin 512) (r : Fin 162816) (f : Fin 2048)
    (h0 : ∀ k : Fin 1024, x0 (ix2 p k) = xs (ix2 r k))
    (h1 : ∀ k : Fin 2048, x1 (ix4 (0 : Fin 1) (0 : Fin 1) k q) = wg (ix4 (0 : Fin 2) (expert h b) k f))
    (h2 : x2 (ix4 (0 : Fin 1) (0 : Fin 1) (0 : Fin 1) q) = bg (ix3 (0 : Fin 2) (expert h b) f))
    (h3 : ∀ k : Fin 2048, x3 (ix4 (0 : Fin 1) (0 : Fin 1) k q) = wu (ix4 (0 : Fin 2) (expert h b) k f))
    (h4 : x4 (ix4 (0 : Fin 1) (0 : Fin 1) (0 : Fin 1) q) = bu (ix3 (0 : Fin 2) (expert h b) f)) :
    k0_pay4 (F := Ideal) (unp x0) x1 x2 x3 x4 (ix2 p q) = act (lin h xs wg bg b r f) (lin h xs wu bu b r f) := by
  rw [payload_apply, h2, h4]
  unfold lin
  simp only [unp_apply x0 xs r p h0, h1, h3]

/-- The result's entry, its block named. -/
theorem hidden_entry {be : IVec S159 32} {nu : IVec S1 32} (h : Words be nu) (xs : IVec S162816x1024 32) (wg : FVec Ideal S2x32x2048x2048 .f32)
    (bg : FVec Ideal S2x32x2048 .f32) (wu : FVec Ideal S2x32x2048x2048 .f32) (bu : FVec Ideal S2x32x2048 .f32) (b : Fin 159) (r : Fin 162816)
    (f : Fin 2048) (hb : r.val / 1024 = b.val) :
    hidden h xs wg bg wu bu (ix2 r f) = if b.val < (nu (ix1 (0 : Fin 1))).toNat then act (lin h xs wg bg b r f) (lin h xs wu bu b r f) else 0 := by
  have hbk : blockOf r = b := Fin.ext hb
  rw [← hbk]
  rfl

variable (hO : Ok m) (h : Words (tbl m 0) (tbl m 1)) (c : Dev nD) (t : Fin (cfgM m hO).N)
  (hu : (grid0.coords t 0).val < (tbl m 1 (ix1 (0 : Fin 1)) : BitVec 32).toNat)

include h hu

theorem block0 (p q : Fin 1024) (r : Fin 162816) (hr : r.val = (grid0.coords t 0).val * 1024 + p.val) :
    iblk m hO c 0 t (ix2 p q) = m ((c : Thread nD τ).loc main_arg2) (ix2 r q) := by
  refine Eq.trans ?_ (congrFun (V_of_ne m c main_arg2 (by decide) (by decide)) (ix2 r q))
  refine congrArg (V m c main_arg2) (funext fun (a : Fin 2) => Fin.ext ?_)
  refine (Window.rect_emb_val ((cfgM m hO).win 0) t (ix2 p q) a).trans ?_
  have hx : ((cfgM m hO).win 0).index t = ![(grid0.coords t 0).val, 0] := index0 h (grid0.coords t) hu
  rw [hx]
  match a with
  | 0 => exact hr.symm
  | 1 => show 0 * 1024 + q.val = q.val; omega

theorem block1 (k : Fin 2048) (q : Fin 512) (f : Fin 2048) (hf : f.val = (grid0.coords t 1).val * 512 + q.val) :
    iblk m hO c 1 t (ix4 (0 : Fin 1) (0 : Fin 1) k q) = m ((c : Thread nD τ).loc main_arg3) (ix4 (0 : Fin 2) (expert h (grid0.coords t 0)) k f) := by
  refine Eq.trans ?_ (congrFun (V_of_ne m c main_arg3 (by decide) (by decide)) (ix4 (0 : Fin 2) (expert h (grid0.coords t 0)) k f))
  refine congrArg (V m c main_arg3) (funext fun (a : Fin 4) => Fin.ext ?_)
  refine (Window.rect_emb_val ((cfgM m hO).win 1) t (ix4 (0 : Fin 1) (0 : Fin 1) k q) a).trans ?_
  have hx : ((cfgM m hO).win 1).index t = ![0, (expert h (grid0.coords t 0)).val, 0, (grid0.coords t 1).val] := index1 h (grid0.coords t) hu
  rw [hx]
  match a with
  | 0 => rfl
  | 1 => show (expert h (grid0.coords t 0)).val * 1 + 0 = (expert h (grid0.coords t 0)).val; omega
  | 2 => show 0 * 2048 + k.val = k.val; omega
  | 3 => exact hf.symm

theorem block2 (q : Fin 512) (f : Fin 2048) (hf : f.val = (grid0.coords t 1).val * 512 + q.val) :
    iblk m hO c 2 t (ix4 (0 : Fin 1) (0 : Fin 1) (0 : Fin 1) q) = m ((c : Thread nD τ).loc main_arg4) (ix3 (0 : Fin 2) (expert h (grid0.coords t 0)) f) := by
  refine Eq.trans ?_ (gate_bias m c (expert h (grid0.coords t 0)) f)
  refine congrArg (V m c main_v0) (funext fun (a : Fin 4) => Fin.ext ?_)
  refine (Window.rect_emb_val ((cfgM m hO).win 2) t (ix4 (0 : Fin 1) (0 : Fin 1) (0 : Fin 1) q) a).trans ?_
  have hx : ((cfgM m hO).win 2).index t = ![0, (expert h (grid0.coords t 0)).val, 0, (grid0.coords t 1).val] := index1 h (grid0.coords t) hu
  rw [hx]
  match a with
  | 0 => rfl
  | 1 => show (expert h (grid0.coords t 0)).val * 1 + 0 = (expert h (grid0.coords t 0)).val; omega
  | 2 => rfl
  | 3 => exact hf.symm

theorem block3 (k : Fin 2048) (q : Fin 512) (f : Fin 2048) (hf : f.val = (grid0.coords t 1).val * 512 + q.val) :
    iblk m hO c 3 t (ix4 (0 : Fin 1) (0 : Fin 1) k q) = m ((c : Thread nD τ).loc main_arg5) (ix4 (0 : Fin 2) (expert h (grid0.coords t 0)) k f) := by
  refine Eq.trans ?_ (congrFun (V_of_ne m c main_arg5 (by decide) (by decide)) (ix4 (0 : Fin 2) (expert h (grid0.coords t 0)) k f))
  refine congrArg (V m c main_arg5) (funext fun (a : Fin 4) => Fin.ext ?_)
  refine (Window.rect_emb_val ((cfgM m hO).win 3) t (ix4 (0 : Fin 1) (0 : Fin 1) k q) a).trans ?_
  have hx : ((cfgM m hO).win 3).index t = ![0, (expert h (grid0.coords t 0)).val, 0, (grid0.coords t 1).val] := index1 h (grid0.coords t) hu
  rw [hx]
  match a with
  | 0 => rfl
  | 1 => show (expert h (grid0.coords t 0)).val * 1 + 0 = (expert h (grid0.coords t 0)).val; omega
  | 2 => show 0 * 2048 + k.val = k.val; omega
  | 3 => exact hf.symm

theorem block4 (q : Fin 512) (f : Fin 2048) (hf : f.val = (grid0.coords t 1).val * 512 + q.val) :
    iblk m hO c 4 t (ix4 (0 : Fin 1) (0 : Fin 1) (0 : Fin 1) q) = m ((c : Thread nD τ).loc main_arg6) (ix3 (0 : Fin 2) (expert h (grid0.coords t 0)) f) := by
  refine Eq.trans ?_ (up_bias m c (expert h (grid0.coords t 0)) f)
  refine congrArg (V m c main_v1) (funext fun (a : Fin 4) => Fin.ext ?_)
  refine (Window.rect_emb_val ((cfgM m hO).win 4) t (ix4 (0 : Fin 1) (0 : Fin 1) (0 : Fin 1) q) a).trans ?_
  have hx : ((cfgM m hO).win 4).index t = ![0, (expert h (grid0.coords t 0)).val, 0, (grid0.coords t 1).val] := index1 h (grid0.coords t) hu
  rw [hx]
  match a with
  | 0 => rfl
  | 1 => show (expert h (grid0.coords t 0)).val * 1 + 0 = (expert h (grid0.coords t 0)).val; omega
  | 2 => rfl
  | 3 => exact hf.symm

omit hu

theorem cond2_iff : k0_cond2 (grid0.coords t) (nuOf (tbl m)) = 1#1 ↔ (grid0.coords t 0).val < (tbl m 1 (ix1 (0 : Fin 1)) : BitVec 32).toNat := by
  have h1 := h.2 (ix1 (0 : Fin 1))
  have hi : (grid0.coords t 0).val < 159 := (grid0.coords t 0).isLt
  refine Iff.trans ?_ (used_iff hi h1.1 h1.2)
  unfold k0_cond2 nuOf
  dsimp only
  rw [used_word]
  show _ ↔ Scalar.cmpi .slt (BitVec.ofNat 32 (grid0.coords t 0).val) (tbl m 1 (ix1 (0 : Fin 1)) : BitVec 32) = 1#1
  generalize Scalar.cmpi CmpIPredicate.slt (BitVec.ofNat 32 (grid0.coords t 0).val) (tbl m 1 (ix1 (0 : Fin 1)) : BitVec 32) = b
  revert b; decide

/-- A point's block of the result, entry by entry. -/
theorem outAt_apply (p : Fin 1024) (q : Fin 512) (r : Fin 162816) (f : Fin 2048) (hr : r.val = (grid0.coords t 0).val * 1024 + p.val)
    (hf : f.val = (grid0.coords t 1).val * 512 + q.val) :
    outAt m hO c t (ix2 p q) = hidden h (m ((c : Thread nD τ).loc main_arg2)) (m ((c : Thread nD τ).loc main_arg3)) (m ((c : Thread nD τ).loc main_arg4))
      (m ((c : Thread nD τ).loc main_arg5)) (m ((c : Thread nD τ).loc main_arg6)) (ix2 r f) := by
  have hp := p.isLt
  have hb : r.val / 1024 = (grid0.coords t 0).val := by omega
  have hc := cond2_iff m hO h t
  refine Eq.trans ?_ (hidden_entry h _ _ _ _ _ (grid0.coords t 0) r f hb).symm
  unfold outAt outOf
  by_cases hu : (grid0.coords t 0).val < (tbl m 1 (ix1 (0 : Fin 1)) : BitVec 32).toNat
  · rw [if_pos (hc.mpr hu)]
    refine Eq.trans ?_ (if_pos hu).symm
    exact used_entry h _ _ _ _ _ _ _ _ _ _ (grid0.coords t 0) p q r f (fun k => block0 m hO h c t hu p k r hr) (fun k => block1 m hO h c t hu k q f hf)
      (block2 m hO h c t hu q f hf) (fun k => block3 m hO h c t hu k q f hf) (block4 m hO h c t hu q f hf)
  · rw [if_neg (fun e => hu (hc.mp e))]
    exact Ideal.ofBits_zero_bf16.trans (if_neg hu).symm

omit t

/-- The whole result. -/
theorem result_eq : (dats m hO 0 c).arrAt 5 (cfgM m hO).N
    = hidden h (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m hO 0 c).arrAt_eq_of_covers 5 _ ?_ fun t hf y => ?_
  · exact ((cfgM m hO).win 5).covers_of_indexMap_surj rfl (fun (a : Fin 2) => match a with | 0 => (by decide : 0 < 1024) | 1 => (by decide : 0 < 512)) fun β => by
      obtain ⟨b0, hb0⟩ : ∃ b0 : Fin 159, b0.val = (β (0 : Fin 2)).val :=
        ⟨⟨(β (0 : Fin 2)).val, lt_of_lt_of_eq (β (0 : Fin 2)).isLt (show (162816 + 1024 - 1) / 1024 = 159 by norm_num)⟩, rfl⟩
      obtain ⟨b1, hb1⟩ : ∃ b1 : Fin 4, b1.val = (β (1 : Fin 2)).val :=
        ⟨⟨(β (1 : Fin 2)).val, lt_of_lt_of_eq (β (1 : Fin 2)).isLt (show (2048 + 512 - 1) / 512 = 4 by norm_num)⟩, rfl⟩
      have h0 := b0.isLt
      have h1 := b1.isLt
      refine ⟨fun (a : Fin 2) => match a with | 0 => b0 | 1 => b1, fun (a : Fin 2) => ?_⟩
      match a with
      | 0 =>
        refine Eq.trans ?_ hb0
        show (BitVec.ofNat 32 b0.val).toNat = b0.val
        rw [BitVec.toNat_ofNat, Nat.mod_eq_of_lt (by omega)]
      | 1 =>
        refine Eq.trans ?_ hb1
        show (BitVec.ofNat 32 b1.val).toNat = b1.val
        rw [BitVec.toNat_ofNat, Nat.mod_eq_of_lt (by omega)]
  · have hx : ((cfgM m hO).win 5).index t = ![(grid0.coords t 0).val, (grid0.coords t 1).val] := by
      have h0 : (grid0.coords t 0).val < 159 := (grid0.coords t 0).isLt
      have h1 : (grid0.coords t 1).val < 4 := (grid0.coords t 1).isLt
      show ![(BitVec.ofNat 32 (grid0.coords t 0).val).toNat, (BitVec.ofNat 32 (grid0.coords t 1).val).toNat] = _
      rw [BitVec.toNat_ofNat, BitVec.toNat_ofNat, Nat.mod_eq_of_lt (by omega), Nat.mod_eq_of_lt (by omega)]
    obtain ⟨p, q, rfl⟩ : ∃ (p : Fin 1024) (q : Fin 512), y = ix2 p q := ⟨y (0 : Fin 2), y (1 : Fin 2), ValueIdx.eq_ix2 (n0 := 1024) (n1 := 512) y⟩
    have hp := p.isLt
    have hq := q.isLt
    have h0 : (grid0.coords t 0).val < 159 := (grid0.coords t 0).isLt
    have h1 : (grid0.coords t 1).val < 4 := (grid0.coords t 1).isLt
    have hemb : (((cfgM m hO).win 5).blk t).view.emb (ix2 p q)
        = ix2 (⟨(grid0.coords t 0).val * 1024 + p.val, by omega⟩ : Fin 162816) (⟨(grid0.coords t 1).val * 512 + q.val, by omega⟩ : Fin 2048) := by
      refine funext fun (a : Fin 2) => Fin.ext ?_
      refine (Window.rect_emb_val ((cfgM m hO).win 5) t (ix2 p q) a).trans ?_
      rw [hx]
      match a with
      | 0 => rfl
      | 1 => rfl
    exact (congrFun (after5 m hO c t) (ix2 p q)).trans ((outAt_apply m hO h c t p q _ _ rfl rfl).trans (congrArg _ hemb.symm))

end Cert.KernelIdeal.Up

end
-- ==== Proof.DnKit.lean ====
/- The launch of the experts' down-projection, for every contents of its two tables: the host's reshape of the biases,
   the tables as the region finds them, the blocks its windows read. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel2Ideal.Down

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the region is entered: after the reshape. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer the reshape does not write is found as launched. -/
theorem V_of_ne (c : Dev nD) (b : Ref sig .tc) (h0 : b ≠ main_v0) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h0))

/-- The tables' contents when the region is entered (one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables' side condition: every block inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tb0 : Memref sig .tc .smem S159 .i32 := Memref.whole main_arg0
abbrev htb0 : tb0.IsWhole := Memref.isWhole_whole _
abbrev tb1 : Memref sig .tc .smem S1 .i32 := Memref.whole main_arg1
abbrev htb1 : tb1.IsWhole := Memref.isWhole_whole _

abbrev TbBuf (c : Dev nD) {S : Shape} {e : EltTy} (M : Memref sig .tc .smem S e) : Type :=
  Buf (Elt F) (M.view.loc (c : Thread nD τ))
/-- A table held at half the full share. -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) :
    (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-! An input window's buffer holds its block at every point, for proof data over these arrays that keep it. -/

theorem before0 (hO : Ok m) {c : Dev nD} (dat : Dat τ (Elt F) Unit ℕ (UR sig nD τ) ℕ (cfgM m hO) c)
    (hA : dat.A 0 = V m c (Pipeline.arrRef spec0 0)) (hk : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hk]; unfold Dat.blockOf iblk; rw [hA]; try rfl) t d).trans
    (by unfold Dat.fetched Dat.blockOf iblk; rw [hA]; try rfl)

theorem before1 (hO : Ok m) {c : Dev nD} (dat : Dat τ (Elt F) Unit ℕ (UR sig nD τ) ℕ (cfgM m hO) c)
    (hA : dat.A 1 = V m c (Pipeline.arrRef spec0 1)) (hk : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hk]; unfold Dat.blockOf iblk; rw [hA]; try rfl) t d).trans
    (by unfold Dat.fetched Dat.blockOf iblk; rw [hA]; try rfl)

theorem before2 (hO : Ok m) {c : Dev nD} (dat : Dat τ (Elt F) Unit ℕ (UR sig nD τ) ℕ (cfgM m hO) c)
    (hA : dat.A 2 = V m c (Pipeline.arrRef spec0 2)) (hk : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [hk]; unfold Dat.blockOf iblk; rw [hA]; try rfl) t d).trans
    (by unfold Dat.fetched Dat.blockOf iblk; rw [hA]; try rfl)

end Cert.Kernel2Ideal.Down

end
-- ==== Proof.DnBody.lean ====
/- The body of the experts' down-projection at one point, by what its table word says: what it leaves in the result's
   buffer. -/
module

public import proofs.«01_k».proof.Proof.DnKit
public import Idealize.ShloMosaic.Lib.ValueIdxCore

@[expose] public section

set_option maxRecDepth 16384

noncomputable section

namespace Cert.Kernel2Ideal.Down

open Cert.Kernel2Ideal.Gen
open Idealize.ShloMosaic.ValueIdx (ix2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The number of used blocks, as the body and the index maps read it. -/
def nuOf (pf : pre0.Contents (Elt F)) : BitVec 32 := pf.at 1 (Rect.unit (s := S1) ![0] S1.size inb_S1_S1_0) numel1_S1

/-- What the result's buffer holds after the body. -/
def outOf (i : grid0.Coords) (nu : BitVec 32) (x0 : Vec F S1024x2048 .bf16) (x1 : Vec F S1x1x2048x1024 .f32) (x2 : Vec F S1x1x1x1024 .f32) : Vec F S1024x1024 .bf16 :=
  if k0_cond1 i nu = 1#1 then k0_pay1 x0 x1 x2 else k0_pay2

/-- The negated condition. -/
theorem cond2_iff (i : grid0.Coords) (nu : BitVec 32) : k0_cond2 i nu = 1#1 ↔ ¬ k0_cond1 i nu = 1#1 := by
  unfold k0_cond2 k0_cond1
  dsimp only
  generalize Scalar.cmpi CmpIPredicate.slt (BitVec.ofNat 32 (i 1).val) nu = b
  revert b; decide

set_option maxHeartbeats 1000000 in
theorem run_body (c : Dev nD) (i : grid0.Coords) (arg4 : Memref sig .tc .vmem S1024x2048 .bf16) (harg4 : arg4.IsWhole) (arg5 : Memref sig .tc .vmem S1x1x2048x1024 .f32) (harg5 : arg5.IsWhole) (arg6 : Memref sig .tc .vmem S1x1x1x1024 .f32) (harg6 : arg6.IsWhole) (arg7 : Memref sig .tc .vmem S1024x1024 .bf16) (harg7 : arg7.IsWhole)
    (x0 : Vec F S1024x2048 .bf16) (x1 : Vec F S1x1x2048x1024 .f32) (x2 : Vec F S1x1x1x1024 .f32) (pf : pre0.Contents (Elt F))
     (E : Set ℕ) (K : PUnit → sProp 𝕄) :
        iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt c tb0 (pf 0) ∗ tbPt c tb1 (pf 1)
            ∗ (iprop(owns (c : Thread nD τ) arg4 fullShare x0 ∗ owns (c : Thread nD τ) arg5 fullShare x1 ∗ owns (c : Thread nD τ) arg6 fullShare x2 ∗ owns (c : Thread nD τ) arg7 fullShare (outOf i (nuOf pf) x0 x1 x2) ∗ tbPt c tb0 (pf 0) ∗ tbPt c tb1 (pf 1)) -∗ K ⟨⟩))
          ⊢ wp frame (wpE (defs₀ (F := F)) Variants.none c none) E (cc0_moe_ffn_down i tb0 htb0 tb1 htb1 arg4 harg4 arg5 harg5 arg6 harg6 arg7 harg7) K := by
    simp only [cc0_moe_ffn_down_eq_skeleton]; unfold cc0_moe_ffn_down_skel
    unfold owns
    iintro ⟨⟨%f0, %hf0, H0⟩, ⟨%f1, %hf1, H1⟩, ⟨%f2, %hf2, H2⟩, ⟨%d3, %f3, -, H3⟩, HT0, HT1, Hk⟩
    sl_exec
    sl_step
    have hr : run_body.sl.r pf = nuOf pf := rfl
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr
      swap; · iexact H3
      ipureintro
      rw [hr]
      unfold outOf
      by_cases h2 : k0_cond1 i (nuOf pf) = 1#1
      · rw [dif_neg (fun h => (cond2_iff _ _).mp h h2), dif_pos h2, if_pos h2]
        rw [View.read_writes_full, View.readAt_full, View.readAt_full, View.readAt_full, hf0, hf1, hf2]
      · rw [dif_pos ((cond2_iff _ _).mpr h2), if_neg h2]
        exact View.read_writes_full _ _ _ _ _
    isplitl [HT0]; · iexact HT0
    iexact HT1

end Cert.Kernel2Ideal.Down

end
-- ==== Proof.DnRun.lean ====
/- The experts' down-projection run to the end, for every contents of its tables under the side condition that the
   blocks lie inside their arrays. -/
module

public import proofs.«01_k».proof.Proof.DnBody
public import Idealize.ShloMosaic.Lib.Pipeline.ValueKit

@[expose] public section

set_option maxRecDepth 16384

noncomputable section

namespace Cert.Kernel2Ideal.Down

open Cert.Kernel2Ideal.Gen
open Idealize.ShloMosaic.ValueIdx (ix2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] k0_cond1 k0_cond2

/-- What the result's buffer holds after point `t`. -/
def outAt (hO : Ok m) (c : Dev nD) (t : Fin (cfgM m hO).N) : Vec F S1024x1024 .bf16 :=
  outOf (grid0.coords t) (nuOf (tbl m)) (iblk m hO c 0 t) (iblk m hO c 1 t) (iblk m hO c 2 t)

/-- The invariant: nothing is carried between points. -/
def Phi (c : Dev nD) : sProp 𝕄 := iprop(Pipeline.ΦA spec0 c ∗ Pipeline.ΦT pre0 (tbl m) c)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ _ := Phi m c
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = outAt m hO c t := by dsimp only [dats]; try rfl

/-- The two conditions of the result's stores are each other's negation: at every point one holds. -/
theorem idle3 (i : grid0.Coords) (w : BitVec 32) : (!(k0_cond1 i w == 1#1) && !(k0_cond2 i w == 1#1)) = false := by
  have h := cond2_iff i w
  by_cases h2 : k0_cond1 i w = 1#1
  · simp [h2]
  · simp [h2, h.mpr h2]

theorem live3 (hO : Ok m) (t : Fin (cfgM m hO).N) : (cfgM m hO).idle 3 (grid0.coords t) = false := by
  have e : (cfgM m hO).idle = idle0 (tbl m) := rfl
  rw [e]
  exact idle3 (grid0.coords t) ((tbl m).atD 1 ![0])

abbrev ms0 (hO : Ok m) (t : Fin (cfgM m hO).N) : Memref sig .tc .vmem S1024x2048 .bf16 := spec0_0.stage ((cfgM m hO).slots t 0)
abbrev ms1 (hO : Ok m) (t : Fin (cfgM m hO).N) : Memref sig .tc .vmem S1x1x2048x1024 .f32 := spec0_1.stage ((cfgM m hO).slots t 1)
abbrev ms2 (hO : Ok m) (t : Fin (cfgM m hO).N) : Memref sig .tc .vmem S1x1x1x1024 .f32 := spec0_2.stage ((cfgM m hO).slots t 2)
abbrev ms3 (hO : Ok m) (t : Fin (cfgM m hO).N) : Memref sig .tc .vmem S1024x1024 .bf16 := spec0_3.stage ((cfgM m hO).slots t 3)

/-- The body at point `t`, on what the pipeline calls it with. -/
abbrev bodyAt (a : (pcfg0 (F := F)).Adm) (t : Fin (cfg0 a).N) : Prog (TpuEff nD τ sig (Elt F) Λ₀ .tc) PUnit :=
  cc0_moe_ffn_down (grid0.coords t) tb0 htb0 tb1 htb1 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t)

set_option maxHeartbeats 1600000 in
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0 m hO _ (A_eq m hO c 0) (after0 m hO c), before1 m hO _ (A_eq m hO c 1) (after1 m hO c),
    before2 m hO _ (A_eq m hO c 2) (after2 m hO c)]
  rw [show (dats m hO 0 c).owesAt () t.succ = (dats m hO 0 c).owesAt () t.castSucc from rfl]
  rw [show (dats m hO 0 c).Φ t.succ = Phi m c from rfl, show (dats m hO 0 c).Φ t.castSucc = Phi m c from rfl]
  unfold Phi
  rw [PhiT_eq]
  rw [show (dats m hO 0 c).leavesExact 0 t = owns (c : Thread nD τ) (ms0 m hO t) fullShare ((dats m hO 0 c).after 0 t) from rfl, after0]
  rw [show (dats m hO 0 c).leavesExact 1 t = owns (c : Thread nD τ) (ms1 m hO t) fullShare ((dats m hO 0 c).after 1 t) from rfl, after1]
  rw [show (dats m hO 0 c).leavesExact 2 t = owns (c : Thread nD τ) (ms2 m hO t) fullShare ((dats m hO 0 c).after 2 t) from rfl, after2]
  rw [show (dats m hO 0 c).leavesExact 3 t = owns (c : Thread nD τ) (ms3 m hO t) fullShare ((dats m hO 0 c).after 3 t) from by
    unfold Dat.leavesExact; rw [live3 m hO t]; try rfl, after3]
  iintro ⟨⟨HA, ⟨HT0, HT1⟩⟩, Ho, ⟨%d0, H0⟩, ⟨%d1, H1⟩, ⟨%d2, H2⟩, ⟨%d3, H3⟩⟩
  iapply (run_body c (grid0.coords t) _ _ _ _ _ _ _ _ (iblk m hO c 0 t) (iblk m hO c 1 t) (iblk m hO c 2 t) (tbl m) Set.univ _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, H3, HT0, HT1⟩
  isplitl [HA HT0 HT1]
  · isplitl [HA]; · iexact HA
    isplitl [HT0]; · iexact HT0
    iexact HT1
  isplitl [Ho]; · iexact Ho
  isplitl [H0]; · iexact H0
  isplitl [H1]; · iexact H1
  isplitl [H2]; · iexact H2
  iexact H3

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := .rfl

theorem hout (hO : Ok m) (c : Dev nD) : (dats m hO 0 c).Φ (Fin.last (cfgM m hO).N) ⊢ Pipeline.ΦA spec0 c := by
  rw [show (dats m hO 0 c).Φ (Fin.last (cfgM m hO).N) = Phi m c from rfl]
  unfold Phi
  iintro ⟨HA, -⟩
  iexact HA

set_option backward.isDefEq.respectTransparency.types false in
/-- The run: the arrays at what the proof data say, every other buffer as the region found it, every counter at zero. -/
theorem run_all (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The arguments end as launched, the result at the array of the written-back blocks, every counter at zero. -/
theorem run_main (hO : Ok m) : θ_run defs (onTc (τ := τ) (main (F := F))) ⟨m, fun _ => 0, ρ⟩ (fun r => (∀ c : Dev nD,
      r.2.mem ((c.tc : Thread nD τ).loc main_v1) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      ((h.1 c).2 main_arg0 (by decide : main_arg0 ∈ Pipeline.restRefs sig spec0)).trans (V_of_ne m c _ (by decide)),
      ((h.1 c).2 main_arg1 (by decide : main_arg1 ∈ Pipeline.restRefs sig spec0)).trans (V_of_ne m c _ (by decide)),
      ((h.1 c).1 0).trans (((dats m hO 0 c).arrAt_in 0 rfl _).trans ((A_eq m hO c 0).trans (V_of_ne m c main_arg2 (by decide)))),
      ((h.1 c).1 1).trans (((dats m hO 0 c).arrAt_in 1 rfl _).trans ((A_eq m hO c 1).trans (V_of_ne m c main_arg3 (by decide)))),
      ((h.1 c).2 main_arg4 (by decide : main_arg4 ∈ Pipeline.restRefs sig spec0)).trans (V_of_ne m c _ (by decide))⟩, h.2⟩) (run_all m ρ hO)

end Cert.Kernel2Ideal.Down

end
-- ==== Proof.DnSide.lean ====
/- What the precondition says of the tables of the experts' down-projection, and from it the launch's side condition. -/
module

public import proofs.«01_k».proof.Proof.DnKit
public import proofs.«01_k».proof.Proof.UpPlain
public import proofs.«01_k».proof.Pre_tables2

@[expose] public section

set_option maxRecDepth 16384

noncomputable section

namespace Cert.Kernel2Ideal.Down

open Cert.Kernel2Ideal.Gen
open Cert.KernelIdeal.Up (Words rows_word word_range word_nonneg word_used and_one)
open Idealize.ShloMosaic.ValueIdx (ix1 ix2)
open Idealize.ShloMosaic Idealize.ShloMosaic.TcCoe

variable {F : FTy → Type} [FloatOps F]

/-- The precondition, read. -/
theorem words_of_pre [Cert.Pre_tables2.Facts] {be nu x2 x3 x4}
    (h : Cert.Pre_tables2.fn (F := F) be nu x2 x3 x4 = fun _ => 1#1) : Words be nu := by
  haveI : Subsingleton Cert.Pre_tables2.S_.Idx := ⟨fun a b => funext fun k => k.elim0⟩
  have h0 := congrFun h (fun a => a.elim0)
  unfold Cert.Pre_tables2.fn at h0
  obtain ⟨h1, h2⟩ := and_one h0
  constructor
  · intro i
    obtain ⟨a, b⟩ := and_one (Host.reduce_andi_all _ _ _ _ _ h1 i)
    exact word_range (n := 32) (by decide) (word_nonneg a) b
  · intro i
    obtain ⟨a, b⟩ := and_one (Host.reduce_andi_all _ _ _ _ _ h2 i)
    exact word_used a b

variable (pf : pre0.Contents (Elt F))

theorem ok_of_words (h : Words (pf 0) (pf 1)) : ok0 pf := by
  have hj : ∀ i : grid0.Coords, (i 0).val < 2 := fun i => (i 0).isLt
  have hb : ∀ i : grid0.Coords, (i 1).val < 159 := fun i => (i 1).isLt
  have hu : 1 ≤ (pf.at 1 (Rect.unit (s := S1) ![0] S1.size inb_S1_S1_0) numel1_S1 : BitVec 32).toNat
      ∧ (pf.at 1 (Rect.unit (s := S1) ![0] S1.size inb_S1_S1_0) numel1_S1 : BitVec 32).toNat ≤ 159 := h.2 _
  have he : ∀ i : grid0.Coords, (pf.at 0 (Rect.unit (s := S159) _ S1.size (k0_off1_inb i)) numel1_S1 : BitVec 32).toNat < 32 := fun _ => h.1 _
  have hcol : ∀ i : grid0.Coords, ((BitVec.ofNat 32 (i 0).val).toNat + 1) * 1024 ≤ 2048 := fun i => by
    have := hj i
    rw [BitVec.toNat_ofNat, Nat.mod_eq_of_lt (by omega)]; omega
  refine ⟨fun i => ⟨fun a => ?_, .inr (Affine.block_words_dvd (of_decide_eq_true rfl) (by decide))⟩, fun i => ⟨fun a => ?_, .inl rfl⟩, fun i => ⟨fun a => ?_, .inl rfl⟩⟩
  · match a with
    | 0 =>
      show ((Scalar.minsi (BitVec.ofNat 32 (i 1).val) (Scalar.subi (pf.at 1 (Rect.unit (s := S1) ![0] S1.size inb_S1_S1_0) numel1_S1) 1#32)).toNat + 1) * 1024 ≤ 162816
      rw [rows_word (hb i) hu.1 hu.2]
      have := hb i; omega
    | 1 => show (0 + 1) * 2048 ≤ 2048; decide
  · match a with
    | 0 => show (0 + 1) * 1 ≤ 2; decide
    | 1 =>
      show ((pf.at 0 (Rect.unit (s := S159) _ S1.size (k0_off1_inb i)) numel1_S1 : BitVec 32).toNat + 1) * 1 ≤ 32
      have := he i; omega
    | 2 => show (0 + 1) * 2048 ≤ 2048; decide
    | 3 => exact hcol i
  · match a with
    | 0 => show (0 + 1) * 1 ≤ 2; decide
    | 1 =>
      show ((pf.at 0 (Rect.unit (s := S159) _ S1.size (k0_off1_inb i)) numel1_S1 : BitVec 32).toNat + 1) * 1 ≤ 32
      have := he i; omega
    | 2 => show (0 + 1) * 1 ≤ 1; decide
    | 3 => exact hcol i

/-- The launch's tables are the arguments. -/
theorem tbl0_eq (m : (ℓ : Loc nD τ sig) → Buf (Elt F) ℓ) : tbl m 0 = m (((0 : Dev nD) : Thread nD τ).loc main_arg0) :=
  V_of_ne m 0 main_arg0 (by decide)
theorem tbl1_eq (m : (ℓ : Loc nD τ sig) → Buf (Elt F) ℓ) : tbl m 1 = m (((0 : Dev nD) : Thread nD τ).loc main_arg1) :=
  V_of_ne m 0 main_arg1 (by decide)

theorem ok_of_args (m : (ℓ : Loc nD τ sig) → Buf (Elt F) ℓ)
    (h : Words (m (((0 : Dev nD) : Thread nD τ).loc main_arg0)) (m (((0 : Dev nD) : Thread nD τ).loc main_arg1))) : Ok m :=
  ok_of_words (tbl m) (by rw [tbl0_eq, tbl1_eq]; exact h)

end Cert.Kernel2Ideal.Down

end
-- ==== Proof.DnValue.lean ====
/- The experts' down-projection over the extended reals: its result in plain formulas, a block's payload, the blocks its
   windows read, and from them the whole result. -/
module

public import proofs.«01_k».proof.Proof.DnSide
public import proofs.«01_k».proof.Proof.DnRun
public import Idealize.ShloMosaic.Lib.Pipeline.Covers
public import Idealize.ShloMosaic.Lib.IdealHost
public import Idealize.ShloMosaic.Lib.Claim

@[expose] public section

set_option maxRecDepth 16384

noncomputable section

namespace Cert.Kernel2Ideal.Down

open Cert.Kernel2Ideal.Gen
open Cert.KernelIdeal.Up (Words rows_word used_iff expert blockOf)
open Idealize.ShloMosaic.ValueIdx (ix1 ix2 ix3 ix4 contrEquiv1)
open Idealize.ShloMosaic hiding ix1 ix2 ix3 ix4
open Idealize.ShloMosaic.TcCoe
open Idealize.ShloMosaic.Pipeline (Dat Cfg Window)

/-- A hidden row's product with column `f` of its expert's matrix, and the expert's bias. -/
def lin {be : IVec S159 32} {nu : IVec S1 32} (h : Words be nu) (x : FVec Ideal S162816x2048 .bf16) (w : FVec Ideal S2x32x2048x2048 .f32)
    (bias : FVec Ideal S2x32x2048 .f32) (b : Fin 159) (r : Fin 162816) (f : Fin 2048) : EReal :=
  (∑ k : Fin 2048, (x (ix2 r k) : EReal) * w (ix4 (0 : Fin 2) (expert h b) k f)) + bias (ix3 (0 : Fin 2) (expert h b) f)

/-- The down-projection's result. -/
def down {be : IVec S159 32} {nu : IVec S1 32} (h : Words be nu) (x : FVec Ideal S162816x2048 .bf16) (w : FVec Ideal S2x32x2048x2048 .f32)
    (bias : FVec Ideal S2x32x2048 .f32) : FVec Ideal S162816x2048 .bf16 := fun y =>
  if (y 0).val / 1024 < (nu (ix1 (0 : Fin 1))).toNat then lin h x w bias (blockOf (y 0)) (y 0) (y 1) else 0

/-- A block's product with a tile of a matrix. -/
theorem product_apply (x : FVec Ideal S1024x2048 .bf16) (w : FVec Ideal S2048x1024 .bf16) (p : Fin 1024) (q : Fin 1024) :
    matmul dot_S1024x2048_S2048x1024_S1024x1024_1_0_0_1_n_n none x w (constant S1024x1024 .f32 0x00000000#32) (ix2 p q)
      = ∑ k : Fin 2048, (x (ix2 p k) : EReal) * w (ix2 k q) := by
  refine (Ideal.matmul_constant_zero_apply _ none _ _ _).trans ?_
  refine Fintype.sum_equiv (contrEquiv1 dot_S1024x2048_S2048x1024_S1024x1024_1_0_0_1_n_n 2048 rfl rfl) _ _ fun k => ?_
  refine congrArg₂ (HMul.hMul (α := EReal) (β := EReal) (γ := EReal)) (congrArg x (funext fun a => Fin.ext ?_)) (congrArg w (funext fun a => Fin.ext ?_))
  · match a with
    | 0 => rfl
    | 1 => rfl
  · match a with
    | 0 => rfl
    | 1 => rfl

/-- A bias's row, read at a column. -/
theorem row_apply (x : FVec Ideal S1x1x1x1024 .f32) (p : Fin 1024) (q : Fin 1024) :
    broadcastTo S1024x1024 (shapeCast S1x1024 x shapeCasts_S1x1x1x1024_S1x1024) broadcasts_S1x1024_S1024x1024 (ix2 p q)
      = x (ix4 (0 : Fin 1) (0 : Fin 1) (0 : Fin 1) q) := by
  rw [broadcastTo_apply _ _ _ (ix2 (0 : Fin 1) q) (fun a => by
    match a with
    | 0 => rfl
    | 1 => rfl)]
  exact shapeCast_apply _ _ _ _ (by rw [Shape.rowMajor_val_four, Shape.rowMajor_val_two]; show ((0 * 1 + 0) * 1 + 0) * 1024 + q.val = 0 * 1024 + q.val; omega)

/-- A tile of an expert's matrix as the product reads it. -/
theorem tile_apply (x : FVec Ideal S1x1x2048x1024 .f32) (k : Fin 2048) (q : Fin 1024) :
    (truncf .bf16 (shapeCast S2048x1024 x shapeCasts_S1x1x2048x1024_S2048x1024) bitsLt_bf16_f32 (ix2 k q) : EReal)
      = x (ix4 (0 : Fin 1) (0 : Fin 1) k q) :=
  shapeCast_apply _ _ _ _ (by rw [Shape.rowMajor_val_four, Shape.rowMajor_val_two]; show ((0 * 1 + 0) * 2048 + k.val) * 1024 + q.val = k.val * 1024 + q.val; omega)

/-- A used block's entry from its block's rows, its expert's tile and bias. -/
theorem used_entry {be : IVec S159 32} {nu : IVec S1 32} (h : Words be nu) (x : FVec Ideal S162816x2048 .bf16) (w : FVec Ideal S2x32x2048x2048 .f32)
    (bias : FVec Ideal S2x32x2048 .f32) (x0 : Vec Ideal S1024x2048 .bf16) (x1 : Vec Ideal S1x1x2048x1024 .f32) (x2 : Vec Ideal S1x1x1x1024 .f32)
    (b : Fin 159) (p q : Fin 1024) (r : Fin 162816) (f : Fin 2048)
    (h0 : ∀ k : Fin 2048, x0 (ix2 p k) = x (ix2 r k))
    (h1 : ∀ k : Fin 2048, x1 (ix4 (0 : Fin 1) (0 : Fin 1) k q) = w (ix4 (0 : Fin 2) (expert h b) k f))
    (h2 : x2 (ix4 (0 : Fin 1) (0 : Fin 1) (0 : Fin 1) q) = bias (ix3 (0 : Fin 2) (expert h b) f)) :
    k0_pay1 (F := Ideal) x0 x1 x2 (ix2 p q) = lin h x w bias b r f := by
  unfold lin
  rw [← h2, ← row_apply x2 p q]
  simp only [← h0, ← h1, ← tile_apply]
  rw [← product_apply]
  rfl

/-- The result's entry, its block named. -/
theorem down_entry {be : IVec S159 32} {nu : IVec S1 32} (h : Words be nu) (x : FVec Ideal S162816x2048 .bf16) (w : FVec Ideal S2x32x2048x2048 .f32)
    (bias : FVec Ideal S2x32x2048 .f32) (b : Fin 159) (r : Fin 162816) (f : Fin 2048) (hb : r.val / 1024 = b.val) :
    down h x w bias (ix2 r f) = if b.val < (nu (ix1 (0 : Fin 1))).toNat then lin h x w bias b r f else 0 := by
  have hbk : blockOf r = b := Fin.ext hb
  rw [← hbk]
  rfl

/-- The tables' words, as the index maps read them. -/
theorem used_word (pf : pre0.Contents (Elt Ideal)) :
    (pf.at 1 (Rect.unit (s := S1) ![0] S1.size inb_S1_S1_0) numel1_S1 : BitVec 32) = pf 1 (ix1 (0 : Fin 1)) :=
  congrArg (pf 1) (funext fun (a : Fin 1) => match a with | 0 => Subsingleton.elim (α := Fin 1) _ _)

theorem expert_word (pf : pre0.Contents (Elt Ideal)) (i : grid0.Coords) :
    (pf.at 0 (Rect.unit (s := S159) (k0_off1 i) S1.size (k0_off1_inb i)) numel1_S1 : BitVec 32) = pf 0 (ix1 (i 1)) :=
  congrArg (pf 0) (funext fun (a : Fin 1) => match a with
    | 0 => Fin.ext (n := 159) (by
      have h : (i 1).val < 159 := (i 1).isLt
      show (BitVec.ofNat 32 (i 1).val).toNat + 1 * 0 = (i 1).val
      rw [BitVec.toNat_ofNat, Nat.mod_eq_of_lt (by omega)]; omega))

variable (m : (ℓ : Loc nD τ sig) → Buf (Elt Ideal) ℓ)

/-- In a used block the rows' window is at the block. -/
theorem index0 {pf : pre0.Contents (Elt Ideal)} (h : Words (pf 0) (pf 1)) (i : grid0.Coords) (hu : (i 1).val < (pf 1 (ix1 (0 : Fin 1)) : BitVec 32).toNat) :
    cc0_transform_0 inb_S1_S1_0 numel1_S1 pf i = ![(i 1).val, 0] := by
  have h1 := h.2 (ix1 (0 : Fin 1))
  have hi : (i 1).val < 159 := (i 1).isLt
  unfold cc0_transform_0
  dsimp only
  rw [used_word, rows_word hi h1.1 h1.2, Nat.min_eq_left (by omega)]
  rfl

theorem index1 {pf : pre0.Contents (Elt Ideal)} (h : Words (pf 0) (pf 1)) (i : grid0.Coords) :
    cc0_transform_1 k0_off1_inb numel1_S1 pf i = ![0, (expert h (i 1)).val, 0, (i 0).val] := by
  have hj : (i 0).val < 2 := (i 0).isLt
  have e1 := expert_word pf i
  unfold k0_off1 at e1
  unfold cc0_transform_1
  dsimp only at e1 ⊢
  rw [e1]
  show ![0, (expert h (i 1)).val, 0, (BitVec.ofNat 32 (i 0).val).toNat] = _
  rw [BitVec.toNat_ofNat, Nat.mod_eq_of_lt (by omega)]

/-- The biases as the region finds them: the argument with a unit axis. -/
theorem bias_entry (c : Dev nD) (e : Fin 32) (f : Fin 2048) :
    V m c main_v0 (ix4 (0 : Fin 2) e (0 : Fin 1) f) = m ((c : Thread nD τ).loc main_arg4) (ix3 (0 : Fin 2) e f) := by
  entry_read
  exact shapeCast_apply _ _ _ _ ((Shape.rowMajor_val_three (d := ![2, 32, 2048]) _).trans (Eq.trans
    (by show (0 * 32 + e.val) * 2048 + f.val = ((0 * 32 + e.val) * 1 + 0) * 2048 + f.val; omega) (Shape.rowMajor_val_four (d := ![2, 32, 1, 2048]) _).symm))

variable (hO : Ok m) (h : Words (tbl m 0) (tbl m 1)) (c : Dev nD) (t : Fin (cfgM m hO).N)

include h

theorem block0 (hu : (grid0.coords t 1).val < (tbl m 1 (ix1 (0 : Fin 1)) : BitVec 32).toNat) (p : Fin 1024) (q : Fin 2048) (r : Fin 162816)
    (hr : r.val = (grid0.coords t 1).val * 1024 + p.val) :
    iblk m hO c 0 t (ix2 p q) = m ((c : Thread nD τ).loc main_arg2) (ix2 r q) := by
  refine Eq.trans ?_ (congrFun (V_of_ne m c main_arg2 (by decide)) (ix2 r q))
  refine congrArg (V m c main_arg2) (funext fun (a : Fin 2) => Fin.ext ?_)
  refine (Window.rect_emb_val ((cfgM m hO).win 0) t (ix2 p q) a).trans ?_
  have hx : ((cfgM m hO).win 0).index t = ![(grid0.coords t 1).val, 0] := index0 h (grid0.coords t) hu
  rw [hx]
  match a with
  | 0 => exact hr.symm
  | 1 => show 0 * 2048 + q.val = q.val; omega

theorem block1 (k : Fin 2048) (q : Fin 1024) (f : Fin 2048) (hf : f.val = (grid0.coords t 0).val * 1024 + q.val) :
    iblk m hO c 1 t (ix4 (0 : Fin 1) (0 : Fin 1) k q) = m ((c : Thread nD τ).loc main_arg3) (ix4 (0 : Fin 2) (expert h (grid0.coords t 1)) k f) := by
  refine Eq.trans ?_ (congrFun (V_of_ne m c main_arg3 (by decide)) (ix4 (0 : Fin 2) (expert h (grid0.coords t 1)) k f))
  refine congrArg (V m c main_arg3) (funext fun (a : Fin 4) => Fin.ext ?_)
  refine (Window.rect_emb_val ((cfgM m hO).win 1) t (ix4 (0 : Fin 1) (0 : Fin 1) k q) a).trans ?_
  have hx : ((cfgM m hO).win 1).index t = ![0, (expert h (grid0.coords t 1)).val, 0, (grid0.coords t 0).val] := index1 h (grid0.coords t)
  rw [hx]
  match a with
  | 0 => rfl
  | 1 => show (expert h (grid0.coords t 1)).val * 1 + 0 = (expert h (grid0.coords t 1)).val; omega
  | 2 => show 0 * 2048 + k.val = k.val; omega
  | 3 => exact hf.symm

theorem block2 (q : Fin 1024) (f : Fin 2048) (hf : f.val = (grid0.coords t 0).val * 1024 + q.val) :
    iblk m hO c 2 t (ix4 (0 : Fin 1) (0 : Fin 1) (0 : Fin 1) q) = m ((c : Thread nD τ).loc main_arg4) (ix3 (0 : Fin 2) (expert h (grid0.coords t 1)) f) := by
  refine Eq.trans ?_ (bias_entry m c (expert h (grid0.coords t 1)) f)
  refine congrArg (V m c main_v0) (funext fun (a : Fin 4) => Fin.ext ?_)
  refine (Window.rect_emb_val ((cfgM m hO).win 2) t (ix4 (0 : Fin 1) (0 : Fin 1) (0 : Fin 1) q) a).trans ?_
  have hx : ((cfgM m hO).win 2).index t = ![0, (expert h (grid0.coords t 1)).val, 0, (grid0.coords t 0).val] := index1 h (grid0.coords t)
  rw [hx]
  match a with
  | 0 => rfl
  | 1 => show (expert h (grid0.coords t 1)).val * 1 + 0 = (expert h (grid0.coords t 1)).val; omega
  | 2 => rfl
  | 3 => exact hf.symm

theorem cond1_iff : k0_cond1 (grid0.coords t) (nuOf (tbl m)) = 1#1 ↔ (grid0.coords t 1).val < (tbl m 1 (ix1 (0 : Fin 1)) : BitVec 32).toNat := by
  have h1 := h.2 (ix1 (0 : Fin 1))
  have hi : (grid0.coords t 1).val < 159 := (grid0.coords t 1).isLt
  refine Iff.trans ?_ (used_iff hi h1.1 h1.2)
  unfold k0_cond1 nuOf
  dsimp only
  rw [used_word]
  show _ ↔ Scalar.cmpi .slt (BitVec.ofNat 32 (grid0.coords t 1).val) (tbl m 1 (ix1 (0 : Fin 1)) : BitVec 32) = 1#1
  generalize Scalar.cmpi CmpIPredicate.slt (BitVec.ofNat 32 (grid0.coords t 1).val) (tbl m 1 (ix1 (0 : Fin 1)) : BitVec 32) = b
  revert b; decide

/-- A point's block of the result, entry by entry. -/
theorem outAt_apply (p q : Fin 1024) (r : Fin 162816) (f : Fin 2048) (hr : r.val = (grid0.coords t 1).val * 1024 + p.val)
    (hf : f.val = (grid0.coords t 0).val * 1024 + q.val) :
    outAt m hO c t (ix2 p q) = down h (m ((c : Thread nD τ).loc main_arg2)) (m ((c : Thread nD τ).loc main_arg3)) (m ((c : Thread nD τ).loc main_arg4)) (ix2 r f) := by
  have hp := p.isLt
  have hb : r.val / 1024 = (grid0.coords t 1).val := by omega
  have hc := cond1_iff m hO h t
  refine Eq.trans ?_ (down_entry h _ _ _ (grid0.coords t 1) r f hb).symm
  unfold outAt outOf
  by_cases hu : (grid0.coords t 1).val < (tbl m 1 (ix1 (0 : Fin 1)) : BitVec 32).toNat
  · rw [if_pos (hc.mpr hu)]
    refine Eq.trans ?_ (if_pos hu).symm
    exact used_entry h _ _ _ _ _ _ (grid0.coords t 1) p q r f (fun k => block0 m hO h c t hu p k r hr) (fun k => block1 m hO h c t k q f hf)
      (block2 m hO h c t q f hf)
  · rw [if_neg (fun e => hu (hc.mp e))]
    exact Ideal.ofBits_zero_bf16.trans (if_neg hu).symm

omit t

/-- The whole result. -/
theorem result_eq : (dats m hO 0 c).arrAt 3 (cfgM m hO).N
    = down h (m ((c : Thread nD τ).loc main_arg2)) (m ((c : Thread nD τ).loc main_arg3)) (m ((c : Thread nD τ).loc main_arg4)) := by
  refine (dats m hO 0 c).arrAt_eq_of_covers 3 _ ?_ fun t hf y => ?_
  · exact ((cfgM m hO).win 3).covers_of_indexMap_surj rfl (fun (a : Fin 2) => match a with | 0 => (by decide : 0 < 1024) | 1 => (by decide : 0 < 1024)) fun β => by
      obtain ⟨b0, hb0⟩ : ∃ b0 : Fin 159, b0.val = (β (0 : Fin 2)).val :=
        ⟨⟨(β (0 : Fin 2)).val, lt_of_lt_of_eq (β (0 : Fin 2)).isLt (show (162816 + 1024 - 1) / 1024 = 159 by norm_num)⟩, rfl⟩
      obtain ⟨b1, hb1⟩ : ∃ b1 : Fin 2, b1.val = (β (1 : Fin 2)).val :=
        ⟨⟨(β (1 : Fin 2)).val, lt_of_lt_of_eq (β (1 : Fin 2)).isLt (show (2048 + 1024 - 1) / 1024 = 2 by norm_num)⟩, rfl⟩
      have h0 := b0.isLt
      have h1 := b1.isLt
      refine ⟨fun (a : Fin 2) => match a with | 0 => b1 | 1 => b0, fun (a : Fin 2) => ?_⟩
      match a with
      | 0 =>
        refine Eq.trans ?_ hb0
        show (BitVec.ofNat 32 b0.val).toNat = b0.val
        rw [BitVec.toNat_ofNat, Nat.mod_eq_of_lt (by omega)]
      | 1 =>
        refine Eq.trans ?_ hb1
        show (BitVec.ofNat 32 b1.val).toNat = b1.val
        rw [BitVec.toNat_ofNat, Nat.mod_eq_of_lt (by omega)]
  · have h0 : (grid0.coords t 0).val < 2 := (grid0.coords t 0).isLt
    have h1 : (grid0.coords t 1).val < 159 := (grid0.coords t 1).isLt
    have hx : ((cfgM m hO).win 3).index t = ![(grid0.coords t 1).val, (grid0.coords t 0).val] := by
      show ![(BitVec.ofNat 32 (grid0.coords t 1).val).toNat, (BitVec.ofNat 32 (grid0.coords t 0).val).toNat] = _
      rw [BitVec.toNat_ofNat, BitVec.toNat_ofNat, Nat.mod_eq_of_lt (by omega), Nat.mod_eq_of_lt (by omega)]
    obtain ⟨p, q, rfl⟩ : ∃ (p : Fin 1024) (q : Fin 1024), y = ix2 p q := ⟨y (0 : Fin 2), y (1 : Fin 2), ValueIdx.eq_ix2 (n0 := 1024) (n1 := 1024) y⟩
    have hp := p.isLt
    have hq := q.isLt
    have hemb : (((cfgM m hO).win 3).blk t).view.emb (ix2 p q)
        = ix2 (⟨(grid0.coords t 1).val * 1024 + p.val, by omega⟩ : Fin 162816) (⟨(grid0.coords t 0).val * 1024 + q.val, by omega⟩ : Fin 2048) := by
      refine funext fun (a : Fin 2) => Fin.ext ?_
      refine (Window.rect_emb_val ((cfgM m hO).win 3) t (ix2 p q) a).trans ?_
      rw [hx]
      match a with
      | 0 => rfl
      | 1 => rfl
    exact (congrFun (after3 m hO c t) (ix2 p q)).trans ((outAt_apply m hO h c t p q _ _ rfl rfl).trans (congrArg _ hemb.symm))

end Cert.Kernel2Ideal.Down

end
-- ==== Proof.DnRef.lean ====
/- The reference of the experts' down-projection read at an entry: the plain formulas. -/
module

public import proofs.«01_k».proof.Proof.DnValue
public import proofs.«01_k».proof.Proof.UpRef
public import proofs.«01_k».proof.Proof.Gen.Reference2Ideal.Read

@[expose] public section

set_option maxRecDepth 16384

noncomputable section

namespace Cert.Reference2Ideal.Down

open Cert.Reference2Ideal.Read
open Idealize.ShloMosaic.ValueIdx (ix1 ix2 ix3 ix4)
open Cert.KernelIdeal.Up (Words expert blockOf used_iff)
open Cert.ReferenceIdeal.Up (gather_matrix)
open Cert.Kernel2Ideal.Down (lin down)
open Idealize.ShloMosaic hiding ix1 ix2 ix3 ix4

variable {be : IVec S159 32} {nu : IVec S1 32} (h : Words be nu)

/-- The index by which a block's matrix and bias are taken is its expert's number. -/
theorem index9 (b : Fin 159) : val_main_v9 (F := Ideal) be (ix2 b (0 : Fin 1)) = BitVec.ofNat 32 (expert h b).val :=
  Cert.ReferenceIdeal.Up.index15 h b
theorem index19 (b : Fin 159) : val_main_v19 (F := Ideal) be (ix2 b (0 : Fin 1)) = BitVec.ofNat 32 (expert h b).val :=
  Cert.ReferenceIdeal.Up.index15 h b

variable (x : FVec Ideal S162816x2048 .bf16) (w : FVec Ideal S2x32x2048x2048 .f32) (bias : FVec Ideal S2x32x2048 .f32)

theorem block_eq (b : Fin 159) (p : Fin 1024) (k : Fin 2048) (r : Fin 162816) (hr : r.val = b.val * 1024 + p.val) :
    val_main_v1 (F := Ideal) x (ix3 b p k) = x (ix2 r k) := by
  rw [val_main_v1_apply, val_main_v0_apply]
  refine congrArg x (funext fun a => Fin.ext ?_)
  have hk := k.isLt
  match a with
  | 0 => show ((b.val * 1024 + p.val) * 2048 + k.val) / 2048 = r.val; omega
  | 1 => show ((b.val * 1024 + p.val) * 2048 + k.val) % 2048 = k.val; omega

theorem matrix_eq (e : Fin 32) (k f : Fin 2048) : val_main_v3 (F := Ideal) w (ix3 e k f) = w (ix4 (0 : Fin 2) e k f) :=
  Cert.ReferenceIdeal.Up.matrix_eq w e k f
theorem bias_eq (e : Fin 32) (f : Fin 2048) : val_main_v13 (F := Ideal) bias (ix2 e f) = bias (ix3 (0 : Fin 2) e f) :=
  Cert.ReferenceIdeal.Up.bias_eq bias e f

/-- The product with the expert's matrix, and its bias. -/
theorem lin_eq (b : Fin 159) (p : Fin 1024) (f : Fin 2048) (r : Fin 162816) (hr : r.val = b.val * 1024 + p.val) :
    val_main_v23 (F := Ideal) be x w bias (ix3 b p f) = lin h x w bias b r f := by
  rw [val_main_v23_apply, val_main_v11_apply]
  unfold lin
  change HAdd.hAdd (α := EReal) (β := EReal) (γ := EReal) _ _ = _
  refine congrArg₂ (HAdd.hAdd (α := EReal) (β := EReal) (γ := EReal)) (Finset.sum_congr rfl fun k _ => congrArg₂ (HMul.hMul (α := EReal) (β := EReal) (γ := EReal)) ?_ ?_) ?_
  · exact (congrArg _ (funext fun a => match a with | 0 => rfl | 1 => rfl | 2 => rfl)).trans (block_eq x b p k r hr)
  · refine (congrArg _ (funext fun a => match a with | 0 => rfl | 1 => rfl | 2 => rfl : ridx_main_v11 (ix3 b p f) k = ix3 b k f)).trans ?_
    unfold val_main_v10
    exact (gather_matrix _ _ b k f (expert h b) (index9 h b)).trans (matrix_eq w _ k f)
  · rw [val_main_v22_apply, val_main_v21_apply]
    have e : idx_main_v21 (idx_main_v22 (ix3 b p f)) = ix2 b f := funext fun a => match a with | 0 => rfl | 1 => rfl
    rw [e]
    unfold val_main_v20
    exact (Routing.gather_row _ rfl rfl rfl rfl rfl _ _ b f (expert h b) (index19 h b) (by decide)).trans (bias_eq bias _ f)

/-- The whole result. -/
theorem result_eq : val_main_v31 (F := Ideal) be nu x w bias = down h x w bias := by
  funext y
  obtain ⟨r, f, rfl⟩ : ∃ (r : Fin 162816) (f : Fin 2048), y = ix2 r f := ⟨y 0, y 1, ValueIdx.eq_ix2 y⟩
  have h0 := r.isLt
  have h1 := f.isLt
  obtain ⟨b, hb⟩ : ∃ b : Fin 159, b.val = r.val / 1024 := ⟨⟨r.val / 1024, by omega⟩, rfl⟩
  obtain ⟨p, hp⟩ : ∃ p : Fin 1024, p.val = r.val % 1024 := ⟨⟨r.val % 1024, by omega⟩, rfl⟩
  have hi : idx_main_v30 (ix2 r f) = ix3 b p f := funext fun a => Fin.ext (by
    match a with
    | 0 => show (r.val * 2048 + f.val) / 2097152 = b.val; omega
    | 1 => show (r.val * 2048 + f.val) / 2048 % 1024 = p.val; omega
    | 2 => show (r.val * 2048 + f.val) % 2048 = f.val; omega)
  refine Eq.trans ?_ (Cert.Kernel2Ideal.Down.down_entry h x w bias b r f hb.symm).symm
  rw [val_main_v31_apply, val_main_v30_apply, hi, val_main_v29_apply, lin_eq h x w bias b p f r (by omega), val_main_call0_v1_apply,
    val_main_v28_apply, val_main_v27_apply, val_main_v24_apply, val_main_v26_apply]
  have hn : val_main_v25 (F := Ideal) nu (idx_main_v26 (idx_main_v28 (idx_main_call0_v1 (ix3 b p f)))) = nu (ix1 (0 : Fin 1)) := by
    unfold val_main_v25
    rw [show idx_main_v26 (idx_main_v28 (idx_main_call0_v1 (ix3 b p f))) = fun a => a.elim0 from funext fun a => a.elim0]
    exact shapeCast_apply _ _ _ _ (by decide)
  have hz : val_main_call0_v2 (F := Ideal) (ix3 b p f) = (0 : EReal) := by
    rw [val_main_call0_v2_apply]
    exact Ideal.ofBits_zero_f32
  have hu := used_iff (n := b.val) b.isLt (h.2 (ix1 (0 : Fin 1))).1 (h.2 (ix1 (0 : Fin 1))).2
  rw [hn, hz]
  show Scalar.select (IntOp.cmpi .slt (BitVec.ofNat 32 b.val) (nu (ix1 (0 : Fin 1)))) _ _ = _
  unfold Scalar.select
  by_cases hc : b.val < (nu (ix1 (0 : Fin 1))).toNat
  · rw [if_pos hc]
    exact if_pos (hu.mpr hc)
  · rw [if_neg hc]
    exact if_neg fun e => hc (hu.mp e)

end Cert.Reference2Ideal.Down

end
-- ==== Proof.InPlain.lean ====
/- The input projection by plain formulas: a token's normalized and modulated row, its product with a column of the
   weights, and the eight results as the attention and the pooling read them. -/
module

public import proofs.«01_k».proof.Proof.Gen.Kernel3Ideal
public import Idealize.ShloMosaic.Lib.ValueIdxCore
public import Idealize.ShloMosaic.Lib.Pointwise.Tactic
public import Idealize.ShloMosaic.PureOps.Ideal.Laws

@[expose] public section

noncomputable section

namespace Cert.Kernel3Ideal.Proj

open Cert.Kernel3Ideal.Gen
open Idealize.ShloMosaic.ValueIdx (ix1 ix2 ix3 ix4 ix5)
open Idealize.ShloMosaic hiding ix1 ix2 ix3 ix4 ix5

/-- An entry of a token's row: divided by the root of its mean square, times the norm's weight and one plus the scale,
    and the shift added. -/
def normed (xr g sc sh : Fin 2048 → EReal) (k : Fin 2048) : EReal :=
  FloatOps.addf (F := Ideal) (φ := .f32)
    (FloatOps.mulf (F := Ideal) (φ := .f32)
      (FloatOps.mulf (F := Ideal) (φ := .f32)
        (FloatOps.mulf (F := Ideal) (φ := .f32) (xr k)
          (FloatOps.rsqrt (F := Ideal) (φ := .f32)
            (FloatOps.addf (F := Ideal) (φ := .f32)
              (FloatOps.divf (F := Ideal) (φ := .f32) (∑ j : Fin 2048, FloatOps.mulf (F := Ideal) (φ := .f32) (xr j) (xr j)) (FloatOps.ofBits .f32 0x45000000#32))
              (FloatOps.ofBits .f32 0x3727C5AC#32))))
        (g k))
      (FloatOps.addf (F := Ideal) (φ := .f32) (FloatOps.ofBits .f32 0x3F800000#32) (sc k)))
    (sh k)

/-- The row's product with a column. -/
def col (xr g sc sh w : Fin 2048 → EReal) : EReal := ∑ k : Fin 2048, normed xr g sc sh k * w k

/-- A projected entry: batch `b`, position `p`, column `q`. -/
def proj (x : FVec Ideal S2x16384x2048 .f32) (g : FVec Ideal S2x2048 .f32) (sc sh : FVec Ideal S2x1x2048 .f32) (w : FVec Ideal S2x2048x3608 .f32)
    (b p q : ℕ) : EReal :=
  col (fun j => x (ix3 (⟨b % 2, Nat.mod_lt _ (by norm_num)⟩ : Fin 2) (⟨p % 16384, Nat.mod_lt _ (by norm_num)⟩ : Fin 16384) j))
    (fun j => g (ix2 (0 : Fin 2) j)) (fun j => sc (ix3 (⟨b % 2, Nat.mod_lt _ (by norm_num)⟩ : Fin 2) (0 : Fin 1) j))
    (fun j => sh (ix3 (⟨b % 2, Nat.mod_lt _ (by norm_num)⟩ : Fin 2) (0 : Fin 1) j))
    (fun k => w (ix3 (0 : Fin 2) k (⟨q % 3608, Nat.mod_lt _ (by norm_num)⟩ : Fin 3608)))

/-- The mark of a position's block of 64, on lane `l`: one where the block's number, modulo 128, is the lane. -/
def mark (p l : ℕ) : EReal :=
  if BitVec.ofNat 32 l = BitVec.ofNat 32 (p / 64 % 128) then FloatOps.ofBits (F := Ideal) .f32 0x3F800000#32 else FloatOps.ofBits (F := Ideal) .f32 0x00000000#32

/-- The query's scale, over two's logarithm. -/
def qscale (v : EReal) : EReal := FloatOps.mulf (F := Ideal) (φ := .f32) v (FloatOps.ofBits .f32 0x3E0293EE#32)

/-- The one of the rows below the values. -/
def one : EReal := FloatOps.ofBits (F := Ideal) .bf16 0x3F80#16

/-! The eight results over a table `P` of entries by batch, position and column. -/

section
variable (P : ℕ → ℕ → ℕ → EReal)

def res0 (b p q : ℕ) : EReal := P b p q
def res1 (b a p : ℕ) : EReal := qscale (P b p (1024 + a))
def res2 (b h p d : ℕ) : EReal := P b p (2048 + 128 * h + d)
def res3 (o b h p d : ℕ) : EReal := if d < 128 then P b p (2560 + 128 * h + d) else mark (o + p) (d - 128)
def res4 (b h c d p : ℕ) : EReal := if d < 128 then P b (256 * c + p) (2816 + 128 * h + d) else one
def res5 (b h p d : ℕ) : EReal := P b p (3072 + 128 * h + d)
def res6 (b h c d p : ℕ) : EReal := if d < 128 then P b (128 * c + p) (3328 + 128 * h + d) else one
def res7 (b e p : ℕ) : EReal := FloatOps.logistic (F := Ideal) (φ := .f32) (P b p (3584 + e))
end

end Cert.Kernel3Ideal.Proj

end
-- ==== Proof.InBody.lean ====
/- The body of the input projection at one point: every store's payload by the plain formulas, and from them the blocks
   it leaves in the eight results' buffers. -/
module

public import proofs.«01_k».proof.Proof.InPlain
public import proofs.«01_k».proof.Proof.Gen.Kernel3Ideal.Frame
public import Idealize.ShloMosaic.Lib.WholeRead
public import Idealize.ShloMosaic.Lib.Pipeline.ValueKit.Tiles

@[expose] public section

set_option maxRecDepth 16384

noncomputable section

namespace Cert.Kernel3Ideal.Proj

open Cert.Kernel3Ideal.Gen
open Idealize.ShloMosaic.ValueIdx (ix1 ix2 ix3 ix4 ix5 contrEquiv1)
open Idealize.ShloMosaic hiding ix1 ix2 ix3 ix4 ix5
open Idealize.ShloMosaic.TcCoe Idealize.SL.Sem

/-! ## The row -/

/-- A token's mean of squares, as the body forms it. -/
theorem squares_apply (x : FVec Ideal S512x2048 .f32) (r : Fin 512) (k : Fin 2048) :
    broadcastTo S512x2048 (rsqrt (addf (divf (shapeCast S512x1 (multiReduction .add [1] S512 (mulf x x) 0x00000000#32 reduces_S512x2048_S512 (.inl rfl) rfl) shapeCasts_S512_S512x1)
        (broadcast S512x1 (Scalar.ofBits (F := Ideal) .f32 0x45000000#32))) (broadcast S512x1 (Scalar.ofBits (F := Ideal) .f32 0x3727C5AC#32)))) broadcasts_S512x1_S512x2048 (ix2 r k)
      = FloatOps.rsqrt (F := Ideal) (φ := .f32)
          (FloatOps.addf (F := Ideal) (φ := .f32)
            (FloatOps.divf (F := Ideal) (φ := .f32) (∑ j : Fin 2048, FloatOps.mulf (F := Ideal) (φ := .f32) (x (ix2 r j)) (x (ix2 r j))) (FloatOps.ofBits .f32 0x45000000#32))
            (FloatOps.ofBits .f32 0x3727C5AC#32)) := by
  rw [broadcastTo_apply _ _ _ (ix2 r (0 : Fin 1)) (fun a => by
    match a with
    | 0 => rfl
    | 1 => rfl)]
  refine congrArg (fun s => FloatOps.rsqrt (F := Ideal) (φ := .f32) (FloatOps.addf (F := Ideal) (φ := .f32) (FloatOps.divf (F := Ideal) (φ := .f32) s (FloatOps.ofBits .f32 0x45000000#32)) (FloatOps.ofBits .f32 0x3727C5AC#32))) ?_
  refine (shapeCast_apply _ _ _ (ix1 r) (by rw [Shape.rowMajor_val_one, Shape.rowMajor_val_two]; show r.val = r.val * 1 + 0; omega)).trans ?_
  refine (Ideal.multiReduction_add_single _ _ _ _ _ _).trans ?_
  refine Finset.sum_congr rfl fun j _ => ?_
  have hj : Shape.Reduces.lift reduces_S512x2048_S512 (ix1 r) j = ix2 r j := funext fun a => Fin.ext (by
    match a with
    | 0 => rfl
    | 1 => rfl)
  rw [hj]
  rfl

/-- A row of weights, spread over the tokens. -/
theorem spread_apply (x : FVec Ideal S1x2048 .f32) (r : Fin 512) (k : Fin 2048) :
    broadcastTo S512x2048 x broadcasts_S1x2048_S512x2048 (ix2 r k) = x (ix2 (0 : Fin 1) k) :=
  broadcastTo_apply _ _ _ (ix2 (0 : Fin 1) k) (fun a => by
    match a with
    | 0 => rfl
    | 1 => rfl)

theorem one_row_apply (x : FVec Ideal S1x1x2048 .f32) (k : Fin 2048) :
    shapeCast S1x2048 x shapeCasts_S1x1x2048_S1x2048 (ix2 (0 : Fin 1) k) = x (ix3 (0 : Fin 1) (0 : Fin 1) k) :=
  shapeCast_apply _ _ _ _ (by rw [Shape.rowMajor_val_three, Shape.rowMajor_val_two]; show (0 * 1 + 0) * 2048 + k.val = 0 * 2048 + k.val; omega)

theorem same_row_apply (x : FVec Ideal S1x2048 .f32) (k : Fin 2048) :
    shapeCast S1x2048 x shapeCasts_S1x2048_S1x2048 (ix2 (0 : Fin 1) k) = x (ix2 (0 : Fin 1) k) :=
  shapeCast_apply _ _ _ _ rfl

theorem tokens_apply (x : FVec Ideal S1x512x2048 .f32) (r : Fin 512) (k : Fin 2048) :
    shapeCast S512x2048 x shapeCasts_S1x512x2048_S512x2048 (ix2 r k) = x (ix3 (0 : Fin 1) r k) :=
  shapeCast_apply _ _ _ _ (by rw [Shape.rowMajor_val_three, Shape.rowMajor_val_two]; show (0 * 512 + r.val) * 2048 + k.val = r.val * 2048 + k.val; omega)

/-- The row the products read. -/
theorem normed_apply (x0 : FVec Ideal S1x512x2048 .f32) (x1 : FVec Ideal S1x2048 .f32) (x2 x3 : FVec Ideal S1x1x2048 .f32) (r : Fin 512) (k : Fin 2048) :
    k0_pay2 (F := Ideal) x0 x1 x2 x3 (ix2 r k)
      = normed (fun j => x0 (ix3 (0 : Fin 1) r j)) (fun j => x1 (ix2 (0 : Fin 1) j)) (fun j => x2 (ix3 (0 : Fin 1) (0 : Fin 1) j)) (fun j => x3 (ix3 (0 : Fin 1) (0 : Fin 1) j)) k := by
  unfold k0_pay2 normed
  dsimp only
  refine congrArg₂ (FloatOps.addf (F := Ideal) (φ := .f32)) (congrArg₂ (FloatOps.mulf (F := Ideal) (φ := .f32)) (congrArg₂ (FloatOps.mulf (F := Ideal) (φ := .f32))
    (congrArg₂ (FloatOps.mulf (F := Ideal) (φ := .f32)) (tokens_apply x0 r k) ?_) ?_) ?_) ?_
  · refine (squares_apply _ r k).trans ?_
    simp only [tokens_apply]
  · exact (spread_apply _ r k).trans (same_row_apply x1 k)
  · exact (spread_apply _ r k).trans (congrArg (FloatOps.addf (F := Ideal) (φ := .f32) (FloatOps.ofBits .f32 0x3F800000#32)) (one_row_apply x2 k))
  · exact (spread_apply _ r k).trans (one_row_apply x3 k)

/-! ## The products -/

/-- The entries a point's blocks give: position `p` of the block, column `q` (the gates' columns after the others). -/
def here (x0 : FVec Ideal S1x512x2048 .f32) (x1 : FVec Ideal S1x2048 .f32) (x2 x3 : FVec Ideal S1x1x2048 .f32) (x4 : FVec Ideal S2048x3584 .bf16)
    (x5 : FVec Ideal S2048x128 .bf16) (_b p q : ℕ) : EReal :=
  col (fun j => x0 (ix3 (0 : Fin 1) (⟨p % 512, Nat.mod_lt _ (by norm_num)⟩ : Fin 512) j)) (fun j => x1 (ix2 (0 : Fin 1) j))
    (fun j => x2 (ix3 (0 : Fin 1) (0 : Fin 1) j)) (fun j => x3 (ix3 (0 : Fin 1) (0 : Fin 1) j))
    (fun k => if q < 3584 then x4 (ix2 k (⟨q % 3584, Nat.mod_lt _ (by norm_num)⟩ : Fin 3584))
      else x5 (ix2 k (⟨(q - 3584) % 128, Nat.mod_lt _ (by norm_num)⟩ : Fin 128)))

section Products
variable {x0 : FVec Ideal S1x512x2048 .f32} {x1 : FVec Ideal S1x2048 .f32} {x2 x3 : FVec Ideal S1x1x2048 .f32} {x4 : FVec Ideal S2048x3584 .bf16}
  {x5 : FVec Ideal S2048x128 .bf16}

/-- The rows the products read, entry by entry. -/
def Rows (x0 : FVec Ideal S1x512x2048 .f32) (x1 : FVec Ideal S1x2048 .f32) (x2 x3 : FVec Ideal S1x1x2048 .f32) (v : FVec Ideal S512x2048 .bf16) : Prop :=
  ∀ (r : Fin 512) (k : Fin 2048), (v (ix2 r k) : EReal)
    = normed (fun j => x0 (ix3 (0 : Fin 1) r j)) (fun j => x1 (ix2 (0 : Fin 1) j)) (fun j => x2 (ix3 (0 : Fin 1) (0 : Fin 1) j)) (fun j => x3 (ix3 (0 : Fin 1) (0 : Fin 1) j)) k

theorem here_eq (r : Fin 512) (q : ℕ) (v : FVec Ideal S512x2048 .bf16) (hv : Rows x0 x1 x2 x3 v) (w : Fin 2048 → EReal)
    (hw : ∀ k, w k = if q < 3584 then x4 (ix2 k (⟨q % 3584, Nat.mod_lt _ (by norm_num)⟩ : Fin 3584))
      else x5 (ix2 k (⟨(q - 3584) % 128, Nat.mod_lt _ (by norm_num)⟩ : Fin 128))) :
    (∑ k : Fin 2048, (v (ix2 r k) : EReal) * w k) = here x0 x1 x2 x3 x4 x5 0 r.val q := by
  have hr : (⟨r.val % 512, Nat.mod_lt _ (by norm_num)⟩ : Fin 512) = r := Fin.ext (Nat.mod_eq_of_lt r.isLt)
  unfold here col
  rw [hr]
  exact Finset.sum_congr rfl fun k _ => congrArg₂ (HMul.hMul (α := EReal) (β := EReal) (γ := EReal)) (hv r k) (hw k)

theorem here_main (r : Fin 512) (q : ℕ) (hq : q < 3584) (v : FVec Ideal S512x2048 .bf16) (hv : Rows x0 x1 x2 x3 v) (w : Fin 2048 → EReal)
    (hw : ∀ k, w k = x4 (ix2 k (⟨q, hq⟩ : Fin 3584))) :
    (∑ k : Fin 2048, (v (ix2 r k) : EReal) * w k) = here x0 x1 x2 x3 x4 x5 0 r.val q :=
  here_eq r q v hv w fun k => by
    rw [if_pos hq]
    exact (hw k).trans (congrArg (fun q => x4 (ix2 k q)) (Fin.ext (Nat.mod_eq_of_lt hq).symm))

theorem here_gate (r : Fin 512) (q : Fin 128) (v : FVec Ideal S512x2048 .bf16) (hv : Rows x0 x1 x2 x3 v) (w : Fin 2048 → EReal)
    (hw : ∀ k, w k = x5 (ix2 k q)) :
    (∑ k : Fin 2048, (v (ix2 r k) : EReal) * w k) = here x0 x1 x2 x3 x4 x5 0 r.val (3584 + q.val) :=
  here_eq r _ v hv w fun k => by
    rw [if_neg (by omega)]
    exact (hw k).trans (congrArg (fun q => x5 (ix2 k q)) (Fin.ext (show q.val = (3584 + q.val - 3584) % 128 by rw [Nat.add_sub_cancel_left, Nat.mod_eq_of_lt q.isLt])))

theorem product_1024 (x : FVec Ideal S512x2048 .bf16) (w : FVec Ideal S2048x1024 .bf16) (p : Fin 512) (q : Fin 1024) :
    matmul dot_S512x2048_S2048x1024_S512x1024_1_0_0_1_n_n none x w (constant S512x1024 .f32 0x00000000#32) (ix2 p q)
      = ∑ k : Fin 2048, (x (ix2 p k) : EReal) * w (ix2 k q) := by
  refine (Ideal.matmul_constant_zero_apply _ none _ _ _).trans ?_
  refine Fintype.sum_equiv (contrEquiv1 dot_S512x2048_S2048x1024_S512x1024_1_0_0_1_n_n 2048 rfl rfl) _ _ fun k => ?_
  refine congrArg₂ (HMul.hMul (α := EReal) (β := EReal) (γ := EReal)) (congrArg x (funext fun a => Fin.ext ?_)) (congrArg w (funext fun a => Fin.ext ?_))
  · match a with
    | 0 => rfl
    | 1 => rfl
  · match a with
    | 0 => rfl
    | 1 => rfl

theorem product_512 (x : FVec Ideal S512x2048 .bf16) (w : FVec Ideal S2048x512 .bf16) (p : Fin 512) (q : Fin 512) :
    matmul dot_S512x2048_S2048x512_S512x512_1_0_0_1_n_n none x w (constant S512x512 .f32 0x00000000#32) (ix2 p q)
      = ∑ k : Fin 2048, (x (ix2 p k) : EReal) * w (ix2 k q) := by
  refine (Ideal.matmul_constant_zero_apply _ none _ _ _).trans ?_
  refine Fintype.sum_equiv (contrEquiv1 dot_S512x2048_S2048x512_S512x512_1_0_0_1_n_n 2048 rfl rfl) _ _ fun k => ?_
  refine congrArg₂ (HMul.hMul (α := EReal) (β := EReal) (γ := EReal)) (congrArg x (funext fun a => Fin.ext ?_)) (congrArg w (funext fun a => Fin.ext ?_))
  · match a with
    | 0 => rfl
    | 1 => rfl
  · match a with
    | 0 => rfl
    | 1 => rfl

theorem product_128 (x : FVec Ideal S512x2048 .bf16) (w : FVec Ideal S2048x128 .bf16) (p : Fin 512) (q : Fin 128) :
    matmul dot_S512x2048_S2048x128_S512x128_1_0_0_1_n_n none x w (constant S512x128 .f32 0x00000000#32) (ix2 p q)
      = ∑ k : Fin 2048, (x (ix2 p k) : EReal) * w (ix2 k q) := by
  refine (Ideal.matmul_constant_zero_apply _ none _ _ _).trans ?_
  refine Fintype.sum_equiv (contrEquiv1 dot_S512x2048_S2048x128_S512x128_1_0_0_1_n_n 2048 rfl rfl) _ _ fun k => ?_
  refine congrArg₂ (HMul.hMul (α := EReal) (β := EReal) (γ := EReal)) (congrArg x (funext fun a => Fin.ext ?_)) (congrArg w (funext fun a => Fin.ext ?_))
  · match a with
    | 0 => rfl
    | 1 => rfl
  · match a with
    | 0 => rfl
    | 1 => rfl

end Products

/-! ## What the body loads -/

section Loads
variable (c : Dev nD)

/-- The rows, from the blocks the body loads whole. -/
theorem rows_of (arg2 : Memref sig .tc .vmem S1x512x2048 .f32) (harg2 : arg2.IsWhole) (arg3 : Memref sig .tc .vmem S1x2048 .f32) (harg3 : arg3.IsWhole)
    (arg4 : Memref sig .tc .vmem S1x1x2048 .f32) (harg4 : arg4.IsWhole) (arg5 : Memref sig .tc .vmem S1x1x2048 .f32) (harg5 : arg5.IsWhole)
    (x0 : FVec Ideal S1x512x2048 .f32) (x1 : FVec Ideal S1x2048 .f32) (x2 x3 : FVec Ideal S1x1x2048 .f32) :
    Rows x0 x1 x2 x3 (kernelRun0_A.sl.r (F := Ideal) c arg2 harg2 arg3 harg3 arg4 harg4 arg5 harg5 x0 x1 x2 x3) := by
  intro r k
  unfold kernelRun0_A.sl.r
  refine (normed_apply _ _ _ _ r k).trans ?_
  have h0 : ∀ j : Fin 2048, View.readAt (Elt Ideal) arg2.view (Rect.unit ![0, 0, 0] S1x512x2048.size inb_S1x512x2048_S1x512x2048_0_0_0).toLoadRect (harg2.unread x0) (ix3 (0 : Fin 1) r j) = x0 (ix3 (0 : Fin 1) r j) := fun j => by
    refine (harg2.readAt_unread (Val := Elt Ideal) x0 _ _).trans ?_
    refine congrArg x0 (funext fun a => Fin.ext ?_)
    refine (Rect.idx_unit_val _ _ _ _ a).trans ?_
    match a with
    | 0 => rfl
    | 1 => exact Nat.zero_add _
    | 2 => exact Nat.zero_add _
  have h1 : ∀ j : Fin 2048, View.readAt (Elt Ideal) arg3.view (Rect.unit ![0, 0] S1x2048.size inb_S1x2048_S1x2048_0_0).toLoadRect (harg3.unread x1) (ix2 (0 : Fin 1) j) = x1 (ix2 (0 : Fin 1) j) := fun j => by
    refine (harg3.readAt_unread (Val := Elt Ideal) x1 _ _).trans ?_
    refine congrArg x1 (funext fun a => Fin.ext ?_)
    refine (Rect.idx_unit_val _ _ _ _ a).trans ?_
    match a with
    | 0 => rfl
    | 1 => exact Nat.zero_add _
  have h2 : ∀ j : Fin 2048, View.readAt (Elt Ideal) arg4.view (Rect.unit ![0, 0, 0] S1x1x2048.size inb_S1x1x2048_S1x1x2048_0_0_0).toLoadRect (harg4.unread x2) (ix3 (0 : Fin 1) (0 : Fin 1) j) = x2 (ix3 (0 : Fin 1) (0 : Fin 1) j) := fun j => by
    refine (harg4.readAt_unread (Val := Elt Ideal) x2 _ _).trans ?_
    refine congrArg x2 (funext fun a => Fin.ext ?_)
    refine (Rect.idx_unit_val _ _ _ _ a).trans ?_
    match a with
    | 0 => rfl
    | 1 => rfl
    | 2 => exact Nat.zero_add _
  have h3 : ∀ j : Fin 2048, View.readAt (Elt Ideal) arg5.view (Rect.unit ![0, 0, 0] S1x1x2048.size inb_S1x1x2048_S1x1x2048_0_0_0).toLoadRect (harg5.unread x3) (ix3 (0 : Fin 1) (0 : Fin 1) j) = x3 (ix3 (0 : Fin 1) (0 : Fin 1) j) := fun j => by
    refine (harg5.readAt_unread (Val := Elt Ideal) x3 _ _).trans ?_
    refine congrArg x3 (funext fun a => Fin.ext ?_)
    refine (Rect.idx_unit_val _ _ _ _ a).trans ?_
    match a with
    | 0 => rfl
    | 1 => rfl
    | 2 => exact Nat.zero_add _
  rw [funext h0, funext h1, funext h2, funext h3]

/-- A tile of the weights, loaded from column `o` on. -/
theorem tile_apply (arg6 : Memref sig .tc .vmem S2048x3584 .bf16) (harg6 : arg6.IsWhole) (x4 : FVec Ideal S2048x3584 .bf16) (o n : ℕ)
    (inb : ∀ a, (![0, o] : Fin 2 → ℕ) a + (⟨2, ![2048, n]⟩ : Shape).size a ≤ S2048x3584.size a) (k : Fin 2048) (q : Fin n) (hq : o + q.val < 3584) :
    View.readAt (Elt Ideal) arg6.view (Rect.unit (s := S2048x3584) ![0, o] (⟨2, ![2048, n]⟩ : Shape).size inb).toLoadRect (harg6.unread x4) (ix2 k q) = x4 (ix2 k (⟨o + q.val, hq⟩ : Fin 3584)) := by
  refine (harg6.readAt_unread (Val := Elt Ideal) x4 _ _).trans ?_
  refine congrArg x4 (funext fun a => Fin.ext ?_)
  refine (Rect.idx_unit_val _ _ _ _ a).trans ?_
  match a with
  | 0 => exact Nat.zero_add _
  | 1 => rfl

theorem gates_apply (arg7 : Memref sig .tc .vmem S2048x128 .bf16) (harg7 : arg7.IsWhole) (x5 : FVec Ideal S2048x128 .bf16) (k : Fin 2048) (q : Fin 128) :
    View.readAt (Elt Ideal) arg7.view (Rect.unit ![0, 0] S2048x128.size inb_S2048x128_S2048x128_0_0).toLoadRect (harg7.unread x5) (ix2 k q) = x5 (ix2 k q) := by
  refine (harg7.readAt_unread (Val := Elt Ideal) x5 _ _).trans ?_
  refine congrArg x5 (funext fun a => Fin.ext ?_)
  refine (Rect.idx_unit_val _ _ _ _ a).trans ?_
  match a with
  | 0 => exact Nat.zero_add _
  | 1 => exact Nat.zero_add _

end Loads

end Cert.Kernel3Ideal.Proj

end
-- ==== Proof.InOut.lean ====
/- The blocks a point of the input projection leaves in the eight results' buffers, store by store. -/
module

public import proofs.«01_k».proof.Proof.InBody

@[expose] public section

set_option maxRecDepth 16384

noncomputable section

namespace Cert.Kernel3Ideal.Proj

open Cert.Kernel3Ideal.Gen
open Idealize.ShloMosaic.ValueIdx (ix1 ix2 ix3 ix4 ix5 contrEquiv1)
open Idealize.ShloMosaic hiding ix1 ix2 ix3 ix4 ix5
open Idealize.ShloMosaic.TcCoe Idealize.SL.Sem

theorem idx3 {n k : ℕ} (x : (⟨3, ![1, n, k]⟩ : Shape).Idx) : ∃ (r : Fin n) (d : Fin k), x = ix3 (0 : Fin 1) r d :=
  ⟨x (1 : Fin 3), x (2 : Fin 3), funext fun (a : Fin 3) => by
    match a with
    | 0 => exact Subsingleton.elim (α := Fin 1) _ _
    | 1 => rfl
    | 2 => rfl⟩

theorem idx4 {n k : ℕ} (x : (⟨4, ![1, 1, n, k]⟩ : Shape).Idx) : ∃ (r : Fin n) (d : Fin k), x = ix4 (0 : Fin 1) (0 : Fin 1) r d :=
  ⟨x (2 : Fin 4), x (3 : Fin 4), funext fun (a : Fin 4) => by
    match a with
    | 0 => exact Subsingleton.elim (α := Fin 1) _ _
    | 1 => exact Subsingleton.elim (α := Fin 1) _ _
    | 2 => rfl
    | 3 => rfl⟩

theorem idx5 {n k : ℕ} (x : (⟨5, ![1, 1, 1, n, k]⟩ : Shape).Idx) : ∃ (r : Fin n) (d : Fin k), x = ix5 (0 : Fin 1) (0 : Fin 1) (0 : Fin 1) r d :=
  ⟨x (3 : Fin 5), x (4 : Fin 5), funext fun (a : Fin 5) => by
    match a with
    | 0 => exact Subsingleton.elim (α := Fin 1) _ _
    | 1 => exact Subsingleton.elim (α := Fin 1) _ _
    | 2 => exact Subsingleton.elim (α := Fin 1) _ _
    | 3 => rfl
    | 4 => rfl⟩

section Layout
variable (P : ℕ → ℕ → ℕ → EReal)

/-- `v` holds the columns from `o` on of the block's positions, `Turned` the columns along the first axis, from position
    `s` on. -/
def Cols {n : ℕ} {φ : FTy} (o : ℕ) (v : FVec Ideal ⟨2, ![512, n]⟩ φ) : Prop := ∀ (r : Fin 512) (q : Fin n), (v (ix2 r q) : EReal) = P 0 r.val (o + q.val)
def Turned {n : ℕ} {φ : FTy} (o s : ℕ) (v : FVec Ideal ⟨2, ![128, n]⟩ φ) : Prop := ∀ (a : Fin 128) (r : Fin n), (v (ix2 a r) : EReal) = P 0 (s + r.val) (o + a.val)

variable {P}

theorem cols_slice {o i o' : ℕ} {v : FVec Ideal S512x512 .f32} (hv : Cols P o v) (h : S512x512.Slices ![0, i] S512x128) (ho : o' = o + i) :
    Cols P o' (extractStridedSlice S512x128 ![0, i] v h) := fun r q => by
  subst ho
  have hi : i + 128 ≤ 512 := h.2 1
  refine (extractStridedSlice_apply _ _ _ _ (ix2 r (⟨i + q.val, by have := q.isLt; omega⟩ : Fin 512)) (fun a => by
    match a with
    | 0 => exact (Nat.zero_add _).symm
    | 1 => rfl)).trans ((hv _ _).trans ?_)
  exact congrArg (P 0 r.val) (Nat.add_assoc _ _ _).symm

theorem turned_of_cols {φ : FTy} {o : ℕ} {v : FVec Ideal S512x128 φ} (hv : Cols P o v) :
    Turned P o 0 (transpose S128x512 [1, 0] v transposes_S512x128_p1_0_S128x512) := fun a r => by
  refine (transpose_apply _ _ _ _ (ix2 r a) (fun b => by
    match b with
    | 0 => rfl
    | 1 => rfl)).trans ((hv _ _).trans ?_)
  exact congrArg (fun s => P 0 s (o + a.val)) (Nat.zero_add _).symm

theorem turned_slice {φ : FTy} {n o i : ℕ} {v : FVec Ideal S128x512 φ} (hv : Turned P o 0 v) (h : S128x512.Slices ![0, i] ⟨2, ![128, n]⟩) :
    Turned P o i (extractStridedSlice ⟨2, ![128, n]⟩ ![0, i] v h) := fun a r => by
  have hi : i + n ≤ 512 := h.2 1
  refine (extractStridedSlice_apply _ _ _ _ (ix2 a (⟨i + r.val, by have := r.isLt; omega⟩ : Fin 512)) (fun b => by
    match b with
    | 0 => exact (Nat.zero_add _).symm
    | 1 => rfl)).trans ((hv _ _).trans ?_)
  exact congrArg (fun s => P 0 s (o + a.val)) (Nat.zero_add _)

/-! The blocks of the eight results. -/

def blk0 (y : S1x512x1024.Idx) : EReal := res0 P 0 (y 1).val (y 2).val
def blk1 (y : S1x1024x512.Idx) : EReal := res1 P 0 (y 1).val (y 2).val
def blk2 (y : S1x4x512x128.Idx) : EReal := res2 P 0 (y 1).val (y 2).val (y 3).val
def blk3 (o : ℕ) (y : S1x2x512x256.Idx) : EReal := res3 P o 0 (y 1).val (y 2).val (y 3).val
def blk4 (y : S1x2x2x144x256.Idx) : EReal := res4 P 0 (y 1).val (y 2).val (y 3).val (y 4).val
def blk5 (y : S1x2x512x128.Idx) : EReal := res5 P 0 (y 1).val (y 2).val (y 3).val
def blk6 (y : S1x2x4x144x128.Idx) : EReal := res6 P 0 (y 1).val (y 2).val (y 3).val (y 4).val
def blk7 (y : S1x24x512.Idx) : EReal := res7 P 0 (y 1).val (y 2).val

/-! Each store's payload is its rectangle of the block. -/

theorem piece0 {w : FVec Ideal S1x512x1024 .f32} (hw : ∀ (r : Fin 512) (q : Fin 1024), w (ix3 (0 : Fin 1) r q) = P 0 r.val q.val)
    (inb : ∀ a, (![0, 0, 0] : Fin 3 → ℕ) a + (![1, 512, 1024] : Fin 3 → ℕ) a ≤ S1x512x1024.size a)
    (x : (Rect.unit (s := S1x512x1024) ![0, 0, 0] ![1, 512, 1024] inb).shape.Idx) :
    w x = blk0 (P := P) ((Rect.unit (s := S1x512x1024) ![0, 0, 0] ![1, 512, 1024] inb).emb x) := by
  obtain ⟨r, q, rfl⟩ := idx3 (n := 512) (k := 1024) x
  refine (hw r q).trans ?_
  show P 0 r.val q.val = P 0 (0 + 1 * r.val) (0 + 1 * q.val)
  exact congrArg₂ (P 0) (by omega) (by omega)

theorem piece1 {w : FVec Ideal S1x128x512 .bf16} {o : ℕ} (hw : ∀ (a : Fin 128) (r : Fin 512), w (ix3 (0 : Fin 1) a r) = qscale (P 0 r.val (1024 + o + a.val)))
    (inb : ∀ a, (![0, o, 0] : Fin 3 → ℕ) a + (![1, 128, 512] : Fin 3 → ℕ) a ≤ S1x1024x512.size a)
    (x : (Rect.unit (s := S1x1024x512) ![0, o, 0] ![1, 128, 512] inb).shape.Idx) :
    w x = blk1 (P := P) ((Rect.unit (s := S1x1024x512) ![0, o, 0] ![1, 128, 512] inb).emb x) := by
  obtain ⟨a, r, rfl⟩ := idx3 (n := 128) (k := 512) x
  refine (hw a r).trans ?_
  show qscale (P 0 r.val (1024 + o + a.val)) = qscale (P 0 (0 + 1 * r.val) (1024 + (o + 1 * a.val)))
  exact congrArg qscale (congrArg₂ (P 0) (by omega) (by omega))

theorem piece2 {w : FVec Ideal S1x1x512x128 .f32} {h : ℕ} (hw : ∀ (r : Fin 512) (d : Fin 128), w (ix4 (0 : Fin 1) (0 : Fin 1) r d) = P 0 r.val (2048 + 128 * h + d.val))
    (inb : ∀ a, (![0, h, 0, 0] : Fin 4 → ℕ) a + (![1, 1, 512, 128] : Fin 4 → ℕ) a ≤ S1x4x512x128.size a)
    (x : (Rect.unit (s := S1x4x512x128) ![0, h, 0, 0] ![1, 1, 512, 128] inb).shape.Idx) :
    w x = blk2 (P := P) ((Rect.unit (s := S1x4x512x128) ![0, h, 0, 0] ![1, 1, 512, 128] inb).emb x) := by
  obtain ⟨r, d, rfl⟩ := idx4 (n := 512) (k := 128) x
  refine (hw r d).trans ?_
  show P 0 r.val (2048 + 128 * h + d.val) = P 0 (0 + 1 * r.val) (2048 + 128 * (h + 1 * 0) + (0 + 1 * d.val))
  exact congrArg₂ (P 0) (by omega) (by omega)

theorem piece3_keys {o : ℕ} {w : FVec Ideal S1x1x512x128 .bf16} {h : ℕ}
    (hw : ∀ (r : Fin 512) (d : Fin 128), w (ix4 (0 : Fin 1) (0 : Fin 1) r d) = P 0 r.val (2560 + 128 * h + d.val))
    (inb : ∀ a, (![0, h, 0, 0] : Fin 4 → ℕ) a + (![1, 1, 512, 128] : Fin 4 → ℕ) a ≤ S1x2x512x256.size a)
    (x : (Rect.unit (s := S1x2x512x256) ![0, h, 0, 0] ![1, 1, 512, 128] inb).shape.Idx) :
    w x = blk3 (P := P) o ((Rect.unit (s := S1x2x512x256) ![0, h, 0, 0] ![1, 1, 512, 128] inb).emb x) := by
  obtain ⟨r, d, rfl⟩ := idx4 (n := 512) (k := 128) x
  refine (hw r d).trans ?_
  show _ = if 0 + 1 * d.val < 128 then P 0 (0 + 1 * r.val) (2560 + 128 * (h + 1 * 0) + (0 + 1 * d.val)) else mark (o + (0 + 1 * r.val)) (0 + 1 * d.val - 128)
  rw [if_pos (by omega)]
  exact congrArg₂ (P 0) (by omega) (by omega)

theorem piece3_marks {o : ℕ} {w : FVec Ideal S1x1x512x128 .bf16} {h : ℕ}
    (hw : ∀ (r : Fin 512) (d : Fin 128), w (ix4 (0 : Fin 1) (0 : Fin 1) r d) = mark (o + r.val) d.val)
    (inb : ∀ a, (![0, h, 0, 128] : Fin 4 → ℕ) a + (![1, 1, 512, 128] : Fin 4 → ℕ) a ≤ S1x2x512x256.size a)
    (x : (Rect.unit (s := S1x2x512x256) ![0, h, 0, 128] ![1, 1, 512, 128] inb).shape.Idx) :
    w x = blk3 (P := P) o ((Rect.unit (s := S1x2x512x256) ![0, h, 0, 128] ![1, 1, 512, 128] inb).emb x) := by
  obtain ⟨r, d, rfl⟩ := idx4 (n := 512) (k := 128) x
  refine (hw r d).trans ?_
  show _ = if 128 + 1 * d.val < 128 then P 0 (0 + 1 * r.val) (2560 + 128 * (h + 1 * 0) + (128 + 1 * d.val)) else mark (o + (0 + 1 * r.val)) (128 + 1 * d.val - 128)
  rw [if_neg (by omega)]
  exact congrArg₂ mark (by omega) (by omega)

theorem piece4_values {w : FVec Ideal S1x1x1x128x256 .bf16} {h k : ℕ}
    (hw : ∀ (a : Fin 128) (r : Fin 256), w (ix5 (0 : Fin 1) (0 : Fin 1) (0 : Fin 1) a r) = P 0 (256 * k + r.val) (2816 + 128 * h + a.val))
    (inb : ∀ a, (![0, h, k, 0, 0] : Fin 5 → ℕ) a + (![1, 1, 1, 128, 256] : Fin 5 → ℕ) a ≤ S1x2x2x144x256.size a)
    (x : (Rect.unit (s := S1x2x2x144x256) ![0, h, k, 0, 0] ![1, 1, 1, 128, 256] inb).shape.Idx) :
    w x = blk4 (P := P) ((Rect.unit (s := S1x2x2x144x256) ![0, h, k, 0, 0] ![1, 1, 1, 128, 256] inb).emb x) := by
  obtain ⟨a, r, rfl⟩ := idx5 (n := 128) (k := 256) x
  refine (hw a r).trans ?_
  show _ = if 0 + 1 * a.val < 128 then P 0 (256 * (k + 1 * 0) + (0 + 1 * r.val)) (2816 + 128 * (h + 1 * 0) + (0 + 1 * a.val)) else one
  rw [if_pos (by omega)]
  exact congrArg₂ (P 0) (by omega) (by omega)

theorem piece4_ones {w : FVec Ideal S1x1x1x16x256 .bf16} {h k : ℕ} (hw : ∀ x, w x = one)
    (inb : ∀ a, (![0, h, k, 128, 0] : Fin 5 → ℕ) a + (![1, 1, 1, 16, 256] : Fin 5 → ℕ) a ≤ S1x2x2x144x256.size a)
    (x : (Rect.unit (s := S1x2x2x144x256) ![0, h, k, 128, 0] ![1, 1, 1, 16, 256] inb).shape.Idx) :
    w x = blk4 (P := P) ((Rect.unit (s := S1x2x2x144x256) ![0, h, k, 128, 0] ![1, 1, 1, 16, 256] inb).emb x) := by
  obtain ⟨a, r, rfl⟩ := idx5 (n := 16) (k := 256) x
  refine (hw _).trans ?_
  show _ = if 128 + 1 * a.val < 128 then P 0 (256 * (k + 1 * 0) + (0 + 1 * r.val)) (2816 + 128 * (h + 1 * 0) + (128 + 1 * a.val)) else one
  rw [if_neg (by omega)]

theorem piece5 {w : FVec Ideal S1x1x512x128 .bf16} {h : ℕ} (hw : ∀ (r : Fin 512) (d : Fin 128), w (ix4 (0 : Fin 1) (0 : Fin 1) r d) = P 0 r.val (3072 + 128 * h + d.val))
    (inb : ∀ a, (![0, h, 0, 0] : Fin 4 → ℕ) a + (![1, 1, 512, 128] : Fin 4 → ℕ) a ≤ S1x2x512x128.size a)
    (x : (Rect.unit (s := S1x2x512x128) ![0, h, 0, 0] ![1, 1, 512, 128] inb).shape.Idx) :
    w x = blk5 (P := P) ((Rect.unit (s := S1x2x512x128) ![0, h, 0, 0] ![1, 1, 512, 128] inb).emb x) := by
  obtain ⟨r, d, rfl⟩ := idx4 (n := 512) (k := 128) x
  refine (hw r d).trans ?_
  show P 0 r.val (3072 + 128 * h + d.val) = P 0 (0 + 1 * r.val) (3072 + 128 * (h + 1 * 0) + (0 + 1 * d.val))
  exact congrArg₂ (P 0) (by omega) (by omega)

theorem piece6_values {w : FVec Ideal S1x1x1x128x128 .bf16} {h k : ℕ}
    (hw : ∀ (a : Fin 128) (r : Fin 128), w (ix5 (0 : Fin 1) (0 : Fin 1) (0 : Fin 1) a r) = P 0 (128 * k + r.val) (3328 + 128 * h + a.val))
    (inb : ∀ a, (![0, h, k, 0, 0] : Fin 5 → ℕ) a + (![1, 1, 1, 128, 128] : Fin 5 → ℕ) a ≤ S1x2x4x144x128.size a)
    (x : (Rect.unit (s := S1x2x4x144x128) ![0, h, k, 0, 0] ![1, 1, 1, 128, 128] inb).shape.Idx) :
    w x = blk6 (P := P) ((Rect.unit (s := S1x2x4x144x128) ![0, h, k, 0, 0] ![1, 1, 1, 128, 128] inb).emb x) := by
  obtain ⟨a, r, rfl⟩ := idx5 (n := 128) (k := 128) x
  refine (hw a r).trans ?_
  show _ = if 0 + 1 * a.val < 128 then P 0 (128 * (k + 1 * 0) + (0 + 1 * r.val)) (3328 + 128 * (h + 1 * 0) + (0 + 1 * a.val)) else one
  rw [if_pos (by omega)]
  exact congrArg₂ (P 0) (by omega) (by omega)

theorem piece6_ones {w : FVec Ideal S1x1x1x16x128 .bf16} {h k : ℕ} (hw : ∀ x, w x = one)
    (inb : ∀ a, (![0, h, k, 128, 0] : Fin 5 → ℕ) a + (![1, 1, 1, 16, 128] : Fin 5 → ℕ) a ≤ S1x2x4x144x128.size a)
    (x : (Rect.unit (s := S1x2x4x144x128) ![0, h, k, 128, 0] ![1, 1, 1, 16, 128] inb).shape.Idx) :
    w x = blk6 (P := P) ((Rect.unit (s := S1x2x4x144x128) ![0, h, k, 128, 0] ![1, 1, 1, 16, 128] inb).emb x) := by
  obtain ⟨a, r, rfl⟩ := idx5 (n := 16) (k := 128) x
  refine (hw _).trans ?_
  show _ = if 128 + 1 * a.val < 128 then P 0 (128 * (k + 1 * 0) + (0 + 1 * r.val)) (3328 + 128 * (h + 1 * 0) + (128 + 1 * a.val)) else one
  rw [if_neg (by omega)]

theorem piece7 {w : FVec Ideal S1x24x512 .f32} (hw : ∀ (e : Fin 24) (r : Fin 512), w (ix3 (0 : Fin 1) e r) = FloatOps.logistic (F := Ideal) (φ := .f32) (P 0 r.val (3584 + e.val)))
    (inb : ∀ a, (![0, 0, 0] : Fin 3 → ℕ) a + (![1, 24, 512] : Fin 3 → ℕ) a ≤ S1x24x512.size a)
    (x : (Rect.unit (s := S1x24x512) ![0, 0, 0] ![1, 24, 512] inb).shape.Idx) :
    w x = blk7 (P := P) ((Rect.unit (s := S1x24x512) ![0, 0, 0] ![1, 24, 512] inb).emb x) := by
  obtain ⟨e, r, rfl⟩ := idx3 (n := 24) (k := 512) x
  refine (hw e r).trans ?_
  show FloatOps.logistic (F := Ideal) (φ := .f32) (P 0 r.val (3584 + e.val)) = FloatOps.logistic (F := Ideal) (φ := .f32) (P 0 (0 + 1 * r.val) (3584 + (0 + 1 * e.val)))
  exact congrArg (FloatOps.logistic (F := Ideal) (φ := .f32)) (congrArg₂ (P 0) (by omega) (by omega))

/-! The casts that add axes of one. -/

theorem cast3_apply {α : Type} {n k : ℕ} (v : (⟨2, ![n, k]⟩ : Shape).Idx → α) (h : (⟨2, ![n, k]⟩ : Shape).ShapeCasts ⟨3, ![1, n, k]⟩) (r : Fin n) (d : Fin k) :
    shapeCast ⟨3, ![1, n, k]⟩ v h (ix3 (0 : Fin 1) r d) = v (ix2 r d) :=
  shapeCast_apply _ _ _ _ (by rw [Shape.rowMajor_val_two, Shape.rowMajor_val_three]; show r.val * k + d.val = (0 * n + r.val) * k + d.val; rw [Nat.zero_mul, Nat.zero_add])

theorem cast4_apply {α : Type} {n k : ℕ} (v : (⟨2, ![n, k]⟩ : Shape).Idx → α) (h : (⟨2, ![n, k]⟩ : Shape).ShapeCasts ⟨4, ![1, 1, n, k]⟩) (r : Fin n) (d : Fin k) :
    shapeCast ⟨4, ![1, 1, n, k]⟩ v h (ix4 (0 : Fin 1) (0 : Fin 1) r d) = v (ix2 r d) :=
  shapeCast_apply _ _ _ _ (by rw [Shape.rowMajor_val_two, Shape.rowMajor_val_four]; show r.val * k + d.val = ((0 * 1 + 0) * n + r.val) * k + d.val; rw [Nat.zero_mul, Nat.zero_add])

theorem cast5_apply {α : Type} {n k : ℕ} (v : (⟨2, ![n, k]⟩ : Shape).Idx → α) (h : (⟨2, ![n, k]⟩ : Shape).ShapeCasts ⟨5, ![1, 1, 1, n, k]⟩) (r : Fin n) (d : Fin k) :
    shapeCast ⟨5, ![1, 1, 1, n, k]⟩ v h (ix5 (0 : Fin 1) (0 : Fin 1) (0 : Fin 1) r d) = v (ix2 r d) :=
  shapeCast_apply _ _ _ _ (by rw [Shape.rowMajor_val_two, Shape.rowMajor_val_five]; show r.val * k + d.val = (((0 * 1 + 0) * 1 + 0) * n + r.val) * k + d.val; rw [Nat.zero_mul, Nat.zero_add])

/-! The payloads, from the columns they hold. -/

theorem whole_row {v : FVec Ideal S512x128 .f32} {o : ℕ} (hv : Cols P o v) (r : Fin 512) (d : Fin 128) :
    k0_pay33 v (ix4 (0 : Fin 1) (0 : Fin 1) r d) = P 0 r.val (o + d.val) := (cast4_apply _ _ r d).trans (hv r d)

theorem part4 {φ : FTy} {v : FVec Ideal S128x256 φ} {o s : ℕ} (hv : Turned P o s v) (h : S128x256.ShapeCasts S1x1x1x128x256) (a : Fin 128) (r : Fin 256) :
    (shapeCast S1x1x1x128x256 v h (ix5 (0 : Fin 1) (0 : Fin 1) (0 : Fin 1) a r) : EReal) = P 0 (s + r.val) (o + a.val) := (cast5_apply _ _ a r).trans (hv a r)

theorem part6 {φ : FTy} {v : FVec Ideal S128x128 φ} {o s : ℕ} (hv : Turned P o s v) (h : S128x128.ShapeCasts S1x1x1x128x128) (a : Fin 128) (r : Fin 128) :
    (shapeCast S1x1x1x128x128 v h (ix5 (0 : Fin 1) (0 : Fin 1) (0 : Fin 1) a r) : EReal) = P 0 (s + r.val) (o + a.val) := (cast5_apply _ _ a r).trans (hv a r)

theorem ones4 (x : S1x1x1x16x256.Idx) : k0_pay38 (F := Ideal) x = one := rfl
theorem ones6 (x : S1x1x1x16x128.Idx) : k0_pay45 (F := Ideal) x = one := rfl

theorem turn_apply {α : Type} (v : S512x128.Idx → α) (a : Fin 128) (r : Fin 512) :
    transpose S128x512 [1, 0] v transposes_S512x128_p1_0_S128x512 (ix2 a r) = v (ix2 r a) :=
  transpose_apply _ _ _ _ (ix2 r a) (fun b => by
    match b with
    | 0 => rfl
    | 1 => rfl)

/-- A query's columns, scaled and turned. -/
theorem query {v : FVec Ideal S512x512 .f32} {o i o' : ℕ} (hv : Cols P o v) (h : S512x512.Slices ![0, i] S512x128) (ho : o' = o + i) (a : Fin 128) (r : Fin 512) :
    shapeCast S1x128x512 (truncf .bf16 (transpose S128x512 [1, 0] (mulf (extractStridedSlice S512x128 ![0, i] v h) (broadcast S512x128 (Scalar.ofBits (F := Ideal) .f32 0x3E0293EE#32))) transposes_S512x128_p1_0_S128x512) bitsLt_bf16_f32) shapeCasts_S128x512_S1x128x512 (ix3 (0 : Fin 1) a r)
      = qscale (P 0 r.val (o' + a.val)) := by
  refine (cast3_apply _ _ a r).trans ?_
  refine (turn_apply (mulf (extractStridedSlice S512x128 ![0, i] v h) (broadcast S512x128 (Scalar.ofBits (F := Ideal) .f32 0x3E0293EE#32))) a r).trans ?_
  exact congrArg qscale (cols_slice hv h ho r a)

/-- The gates: the first rows of the turned columns, through the logistic. -/
theorem gates {v : FVec Ideal S512x128 .f32} (hv : Cols P 3584 v) (e : Fin 24) (r : Fin 512) :
    k0_pay1 v (ix3 (0 : Fin 1) e r) = FloatOps.logistic (F := Ideal) (φ := .f32) (P 0 r.val (3584 + e.val)) := by
  show shapeCast S1x24x512 (extractStridedSlice S24x512 ![0, 0] (transpose S128x512 [1, 0] (logistic v) transposes_S512x128_p1_0_S128x512) slices_S128x512_o0_0_S24x512) shapeCasts_S24x512_S1x24x512 (ix3 (0 : Fin 1) e r) = _
  refine (cast3_apply _ _ e r).trans ?_
  refine (extractStridedSlice_apply _ _ _ _ (ix2 (⟨e.val, by have := e.isLt; omega⟩ : Fin 128) r) (fun b => by
    match b with
    | 0 => exact (Nat.zero_add _).symm
    | 1 => exact (Nat.zero_add _).symm)).trans ?_
  refine (turn_apply (logistic v) _ r).trans ?_
  exact congrArg (FloatOps.logistic (F := Ideal) (φ := .f32)) (hv r _)

/-! The marks: one where the lane is the position's block of 64 among 128. -/

def blockWord (t : BitVec 32) : BitVec 32 :=
  IntOp.andi (Scalar.select (IntOp.andi (IntOp.cmpi .ne (IntOp.subi ((IntOp.cmpi .sgt t 0#32).setWidth 32) ((IntOp.cmpi .slt t 0#32).setWidth 32))
      (Scalar.subi (Scalar.extui (Scalar.cmpi .sgt 64#32 0#32)) (Scalar.extui (Scalar.cmpi .slt 64#32 0#32))))
    (IntOp.cmpi .ne (IntOp.remsi .vector t 64#32) 0#32)) (IntOp.subi (IntOp.divsi .vector t 64#32) 1#32) (IntOp.divsi .vector t 64#32)) 127#32

theorem blockWord_table : ∀ a b : Fin 128, blockWord (BitVec.ofNat 32 (128 * a.val + b.val)) = BitVec.ofNat 32 ((128 * a.val + b.val) / 64 % 128) := by
  decide +kernel

theorem blockWord_apply {t : ℕ} (ht : t < 16384) : blockWord (BitVec.ofNat 32 t) = BitVec.ofNat 32 (t / 64 % 128) := by
  have h := blockWord_table ⟨t / 128, by omega⟩ ⟨t % 128, by omega⟩
  have e : 128 * (t / 128) + t % 128 = t := Nat.div_add_mod t 128
  have h' : blockWord (BitVec.ofNat 32 (128 * (t / 128) + t % 128)) = BitVec.ofNat 32 ((128 * (t / 128) + t % 128) / 64 % 128) := h
  rwa [e] at h'

theorem lane_apply (r : Fin 512) (d : Fin 128) : iota .tc S512x128 32 [1] iota_S512x128_d1_w32 (ix2 r d) = BitVec.ofNat 32 d.val :=
  congrArg (BitVec.ofNat 32) (show 0 * 128 + d.val = d.val by omega)

theorem row_apply (r : Fin 512) (d : Fin 128) : iota .tc S512x128 32 [0] iota_S512x128_d0_w32 (ix2 r d) = BitVec.ofNat 32 r.val :=
  congrArg (BitVec.ofNat 32) (show 0 * 512 + r.val = r.val by omega)

theorem place_apply (n : ℕ) (r : Fin 512) (d : Fin 128) : k0_pay31 (BitVec.ofNat 32 n) (ix2 r d) = BitVec.ofNat 32 (512 * n + r.val) := by
  show BitVec.ofNat 32 n * 512#32 + iota .tc S512x128 32 [0] iota_S512x128_d0_w32 (ix2 r d) = _
  rw [row_apply, BitVec.ofNat_add, BitVec.ofNat_mul, BitVec.mul_comm]

theorem pick_eq (x y : BitVec 32) (a b : EReal) : Scalar.select (IntOp.cmpi .eq x y) a b = if x = y then a else b := by
  show (if BitVec.ofBool (x == y) = 1#1 then a else b) = _
  by_cases h : x = y
  · rw [if_pos h, beq_iff_eq.mpr h]; exact if_pos rfl
  · rw [if_neg h, beq_eq_false_iff_ne.mpr h]; exact if_neg (by decide)

theorem marks_apply (n : ℕ) (hn : n < 32) (r : Fin 512) (d : Fin 128) :
    k0_pay32 (F := Ideal) (k0_pay31 (BitVec.ofNat 32 n)) (ix2 r d) = mark (512 * n + r.val) d.val := by
  show Scalar.select (IntOp.cmpi .eq (iota .tc S512x128 32 [1] iota_S512x128_d1_w32 (ix2 r d)) (blockWord (k0_pay31 (BitVec.ofNat 32 n) (ix2 r d))))
    (FloatOps.ofBits (F := Ideal) .f32 0x3F800000#32) (FloatOps.ofBits (F := Ideal) .f32 0x00000000#32) = _
  rw [lane_apply, place_apply, blockWord_apply (by have := r.isLt; omega)]
  exact pick_eq _ _ _ _

end Layout

end Cert.Kernel3Ideal.Proj

end
-- ==== Proof.InStores.lean ====
/- The eight blocks a point of the input projection leaves. -/
module

public import proofs.«01_k».proof.Proof.InOut

@[expose] public section

set_option maxRecDepth 16384

noncomputable section

namespace Cert.Kernel3Ideal.Proj

open Cert.Kernel3Ideal.Gen
open Idealize.ShloMosaic.ValueIdx (ix1 ix2 ix3 ix4 ix5 contrEquiv1)
open Idealize.ShloMosaic hiding ix1 ix2 ix3 ix4 ix5
open Idealize.ShloMosaic.TcCoe Idealize.SL.Sem

/-! ## The tables the stores read -/

section Tables
variable (c : Dev nD)
  (arg2 : Memref sig .tc .vmem S1x512x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S2048x3584 .bf16) (harg6 : arg6.IsWhole) (arg7 : Memref sig .tc .vmem S2048x128 .bf16) (harg7 : arg7.IsWhole)
  (x0 : FVec Ideal S1x512x2048 .f32) (x1 : FVec Ideal S1x2048 .f32) (x2 x3 : FVec Ideal S1x1x2048 .f32) (x4 : FVec Ideal S2048x3584 .bf16)
  (x5 : FVec Ideal S2048x128 .bf16)

/-- A product with a tile of 512 columns. -/
theorem tile_cols {v : FVec Ideal S512x2048 .bf16} (hv : Rows x0 x1 x2 x3 v) {o : ℕ}
    (inb : ∀ a, (![0, o] : Fin 2 → ℕ) a + S2048x512.size a ≤ S2048x3584.size a) :
    Cols (here x0 x1 x2 x3 x4 x5) o (matmul dot_S512x2048_S2048x512_S512x512_1_0_0_1_n_n none v
      (shapeCast S2048x512 (View.readAt (Elt Ideal) arg6.view (Rect.unit (s := S2048x3584) ![0, o] S2048x512.size inb).toLoadRect (harg6.unread x4) : FVec Ideal S2048x512 .bf16) shapeCasts_S2048x512_S2048x512 : FVec Ideal S2048x512 .bf16)
      (constant S512x512 .f32 0x00000000#32)) := fun r q => by
  have ho : o + 512 ≤ 3584 := inb 1
  have hq : o + q.val < 3584 := by have := q.isLt; omega
  refine (product_512 _ _ r q).trans (here_main (x5 := x5) r (o + q.val) hq v hv _ fun k => ?_)
  exact (shapeCast_apply _ _ (ix2 k q) (ix2 k q) rfl).trans (tile_apply arg6 harg6 x4 o 512 inb k q hq)

theorem r_3_holds : Cols (here x0 x1 x2 x3 x4 x5) 2048 (kernelRun0_A.sl.r_3 (F := Ideal) c arg2 harg2 arg3 harg3 arg4 harg4 arg5 harg5 arg6 harg6 x0 x1 x2 x3 x4) :=
  tile_cols arg6 harg6 x0 x1 x2 x3 x4 x5 (rows_of c arg2 harg2 arg3 harg3 arg4 harg4 arg5 harg5 x0 x1 x2 x3) _

theorem r_4_holds : Cols (here x0 x1 x2 x3 x4 x5) 2048 (kernelRun0_A.sl.r_4 (F := Ideal) c arg2 harg2 arg3 harg3 arg4 harg4 arg5 harg5 arg6 harg6 x0 x1 x2 x3 x4) :=
  cols_slice (tile_cols arg6 harg6 x0 x1 x2 x3 x4 x5 (rows_of c arg2 harg2 arg3 harg3 arg4 harg4 arg5 harg5 x0 x1 x2 x3) _) slices_S512x512_o0_0_S512x128 rfl

theorem r_5_holds : Cols (here x0 x1 x2 x3 x4 x5) 2560 (kernelRun0_A.sl.r_5 (F := Ideal) c arg2 harg2 arg3 harg3 arg4 harg4 arg5 harg5 arg6 harg6 x0 x1 x2 x3 x4) :=
  cols_slice (tile_cols arg6 harg6 x0 x1 x2 x3 x4 x5 (rows_of c arg2 harg2 arg3 harg3 arg4 harg4 arg5 harg5 x0 x1 x2 x3) _) slices_S512x512_o0_0_S512x128 rfl

theorem r_6_holds : Cols (here x0 x1 x2 x3 x4 x5) 2688 (kernelRun0_A.sl.r_6 (F := Ideal) c arg2 harg2 arg3 harg3 arg4 harg4 arg5 harg5 arg6 harg6 x0 x1 x2 x3 x4) :=
  cols_slice (tile_cols arg6 harg6 x0 x1 x2 x3 x4 x5 (rows_of c arg2 harg2 arg3 harg3 arg4 harg4 arg5 harg5 x0 x1 x2 x3) _) slices_S512x512_o0_128_S512x128 rfl

theorem r_7_holds : Cols (here x0 x1 x2 x3 x4 x5) 2816 (kernelRun0_A.sl.r_7 (F := Ideal) c arg2 harg2 arg3 harg3 arg4 harg4 arg5 harg5 arg6 harg6 x0 x1 x2 x3 x4) :=
  cols_slice (tile_cols arg6 harg6 x0 x1 x2 x3 x4 x5 (rows_of c arg2 harg2 arg3 harg3 arg4 harg4 arg5 harg5 x0 x1 x2 x3) _) slices_S512x512_o0_256_S512x128 rfl

theorem r_8_holds : Cols (here x0 x1 x2 x3 x4 x5) 2944 (kernelRun0_A.sl.r_8 (F := Ideal) c arg2 harg2 arg3 harg3 arg4 harg4 arg5 harg5 arg6 harg6 x0 x1 x2 x3 x4) :=
  cols_slice (tile_cols arg6 harg6 x0 x1 x2 x3 x4 x5 (rows_of c arg2 harg2 arg3 harg3 arg4 harg4 arg5 harg5 x0 x1 x2 x3) _) slices_S512x512_o0_384_S512x128 rfl

theorem r_9_holds : Cols (here x0 x1 x2 x3 x4 x5) 3072 (kernelRun0_A.sl.r_9 (F := Ideal) c arg2 harg2 arg3 harg3 arg4 harg4 arg5 harg5 arg6 harg6 x0 x1 x2 x3 x4) :=
  cols_slice (tile_cols arg6 harg6 x0 x1 x2 x3 x4 x5 (rows_of c arg2 harg2 arg3 harg3 arg4 harg4 arg5 harg5 x0 x1 x2 x3) _) slices_S512x512_o0_0_S512x128 rfl

theorem r_10_holds : Cols (here x0 x1 x2 x3 x4 x5) 3200 (kernelRun0_A.sl.r_10 (F := Ideal) c arg2 harg2 arg3 harg3 arg4 harg4 arg5 harg5 arg6 harg6 x0 x1 x2 x3 x4) :=
  cols_slice (tile_cols arg6 harg6 x0 x1 x2 x3 x4 x5 (rows_of c arg2 harg2 arg3 harg3 arg4 harg4 arg5 harg5 x0 x1 x2 x3) _) slices_S512x512_o0_128_S512x128 rfl

theorem r_11_holds : Cols (here x0 x1 x2 x3 x4 x5) 3328 (kernelRun0_A.sl.r_11 (F := Ideal) c arg2 harg2 arg3 harg3 arg4 harg4 arg5 harg5 arg6 harg6 x0 x1 x2 x3 x4) :=
  cols_slice (tile_cols arg6 harg6 x0 x1 x2 x3 x4 x5 (rows_of c arg2 harg2 arg3 harg3 arg4 harg4 arg5 harg5 x0 x1 x2 x3) _) slices_S512x512_o0_256_S512x128 rfl

theorem r_12_holds : Cols (here x0 x1 x2 x3 x4 x5) 3456 (kernelRun0_A.sl.r_12 (F := Ideal) c arg2 harg2 arg3 harg3 arg4 harg4 arg5 harg5 arg6 harg6 x0 x1 x2 x3 x4) :=
  cols_slice (tile_cols arg6 harg6 x0 x1 x2 x3 x4 x5 (rows_of c arg2 harg2 arg3 harg3 arg4 harg4 arg5 harg5 x0 x1 x2 x3) _) slices_S512x512_o0_384_S512x128 rfl

theorem r_15_holds : Turned (here x0 x1 x2 x3 x4 x5) 2816 0 (kernelRun0_A.sl.r_15 (F := Ideal) c arg2 harg2 arg3 harg3 arg4 harg4 arg5 harg5 arg6 harg6 x0 x1 x2 x3 x4) :=
  turned_of_cols (r_7_holds c arg2 harg2 arg3 harg3 arg4 harg4 arg5 harg5 arg6 harg6 x0 x1 x2 x3 x4 x5)

theorem r_19_holds : Turned (here x0 x1 x2 x3 x4 x5) 2944 256 (kernelRun0_A.sl.r_19 (F := Ideal) c arg2 harg2 arg3 harg3 arg4 harg4 arg5 harg5 arg6 harg6 x0 x1 x2 x3 x4) :=
  turned_slice (φ := .bf16) (turned_of_cols (r_8_holds c arg2 harg2 arg3 harg3 arg4 harg4 arg5 harg5 arg6 harg6 x0 x1 x2 x3 x4 x5)) slices_S128x512_o0_256_S128x256

theorem r_16_holds : Turned (here x0 x1 x2 x3 x4 x5) 3328 0 (kernelRun0_A.sl.r_16 (F := Ideal) c arg2 harg2 arg3 harg3 arg4 harg4 arg5 harg5 arg6 harg6 x0 x1 x2 x3 x4) :=
  turned_of_cols (r_11_holds c arg2 harg2 arg3 harg3 arg4 harg4 arg5 harg5 arg6 harg6 x0 x1 x2 x3 x4 x5)

theorem r_17_holds : Turned (here x0 x1 x2 x3 x4 x5) 3328 0 (kernelRun0_A.sl.r_17 (F := Ideal) c arg2 harg2 arg3 harg3 arg4 harg4 arg5 harg5 arg6 harg6 x0 x1 x2 x3 x4) :=
  turned_slice (φ := .bf16) (turned_of_cols (r_11_holds c arg2 harg2 arg3 harg3 arg4 harg4 arg5 harg5 arg6 harg6 x0 x1 x2 x3 x4 x5)) slices_S128x512_o0_0_S128x128

theorem r_18_holds : Turned (here x0 x1 x2 x3 x4 x5) 3328 384 (kernelRun0_A.sl.r_18 (F := Ideal) c arg2 harg2 arg3 harg3 arg4 harg4 arg5 harg5 arg6 harg6 x0 x1 x2 x3 x4) :=
  turned_slice (φ := .bf16) (r_16_holds c arg2 harg2 arg3 harg3 arg4 harg4 arg5 harg5 arg6 harg6 x0 x1 x2 x3 x4 x5) slices_S128x512_o0_384_S128x128

theorem r_20_holds : Turned (here x0 x1 x2 x3 x4 x5) 3456 0 (kernelRun0_A.sl.r_20 (F := Ideal) c arg2 harg2 arg3 harg3 arg4 harg4 arg5 harg5 arg6 harg6 x0 x1 x2 x3 x4) :=
  turned_of_cols (r_12_holds c arg2 harg2 arg3 harg3 arg4 harg4 arg5 harg5 arg6 harg6 x0 x1 x2 x3 x4 x5)

theorem r_22_holds : Cols (here x0 x1 x2 x3 x4 x5) 3584 (kernelRun0_A.sl.r_22 (F := Ideal) c arg2 harg2 arg3 harg3 arg4 harg4 arg5 harg5 arg7 harg7 x0 x1 x2 x3 x5) := fun r q => by
  refine (product_128 _ _ r q).trans (here_gate r q _ (rows_of c arg2 harg2 arg3 harg3 arg4 harg4 arg5 harg5 x0 x1 x2 x3) _ fun k => ?_)
  exact (shapeCast_apply _ _ (ix2 k q) (ix2 k q) rfl).trans (gates_apply arg7 harg7 x5 k q)

include c in
theorem first_holds (r : Fin 512) (q : Fin 1024) :
    k0_pay3 (View.readAt (Elt Ideal) arg2.view (Rect.unit ![0, 0, 0] S1x512x2048.size inb_S1x512x2048_S1x512x2048_0_0_0).toLoadRect (harg2.unread x0))
      (View.readAt (Elt Ideal) arg3.view (Rect.unit ![0, 0] S1x2048.size inb_S1x2048_S1x2048_0_0).toLoadRect (harg3.unread x1))
      (View.readAt (Elt Ideal) arg4.view (Rect.unit ![0, 0, 0] S1x1x2048.size inb_S1x1x2048_S1x1x2048_0_0_0).toLoadRect (harg4.unread x2))
      (View.readAt (Elt Ideal) arg5.view (Rect.unit ![0, 0, 0] S1x1x2048.size inb_S1x1x2048_S1x1x2048_0_0_0).toLoadRect (harg5.unread x3))
      (View.readAt (Elt Ideal) arg6.view (Rect.unit (s := S2048x3584) ![0, 0] S2048x1024.size inb_S2048x3584_S2048x1024_0_0).toLoadRect (harg6.unread x4)) (ix3 (0 : Fin 1) r q)
      = here x0 x1 x2 x3 x4 x5 0 r.val q.val := by
  have hq : 0 + q.val < 3584 := by have := q.isLt; omega
  refine (cast3_apply _ _ r q).trans ((product_1024 _ _ r q).trans ((here_main (x5 := x5) r (0 + q.val) hq _ (rows_of c arg2 harg2 arg3 harg3 arg4 harg4 arg5 harg5 x0 x1 x2 x3) _ fun k => ?_).trans (congrArg _ (Nat.zero_add _))))
  exact (shapeCast_apply _ _ (ix2 k q) (ix2 k q) rfl).trans (tile_apply arg6 harg6 x4 0 1024 inb_S2048x3584_S2048x1024_0_0 k q hq)

end Tables

/-! ## The blocks -/

section Blocks
variable (m : (ℓ : Loc nD τ sig) → Buf (Elt Ideal) ℓ)

/-- The entries of a point's blocks. -/
def at_ (c : Dev nD) (t : Fin cfg0.N) : ℕ → ℕ → ℕ → EReal :=
  here (iblk m c 0 t) (iblk m c 1 t) (iblk m c 2 t) (iblk m c 3 t) (iblk m c 4 t) (iblk m c 5 t)

theorem out_6 (c : Dev nD) (t : Fin cfg0.N) : (outsAt0 m c t).1 = blk0 (P := at_ m c t) := by
  dsimp only [outsAt0]
  unfold out0_A_6
  rw [View.read_writes_junk_eq_canon]
  refine funext fun y => View.canon_apply_of_pieces (blk0 (P := at_ m c t)) _ ?_ y (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) y)
  dsimp only [kernelRun0_A]
  refine List.forall_mem_cons.mpr ⟨piece0 (first_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t)) inb_S1x512x1024_S1x512x1024_0_0_0, ?_⟩
  exact fun p hp => absurd hp List.not_mem_nil

theorem out_7 (c : Dev nD) (t : Fin cfg0.N) : (outsAt0 m c t).2.1 = blk1 (P := at_ m c t) := by
  dsimp only [outsAt0]
  unfold out0_A_7
  rw [View.read_writes_junk_eq_canon]
  refine funext fun y => View.canon_apply_of_pieces (blk1 (P := at_ m c t)) _ ?_ y (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) y)
  dsimp only [kernelRun0_A]
  refine List.forall_mem_cons.mpr ⟨piece1 (o := 896) (query (tile_cols (ms0_4 t) (hs0_4 t) (iblk m c 0 t) (iblk m c 1 t) (iblk m c 2 t) (iblk m c 3 t) (iblk m c 4 t) (iblk m c 5 t) (rows_of c (ms0_0 t) (hs0_0 t) (ms0_1 t) (hs0_1 t) (ms0_2 t) (hs0_2 t) (ms0_3 t) (hs0_3 t) (iblk m c 0 t) (iblk m c 1 t) (iblk m c 2 t) (iblk m c 3 t)) _) slices_S512x512_o0_384_S512x128 rfl) inb_S1x1024x512_S1x128x512_0_896_0, ?_⟩
  refine List.forall_mem_cons.mpr ⟨piece1 (o := 768) (query (tile_cols (ms0_4 t) (hs0_4 t) (iblk m c 0 t) (iblk m c 1 t) (iblk m c 2 t) (iblk m c 3 t) (iblk m c 4 t) (iblk m c 5 t) (rows_of c (ms0_0 t) (hs0_0 t) (ms0_1 t) (hs0_1 t) (ms0_2 t) (hs0_2 t) (ms0_3 t) (hs0_3 t) (iblk m c 0 t) (iblk m c 1 t) (iblk m c 2 t) (iblk m c 3 t)) _) slices_S512x512_o0_256_S512x128 rfl) inb_S1x1024x512_S1x128x512_0_768_0, ?_⟩
  refine List.forall_mem_cons.mpr ⟨piece1 (o := 640) (query (tile_cols (ms0_4 t) (hs0_4 t) (iblk m c 0 t) (iblk m c 1 t) (iblk m c 2 t) (iblk m c 3 t) (iblk m c 4 t) (iblk m c 5 t) (rows_of c (ms0_0 t) (hs0_0 t) (ms0_1 t) (hs0_1 t) (ms0_2 t) (hs0_2 t) (ms0_3 t) (hs0_3 t) (iblk m c 0 t) (iblk m c 1 t) (iblk m c 2 t) (iblk m c 3 t)) _) slices_S512x512_o0_128_S512x128 rfl) inb_S1x1024x512_S1x128x512_0_640_0, ?_⟩
  refine List.forall_mem_cons.mpr ⟨piece1 (o := 512) (query (tile_cols (ms0_4 t) (hs0_4 t) (iblk m c 0 t) (iblk m c 1 t) (iblk m c 2 t) (iblk m c 3 t) (iblk m c 4 t) (iblk m c 5 t) (rows_of c (ms0_0 t) (hs0_0 t) (ms0_1 t) (hs0_1 t) (ms0_2 t) (hs0_2 t) (ms0_3 t) (hs0_3 t) (iblk m c 0 t) (iblk m c 1 t) (iblk m c 2 t) (iblk m c 3 t)) _) slices_S512x512_o0_0_S512x128 rfl) inb_S1x1024x512_S1x128x512_0_512_0, ?_⟩
  refine List.forall_mem_cons.mpr ⟨piece1 (o := 384) (query (tile_cols (ms0_4 t) (hs0_4 t) (iblk m c 0 t) (iblk m c 1 t) (iblk m c 2 t) (iblk m c 3 t) (iblk m c 4 t) (iblk m c 5 t) (rows_of c (ms0_0 t) (hs0_0 t) (ms0_1 t) (hs0_1 t) (ms0_2 t) (hs0_2 t) (ms0_3 t) (hs0_3 t) (iblk m c 0 t) (iblk m c 1 t) (iblk m c 2 t) (iblk m c 3 t)) _) slices_S512x512_o0_384_S512x128 rfl) inb_S1x1024x512_S1x128x512_0_384_0, ?_⟩
  refine List.forall_mem_cons.mpr ⟨piece1 (o := 256) (query (tile_cols (ms0_4 t) (hs0_4 t) (iblk m c 0 t) (iblk m c 1 t) (iblk m c 2 t) (iblk m c 3 t) (iblk m c 4 t) (iblk m c 5 t) (rows_of c (ms0_0 t) (hs0_0 t) (ms0_1 t) (hs0_1 t) (ms0_2 t) (hs0_2 t) (ms0_3 t) (hs0_3 t) (iblk m c 0 t) (iblk m c 1 t) (iblk m c 2 t) (iblk m c 3 t)) _) slices_S512x512_o0_256_S512x128 rfl) inb_S1x1024x512_S1x128x512_0_256_0, ?_⟩
  refine List.forall_mem_cons.mpr ⟨piece1 (o := 128) (query (tile_cols (ms0_4 t) (hs0_4 t) (iblk m c 0 t) (iblk m c 1 t) (iblk m c 2 t) (iblk m c 3 t) (iblk m c 4 t) (iblk m c 5 t) (rows_of c (ms0_0 t) (hs0_0 t) (ms0_1 t) (hs0_1 t) (ms0_2 t) (hs0_2 t) (ms0_3 t) (hs0_3 t) (iblk m c 0 t) (iblk m c 1 t) (iblk m c 2 t) (iblk m c 3 t)) _) slices_S512x512_o0_128_S512x128 rfl) inb_S1x1024x512_S1x128x512_0_128_0, ?_⟩
  refine List.forall_mem_cons.mpr ⟨piece1 (o := 0) (query (tile_cols (ms0_4 t) (hs0_4 t) (iblk m c 0 t) (iblk m c 1 t) (iblk m c 2 t) (iblk m c 3 t) (iblk m c 4 t) (iblk m c 5 t) (rows_of c (ms0_0 t) (hs0_0 t) (ms0_1 t) (hs0_1 t) (ms0_2 t) (hs0_2 t) (ms0_3 t) (hs0_3 t) (iblk m c 0 t) (iblk m c 1 t) (iblk m c 2 t) (iblk m c 3 t)) _) slices_S512x512_o0_0_S512x128 rfl) inb_S1x1024x512_S1x128x512_0_0_0, ?_⟩
  exact fun p hp => absurd hp List.not_mem_nil

theorem out_8 (c : Dev nD) (t : Fin cfg0.N) : (outsAt0 m c t).2.2.1 = blk2 (P := at_ m c t) := by
  dsimp only [outsAt0]
  unfold out0_A_8
  rw [View.read_writes_junk_eq_canon]
  refine funext fun y => View.canon_apply_of_pieces (blk2 (P := at_ m c t)) _ ?_ y (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) y)
  dsimp only [kernelRun0_A]
  refine List.forall_mem_cons.mpr ⟨piece2 (h := 3) (fun r d => (cast4_apply _ _ r d).trans (cols_slice (r_3_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t)) slices_S512x512_o0_384_S512x128 rfl r d)) inb_S1x4x512x128_S1x1x512x128_0_3_0_0, ?_⟩
  refine List.forall_mem_cons.mpr ⟨piece2 (h := 2) (fun r d => (cast4_apply _ _ r d).trans (cols_slice (r_3_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t)) slices_S512x512_o0_256_S512x128 rfl r d)) inb_S1x4x512x128_S1x1x512x128_0_2_0_0, ?_⟩
  refine List.forall_mem_cons.mpr ⟨piece2 (h := 1) (fun r d => (cast4_apply _ _ r d).trans (cols_slice (r_3_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t)) slices_S512x512_o0_128_S512x128 rfl r d)) inb_S1x4x512x128_S1x1x512x128_0_1_0_0, ?_⟩
  refine List.forall_mem_cons.mpr ⟨piece2 (h := 0) (fun r d => (cast4_apply _ _ r d).trans ((r_4_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t)) r d)) inb_S1x4x512x128_S1x1x512x128_0_0_0_0, ?_⟩
  exact fun p hp => absurd hp List.not_mem_nil

theorem out_9 (c : Dev nD) (t : Fin cfg0.N) : (outsAt0 m c t).2.2.2.1 = blk3 (P := at_ m c t) (512 * ((grid0.coords t) 1).val) := by
  dsimp only [outsAt0]
  unfold out0_A_9
  rw [View.read_writes_junk_eq_canon]
  refine funext fun y => View.canon_apply_of_pieces (blk3 (P := at_ m c t) (512 * ((grid0.coords t) 1).val)) _ ?_ y (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) y)
  dsimp only [kernelRun0_A]
  refine List.forall_mem_cons.mpr ⟨piece3_marks (h := 1) (fun r d => (cast4_apply _ _ r d).trans (marks_apply ((grid0.coords t) 1).val ((grid0.coords t) 1).isLt r d)) inb_S1x2x512x256_S1x1x512x128_0_1_0_128, ?_⟩
  refine List.forall_mem_cons.mpr ⟨piece3_keys (h := 1) (whole_row (r_6_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t))) inb_S1x2x512x256_S1x1x512x128_0_1_0_0, ?_⟩
  refine List.forall_mem_cons.mpr ⟨piece3_marks (h := 0) (fun r d => (cast4_apply _ _ r d).trans (marks_apply ((grid0.coords t) 1).val ((grid0.coords t) 1).isLt r d)) inb_S1x2x512x256_S1x1x512x128_0_0_0_128, ?_⟩
  refine List.forall_mem_cons.mpr ⟨piece3_keys (h := 0) (whole_row (r_5_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t))) inb_S1x2x512x256_S1x1x512x128_0_0_0_0, ?_⟩
  exact fun p hp => absurd hp List.not_mem_nil

theorem out_10 (c : Dev nD) (t : Fin cfg0.N) : (outsAt0 m c t).2.2.2.2.1 = blk4 (P := at_ m c t) := by
  dsimp only [outsAt0]
  unfold out0_A_10
  rw [View.read_writes_junk_eq_canon]
  refine funext fun y => View.canon_apply_of_pieces (blk4 (P := at_ m c t)) _ ?_ y (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) y)
  dsimp only [kernelRun0_A]
  refine List.forall_mem_cons.mpr ⟨piece4_ones (h := 1) (k := 1) ones4 inb_S1x2x2x144x256_S1x1x1x16x256_0_1_1_128_0, ?_⟩
  refine List.forall_mem_cons.mpr ⟨piece4_values (h := 1) (k := 1) (part4 (r_19_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t)) _) inb_S1x2x2x144x256_S1x1x1x128x256_0_1_1_0_0, ?_⟩
  refine List.forall_mem_cons.mpr ⟨piece4_ones (h := 1) (k := 0) ones4 inb_S1x2x2x144x256_S1x1x1x16x256_0_1_0_128_0, ?_⟩
  refine List.forall_mem_cons.mpr ⟨piece4_values (h := 1) (k := 0) (part4 (turned_slice (φ := .bf16) (turned_of_cols (r_8_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t))) slices_S128x512_o0_0_S128x256) _) inb_S1x2x2x144x256_S1x1x1x128x256_0_1_0_0_0, ?_⟩
  refine List.forall_mem_cons.mpr ⟨piece4_ones (h := 0) (k := 1) ones4 inb_S1x2x2x144x256_S1x1x1x16x256_0_0_1_128_0, ?_⟩
  refine List.forall_mem_cons.mpr ⟨piece4_values (h := 0) (k := 1) (part4 (turned_slice (φ := .bf16) (r_15_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t)) slices_S128x512_o0_256_S128x256) _) inb_S1x2x2x144x256_S1x1x1x128x256_0_0_1_0_0, ?_⟩
  refine List.forall_mem_cons.mpr ⟨piece4_ones (h := 0) (k := 0) ones4 inb_S1x2x2x144x256_S1x1x1x16x256_0_0_0_128_0, ?_⟩
  refine List.forall_mem_cons.mpr ⟨piece4_values (h := 0) (k := 0) (part4 (turned_slice (φ := .bf16) (r_15_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t)) slices_S128x512_o0_0_S128x256) _) inb_S1x2x2x144x256_S1x1x1x128x256_0_0_0_0_0, ?_⟩
  exact fun p hp => absurd hp List.not_mem_nil

theorem out_11 (c : Dev nD) (t : Fin cfg0.N) : (outsAt0 m c t).2.2.2.2.2.1 = blk5 (P := at_ m c t) := by
  dsimp only [outsAt0]
  unfold out0_A_11
  rw [View.read_writes_junk_eq_canon]
  refine funext fun y => View.canon_apply_of_pieces (blk5 (P := at_ m c t)) _ ?_ y (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) y)
  dsimp only [kernelRun0_A]
  refine List.forall_mem_cons.mpr ⟨piece5 (h := 1) (whole_row (r_10_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t))) inb_S1x2x512x128_S1x1x512x128_0_1_0_0, ?_⟩
  refine List.forall_mem_cons.mpr ⟨piece5 (h := 0) (whole_row (r_9_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t))) inb_S1x2x512x128_S1x1x512x128_0_0_0_0, ?_⟩
  exact fun p hp => absurd hp List.not_mem_nil

theorem out_12 (c : Dev nD) (t : Fin cfg0.N) : (outsAt0 m c t).2.2.2.2.2.2.1 = blk6 (P := at_ m c t) := by
  dsimp only [outsAt0]
  unfold out0_A_12
  rw [View.read_writes_junk_eq_canon]
  refine funext fun y => View.canon_apply_of_pieces (blk6 (P := at_ m c t)) _ ?_ y (cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) y)
  dsimp only [kernelRun0_A]
  refine List.forall_mem_cons.mpr ⟨piece6_ones (h := 1) (k := 3) ones6 inb_S1x2x4x144x128_S1x1x1x16x128_0_1_3_128_0, ?_⟩
  refine List.forall_mem_cons.mpr ⟨piece6_values (h := 1) (k := 3) (part6 (turned_slice (φ := .bf16) (r_20_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t)) slices_S128x512_o0_384_S128x128) _) inb_S1x2x4x144x128_S1x1x1x128x128_0_1_3_0_0, ?_⟩
  refine List.forall_mem_cons.mpr ⟨piece6_ones (h := 1) (k := 2) ones6 inb_S1x2x4x144x128_S1x1x1x16x128_0_1_2_128_0, ?_⟩
  refine List.forall_mem_cons.mpr ⟨piece6_values (h := 1) (k := 2) (part6 (turned_slice (φ := .bf16) (r_20_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t)) slices_S128x512_o0_256_S128x128) _) inb_S1x2x4x144x128_S1x1x1x128x128_0_1_2_0_0, ?_⟩
  refine List.forall_mem_cons.mpr ⟨piece6_ones (h := 1) (k := 1) ones6 inb_S1x2x4x144x128_S1x1x1x16x128_0_1_1_128_0, ?_⟩
  refine List.forall_mem_cons.mpr ⟨piece6_values (h := 1) (k := 1) (part6 (turned_slice (φ := .bf16) (turned_of_cols (r_12_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t))) slices_S128x512_o0_128_S128x128) _) inb_S1x2x4x144x128_S1x1x1x128x128_0_1_1_0_0, ?_⟩
  refine List.forall_mem_cons.mpr ⟨piece6_ones (h := 1) (k := 0) ones6 inb_S1x2x4x144x128_S1x1x1x16x128_0_1_0_128_0, ?_⟩
  refine List.forall_mem_cons.mpr ⟨piece6_values (h := 1) (k := 0) (part6 (turned_slice (φ := .bf16) (turned_of_cols (r_12_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t))) slices_S128x512_o0_0_S128x128) _) inb_S1x2x4x144x128_S1x1x1x128x128_0_1_0_0_0, ?_⟩
  refine List.forall_mem_cons.mpr ⟨piece6_ones (h := 0) (k := 3) ones6 inb_S1x2x4x144x128_S1x1x1x16x128_0_0_3_128_0, ?_⟩
  refine List.forall_mem_cons.mpr ⟨piece6_values (h := 0) (k := 3) (part6 (r_18_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t)) _) inb_S1x2x4x144x128_S1x1x1x128x128_0_0_3_0_0, ?_⟩
  refine List.forall_mem_cons.mpr ⟨piece6_ones (h := 0) (k := 2) ones6 inb_S1x2x4x144x128_S1x1x1x16x128_0_0_2_128_0, ?_⟩
  refine List.forall_mem_cons.mpr ⟨piece6_values (h := 0) (k := 2) (part6 (turned_slice (φ := .bf16) (r_16_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t)) slices_S128x512_o0_256_S128x128) _) inb_S1x2x4x144x128_S1x1x1x128x128_0_0_2_0_0, ?_⟩
  refine List.forall_mem_cons.mpr ⟨piece6_ones (h := 0) (k := 1) ones6 inb_S1x2x4x144x128_S1x1x1x16x128_0_0_1_128_0, ?_⟩
  refine List.forall_mem_cons.mpr ⟨piece6_values (h := 0) (k := 1) (part6 (turned_slice (φ := .bf16) (r_16_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t)) slices_S128x512_o0_128_S128x128) _) inb_S1x2x4x144x128_S1x1x1x128x128_0_0_1_0_0, ?_⟩
  refine List.forall_mem_cons.mpr ⟨piece6_ones (h := 0) (k := 0) ones6 inb_S1x2x4x144x128_S1x1x1x16x128_0_0_0_128_0, ?_⟩
  refine List.forall_mem_cons.mpr ⟨piece6_values (h := 0) (k := 0) (part6 (r_17_holds c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (iblk m c 5 t)) _) inb_S1x2x4x144x128_S1x1x1x128x128_0_0_0_0_0, ?_⟩
  exact fun p hp => absurd hp List.not_mem_nil

theorem out_13 (c : Dev nD) (t : Fin cfg0.N) : (outsAt0 m c t).2.2.2.2.2.2.2 = blk7 (P := at_ m c t) := by
  dsimp only [outsAt0]
  unfold out0_A_13
  rw [View.read_writes_junk_eq_canon]
  refine funext fun y => View.canon_apply_of_pieces (blk7 (P := at_ m c t)) _ ?_ y (cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) y)
  dsimp only [kernelRun0_A]
  refine List.forall_mem_cons.mpr ⟨piece7 (gates (r_22_holds c (ms0_0 t) (hs0_0 t) (ms0_1 t) (hs0_1 t) (ms0_2 t) (hs0_2 t) (ms0_3 t) (hs0_3 t) (ms0_5 t) (hs0_5 t) (iblk m c 0 t) (iblk m c 1 t) (iblk m c 2 t) (iblk m c 3 t) (iblk m c 4 t) (iblk m c 5 t))) inb_S1x24x512_S1x24x512_0_0_0, ?_⟩
  exact fun p hp => absurd hp List.not_mem_nil

end Blocks

end Cert.Kernel3Ideal.Proj

end
-- ==== Proof.InValue.lean ====
/- The blocks the input projection's windows read, and from the stored blocks the eight results. -/
module

public import proofs.«01_k».proof.Proof.InStores
public import proofs.«01_k».proof.Proof.Gen.Kernel3Ideal.Value
public import Idealize.ShloMosaic.Lib.Pipeline.Covers
public import Idealize.ShloMosaic.Lib.IdealHost
public import Idealize.ShloMosaic.Lib.KernelVsHost
public import Idealize.ShloMosaic.Lib.Claim

@[expose] public section

set_option maxRecDepth 16384

noncomputable section

namespace Cert.Kernel3Ideal.Proj

open Cert.Kernel3Ideal.Gen
open Idealize.ShloMosaic.ValueIdx (ix1 ix2 ix3 ix4 ix5 contrEquiv1)
open Idealize.ShloMosaic hiding ix1 ix2 ix3 ix4 ix5
open Idealize.ShloMosaic.TcCoe
open Idealize.ShloMosaic.Pipeline (Dat Cfg Window)

variable (m : (ℓ : Loc nD τ sig) → Buf (Elt Ideal) ℓ) (c : Dev nD)

/-! ## The windows' arrays as the region finds them -/

theorem norm_row (j : Fin 2048) : V m c main_v9 (ix2 (0 : Fin 1) j) = m ((c : Thread nD τ).loc main_arg1) (ix2 (0 : Fin 2) j) := by
  entry_read
  refine (shapeCast_apply (shapeCast S2048 (extractStridedSlice S1x2048 ![0, 0] (m ((c : Thread nD τ).loc main_arg1)) slices_S2x2048_S1x2048_0_0) shapeCasts_S1x2048_S2048 : FVec Ideal S2048 .f32)
    shapeCasts_S2048_S1x2048 (ix2 (0 : Fin 1) j) (ix1 j) ((Shape.rowMajor_val_one (d := ![2048]) _).trans (Eq.trans
    (by show j.val = 0 * 2048 + j.val; omega) (Shape.rowMajor_val_two (d := ![1, 2048]) _).symm))).trans ?_
  refine (shapeCast_apply (extractStridedSlice S1x2048 ![0, 0] (m ((c : Thread nD τ).loc main_arg1)) slices_S2x2048_S1x2048_0_0 : FVec Ideal S1x2048 .f32)
    shapeCasts_S1x2048_S2048 (ix1 j) (ix2 (0 : Fin 1) j) ((Shape.rowMajor_val_two (d := ![1, 2048]) _).trans (Eq.trans
    (by show 0 * 2048 + j.val = j.val; omega) (Shape.rowMajor_val_one (d := ![2048]) _).symm))).trans ?_
  exact extractStridedSlice_apply _ _ _ _ (ix2 (0 : Fin 2) j) (fun (a : Fin 2) => by
    match a with
    | 0 => rfl
    | 1 => exact (Nat.zero_add _).symm)

theorem main_weight (k : Fin 2048) (q : Fin 3584) :
    (V m c main_v2 (ix2 k q) : EReal) = m ((c : Thread nD τ).loc main_arg4) (ix3 (0 : Fin 2) k (⟨q.val, by have := q.isLt; omega⟩ : Fin 3608)) := by
  entry_read
  refine (shapeCast_apply (extractStridedSlice S1x2048x3584 ![0, 0, 0] (m ((c : Thread nD τ).loc main_arg4)) slices_S2x2048x3608_S1x2048x3584_0_0_0 : FVec Ideal S1x2048x3584 .f32)
    shapeCasts_S1x2048x3584_S2048x3584 (ix2 k q) (ix3 (0 : Fin 1) k q) ((Shape.rowMajor_val_three (d := ![1, 2048, 3584]) _).trans (Eq.trans
    (by show (0 * 2048 + k.val) * 3584 + q.val = k.val * 3584 + q.val; omega) (Shape.rowMajor_val_two (d := ![2048, 3584]) _).symm))).trans ?_
  exact extractStridedSlice_apply _ _ _ _ (ix3 (0 : Fin 2) k (⟨q.val, by have := q.isLt; omega⟩ : Fin 3608)) (fun (a : Fin 3) => by
    match a with
    | 0 => rfl
    | 1 => exact (Nat.zero_add _).symm
    | 2 => exact (Nat.zero_add _).symm)

theorem gate_weight (k : Fin 2048) (q : Fin 24) :
    (V m c main_v6 (ix2 k (⟨q.val, by have := q.isLt; omega⟩ : Fin 128)) : EReal)
      = m ((c : Thread nD τ).loc main_arg4) (ix3 (0 : Fin 2) k (⟨3584 + q.val, by have := q.isLt; omega⟩ : Fin 3608)) := by
  entry_read
  refine (pad_apply_of_inside ![0, 0] ![0, 104] ![0, 0]
    (shapeCast S2048x24 (extractStridedSlice S1x2048x24 ![0, 0, 3584] (m ((c : Thread nD τ).loc main_arg4)) slices_S2x2048x3608_S1x2048x24_0_0_3584) shapeCasts_S1x2048x24_S2048x24 : FVec Ideal S2048x24 .f32)
    (sitofp .f32 (constantI S_ 32 0#32) : FVec Ideal S_ .f32) pads_S2048x24_S2048x128_000_01040 h_S_ (ix2 k (⟨q.val, by have := q.isLt; omega⟩ : Fin 128)) (ix2 k q) (fun (a : Fin 2) => by
      match a with
      | 0 => show k.val = 0 + k.val * (0 + 1); omega
      | 1 => show q.val = 0 + q.val * (0 + 1); omega)).trans ?_
  refine (shapeCast_apply _ _ (ix2 k q) (ix3 (0 : Fin 1) k q) ((Shape.rowMajor_val_three (d := ![1, 2048, 24]) _).trans (Eq.trans
    (by show (0 * 2048 + k.val) * 24 + q.val = k.val * 24 + q.val; omega) (Shape.rowMajor_val_two (d := ![2048, 24]) _).symm))).trans ?_
  exact extractStridedSlice_apply _ _ _ _ (ix3 (0 : Fin 2) k (⟨3584 + q.val, by have := q.isLt; omega⟩ : Fin 3608)) (fun (a : Fin 3) => by
    match a with
    | 0 => rfl
    | 1 => exact (Nat.zero_add _).symm
    | 2 => rfl)

variable (t : Fin cfg0.N)

theorem in0 (r : Fin 512) (j : Fin 2048) (p : Fin 16384) (hp : p.val = (grid0.coords t 1).val * 512 + r.val) :
    iblk m c 0 t (ix3 (0 : Fin 1) r j) = m ((c : Thread nD τ).loc main_arg0) (ix3 (grid0.coords t 0) p j) := by
  refine Eq.trans ?_ (congrFun (V_main_arg0 m c) (ix3 (grid0.coords t 0) p j))
  refine congrArg (V m c main_arg0) (funext fun (a : Fin 3) => Fin.ext ?_)
  refine (Window.rect_emb_val (cfg0.win 0) t (ix3 (0 : Fin 1) r j) a).trans ?_
  have h0 : (grid0.coords t 0).val < 2 := (grid0.coords t 0).isLt
  have h1 : (grid0.coords t 1).val < 32 := (grid0.coords t 1).isLt
  have hx : (cfg0.win 0).index t = ![(grid0.coords t 0).val, (grid0.coords t 1).val, 0] := by
    show ![(BitVec.ofNat 32 (grid0.coords t 0).val).toNat, (BitVec.ofNat 32 (grid0.coords t 1).val).toNat, 0] = _
    rw [BitVec.toNat_ofNat, BitVec.toNat_ofNat, Nat.mod_eq_of_lt (by omega), Nat.mod_eq_of_lt (by omega)]
  rw [hx]
  match a with
  | 0 => show (grid0.coords t 0).val * 1 + 0 = (grid0.coords t 0).val; omega
  | 1 => exact hp.symm
  | 2 => show 0 * 2048 + j.val = j.val; omega

theorem in1 (j : Fin 2048) : iblk m c 1 t (ix2 (0 : Fin 1) j) = m ((c : Thread nD τ).loc main_arg1) (ix2 (0 : Fin 2) j) := by
  refine Eq.trans ?_ (norm_row m c j)
  refine congrArg (V m c main_v9) (funext fun (a : Fin 2) => Fin.ext ?_)
  refine (Window.rect_emb_val (cfg0.win 1) t (ix2 (0 : Fin 1) j) a).trans ?_
  have hx : (cfg0.win 1).index t = ![0, 0] := rfl
  rw [hx]
  match a with
  | 0 => rfl
  | 1 => show 0 * 2048 + j.val = j.val; omega

theorem in2 (j : Fin 2048) : iblk m c 2 t (ix3 (0 : Fin 1) (0 : Fin 1) j) = m ((c : Thread nD τ).loc main_arg2) (ix3 (grid0.coords t 0) (0 : Fin 1) j) := by
  refine Eq.trans ?_ (congrFun (V_main_arg2 m c) (ix3 (grid0.coords t 0) (0 : Fin 1) j))
  refine congrArg (V m c main_arg2) (funext fun (a : Fin 3) => Fin.ext ?_)
  refine (Window.rect_emb_val (cfg0.win 2) t (ix3 (0 : Fin 1) (0 : Fin 1) j) a).trans ?_
  have h0 : (grid0.coords t 0).val < 2 := (grid0.coords t 0).isLt
  have hx : (cfg0.win 2).index t = ![(grid0.coords t 0).val, 0, 0] := by
    show ![(BitVec.ofNat 32 (grid0.coords t 0).val).toNat, 0, 0] = _
    rw [BitVec.toNat_ofNat, Nat.mod_eq_of_lt (by omega)]
  rw [hx]
  match a with
  | 0 => show (grid0.coords t 0).val * 1 + 0 = (grid0.coords t 0).val; omega
  | 1 => rfl
  | 2 => show 0 * 2048 + j.val = j.val; omega

theorem in3 (j : Fin 2048) : iblk m c 3 t (ix3 (0 : Fin 1) (0 : Fin 1) j) = m ((c : Thread nD τ).loc main_arg3) (ix3 (grid0.coords t 0) (0 : Fin 1) j) := by
  refine Eq.trans ?_ (congrFun (V_main_arg3 m c) (ix3 (grid0.coords t 0) (0 : Fin 1) j))
  refine congrArg (V m c main_arg3) (funext fun (a : Fin 3) => Fin.ext ?_)
  refine (Window.rect_emb_val (cfg0.win 3) t (ix3 (0 : Fin 1) (0 : Fin 1) j) a).trans ?_
  have h0 : (grid0.coords t 0).val < 2 := (grid0.coords t 0).isLt
  have hx : (cfg0.win 3).index t = ![(grid0.coords t 0).val, 0, 0] := by
    show ![(BitVec.ofNat 32 (grid0.coords t 0).val).toNat, 0, 0] = _
    rw [BitVec.toNat_ofNat, Nat.mod_eq_of_lt (by omega)]
  rw [hx]
  match a with
  | 0 => show (grid0.coords t 0).val * 1 + 0 = (grid0.coords t 0).val; omega
  | 1 => rfl
  | 2 => show 0 * 2048 + j.val = j.val; omega

theorem in4 (k : Fin 2048) (q : Fin 3584) :
    (iblk m c 4 t (ix2 k q) : EReal) = m ((c : Thread nD τ).loc main_arg4) (ix3 (0 : Fin 2) k (⟨q.val, by have := q.isLt; omega⟩ : Fin 3608)) := by
  refine Eq.trans ?_ (main_weight m c k q)
  refine congrArg (V m c main_v2) (funext fun (a : Fin 2) => Fin.ext ?_)
  refine (Window.rect_emb_val (cfg0.win 4) t (ix2 k q) a).trans ?_
  have hx : (cfg0.win 4).index t = ![0, 0] := rfl
  rw [hx]
  match a with
  | 0 => show 0 * 2048 + k.val = k.val; omega
  | 1 => show 0 * 3584 + q.val = q.val; omega

theorem in5 (k : Fin 2048) (q : Fin 24) :
    (iblk m c 5 t (ix2 k (⟨q.val, by have := q.isLt; omega⟩ : Fin 128)) : EReal)
      = m ((c : Thread nD τ).loc main_arg4) (ix3 (0 : Fin 2) k (⟨3584 + q.val, by have := q.isLt; omega⟩ : Fin 3608)) := by
  refine Eq.trans ?_ (gate_weight m c k q)
  refine congrArg (V m c main_v6) (funext fun (a : Fin 2) => Fin.ext ?_)
  refine (Window.rect_emb_val (cfg0.win 5) t (ix2 k (⟨q.val, by have := q.isLt; omega⟩ : Fin 128)) a).trans ?_
  have hx : (cfg0.win 5).index t = ![0, 0] := rfl
  rw [hx]
  match a with
  | 0 => show 0 * 2048 + k.val = k.val; omega
  | 1 => show 0 * 128 + q.val = q.val; omega

/-- The projected entries of the arguments. -/
def table : ℕ → ℕ → ℕ → EReal :=
  proj (m ((c : Thread nD τ).loc main_arg0)) (m ((c : Thread nD τ).loc main_arg1)) (m ((c : Thread nD τ).loc main_arg2))
    (m ((c : Thread nD τ).loc main_arg3)) (m ((c : Thread nD τ).loc main_arg4))

/-- A point's entries are the arguments', at the point's batch and positions. -/
theorem at_eq (p q : ℕ) (hp : p < 512) (hq : q < 3608) :
    at_ m c t 0 p q = table m c (grid0.coords t 0).val (512 * (grid0.coords t 1).val + p) q := by
  have h0 : (grid0.coords t 0).val < 2 := (grid0.coords t 0).isLt
  have h1 : (grid0.coords t 1).val < 32 := (grid0.coords t 1).isLt
  have hb : (⟨(grid0.coords t 0).val % 2, Nat.mod_lt _ (by norm_num)⟩ : Fin 2) = grid0.coords t 0 := Fin.ext (Nat.mod_eq_of_lt h0)
  unfold at_ here table proj
  rw [hb]
  congr 1
  · funext j
    exact in0 m c t _ j _ (by show (512 * (grid0.coords t 1).val + p) % 16384 = (grid0.coords t 1).val * 512 + p % 512; omega)
  · funext j
    exact in1 m c t j
  · funext j
    exact in2 m c t j
  · funext j
    exact in3 m c t j
  · funext k
    by_cases h : q < 3584
    · rw [if_pos h]
      exact (in4 m c t k _).trans (congrArg (fun q => m ((c : Thread nD τ).loc main_arg4) (ix3 (0 : Fin 2) k q)) (Fin.ext (show q % 3584 = q % 3608 by omega)))
    · rw [if_neg h]
      refine Eq.trans (congrArg (fun q => iblk m c 5 t (ix2 k q)) (Fin.ext (show (q - 3584) % 128 = q - 3584 by omega)))
        ((in5 m c t k (⟨q - 3584, by omega⟩ : Fin 24)).trans (congrArg (fun q => m ((c : Thread nD τ).loc main_arg4) (ix3 (0 : Fin 2) k q)) (Fin.ext (show 3584 + (q - 3584) = q % 3608 by omega))))

/-! ## The eight results -/

def full0 (P : ℕ → ℕ → ℕ → EReal) (y : S2x16384x1024.Idx) : EReal := res0 P (y 0).val (y 1).val (y 2).val
def full1 (P : ℕ → ℕ → ℕ → EReal) (y : S2x1024x16384.Idx) : EReal := res1 P (y 0).val (y 1).val (y 2).val
def full2 (P : ℕ → ℕ → ℕ → EReal) (y : S2x4x16384x128.Idx) : EReal := res2 P (y 0).val (y 1).val (y 2).val (y 3).val
def full3 (P : ℕ → ℕ → ℕ → EReal) (y : S2x2x16384x256.Idx) : EReal := res3 P 0 (y 0).val (y 1).val (y 2).val (y 3).val
def full4 (P : ℕ → ℕ → ℕ → EReal) (y : S2x2x64x144x256.Idx) : EReal := res4 P (y 0).val (y 1).val (y 2).val (y 3).val (y 4).val
def full5 (P : ℕ → ℕ → ℕ → EReal) (y : S2x2x16384x128.Idx) : EReal := res5 P (y 0).val (y 1).val (y 2).val (y 3).val
def full6 (P : ℕ → ℕ → ℕ → EReal) (y : S2x2x128x144x128.Idx) : EReal := res6 P (y 0).val (y 1).val (y 2).val (y 3).val (y 4).val
def full7 (P : ℕ → ℕ → ℕ → EReal) (y : S2x24x16384.Idx) : EReal := res7 P (y 0).val (y 1).val (y 2).val

theorem block_of_6 (a : Fin 512) (b : Fin 1024) (h0 : (grid0.coords t 0).val < 2) (h1 : (grid0.coords t 1).val < 32) :
    blk0 (P := at_ m c t) (ix3 (0 : Fin 1) a b) = full0 (table m c) (ix3 (grid0.coords t 0) (⟨(grid0.coords t 1).val * 512 + a.val, by have := a.isLt; omega⟩ : Fin 16384) b) := by
  exact (at_eq m c t a.val b.val a.isLt (by have := b.isLt; omega)).trans (congrArg (fun p => table m c (grid0.coords t 0).val p b.val) (show 512 * (grid0.coords t 1).val + a.val = (grid0.coords t 1).val * 512 + a.val by omega))

theorem result_6 : (dats m 0 c).arrAt 6 cfg0.N = full0 (table m c) := by
  refine (dats m 0 c).arrAt_eq_of_covers 6 _ ?_ fun t hf y => ?_
  · exact (cfg0.win 6).covers_of_indexMap_surj rfl (fun (a : Fin 3) => match a with | 0 => (by decide : 0 < 1) | 1 => (by decide : 0 < 512) | 2 => (by decide : 0 < 1024)) fun β => by
      obtain ⟨b0, hb0⟩ : ∃ b0 : Fin 2, b0.val = (β (0 : Fin 3)).val :=
        ⟨⟨(β (0 : Fin 3)).val, lt_of_lt_of_eq (β (0 : Fin 3)).isLt (show (2 + 1 - 1) / 1 = 2 by norm_num)⟩, rfl⟩
      obtain ⟨b1, hb1⟩ : ∃ b1 : Fin 32, b1.val = (β (1 : Fin 3)).val :=
        ⟨⟨(β (1 : Fin 3)).val, lt_of_lt_of_eq (β (1 : Fin 3)).isLt (show (16384 + 512 - 1) / 512 = 32 by norm_num)⟩, rfl⟩
      have h0 := b0.isLt
      have h1 := b1.isLt
      refine ⟨fun (a : Fin 2) => match a with | 0 => b0 | 1 => b1, fun (a : Fin 3) => ?_⟩
      match a with
      | 0 =>
        refine Eq.trans ?_ hb0
        show (BitVec.ofNat 32 b0.val).toNat = b0.val
        rw [BitVec.toNat_ofNat, Nat.mod_eq_of_lt (by omega)]
      | 1 =>
        refine Eq.trans ?_ hb1
        show (BitVec.ofNat 32 b1.val).toNat = b1.val
        rw [BitVec.toNat_ofNat, Nat.mod_eq_of_lt (by omega)]
      | 2 =>
        have hz : (β (2 : Fin 3)).val < 1 := lt_of_lt_of_eq (β (2 : Fin 3)).isLt (show (1024 + 1024 - 1) / 1024 = 1 by norm_num)
        show 0 = (β (2 : Fin 3)).val
        omega
  · have h0 : (grid0.coords t 0).val < 2 := (grid0.coords t 0).isLt
    have h1 : (grid0.coords t 1).val < 32 := (grid0.coords t 1).isLt
    have hx : (cfg0.win 6).index t = ![(grid0.coords t 0).val, (grid0.coords t 1).val, 0] := by
      show ![(BitVec.ofNat 32 (grid0.coords t 0).val).toNat, (BitVec.ofNat 32 (grid0.coords t 1).val).toNat, 0] = _
      rw [BitVec.toNat_ofNat, BitVec.toNat_ofNat, Nat.mod_eq_of_lt (by omega), Nat.mod_eq_of_lt (by omega)]
    obtain ⟨z, a, b, rfl⟩ : ∃ (z : Fin 1) (a : Fin 512) (b : Fin 1024), y = ix3 z a b :=
      ⟨y (0 : Fin 3), y (1 : Fin 3), y (2 : Fin 3), ValueIdx.eq_ix3 (n0 := 1) (n1 := 512) (n2 := 1024) y⟩
    obtain rfl : z = 0 := Subsingleton.elim _ _
    have hemb : ((cfg0.win 6).blk t).view.emb (ix3 (0 : Fin 1) a b) = ix3 (grid0.coords t 0) (⟨(grid0.coords t 1).val * 512 + a.val, by have := a.isLt; omega⟩ : Fin 16384) b := by
      refine funext fun (i : Fin 3) => Fin.ext ?_
      refine (Window.rect_emb_val (cfg0.win 6) t (ix3 (0 : Fin 1) a b) i).trans ?_
      rw [hx]
      match i with
      | 0 => show (grid0.coords t 0).val * 1 + 0 = (grid0.coords t 0).val; omega
      | 1 => rfl
      | 2 => show 0 * 1024 + b.val = b.val; omega
    exact (congrFun ((after0_6 m c t).trans (out_6 m c t)) (ix3 (0 : Fin 1) a b)).trans ((block_of_6 m c t a b h0 h1).trans (congrArg (full0 (table m c)) hemb.symm))

theorem block_of_7 (a : Fin 1024) (b : Fin 512) (h0 : (grid0.coords t 0).val < 2) (h1 : (grid0.coords t 1).val < 32) :
    blk1 (P := at_ m c t) (ix3 (0 : Fin 1) a b) = full1 (table m c) (ix3 (grid0.coords t 0) a (⟨(grid0.coords t 1).val * 512 + b.val, by have := b.isLt; omega⟩ : Fin 16384)) := by
  exact congrArg qscale ((at_eq m c t b.val (1024 + a.val) b.isLt (by have := a.isLt; omega)).trans (congrArg (fun p => table m c (grid0.coords t 0).val p (1024 + a.val)) (show 512 * (grid0.coords t 1).val + b.val = (grid0.coords t 1).val * 512 + b.val by omega)))

theorem result_7 : (dats m 0 c).arrAt 7 cfg0.N = full1 (table m c) := by
  refine (dats m 0 c).arrAt_eq_of_covers 7 _ ?_ fun t hf y => ?_
  · exact (cfg0.win 7).covers_of_indexMap_surj rfl (fun (a : Fin 3) => match a with | 0 => (by decide : 0 < 1) | 1 => (by decide : 0 < 1024) | 2 => (by decide : 0 < 512)) fun β => by
      obtain ⟨b0, hb0⟩ : ∃ b0 : Fin 2, b0.val = (β (0 : Fin 3)).val :=
        ⟨⟨(β (0 : Fin 3)).val, lt_of_lt_of_eq (β (0 : Fin 3)).isLt (show (2 + 1 - 1) / 1 = 2 by norm_num)⟩, rfl⟩
      obtain ⟨b1, hb1⟩ : ∃ b1 : Fin 32, b1.val = (β (2 : Fin 3)).val :=
        ⟨⟨(β (2 : Fin 3)).val, lt_of_lt_of_eq (β (2 : Fin 3)).isLt (show (16384 + 512 - 1) / 512 = 32 by norm_num)⟩, rfl⟩
      have h0 := b0.isLt
      have h1 := b1.isLt
      refine ⟨fun (a : Fin 2) => match a with | 0 => b0 | 1 => b1, fun (a : Fin 3) => ?_⟩
      match a with
      | 0 =>
        refine Eq.trans ?_ hb0
        show (BitVec.ofNat 32 b0.val).toNat = b0.val
        rw [BitVec.toNat_ofNat, Nat.mod_eq_of_lt (by omega)]
      | 1 =>
        have hz : (β (1 : Fin 3)).val < 1 := lt_of_lt_of_eq (β (1 : Fin 3)).isLt (show (1024 + 1024 - 1) / 1024 = 1 by norm_num)
        show 0 = (β (1 : Fin 3)).val
        omega
      | 2 =>
        refine Eq.trans ?_ hb1
        show (BitVec.ofNat 32 b1.val).toNat = b1.val
        rw [BitVec.toNat_ofNat, Nat.mod_eq_of_lt (by omega)]
  · have h0 : (grid0.coords t 0).val < 2 := (grid0.coords t 0).isLt
    have h1 : (grid0.coords t 1).val < 32 := (grid0.coords t 1).isLt
    have hx : (cfg0.win 7).index t = ![(grid0.coords t 0).val, 0, (grid0.coords t 1).val] := by
      show ![(BitVec.ofNat 32 (grid0.coords t 0).val).toNat, 0, (BitVec.ofNat 32 (grid0.coords t 1).val).toNat] = _
      rw [BitVec.toNat_ofNat, BitVec.toNat_ofNat, Nat.mod_eq_of_lt (by omega), Nat.mod_eq_of_lt (by omega)]
    obtain ⟨z, a, b, rfl⟩ : ∃ (z : Fin 1) (a : Fin 1024) (b : Fin 512), y = ix3 z a b :=
      ⟨y (0 : Fin 3), y (1 : Fin 3), y (2 : Fin 3), ValueIdx.eq_ix3 (n0 := 1) (n1 := 1024) (n2 := 512) y⟩
    obtain rfl : z = 0 := Subsingleton.elim _ _
    have hemb : ((cfg0.win 7).blk t).view.emb (ix3 (0 : Fin 1) a b) = ix3 (grid0.coords t 0) a (⟨(grid0.coords t 1).val * 512 + b.val, by have := b.isLt; omega⟩ : Fin 16384) := by
      refine funext fun (i : Fin 3) => Fin.ext ?_
      refine (Window.rect_emb_val (cfg0.win 7) t (ix3 (0 : Fin 1) a b) i).trans ?_
      rw [hx]
      match i with
      | 0 => show (grid0.coords t 0).val * 1 + 0 = (grid0.coords t 0).val; omega
      | 1 => show 0 * 1024 + a.val = a.val; omega
      | 2 => rfl
    exact (congrFun ((after0_7 m c t).trans (out_7 m c t)) (ix3 (0 : Fin 1) a b)).trans ((block_of_7 m c t a b h0 h1).trans (congrArg (full1 (table m c)) hemb.symm))

theorem block_of_8 (a : Fin 4) (b : Fin 512) (d : Fin 128) (h0 : (grid0.coords t 0).val < 2) (h1 : (grid0.coords t 1).val < 32) :
    blk2 (P := at_ m c t) (ix4 (0 : Fin 1) a b d) = full2 (table m c) (ix4 (grid0.coords t 0) a (⟨(grid0.coords t 1).val * 512 + b.val, by have := b.isLt; omega⟩ : Fin 16384) d) := by
  exact (at_eq m c t b.val (2048 + 128 * a.val + d.val) b.isLt (by have := a.isLt; have := d.isLt; omega)).trans (congrArg (fun p => table m c (grid0.coords t 0).val p (2048 + 128 * a.val + d.val)) (show 512 * (grid0.coords t 1).val + b.val = (grid0.coords t 1).val * 512 + b.val by omega))

theorem result_8 : (dats m 0 c).arrAt 8 cfg0.N = full2 (table m c) := by
  refine (dats m 0 c).arrAt_eq_of_covers 8 _ ?_ fun t hf y => ?_
  · exact (cfg0.win 8).covers_of_indexMap_surj rfl (fun (a : Fin 4) => match a with | 0 => (by decide : 0 < 1) | 1 => (by decide : 0 < 4) | 2 => (by decide : 0 < 512) | 3 => (by decide : 0 < 128)) fun β => by
      obtain ⟨b0, hb0⟩ : ∃ b0 : Fin 2, b0.val = (β (0 : Fin 4)).val :=
        ⟨⟨(β (0 : Fin 4)).val, lt_of_lt_of_eq (β (0 : Fin 4)).isLt (show (2 + 1 - 1) / 1 = 2 by norm_num)⟩, rfl⟩
      obtain ⟨b1, hb1⟩ : ∃ b1 : Fin 32, b1.val = (β (2 : Fin 4)).val :=
        ⟨⟨(β (2 : Fin 4)).val, lt_of_lt_of_eq (β (2 : Fin 4)).isLt (show (16384 + 512 - 1) / 512 = 32 by norm_num)⟩, rfl⟩
      have h0 := b0.isLt
      have h1 := b1.isLt
      refine ⟨fun (a : Fin 2) => match a with | 0 => b0 | 1 => b1, fun (a : Fin 4) => ?_⟩
      match a with
      | 0 =>
        refine Eq.trans ?_ hb0
        show (BitVec.ofNat 32 b0.val).toNat = b0.val
        rw [BitVec.toNat_ofNat, Nat.mod_eq_of_lt (by omega)]
      | 1 =>
        have hz : (β (1 : Fin 4)).val < 1 := lt_of_lt_of_eq (β (1 : Fin 4)).isLt (show (4 + 4 - 1) / 4 = 1 by norm_num)
        show 0 = (β (1 : Fin 4)).val
        omega
      | 2 =>
        refine Eq.trans ?_ hb1
        show (BitVec.ofNat 32 b1.val).toNat = b1.val
        rw [BitVec.toNat_ofNat, Nat.mod_eq_of_lt (by omega)]
      | 3 =>
        have hz : (β (3 : Fin 4)).val < 1 := lt_of_lt_of_eq (β (3 : Fin 4)).isLt (show (128 + 128 - 1) / 128 = 1 by norm_num)
        show 0 = (β (3 : Fin 4)).val
        omega
  · have h0 : (grid0.coords t 0).val < 2 := (grid0.coords t 0).isLt
    have h1 : (grid0.coords t 1).val < 32 := (grid0.coords t 1).isLt
    have hx : (cfg0.win 8).index t = ![(grid0.coords t 0).val, 0, (grid0.coords t 1).val, 0] := by
      show ![(BitVec.ofNat 32 (grid0.coords t 0).val).toNat, 0, (BitVec.ofNat 32 (grid0.coords t 1).val).toNat, 0] = _
      rw [BitVec.toNat_ofNat, BitVec.toNat_ofNat, Nat.mod_eq_of_lt (by omega), Nat.mod_eq_of_lt (by omega)]
    obtain ⟨z, a, b, d, rfl⟩ : ∃ (z : Fin 1) (a : Fin 4) (b : Fin 512) (d : Fin 128), y = ix4 z a b d :=
      ⟨y (0 : Fin 4), y (1 : Fin 4), y (2 : Fin 4), y (3 : Fin 4), ValueIdx.eq_ix4 (n0 := 1) (n1 := 4) (n2 := 512) (n3 := 128) y⟩
    obtain rfl : z = 0 := Subsingleton.elim _ _
    have hemb : ((cfg0.win 8).blk t).view.emb (ix4 (0 : Fin 1) a b d) = ix4 (grid0.coords t 0) a (⟨(grid0.coords t 1).val * 512 + b.val, by have := b.isLt; omega⟩ : Fin 16384) d := by
      refine funext fun (i : Fin 4) => Fin.ext ?_
      refine (Window.rect_emb_val (cfg0.win 8) t (ix4 (0 : Fin 1) a b d) i).trans ?_
      rw [hx]
      match i with
      | 0 => show (grid0.coords t 0).val * 1 + 0 = (grid0.coords t 0).val; omega
      | 1 => show 0 * 4 + a.val = a.val; omega
      | 2 => rfl
      | 3 => show 0 * 128 + d.val = d.val; omega
    exact (congrFun ((after0_8 m c t).trans (out_8 m c t)) (ix4 (0 : Fin 1) a b d)).trans ((block_of_8 m c t a b d h0 h1).trans (congrArg (full2 (table m c)) hemb.symm))

theorem block_of_9 (a : Fin 2) (b : Fin 512) (d : Fin 256) (h0 : (grid0.coords t 0).val < 2) (h1 : (grid0.coords t 1).val < 32) :
    blk3 (P := at_ m c t) (512 * (grid0.coords t 1).val) (ix4 (0 : Fin 1) a b d) = full3 (table m c) (ix4 (grid0.coords t 0) a (⟨(grid0.coords t 1).val * 512 + b.val, by have := b.isLt; omega⟩ : Fin 16384) d) := by
  show (if d.val < 128 then at_ m c t 0 b.val (2560 + 128 * a.val + d.val) else mark (512 * (grid0.coords t 1).val + b.val) (d.val - 128))
    = if d.val < 128 then table m c (grid0.coords t 0).val ((grid0.coords t 1).val * 512 + b.val) (2560 + 128 * a.val + d.val) else mark (0 + ((grid0.coords t 1).val * 512 + b.val)) (d.val - 128)
  by_cases h : d.val < 128
  · rw [if_pos h, if_pos h]
    exact (at_eq m c t b.val (2560 + 128 * a.val + d.val) b.isLt (by have := a.isLt; omega)).trans (congrArg (fun p => table m c (grid0.coords t 0).val p (2560 + 128 * a.val + d.val)) (by omega))
  · rw [if_neg h, if_neg h]
    exact congrArg (fun p => mark p (d.val - 128)) (by omega)

theorem result_9 : (dats m 0 c).arrAt 9 cfg0.N = full3 (table m c) := by
  refine (dats m 0 c).arrAt_eq_of_covers 9 _ ?_ fun t hf y => ?_
  · exact (cfg0.win 9).covers_of_indexMap_surj rfl (fun (a : Fin 4) => match a with | 0 => (by decide : 0 < 1) | 1 => (by decide : 0 < 2) | 2 => (by decide : 0 < 512) | 3 => (by decide : 0 < 256)) fun β => by
      obtain ⟨b0, hb0⟩ : ∃ b0 : Fin 2, b0.val = (β (0 : Fin 4)).val :=
        ⟨⟨(β (0 : Fin 4)).val, lt_of_lt_of_eq (β (0 : Fin 4)).isLt (show (2 + 1 - 1) / 1 = 2 by norm_num)⟩, rfl⟩
      obtain ⟨b1, hb1⟩ : ∃ b1 : Fin 32, b1.val = (β (2 : Fin 4)).val :=
        ⟨⟨(β (2 : Fin 4)).val, lt_of_lt_of_eq (β (2 : Fin 4)).isLt (show (16384 + 512 - 1) / 512 = 32 by norm_num)⟩, rfl⟩
      have h0 := b0.isLt
      have h1 := b1.isLt
      refine ⟨fun (a : Fin 2) => match a with | 0 => b0 | 1 => b1, fun (a : Fin 4) => ?_⟩
      match a with
      | 0 =>
        refine Eq.trans ?_ hb0
        show (BitVec.ofNat 32 b0.val).toNat = b0.val
        rw [BitVec.toNat_ofNat, Nat.mod_eq_of_lt (by omega)]
      | 1 =>
        have hz : (β (1 : Fin 4)).val < 1 := lt_of_lt_of_eq (β (1 : Fin 4)).isLt (show (2 + 2 - 1) / 2 = 1 by norm_num)
        show 0 = (β (1 : Fin 4)).val
        omega
      | 2 =>
        refine Eq.trans ?_ hb1
        show (BitVec.ofNat 32 b1.val).toNat = b1.val
        rw [BitVec.toNat_ofNat, Nat.mod_eq_of_lt (by omega)]
      | 3 =>
        have hz : (β (3 : Fin 4)).val < 1 := lt_of_lt_of_eq (β (3 : Fin 4)).isLt (show (256 + 256 - 1) / 256 = 1 by norm_num)
        show 0 = (β (3 : Fin 4)).val
        omega
  · have h0 : (grid0.coords t 0).val < 2 := (grid0.coords t 0).isLt
    have h1 : (grid0.coords t 1).val < 32 := (grid0.coords t 1).isLt
    have hx : (cfg0.win 9).index t = ![(grid0.coords t 0).val, 0, (grid0.coords t 1).val, 0] := by
      show ![(BitVec.ofNat 32 (grid0.coords t 0).val).toNat, 0, (BitVec.ofNat 32 (grid0.coords t 1).val).toNat, 0] = _
      rw [BitVec.toNat_ofNat, BitVec.toNat_ofNat, Nat.mod_eq_of_lt (by omega), Nat.mod_eq_of_lt (by omega)]
    obtain ⟨z, a, b, d, rfl⟩ : ∃ (z : Fin 1) (a : Fin 2) (b : Fin 512) (d : Fin 256), y = ix4 z a b d :=
      ⟨y (0 : Fin 4), y (1 : Fin 4), y (2 : Fin 4), y (3 : Fin 4), ValueIdx.eq_ix4 (n0 := 1) (n1 := 2) (n2 := 512) (n3 := 256) y⟩
    obtain rfl : z = 0 := Subsingleton.elim _ _
    have hemb : ((cfg0.win 9).blk t).view.emb (ix4 (0 : Fin 1) a b d) = ix4 (grid0.coords t 0) a (⟨(grid0.coords t 1).val * 512 + b.val, by have := b.isLt; omega⟩ : Fin 16384) d := by
      refine funext fun (i : Fin 4) => Fin.ext ?_
      refine (Window.rect_emb_val (cfg0.win 9) t (ix4 (0 : Fin 1) a b d) i).trans ?_
      rw [hx]
      match i with
      | 0 => show (grid0.coords t 0).val * 1 + 0 = (grid0.coords t 0).val; omega
      | 1 => show 0 * 2 + a.val = a.val; omega
      | 2 => rfl
      | 3 => show 0 * 256 + d.val = d.val; omega
    exact (congrFun ((after0_9 m c t).trans (out_9 m c t)) (ix4 (0 : Fin 1) a b d)).trans ((block_of_9 m c t a b d h0 h1).trans (congrArg (full3 (table m c)) hemb.symm))

theorem block_of_10 (a : Fin 2) (b : Fin 2) (d : Fin 144) (e : Fin 256) (h0 : (grid0.coords t 0).val < 2) (h1 : (grid0.coords t 1).val < 32) :
    blk4 (P := at_ m c t) (ix5 (0 : Fin 1) a b d e) = full4 (table m c) (ix5 (grid0.coords t 0) a (⟨(grid0.coords t 1).val * 2 + b.val, by have := b.isLt; omega⟩ : Fin 64) d e) := by
  show (if d.val < 128 then at_ m c t 0 (256 * b.val + e.val) (2816 + 128 * a.val + d.val) else one)
    = if d.val < 128 then table m c (grid0.coords t 0).val (256 * ((grid0.coords t 1).val * 2 + b.val) + e.val) (2816 + 128 * a.val + d.val) else one
  by_cases h : d.val < 128
  · rw [if_pos h, if_pos h]
    exact (at_eq m c t (256 * b.val + e.val) (2816 + 128 * a.val + d.val) (by have := b.isLt; have := e.isLt; omega) (by have := a.isLt; omega)).trans
      (congrArg (fun p => table m c (grid0.coords t 0).val p (2816 + 128 * a.val + d.val)) (by omega))
  · rw [if_neg h, if_neg h]

theorem result_10 : (dats m 0 c).arrAt 10 cfg0.N = full4 (table m c) := by
  refine (dats m 0 c).arrAt_eq_of_covers 10 _ ?_ fun t hf y => ?_
  · exact (cfg0.win 10).covers_of_indexMap_surj rfl (fun (a : Fin 5) => match a with | 0 => (by decide : 0 < 1) | 1 => (by decide : 0 < 2) | 2 => (by decide : 0 < 2) | 3 => (by decide : 0 < 144) | 4 => (by decide : 0 < 256)) fun β => by
      obtain ⟨b0, hb0⟩ : ∃ b0 : Fin 2, b0.val = (β (0 : Fin 5)).val :=
        ⟨⟨(β (0 : Fin 5)).val, lt_of_lt_of_eq (β (0 : Fin 5)).isLt (show (2 + 1 - 1) / 1 = 2 by norm_num)⟩, rfl⟩
      obtain ⟨b1, hb1⟩ : ∃ b1 : Fin 32, b1.val = (β (2 : Fin 5)).val :=
        ⟨⟨(β (2 : Fin 5)).val, lt_of_lt_of_eq (β (2 : Fin 5)).isLt (show (64 + 2 - 1) / 2 = 32 by norm_num)⟩, rfl⟩
      have h0 := b0.isLt
      have h1 := b1.isLt
      refine ⟨fun (a : Fin 2) => match a with | 0 => b0 | 1 => b1, fun (a : Fin 5) => ?_⟩
      match a with
      | 0 =>
        refine Eq.trans ?_ hb0
        show (BitVec.ofNat 32 b0.val).toNat = b0.val
        rw [BitVec.toNat_ofNat, Nat.mod_eq_of_lt (by omega)]
      | 1 =>
        have hz : (β (1 : Fin 5)).val < 1 := lt_of_lt_of_eq (β (1 : Fin 5)).isLt (show (2 + 2 - 1) / 2 = 1 by norm_num)
        show 0 = (β (1 : Fin 5)).val
        omega
      | 2 =>
        refine Eq.trans ?_ hb1
        show (BitVec.ofNat 32 b1.val).toNat = b1.val
        rw [BitVec.toNat_ofNat, Nat.mod_eq_of_lt (by omega)]
      | 3 =>
        have hz : (β (3 : Fin 5)).val < 1 := lt_of_lt_of_eq (β (3 : Fin 5)).isLt (show (144 + 144 - 1) / 144 = 1 by norm_num)
        show 0 = (β (3 : Fin 5)).val
        omega
      | 4 =>
        have hz : (β (4 : Fin 5)).val < 1 := lt_of_lt_of_eq (β (4 : Fin 5)).isLt (show (256 + 256 - 1) / 256 = 1 by norm_num)
        show 0 = (β (4 : Fin 5)).val
        omega
  · have h0 : (grid0.coords t 0).val < 2 := (grid0.coords t 0).isLt
    have h1 : (grid0.coords t 1).val < 32 := (grid0.coords t 1).isLt
    have hx : (cfg0.win 10).index t = ![(grid0.coords t 0).val, 0, (grid0.coords t 1).val, 0, 0] := by
      show ![(BitVec.ofNat 32 (grid0.coords t 0).val).toNat, 0, (BitVec.ofNat 32 (grid0.coords t 1).val).toNat, 0, 0] = _
      rw [BitVec.toNat_ofNat, BitVec.toNat_ofNat, Nat.mod_eq_of_lt (by omega), Nat.mod_eq_of_lt (by omega)]
    obtain ⟨z, a, b, d, e, rfl⟩ : ∃ (z : Fin 1) (a : Fin 2) (b : Fin 2) (d : Fin 144) (e : Fin 256), y = ix5 z a b d e :=
      ⟨y (0 : Fin 5), y (1 : Fin 5), y (2 : Fin 5), y (3 : Fin 5), y (4 : Fin 5), ValueIdx.eq_ix5 (n0 := 1) (n1 := 2) (n2 := 2) (n3 := 144) (n4 := 256) y⟩
    obtain rfl : z = 0 := Subsingleton.elim _ _
    have hemb : ((cfg0.win 10).blk t).view.emb (ix5 (0 : Fin 1) a b d e) = ix5 (grid0.coords t 0) a (⟨(grid0.coords t 1).val * 2 + b.val, by have := b.isLt; omega⟩ : Fin 64) d e := by
      refine funext fun (i : Fin 5) => Fin.ext ?_
      refine (Window.rect_emb_val (cfg0.win 10) t (ix5 (0 : Fin 1) a b d e) i).trans ?_
      rw [hx]
      match i with
      | 0 => show (grid0.coords t 0).val * 1 + 0 = (grid0.coords t 0).val; omega
      | 1 => show 0 * 2 + a.val = a.val; omega
      | 2 => rfl
      | 3 => show 0 * 144 + d.val = d.val; omega
      | 4 => show 0 * 256 + e.val = e.val; omega
    exact (congrFun ((after0_10 m c t).trans (out_10 m c t)) (ix5 (0 : Fin 1) a b d e)).trans ((block_of_10 m c t a b d e h0 h1).trans (congrArg (full4 (table m c)) hemb.symm))

theorem block_of_11 (a : Fin 2) (b : Fin 512) (d : Fin 128) (h0 : (grid0.coords t 0).val < 2) (h1 : (grid0.coords t 1).val < 32) :
    blk5 (P := at_ m c t) (ix4 (0 : Fin 1) a b d) = full5 (table m c) (ix4 (grid0.coords t 0) a (⟨(grid0.coords t 1).val * 512 + b.val, by have := b.isLt; omega⟩ : Fin 16384) d) := by
  exact (at_eq m c t b.val (3072 + 128 * a.val + d.val) b.isLt (by have := a.isLt; have := d.isLt; omega)).trans (congrArg (fun p => table m c (grid0.coords t 0).val p (3072 + 128 * a.val + d.val)) (show 512 * (grid0.coords t 1).val + b.val = (grid0.coords t 1).val * 512 + b.val by omega))

theorem result_11 : (dats m 0 c).arrAt 11 cfg0.N = full5 (table m c) := by
  refine (dats m 0 c).arrAt_eq_of_covers 11 _ ?_ fun t hf y => ?_
  · exact (cfg0.win 11).covers_of_indexMap_surj rfl (fun (a : Fin 4) => match a with | 0 => (by decide : 0 < 1) | 1 => (by decide : 0 < 2) | 2 => (by decide : 0 < 512) | 3 => (by decide : 0 < 128)) fun β => by
      obtain ⟨b0, hb0⟩ : ∃ b0 : Fin 2, b0.val = (β (0 : Fin 4)).val :=
        ⟨⟨(β (0 : Fin 4)).val, lt_of_lt_of_eq (β (0 : Fin 4)).isLt (show (2 + 1 - 1) / 1 = 2 by norm_num)⟩, rfl⟩
      obtain ⟨b1, hb1⟩ : ∃ b1 : Fin 32, b1.val = (β (2 : Fin 4)).val :=
        ⟨⟨(β (2 : Fin 4)).val, lt_of_lt_of_eq (β (2 : Fin 4)).isLt (show (16384 + 512 - 1) / 512 = 32 by norm_num)⟩, rfl⟩
      have h0 := b0.isLt
      have h1 := b1.isLt
      refine ⟨fun (a : Fin 2) => match a with | 0 => b0 | 1 => b1, fun (a : Fin 4) => ?_⟩
      match a with
      | 0 =>
        refine Eq.trans ?_ hb0
        show (BitVec.ofNat 32 b0.val).toNat = b0.val
        rw [BitVec.toNat_ofNat, Nat.mod_eq_of_lt (by omega)]
      | 1 =>
        have hz : (β (1 : Fin 4)).val < 1 := lt_of_lt_of_eq (β (1 : Fin 4)).isLt (show (2 + 2 - 1) / 2 = 1 by norm_num)
        show 0 = (β (1 : Fin 4)).val
        omega
      | 2 =>
        refine Eq.trans ?_ hb1
        show (BitVec.ofNat 32 b1.val).toNat = b1.val
        rw [BitVec.toNat_ofNat, Nat.mod_eq_of_lt (by omega)]
      | 3 =>
        have hz : (β (3 : Fin 4)).val < 1 := lt_of_lt_of_eq (β (3 : Fin 4)).isLt (show (128 + 128 - 1) / 128 = 1 by norm_num)
        show 0 = (β (3 : Fin 4)).val
        omega
  · have h0 : (grid0.coords t 0).val < 2 := (grid0.coords t 0).isLt
    have h1 : (grid0.coords t 1).val < 32 := (grid0.coords t 1).isLt
    have hx : (cfg0.win 11).index t = ![(grid0.coords t 0).val, 0, (grid0.coords t 1).val, 0] := by
      show ![(BitVec.ofNat 32 (grid0.coords t 0).val).toNat, 0, (BitVec.ofNat 32 (grid0.coords t 1).val).toNat, 0] = _
      rw [BitVec.toNat_ofNat, BitVec.toNat_ofNat, Nat.mod_eq_of_lt (by omega), Nat.mod_eq_of_lt (by omega)]
    obtain ⟨z, a, b, d, rfl⟩ : ∃ (z : Fin 1) (a : Fin 2) (b : Fin 512) (d : Fin 128), y = ix4 z a b d :=
      ⟨y (0 : Fin 4), y (1 : Fin 4), y (2 : Fin 4), y (3 : Fin 4), ValueIdx.eq_ix4 (n0 := 1) (n1 := 2) (n2 := 512) (n3 := 128) y⟩
    obtain rfl : z = 0 := Subsingleton.elim _ _
    have hemb : ((cfg0.win 11).blk t).view.emb (ix4 (0 : Fin 1) a b d) = ix4 (grid0.coords t 0) a (⟨(grid0.coords t 1).val * 512 + b.val, by have := b.isLt; omega⟩ : Fin 16384) d := by
      refine funext fun (i : Fin 4) => Fin.ext ?_
      refine (Window.rect_emb_val (cfg0.win 11) t (ix4 (0 : Fin 1) a b d) i).trans ?_
      rw [hx]
      match i with
      | 0 => show (grid0.coords t 0).val * 1 + 0 = (grid0.coords t 0).val; omega
      | 1 => show 0 * 2 + a.val = a.val; omega
      | 2 => rfl
      | 3 => show 0 * 128 + d.val = d.val; omega
    exact (congrFun ((after0_11 m c t).trans (out_11 m c t)) (ix4 (0 : Fin 1) a b d)).trans ((block_of_11 m c t a b d h0 h1).trans (congrArg (full5 (table m c)) hemb.symm))

theorem block_of_12 (a : Fin 2) (b : Fin 4) (d : Fin 144) (e : Fin 128) (h0 : (grid0.coords t 0).val < 2) (h1 : (grid0.coords t 1).val < 32) :
    blk6 (P := at_ m c t) (ix5 (0 : Fin 1) a b d e) = full6 (table m c) (ix5 (grid0.coords t 0) a (⟨(grid0.coords t 1).val * 4 + b.val, by have := b.isLt; omega⟩ : Fin 128) d e) := by
  show (if d.val < 128 then at_ m c t 0 (128 * b.val + e.val) (3328 + 128 * a.val + d.val) else one)
    = if d.val < 128 then table m c (grid0.coords t 0).val (128 * ((grid0.coords t 1).val * 4 + b.val) + e.val) (3328 + 128 * a.val + d.val) else one
  by_cases h : d.val < 128
  · rw [if_pos h, if_pos h]
    exact (at_eq m c t (128 * b.val + e.val) (3328 + 128 * a.val + d.val) (by have := b.isLt; have := e.isLt; omega) (by have := a.isLt; omega)).trans
      (congrArg (fun p => table m c (grid0.coords t 0).val p (3328 + 128 * a.val + d.val)) (by omega))
  · rw [if_neg h, if_neg h]

theorem result_12 : (dats m 0 c).arrAt 12 cfg0.N = full6 (table m c) := by
  refine (dats m 0 c).arrAt_eq_of_covers 12 _ ?_ fun t hf y => ?_
  · exact (cfg0.win 12).covers_of_indexMap_surj rfl (fun (a : Fin 5) => match a with | 0 => (by decide : 0 < 1) | 1 => (by decide : 0 < 2) | 2 => (by decide : 0 < 4) | 3 => (by decide : 0 < 144) | 4 => (by decide : 0 < 128)) fun β => by
      obtain ⟨b0, hb0⟩ : ∃ b0 : Fin 2, b0.val = (β (0 : Fin 5)).val :=
        ⟨⟨(β (0 : Fin 5)).val, lt_of_lt_of_eq (β (0 : Fin 5)).isLt (show (2 + 1 - 1) / 1 = 2 by norm_num)⟩, rfl⟩
      obtain ⟨b1, hb1⟩ : ∃ b1 : Fin 32, b1.val = (β (2 : Fin 5)).val :=
        ⟨⟨(β (2 : Fin 5)).val, lt_of_lt_of_eq (β (2 : Fin 5)).isLt (show (128 + 4 - 1) / 4 = 32 by norm_num)⟩, rfl⟩
      have h0 := b0.isLt
      have h1 := b1.isLt
      refine ⟨fun (a : Fin 2) => match a with | 0 => b0 | 1 => b1, fun (a : Fin 5) => ?_⟩
      match a with
      | 0 =>
        refine Eq.trans ?_ hb0
        show (BitVec.ofNat 32 b0.val).toNat = b0.val
        rw [BitVec.toNat_ofNat, Nat.mod_eq_of_lt (by omega)]
      | 1 =>
        have hz : (β (1 : Fin 5)).val < 1 := lt_of_lt_of_eq (β (1 : Fin 5)).isLt (show (2 + 2 - 1) / 2 = 1 by norm_num)
        show 0 = (β (1 : Fin 5)).val
        omega
      | 2 =>
        refine Eq.trans ?_ hb1
        show (BitVec.ofNat 32 b1.val).toNat = b1.val
        rw [BitVec.toNat_ofNat, Nat.mod_eq_of_lt (by omega)]
      | 3 =>
        have hz : (β (3 : Fin 5)).val < 1 := lt_of_lt_of_eq (β (3 : Fin 5)).isLt (show (144 + 144 - 1) / 144 = 1 by norm_num)
        show 0 = (β (3 : Fin 5)).val
        omega
      | 4 =>
        have hz : (β (4 : Fin 5)).val < 1 := lt_of_lt_of_eq (β (4 : Fin 5)).isLt (show (128 + 128 - 1) / 128 = 1 by norm_num)
        show 0 = (β (4 : Fin 5)).val
        omega
  · have h0 : (grid0.coords t 0).val < 2 := (grid0.coords t 0).isLt
    have h1 : (grid0.coords t 1).val < 32 := (grid0.coords t 1).isLt
    have hx : (cfg0.win 12).index t = ![(grid0.coords t 0).val, 0, (grid0.coords t 1).val, 0, 0] := by
      show ![(BitVec.ofNat 32 (grid0.coords t 0).val).toNat, 0, (BitVec.ofNat 32 (grid0.coords t 1).val).toNat, 0, 0] = _
      rw [BitVec.toNat_ofNat, BitVec.toNat_ofNat, Nat.mod_eq_of_lt (by omega), Nat.mod_eq_of_lt (by omega)]
    obtain ⟨z, a, b, d, e, rfl⟩ : ∃ (z : Fin 1) (a : Fin 2) (b : Fin 4) (d : Fin 144) (e : Fin 128), y = ix5 z a b d e :=
      ⟨y (0 : Fin 5), y (1 : Fin 5), y (2 : Fin 5), y (3 : Fin 5), y (4 : Fin 5), ValueIdx.eq_ix5 (n0 := 1) (n1 := 2) (n2 := 4) (n3 := 144) (n4 := 128) y⟩
    obtain rfl : z = 0 := Subsingleton.elim _ _
    have hemb : ((cfg0.win 12).blk t).view.emb (ix5 (0 : Fin 1) a b d e) = ix5 (grid0.coords t 0) a (⟨(grid0.coords t 1).val * 4 + b.val, by have := b.isLt; omega⟩ : Fin 128) d e := by
      refine funext fun (i : Fin 5) => Fin.ext ?_
      refine (Window.rect_emb_val (cfg0.win 12) t (ix5 (0 : Fin 1) a b d e) i).trans ?_
      rw [hx]
      match i with
      | 0 => show (grid0.coords t 0).val * 1 + 0 = (grid0.coords t 0).val; omega
      | 1 => show 0 * 2 + a.val = a.val; omega
      | 2 => rfl
      | 3 => show 0 * 144 + d.val = d.val; omega
      | 4 => show 0 * 128 + e.val = e.val; omega
    exact (congrFun ((after0_12 m c t).trans (out_12 m c t)) (ix5 (0 : Fin 1) a b d e)).trans ((block_of_12 m c t a b d e h0 h1).trans (congrArg (full6 (table m c)) hemb.symm))

theorem block_of_13 (a : Fin 24) (b : Fin 512) (h0 : (grid0.coords t 0).val < 2) (h1 : (grid0.coords t 1).val < 32) :
    blk7 (P := at_ m c t) (ix3 (0 : Fin 1) a b) = full7 (table m c) (ix3 (grid0.coords t 0) a (⟨(grid0.coords t 1).val * 512 + b.val, by have := b.isLt; omega⟩ : Fin 16384)) := by
  exact congrArg (FloatOps.logistic (F := Ideal) (φ := .f32)) ((at_eq m c t b.val (3584 + a.val) b.isLt (by have := a.isLt; omega)).trans (congrArg (fun p => table m c (grid0.coords t 0).val p (3584 + a.val)) (show 512 * (grid0.coords t 1).val + b.val = (grid0.coords t 1).val * 512 + b.val by omega)))

theorem result_13 : (dats m 0 c).arrAt 13 cfg0.N = full7 (table m c) := by
  refine (dats m 0 c).arrAt_eq_of_covers 13 _ ?_ fun t hf y => ?_
  · exact (cfg0.win 13).covers_of_indexMap_surj rfl (fun (a : Fin 3) => match a with | 0 => (by decide : 0 < 1) | 1 => (by decide : 0 < 24) | 2 => (by decide : 0 < 512)) fun β => by
      obtain ⟨b0, hb0⟩ : ∃ b0 : Fin 2, b0.val = (β (0 : Fin 3)).val :=
        ⟨⟨(β (0 : Fin 3)).val, lt_of_lt_of_eq (β (0 : Fin 3)).isLt (show (2 + 1 - 1) / 1 = 2 by norm_num)⟩, rfl⟩
      obtain ⟨b1, hb1⟩ : ∃ b1 : Fin 32, b1.val = (β (2 : Fin 3)).val :=
        ⟨⟨(β (2 : Fin 3)).val, lt_of_lt_of_eq (β (2 : Fin 3)).isLt (show (16384 + 512 - 1) / 512 = 32 by norm_num)⟩, rfl⟩
      have h0 := b0.isLt
      have h1 := b1.isLt
      refine ⟨fun (a : Fin 2) => match a with | 0 => b0 | 1 => b1, fun (a : Fin 3) => ?_⟩
      match a with
      | 0 =>
        refine Eq.trans ?_ hb0
        show (BitVec.ofNat 32 b0.val).toNat = b0.val
        rw [BitVec.toNat_ofNat, Nat.mod_eq_of_lt (by omega)]
      | 1 =>
        have hz : (β (1 : Fin 3)).val < 1 := lt_of_lt_of_eq (β (1 : Fin 3)).isLt (show (24 + 24 - 1) / 24 = 1 by norm_num)
        show 0 = (β (1 : Fin 3)).val
        omega
      | 2 =>
        refine Eq.trans ?_ hb1
        show (BitVec.ofNat 32 b1.val).toNat = b1.val
        rw [BitVec.toNat_ofNat, Nat.mod_eq_of_lt (by omega)]
  · have h0 : (grid0.coords t 0).val < 2 := (grid0.coords t 0).isLt
    have h1 : (grid0.coords t 1).val < 32 := (grid0.coords t 1).isLt
    have hx : (cfg0.win 13).index t = ![(grid0.coords t 0).val, 0, (grid0.coords t 1).val] := by
      show ![(BitVec.ofNat 32 (grid0.coords t 0).val).toNat, 0, (BitVec.ofNat 32 (grid0.coords t 1).val).toNat] = _
      rw [BitVec.toNat_ofNat, BitVec.toNat_ofNat, Nat.mod_eq_of_lt (by omega), Nat.mod_eq_of_lt (by omega)]
    obtain ⟨z, a, b, rfl⟩ : ∃ (z : Fin 1) (a : Fin 24) (b : Fin 512), y = ix3 z a b :=
      ⟨y (0 : Fin 3), y (1 : Fin 3), y (2 : Fin 3), ValueIdx.eq_ix3 (n0 := 1) (n1 := 24) (n2 := 512) y⟩
    obtain rfl : z = 0 := Subsingleton.elim _ _
    have hemb : ((cfg0.win 13).blk t).view.emb (ix3 (0 : Fin 1) a b) = ix3 (grid0.coords t 0) a (⟨(grid0.coords t 1).val * 512 + b.val, by have := b.isLt; omega⟩ : Fin 16384) := by
      refine funext fun (i : Fin 3) => Fin.ext ?_
      refine (Window.rect_emb_val (cfg0.win 13) t (ix3 (0 : Fin 1) a b) i).trans ?_
      rw [hx]
      match i with
      | 0 => show (grid0.coords t 0).val * 1 + 0 = (grid0.coords t 0).val; omega
      | 1 => show 0 * 24 + a.val = a.val; omega
      | 2 => rfl
    exact (congrFun ((after0_13 m c t).trans (out_13 m c t)) (ix3 (0 : Fin 1) a b)).trans ((block_of_13 m c t a b h0 h1).trans (congrArg (full7 (table m c)) hemb.symm))

end Cert.Kernel3Ideal.Proj

end
-- ==== Proof.CpPlain.lean ====
/- The compression of the keys and values by plain formulas: a block of two chunks of 16 positions, its hidden row, and
   the compressed entry, from the arguments. -/
module

public import proofs.«01_k».proof.Proof.Gen.Kernel4Ideal
public import Idealize.ShloMosaic.Lib.ValueIdxCore
public import Idealize.ShloMosaic.Lib.Pointwise.Tactic
public import Idealize.ShloMosaic.PureOps.Ideal.Laws

@[expose] public section

noncomputable section

namespace Cert.Kernel4Ideal.Cmp

open Cert.Kernel4Ideal.Gen
open Idealize.ShloMosaic.ValueIdx (ix1 ix2 ix3 ix4 ix5)
open Idealize.ShloMosaic hiding ix1 ix2 ix3 ix4 ix5

/-- The chunk after a chunk; the first after the last. -/
def nxt (r : Fin 1024) : Fin 1024 := ⟨(r.val + 1) % 1024, Nat.mod_lt _ (by norm_num)⟩

/-- An entry of a block's first chunk, and of its second. -/
def lo (k : Fin 2048) : Fin 4096 := ⟨k.val, by have := k.isLt; omega⟩
def hi (k : Fin 2048) : Fin 4096 := ⟨2048 + k.val, by have := k.isLt; omega⟩

/-- A hidden entry of block `r` before the activation: the products of its two chunks with their halves of the weights,
    and the bias. -/
def pre (x : Fin 1024 → Fin 2048 → EReal) (pos : Fin 4096 → EReal) (w : Fin 4096 → Fin 512 → EReal) (b : Fin 512 → EReal) (r : Fin 1024) (h : Fin 512) : EReal :=
  (∑ k : Fin 2048, (x r k + pos (lo k)) * w (lo k) h) + (∑ k : Fin 2048, (x (nxt r) k + pos (hi k)) * w (hi k) h) + b h

/-- The activation. -/
def act (h : EReal) : EReal :=
  FloatOps.mulf (F := Ideal) (φ := .f32) h
    (FloatOps.mulf (F := Ideal) (φ := .f32) (FloatOps.ofBits .f32 0x3F000000#32)
      (FloatOps.addf (F := Ideal) (φ := .f32) (FloatOps.ofBits .f32 0x3F800000#32)
        (FloatOps.tanh (F := Ideal) (φ := .f32)
          (FloatOps.mulf (F := Ideal) (φ := .f32) (FloatOps.ofBits .f32 0x3F4C422A#32)
            (FloatOps.addf (F := Ideal) (φ := .f32) h
              (FloatOps.mulf (F := Ideal) (φ := .f32) (FloatOps.ofBits .f32 0x3D372713#32)
                (FloatOps.mulf (F := Ideal) (φ := .f32) h (FloatOps.mulf (F := Ideal) (φ := .f32) h h))))))))

/-- A compressed entry: the activated hidden row's product with a column, and the bias. -/
def outv (x : Fin 1024 → Fin 2048 → EReal) (pos : Fin 4096 → EReal) (w : Fin 4096 → Fin 512 → EReal) (b : Fin 512 → EReal)
    (u : Fin 512 → Fin 128 → EReal) (e : Fin 128 → EReal) (r : Fin 1024) (d : Fin 128) : EReal :=
  (∑ h : Fin 512, act (pre x pos w b r h) * u h d) + e d

/-- The chunks of one head: entry `k` of chunk `r` is coordinate `k % 128` of position `16 r + k / 128`. -/
def chunk (a : FVec Ideal S2x4x16384x128 .f32) (b : Fin 2) (i : Fin 4) (r : Fin 1024) (k : Fin 2048) : EReal :=
  a (ix4 b i (⟨16 * r.val + k.val / 128, by have := r.isLt; have := k.isLt; omega⟩ : Fin 16384) (⟨k.val % 128, Nat.mod_lt _ (by norm_num)⟩ : Fin 128))

def posOf (a : FVec Ideal S2x32x128 .f32) (k : Fin 4096) : EReal :=
  a (ix3 (0 : Fin 2) (⟨k.val / 128, by have := k.isLt; omega⟩ : Fin 32) (⟨k.val % 128, Nat.mod_lt _ (by norm_num)⟩ : Fin 128))
def w1Of (a : FVec Ideal S2x4096x512 .f32) (k : Fin 4096) (h : Fin 512) : EReal := a (ix3 (0 : Fin 2) k h)
def b1Of (a : FVec Ideal S2x512 .f32) (h : Fin 512) : EReal := a (ix2 (0 : Fin 2) h)
def w2Of (a : FVec Ideal S2x512x128 .f32) (h : Fin 512) (d : Fin 128) : EReal := a (ix3 (0 : Fin 2) h d)
def b2Of (a : FVec Ideal S2x128 .f32) (d : Fin 128) : EReal := a (ix2 (0 : Fin 2) d)

/-- A result's entry: the keys' heads (0 and 1) by the keys' weights, the values' heads by the values'. -/
def value (a0 : FVec Ideal S2x4x16384x128 .f32) (a1 : FVec Ideal S2x32x128 .f32) (a2 : FVec Ideal S2x4096x512 .f32) (a3 : FVec Ideal S2x512 .f32)
    (a4 : FVec Ideal S2x512x128 .f32) (a5 : FVec Ideal S2x128 .f32) (a6 : FVec Ideal S2x32x128 .f32) (a7 : FVec Ideal S2x4096x512 .f32) (a8 : FVec Ideal S2x512 .f32)
    (a9 : FVec Ideal S2x512x128 .f32) (a10 : FVec Ideal S2x128 .f32) (b : Fin 2) (i : Fin 4) (r : Fin 1024) (d : Fin 128) : EReal :=
  if i.val < 2 then outv (chunk a0 b i) (posOf a1) (w1Of a2) (b1Of a3) (w2Of a4) (b2Of a5) r d
  else outv (chunk a0 b i) (posOf a6) (w1Of a7) (b1Of a8) (w2Of a9) (b2Of a10) r d

end Cert.Kernel4Ideal.Cmp

end
-- ==== Proof.CpRef.lean ====
/- The reference of the compression read at an entry: the plain formulas. -/
module

public import proofs.«01_k».proof.Proof.CpPlain
public import proofs.«01_k».proof.Proof.Gen.Reference4Ideal.Read
public import Idealize.ShloMosaic.Lib.IdealHost
public import Idealize.ShloMosaic.Lib.KernelVsHost

@[expose] public section

set_option maxRecDepth 16384

noncomputable section

namespace Cert.Reference4Ideal.Cmp

open Cert.Reference4Ideal.Read
open Idealize.ShloMosaic.ValueIdx (ix1 ix2 ix3 ix4 ix5)
open Cert.Kernel4Ideal.Cmp (nxt lo hi pre act outv chunk posOf w1Of b1Of w2Of b2Of value)
open Idealize.ShloMosaic hiding ix1 ix2 ix3 ix4 ix5

section Half
variable (x : FVec Ideal S2x4x16384x128 .f32) (p : FVec Ideal S2x32x128 .f32) (w : FVec Ideal S2x4096x512 .f32) (e : FVec Ideal S2x512 .f32)
  (u : FVec Ideal S2x512x128 .f32) (f : FVec Ideal S2x128 .f32)

/-- One of the first two heads among the four. -/
def up (i : Fin 2) : Fin 4 := ⟨i.val, by have := i.isLt; omega⟩

theorem chunks_eq (b i : Fin 2) (r : Fin 1024) (s : Fin 16) (d : Fin 128) :
    val_main_v11 (F := Ideal) x (ix5 b i r s d) = x (ix4 b (up i) (⟨16 * r.val + s.val, by have := r.isLt; have := s.isLt; omega⟩ : Fin 16384) d) := by
  rw [val_main_v11_apply, val_main_v0_apply]
  have hb := b.isLt; have hi := i.isLt; have hr := r.isLt; have hs := s.isLt; have hd := d.isLt
  refine congrArg x (funext fun a => Fin.ext ?_)
  match a with
  | 0 => show ((((b.val * 2 + i.val) * 1024 + r.val) * 16 + s.val) * 128 + d.val) / 4194304 = b.val; omega
  | 1 => show ((((b.val * 2 + i.val) * 1024 + r.val) * 16 + s.val) * 128 + d.val) / 2097152 % 2 = i.val; omega
  | 2 => show ((((b.val * 2 + i.val) * 1024 + r.val) * 16 + s.val) * 128 + d.val) / 128 % 16384 = 16 * r.val + s.val; omega
  | 3 => show ((((b.val * 2 + i.val) * 1024 + r.val) * 16 + s.val) * 128 + d.val) % 128 = d.val; omega

theorem after_eq (b i : Fin 2) (r : Fin 1024) (s : Fin 16) (d : Fin 128) :
    val_main_v14 (F := Ideal) x (ix5 b i r s d) = val_main_v11 (F := Ideal) x (ix5 b i (nxt r) s d) := by
  have hr := r.isLt
  unfold val_main_v14
  by_cases h : r.val < 1023
  · refine (concatenate_pair_apply_left (t := S2x2x1024x16x128) (s₁ := S2x2x1023x16x128) (s₂ := S2x2x1x16x128) (2 : Fin 5) _ _ _ (ix5 b i r s d) rfl
      (ix5 b i (⟨r.val, h⟩ : Fin 1023) s d) (fun a => match a with | 0 => rfl | 1 => rfl | 2 => rfl | 3 => rfl | 4 => rfl)).trans ?_
    rw [val_main_v12_apply]
    refine congrArg _ (funext fun a => Fin.ext ?_)
    match a with
    | 0 => rfl
    | 1 => rfl
    | 2 => show 1 + r.val = (r.val + 1) % 1024; omega
    | 3 => rfl
    | 4 => rfl
  · refine (concatenate_pair_apply_right (t := S2x2x1024x16x128) (s₁ := S2x2x1023x16x128) (s₂ := S2x2x1x16x128) (2 : Fin 5) _ _ _ (ix5 b i r s d) rfl rfl
      (ix5 b i (0 : Fin 1) s d) (fun a => match a with | 0 => fun _ => rfl | 1 => fun _ => rfl | 2 => fun hne => absurd rfl hne | 3 => fun _ => rfl | 4 => fun _ => rfl)
      (show 0 + 1023 = r.val by omega)).trans ?_
    rw [val_main_v13_apply]
    refine congrArg _ (funext fun a => Fin.ext ?_)
    match a with
    | 0 => rfl
    | 1 => rfl
    | 2 => show 0 = (r.val + 1) % 1024; omega
    | 3 => rfl
    | 4 => rfl

theorem first_eq (b i : Fin 2) (r : Fin 1024) (s : Fin 32) (d : Fin 128) (s' : Fin 16) (h : s'.val = s.val) :
    val_main_v15 (F := Ideal) x (ix5 b i r s d) = val_main_v11 (F := Ideal) x (ix5 b i r s' d) := by
  unfold val_main_v15
  exact concatenate_pair_apply_left (t := S2x2x1024x32x128) (s₁ := S2x2x1024x16x128) (s₂ := S2x2x1024x16x128) (3 : Fin 5) _ _ _ (ix5 b i r s d) rfl
      (ix5 b i r s' d) (fun a => match a with | 0 => rfl | 1 => rfl | 2 => rfl | 3 => h | 4 => rfl)

theorem second_eq (b i : Fin 2) (r : Fin 1024) (s : Fin 32) (d : Fin 128) (s' : Fin 16) (h : 16 + s'.val = s.val) :
    val_main_v15 (F := Ideal) x (ix5 b i r s d) = val_main_v11 (F := Ideal) x (ix5 b i (nxt r) s' d) := by
  unfold val_main_v15
  exact (concatenate_pair_apply_right (t := S2x2x1024x32x128) (s₁ := S2x2x1024x16x128) (s₂ := S2x2x1024x16x128) (3 : Fin 5) _ _ _ (ix5 b i r s d) rfl rfl
      (ix5 b i r s' d) (fun a => match a with | 0 => fun _ => rfl | 1 => fun _ => rfl | 2 => fun _ => rfl | 3 => fun hne => absurd rfl hne | 4 => fun _ => rfl)
      ((Nat.add_comm _ _).trans h)).trans (after_eq x b i r s' d)

theorem pos_eq (s : Fin 32) (d : Fin 128) : val_main_v2 (F := Ideal) p (ix2 s d) = p (ix3 (0 : Fin 2) s d) := by
  rw [val_main_v2_apply, val_main_v1_apply]
  have hs := s.isLt; have hd := d.isLt
  refine congrArg p (funext fun a => Fin.ext ?_)
  match a with
  | 0 => rfl
  | 1 => show (s.val * 128 + d.val) / 128 % 32 = s.val; omega
  | 2 => show (s.val * 128 + d.val) % 128 = d.val; omega

theorem block_eq (b i : Fin 2) (r : Fin 1024) (k : Fin 4096) :
    val_main_v19 (F := Ideal) x p (ix4 b i r k)
      = val_main_v15 (F := Ideal) x (ix5 b i r (⟨k.val / 128, by have := k.isLt; omega⟩ : Fin 32) (⟨k.val % 128, Nat.mod_lt _ (by norm_num)⟩ : Fin 128)) + posOf p k := by
  have hb := b.isLt; have hi := i.isLt; have hr := r.isLt; have hk := k.isLt
  have e : idx_main_v19 (ix4 b i r k) = ix5 b i r (⟨k.val / 128, by omega⟩ : Fin 32) (⟨k.val % 128, Nat.mod_lt _ (by norm_num)⟩ : Fin 128) :=
    funext fun a => Fin.ext (by
      match a with
      | 0 => show (((b.val * 2 + i.val) * 1024 + r.val) * 4096 + k.val) / 8388608 = b.val; omega
      | 1 => show (((b.val * 2 + i.val) * 1024 + r.val) * 4096 + k.val) / 4194304 % 2 = i.val; omega
      | 2 => show (((b.val * 2 + i.val) * 1024 + r.val) * 4096 + k.val) / 4096 % 1024 = r.val; omega
      | 3 => show (((b.val * 2 + i.val) * 1024 + r.val) * 4096 + k.val) / 128 % 32 = k.val / 128; omega
      | 4 => show (((b.val * 2 + i.val) * 1024 + r.val) * 4096 + k.val) % 128 = k.val % 128; omega)
  rw [val_main_v19_apply, e, val_main_v18_apply, val_main_v17_apply, val_main_v16_apply]
  have e2 : idx_main_v16 (idx_main_v17 (ix5 b i r (⟨k.val / 128, by omega⟩ : Fin 32) (⟨k.val % 128, Nat.mod_lt _ (by norm_num)⟩ : Fin 128)))
      = ix2 (⟨k.val / 128, by omega⟩ : Fin 32) (⟨k.val % 128, Nat.mod_lt _ (by norm_num)⟩ : Fin 128) := funext fun a => match a with | 0 => rfl | 1 => rfl
  rw [e2, pos_eq]
  rfl

theorem block_lo (b i : Fin 2) (r : Fin 1024) (k : Fin 2048) :
    val_main_v19 (F := Ideal) x p (ix4 b i r (lo k)) = chunk x b (up i) r k + posOf p (lo k) := by
  have hk := k.isLt
  rw [block_eq, first_eq x b i r _ _ (⟨k.val / 128, by omega⟩ : Fin 16) rfl, chunks_eq]
  rfl

theorem block_hi (b i : Fin 2) (r : Fin 1024) (k : Fin 2048) :
    val_main_v19 (F := Ideal) x p (ix4 b i r (hi k)) = chunk x b (up i) (nxt r) k + posOf p (hi k) := by
  have hk := k.isLt
  rw [block_eq, second_eq x b i r _ _ (⟨k.val / 128, by omega⟩ : Fin 16) (show 16 + k.val / 128 = (2048 + k.val) / 128 by omega), chunks_eq]
  refine congrArg (· + _) (congrArg (fun d => x (ix4 b (up i) _ d)) (Fin.ext ?_))
  show (2048 + k.val) % 128 = k.val % 128
  omega

theorem w1_eq (k : Fin 4096) (h : Fin 512) : val_main_v4 (F := Ideal) w (ix2 k h) = w1Of w k h := by
  rw [val_main_v4_apply, val_main_v3_apply]
  have hk := k.isLt; have hh := h.isLt
  refine congrArg w (funext fun a => Fin.ext ?_)
  match a with
  | 0 => rfl
  | 1 => show (k.val * 512 + h.val) / 512 % 4096 = k.val; omega
  | 2 => show (k.val * 512 + h.val) % 512 = h.val; omega

theorem b1_eq (h : Fin 512) : val_main_v6 (F := Ideal) e (ix1 h) = b1Of e h := by
  rw [val_main_v6_apply, val_main_v5_apply]
  have hh := h.isLt
  refine congrArg e (funext fun a => Fin.ext ?_)
  match a with
  | 0 => rfl
  | 1 => show h.val % 512 = h.val; omega

theorem w2_eq (k : Fin 512) (h : Fin 128) : val_main_v8 (F := Ideal) u (ix2 k h) = w2Of u k h := by
  rw [val_main_v8_apply, val_main_v7_apply]
  have hk := k.isLt; have hh := h.isLt
  refine congrArg u (funext fun a => Fin.ext ?_)
  match a with
  | 0 => rfl
  | 1 => show (k.val * 128 + h.val) / 128 % 512 = k.val; omega
  | 2 => show (k.val * 128 + h.val) % 128 = h.val; omega

theorem b2_eq (h : Fin 128) : val_main_v10 (F := Ideal) f (ix1 h) = b2Of f h := by
  rw [val_main_v10_apply, val_main_v9_apply]
  have hh := h.isLt
  refine congrArg f (funext fun a => Fin.ext ?_)
  match a with
  | 0 => rfl
  | 1 => show h.val % 128 = h.val; omega

/-- The product over a block's 4096 entries, by its two chunks. -/
theorem pre_eq (b i : Fin 2) (r : Fin 1024) (h : Fin 512) :
    val_main_v23 (F := Ideal) x p w e (ix4 b i r h) = pre (chunk x b (up i)) (posOf p) (w1Of w) (b1Of e) r h := by
  rw [val_main_v23_apply, val_main_v22_apply, val_main_v21_apply, val_main_v20_apply]
  have e2 : idx_main_v21 (idx_main_v22 (ix4 b i r h)) = ix1 h := funext fun a => match a with | 0 => rfl
  rw [e2, b1_eq]
  refine congrArg (· + b1Of e h) ?_
  have hs : ∀ k : Fin 4096, val_main_v19 (F := Ideal) x p (lidx_main_v20 (ix4 b i r h) k) * val_main_v4 (F := Ideal) w (ridx_main_v20 (ix4 b i r h) k)
      = val_main_v19 (F := Ideal) x p (ix4 b i r k) * w1Of w k h := fun k => by
    have el : lidx_main_v20 (ix4 b i r h) k = ix4 b i r k := funext fun a => match a with | 0 => rfl | 1 => rfl | 2 => rfl | 3 => rfl
    have er : ridx_main_v20 (ix4 b i r h) k = ix2 k h := funext fun a => match a with | 0 => rfl | 1 => rfl
    rw [el, er, w1_eq]
  refine (Finset.sum_congr rfl fun k _ => hs k).trans ?_
  refine (Fin.sum_univ_add (M := EReal) (a := 2048) (b := 2048) (fun k : Fin 4096 => val_main_v19 (F := Ideal) x p (ix4 b i r k) * w1Of w k h)).trans ?_
  refine congrArg₂ (HAdd.hAdd (α := EReal) (β := EReal) (γ := EReal)) (Finset.sum_congr rfl fun k _ => ?_) (Finset.sum_congr rfl fun k _ => ?_)
  · exact congrArg (· * w1Of w (lo k) h) (block_lo x p b i r k)
  · exact congrArg (· * w1Of w (hi k) h) (block_hi x p b i r k)

theorem act_eq (y : S2x2x1024x512.Idx) : val_main_v36 (F := Ideal) x p w e y = act (val_main_v23 (F := Ideal) x p w e y) := by
  rw [val_main_v36_apply, val_main_v35_apply, val_main_v34_apply, val_main_cst_2_apply, val_main_v33_apply, val_main_v32_apply, val_main_cst_1_apply,
    val_main_v31_apply, val_main_v30_apply, val_main_v29_apply, val_main_cst_0_apply, val_main_v28_apply, val_main_v27_apply, val_main_v26_apply,
    val_main_cst_apply, val_main_v25_apply, val_main_v24_apply]
  generalize val_main_v23 (F := Ideal) x p w e y = h
  have hc : FloatOps.mulf (F := Ideal) (φ := .f32) (FloatOps.mulf (F := Ideal) (φ := .f32) h h) h
      = FloatOps.mulf (F := Ideal) (φ := .f32) h (FloatOps.mulf (F := Ideal) (φ := .f32) h h) := mul_comm (G := EReal) _ _
  unfold act
  rw [← hc]
  rfl

theorem out_eq (b i : Fin 2) (r : Fin 1024) (d : Fin 128) :
    val_main_v40 (F := Ideal) x p w e u f (ix4 b i r d) = outv (chunk x b (up i)) (posOf p) (w1Of w) (b1Of e) (w2Of u) (b2Of f) r d := by
  rw [val_main_v40_apply, val_main_v39_apply, val_main_v38_apply, val_main_v37_apply]
  have e2 : idx_main_v38 (idx_main_v39 (ix4 b i r d)) = ix1 d := funext fun a => match a with | 0 => rfl
  rw [e2, b2_eq]
  refine congrArg (· + b2Of f d) (Finset.sum_congr rfl fun k _ => ?_)
  have el : lidx_main_v37 (ix4 b i r d) k = ix4 b i r k := funext fun a => match a with | 0 => rfl | 1 => rfl | 2 => rfl | 3 => rfl
  have er : ridx_main_v37 (ix4 b i r d) k = ix2 k d := funext fun a => match a with | 0 => rfl | 1 => rfl
  rw [el, er, w2_eq, act_eq, pre_eq]

/-- The array with the values' heads before the keys'. -/
def swap : FVec Ideal S2x4x16384x128 .f32 := fun y =>
  x (ix4 (y 0) (⟨((y 1).val + 2) % 4, Nat.mod_lt _ (by norm_num)⟩ : Fin 4) (y 2) (y 3))

theorem heads_eq : val_main_v41 (F := Ideal) x = val_main_v0 (F := Ideal) (swap x) := funext fun y => by
  rw [val_main_v41_apply, val_main_v0_apply]
  have h1 : (y 1).val < 2 := (y 1).isLt
  refine congrArg x (funext fun a => Fin.ext ?_)
  match a with
  | 0 => rfl
  | 1 => show 2 + (y 1).val = ((y 1).val + 2) % 4; omega
  | 2 => rfl
  | 3 => rfl

/-- The values' half is the keys' formula of the swapped heads and the values' weights. -/
theorem values_eq : val_main_v81 (F := Ideal) x p w e u f = val_main_v40 (F := Ideal) (swap x) p w e u f := by
  have e52 : val_main_v52 (F := Ideal) x = val_main_v11 (F := Ideal) (swap x) := by
    unfold val_main_v52 val_main_v11
    rw [heads_eq]
  have e56 : val_main_v56 (F := Ideal) x = val_main_v15 (F := Ideal) (swap x) := by
    unfold val_main_v56 val_main_v15 val_main_v55 val_main_v14 val_main_v54 val_main_v13 val_main_v53 val_main_v12
    rw [e52]
  have e64 : val_main_v64 (F := Ideal) x p w e = val_main_v23 (F := Ideal) (swap x) p w e := by
    unfold val_main_v64 val_main_v23 val_main_v61 val_main_v20 val_main_v60 val_main_v19 val_main_v59 val_main_v18
    rw [e56]
    rfl
  have e77 : val_main_v77 (F := Ideal) x p w e = val_main_v36 (F := Ideal) (swap x) p w e := by
    unfold val_main_v77 val_main_v76 val_main_v74 val_main_v72 val_main_v71 val_main_v69 val_main_v68 val_main_v66 val_main_v65
    rw [e64]
    rfl
  unfold val_main_v81 val_main_v78
  rw [e77]
  rfl

theorem chunk_swap (b : Fin 2) (i : Fin 2) (i' : Fin 4) (h : i'.val = 2 + i.val) : chunk (swap x) b (up i) = chunk x b i' := by
  have hi := i.isLt
  funext r k
  refine congrArg x (funext fun a => Fin.ext ?_)
  match a with
  | 0 => rfl
  | 1 => show (i.val + 2) % 4 = i'.val; omega
  | 2 => rfl
  | 3 => rfl
end Half

variable (x0 : FVec Ideal S2x4x16384x128 .f32) (x1 : FVec Ideal S2x32x128 .f32) (x2 : FVec Ideal S2x4096x512 .f32) (x3 : FVec Ideal S2x512 .f32)
  (x4 : FVec Ideal S2x512x128 .f32) (x5 : FVec Ideal S2x128 .f32) (x6 : FVec Ideal S2x32x128 .f32) (x7 : FVec Ideal S2x4096x512 .f32) (x8 : FVec Ideal S2x512 .f32)
  (x9 : FVec Ideal S2x512x128 .f32) (x10 : FVec Ideal S2x128 .f32)

theorem both_eq (b : Fin 2) (i : Fin 4) (r : Fin 1024) (d : Fin 128) :
    val_main_v82 (F := Ideal) x0 x1 x2 x3 x4 x5 x6 x7 x8 x9 x10 (ix4 b i r d) = value x0 x1 x2 x3 x4 x5 x6 x7 x8 x9 x10 b i r d := by
  have hi := i.isLt
  unfold val_main_v82 value
  by_cases h : i.val < 2
  · rw [if_pos h]
    refine (concatenate_pair_apply_left (t := S2x4x1024x128) (s₁ := S2x2x1024x128) (s₂ := S2x2x1024x128) (1 : Fin 4) _ _ _ (ix4 b i r d) rfl
      (ix4 b (⟨i.val, h⟩ : Fin 2) r d) (fun a => match a with | 0 => rfl | 1 => rfl | 2 => rfl | 3 => rfl)).trans ?_
    exact out_eq x0 x1 x2 x3 x4 x5 b _ r d
  · rw [if_neg h]
    refine (concatenate_pair_apply_right (t := S2x4x1024x128) (s₁ := S2x2x1024x128) (s₂ := S2x2x1024x128) (1 : Fin 4) _ _ _ (ix4 b i r d) rfl rfl
      (ix4 b (⟨i.val - 2, by omega⟩ : Fin 2) r d) (fun a => match a with | 0 => fun _ => rfl | 1 => fun hne => absurd rfl hne | 2 => fun _ => rfl | 3 => fun _ => rfl)
      (show (i.val - 2) + 2 = i.val by omega)).trans ?_
    rw [values_eq, out_eq, chunk_swap x0 b _ i (show i.val = 2 + (i.val - 2) by omega)]

theorem result_83 (y : S2x4x1024x128.Idx) :
    (val_main_v83 (F := Ideal) x0 x1 x2 x3 x4 x5 x6 x7 x8 x9 x10 y : EReal) = value x0 x1 x2 x3 x4 x5 x6 x7 x8 x9 x10 (y 0) (y 1) (y 2) (y 3) := by
  rw [val_main_v83_apply]
  exact (congrArg _ (funext fun a => match a with | 0 => rfl | 1 => rfl | 2 => rfl | 3 => rfl : y = ix4 (y 0) (y 1) (y 2) (y 3))).trans
    (both_eq x0 x1 x2 x3 x4 x5 x6 x7 x8 x9 x10 (y 0) (y 1) (y 2) (y 3))

theorem result_85 (y : S2x4x128x1024.Idx) :
    (val_main_v85 (F := Ideal) x0 x1 x2 x3 x4 x5 x6 x7 x8 x9 x10 y : EReal) = value x0 x1 x2 x3 x4 x5 x6 x7 x8 x9 x10 (y 0) (y 1) (y 3) (y 2) := by
  rw [val_main_v85_apply, val_main_v84_apply]
  exact (congrArg _ (funext fun a => match a with | 0 => rfl | 1 => rfl | 2 => rfl | 3 => rfl : idx_main_v84 y = ix4 (y 0) (y 1) (y 3) (y 2))).trans
    (both_eq x0 x1 x2 x3 x4 x5 x6 x7 x8 x9 x10 (y 0) (y 1) (y 3) (y 2))

end Cert.Reference4Ideal.Cmp

end
-- ==== Proof.CpBody.lean ====
/- The body of the compression at one point: the blocks it leaves in the two results' buffers by the plain formulas. -/
module

public import proofs.«01_k».proof.Proof.CpPlain
public import proofs.«01_k».proof.Proof.Gen.Kernel4Ideal.Value
public import Idealize.ShloMosaic.Lib.Pipeline.ValueKit.Tiles
public import Idealize.ShloMosaic.Lib.Pipeline.ValueKit.Basic
public import Idealize.ShloMosaic.Lib.KernelVsHost

@[expose] public section

set_option maxRecDepth 16384

noncomputable section

namespace Cert.Kernel4Ideal.Cmp

open Cert.Kernel4Ideal.Gen
open Idealize.ShloMosaic.ValueIdx (ix1 ix2 ix3 ix4 ix5 contrEquiv1)
open Idealize.ShloMosaic hiding ix1 ix2 ix3 ix4 ix5
open Idealize.ShloMosaic.TcCoe Idealize.SL.Sem

theorem product_2048 (x : FVec Ideal S1024x2048 .bf16) (w : FVec Ideal S2048x512 .bf16) (p : Fin 1024) (q : Fin 512) :
    matmul dot_S1024x2048_S2048x512_S1024x512_1_0_0_1_n_n none x w (constant S1024x512 .f32 0x00000000#32) (ix2 p q)
      = ∑ k : Fin 2048, (x (ix2 p k) : EReal) * w (ix2 k q) := by
  refine (Ideal.matmul_constant_zero_apply _ none _ _ _).trans ?_
  refine Fintype.sum_equiv (contrEquiv1 dot_S1024x2048_S2048x512_S1024x512_1_0_0_1_n_n 2048 rfl rfl) _ _ fun k => ?_
  refine congrArg₂ (HMul.hMul (α := EReal) (β := EReal) (γ := EReal)) (congrArg x (funext fun a => Fin.ext ?_)) (congrArg w (funext fun a => Fin.ext ?_))
  · match a with
    | 0 => rfl
    | 1 => rfl
  · match a with
    | 0 => rfl
    | 1 => rfl

theorem product_512 (x : FVec Ideal S1024x512 .bf16) (w : FVec Ideal S512x128 .bf16) (p : Fin 1024) (q : Fin 128) :
    matmul dot_S1024x512_S512x128_S1024x128_1_0_0_1_n_n none x w (constant S1024x128 .f32 0x00000000#32) (ix2 p q)
      = ∑ k : Fin 512, (x (ix2 p k) : EReal) * w (ix2 k q) := by
  refine (Ideal.matmul_constant_zero_apply _ none _ _ _).trans ?_
  refine Fintype.sum_equiv (contrEquiv1 dot_S1024x512_S512x128_S1024x128_1_0_0_1_n_n 512 rfl rfl) _ _ fun k => ?_
  refine congrArg₂ (HMul.hMul (α := EReal) (β := EReal) (γ := EReal)) (congrArg x (funext fun a => Fin.ext ?_)) (congrArg w (funext fun a => Fin.ext ?_))
  · match a with
    | 0 => rfl
    | 1 => rfl
  · match a with
    | 0 => rfl
    | 1 => rfl

/-- A chunk's entry in the block of chunks. -/
theorem chunk_apply (x : FVec Ideal S1x1x1024x2048 .f32) (r : Fin 1024) (k : Fin 2048) :
    shapeCast S1024x2048 x shapeCasts_S1x1x1024x2048_S1024x2048 (ix2 r k) = x (ix4 (0 : Fin 1) (0 : Fin 1) r k) :=
  shapeCast_apply _ _ _ _ (by rw [Shape.rowMajor_val_four, Shape.rowMajor_val_two]; show ((0 * 1 + 0) * 1024 + r.val) * 2048 + k.val = r.val * 2048 + k.val; omega)

theorem row_apply (x : FVec Ideal S1x1x4096 .f32) (k : Fin 4096) :
    shapeCast S1x4096 x shapeCasts_S1x1x4096_S1x4096 (ix2 (0 : Fin 1) k) = x (ix3 (0 : Fin 1) (0 : Fin 1) k) :=
  shapeCast_apply _ _ _ _ (by rw [Shape.rowMajor_val_three, Shape.rowMajor_val_two]; show (0 * 1 + 0) * 4096 + k.val = 0 * 4096 + k.val; omega)

theorem spread_apply (x : FVec Ideal S1x2048 .f32) (r : Fin 1024) (k : Fin 2048) :
    broadcastTo S1024x2048 x broadcasts_S1x2048_S1024x2048 (ix2 r k) = x (ix2 (0 : Fin 1) k) :=
  broadcastTo_apply _ _ _ (ix2 (0 : Fin 1) k) (fun a => by
    match a with
    | 0 => rfl
    | 1 => rfl)

theorem pos_lo (x : FVec Ideal S1x1x4096 .f32) (r : Fin 1024) (k : Fin 2048) :
    broadcastTo S1024x2048 (extractStridedSlice S1x2048 ![0, 0] (shapeCast S1x4096 x shapeCasts_S1x1x4096_S1x4096 : FVec Ideal S1x4096 .f32) slices_S1x4096_o0_0_S1x2048 : FVec Ideal S1x2048 .f32)
      broadcasts_S1x2048_S1024x2048 (ix2 r k) = x (ix3 (0 : Fin 1) (0 : Fin 1) (lo k)) := by
  refine (spread_apply _ r k).trans ((extractStridedSlice_apply _ _ _ _ (ix2 (0 : Fin 1) (lo k)) (fun (a : Fin 2) => ?_)).trans (row_apply x (lo k)))
  match a with
  | 0 => rfl
  | 1 => exact (Nat.zero_add _).symm

theorem pos_hi (x : FVec Ideal S1x1x4096 .f32) (r : Fin 1024) (k : Fin 2048) :
    broadcastTo S1024x2048 (extractStridedSlice S1x2048 ![0, 2048] (shapeCast S1x4096 x shapeCasts_S1x1x4096_S1x4096 : FVec Ideal S1x4096 .f32) slices_S1x4096_o0_2048_S1x2048 : FVec Ideal S1x2048 .f32)
      broadcasts_S1x2048_S1024x2048 (ix2 r k) = x (ix3 (0 : Fin 1) (0 : Fin 1) (hi k)) := by
  refine (spread_apply _ r k).trans ((extractStridedSlice_apply _ _ _ _ (ix2 (0 : Fin 1) (hi k)) (fun (a : Fin 2) => ?_)).trans (row_apply x (hi k)))
  match a with
  | 0 => rfl
  | 1 => rfl

theorem weight_apply (x : FVec Ideal S1x2048x512 .bf16) (k : Fin 2048) (h : Fin 512) :
    shapeCast S2048x512 x shapeCasts_S1x2048x512_S2048x512 (ix2 k h) = x (ix3 (0 : Fin 1) k h) :=
  shapeCast_apply _ _ _ _ (by rw [Shape.rowMajor_val_three, Shape.rowMajor_val_two]; show (0 * 2048 + k.val) * 512 + h.val = k.val * 512 + h.val; omega)

theorem weight2_apply (x : FVec Ideal S1x512x128 .bf16) (k : Fin 512) (h : Fin 128) :
    shapeCast S512x128 x shapeCasts_S1x512x128_S512x128 (ix2 k h) = x (ix3 (0 : Fin 1) k h) :=
  shapeCast_apply _ _ _ _ (by rw [Shape.rowMajor_val_three, Shape.rowMajor_val_two]; show (0 * 512 + k.val) * 128 + h.val = k.val * 128 + h.val; omega)

theorem bias_apply (x : FVec Ideal S1x1x512 .f32) (r : Fin 1024) (h : Fin 512) :
    broadcastTo S1024x512 (shapeCast S1x512 x shapeCasts_S1x1x512_S1x512 : FVec Ideal S1x512 .f32) broadcasts_S1x512_S1024x512 (ix2 r h) = x (ix3 (0 : Fin 1) (0 : Fin 1) h) := by
  refine (broadcastTo_apply _ _ _ (ix2 (0 : Fin 1) h) (fun a => ?_)).trans (shapeCast_apply _ _ _ _
    (by rw [Shape.rowMajor_val_three, Shape.rowMajor_val_two]; show (0 * 1 + 0) * 512 + h.val = 0 * 512 + h.val; omega))
  match a with
  | 0 => rfl
  | 1 => rfl

theorem bias2_apply (x : FVec Ideal S1x1x128 .f32) (r : Fin 1024) (h : Fin 128) :
    broadcastTo S1024x128 (shapeCast S1x128 x shapeCasts_S1x1x128_S1x128 : FVec Ideal S1x128 .f32) broadcasts_S1x128_S1024x128 (ix2 r h) = x (ix3 (0 : Fin 1) (0 : Fin 1) h) := by
  refine (broadcastTo_apply _ _ _ (ix2 (0 : Fin 1) h) (fun a => ?_)).trans (shapeCast_apply _ _ _ _
    (by rw [Shape.rowMajor_val_three, Shape.rowMajor_val_two]; show (0 * 1 + 0) * 128 + h.val = 0 * 128 + h.val; omega))
  match a with
  | 0 => rfl
  | 1 => rfl

theorem rotate_apply (x : FVec Ideal S1024x512 .f32) (r : Fin 1024) (h : Fin 512) :
    dynamicRotate (0 : Fin 2) 1023#32 none x rotates_S1024x512_d0 (ix2 r h) = x (ix2 (nxt r) h) :=
  dynamicRotate_apply _ _ _ _ _ _ (fun (b : Fin 2) => by
    have hr := r.isLt
    match b with
    | 0 =>
      rw [if_pos rfl]
      show (r.val + 1) % 1024 = (r.val + 1024 - 1023 % 1024) % 1024
      omega
    | 1 => rw [if_neg (by decide)])

section
variable (P0 : FVec Ideal S1x1x1024x2048 .f32) (P1 : FVec Ideal S1x1x4096 .f32) (P2 P3 : FVec Ideal S1x2048x512 .bf16) (P4 : FVec Ideal S1x1x512 .f32)
  (P5 : FVec Ideal S1x512x128 .bf16) (P6 : FVec Ideal S1x1x128 .f32) (w : Fin 4096 → Fin 512 → EReal)

theorem hidden_apply (h2 : ∀ k h, (P2 (ix3 (0 : Fin 1) k h) : EReal) = w (lo k) h) (h3 : ∀ k h, (P3 (ix3 (0 : Fin 1) k h) : EReal) = w (hi k) h) (r : Fin 1024) (h : Fin 512) :
    (k0_pay4 (F := Ideal) P0 P1 P2 P3 P4 (ix2 r h) : EReal)
      = pre (fun r k => P0 (ix4 (0 : Fin 1) (0 : Fin 1) r k)) (fun k => P1 (ix3 (0 : Fin 1) (0 : Fin 1) k)) w (fun h => P4 (ix3 (0 : Fin 1) (0 : Fin 1) h)) r h := by
  unfold k0_pay4
  dsimp only
  refine (congrArg₂ (FloatOps.addf (F := Ideal) (φ := .f32)) (congrArg₂ (FloatOps.addf (F := Ideal) (φ := .f32))
    ((product_2048 _ _ r h).trans (Finset.sum_congr rfl fun k _ => congrArg₂ (HMul.hMul (α := EReal) (β := EReal) (γ := EReal))
      (congrArg₂ (FloatOps.addf (F := Ideal) (φ := .f32)) (chunk_apply P0 r k) (pos_lo P1 r k)) ((weight_apply P2 k h).trans (h2 k h))))
    ((rotate_apply _ r h).trans ((product_2048 _ _ (nxt r) h).trans (Finset.sum_congr rfl fun k _ => congrArg₂ (HMul.hMul (α := EReal) (β := EReal) (γ := EReal))
      (congrArg₂ (FloatOps.addf (F := Ideal) (φ := .f32)) (chunk_apply P0 (nxt r) k) (pos_hi P1 (nxt r) k)) ((weight_apply P3 k h).trans (h3 k h))))))
    (bias_apply P4 r h)).trans rfl

theorem out_apply (h2 : ∀ k h, (P2 (ix3 (0 : Fin 1) k h) : EReal) = w (lo k) h) (h3 : ∀ k h, (P3 (ix3 (0 : Fin 1) k h) : EReal) = w (hi k) h) (r : Fin 1024) (d : Fin 128) :
    (k0_pay1 (F := Ideal) (k0_pay4 P0 P1 P2 P3 P4) (k0_pay5 P0 P1 P2 P3 P4) (k0_pay6 (F := Ideal)) P5 P6 (ix2 r d) : EReal)
      = outv (fun r k => P0 (ix4 (0 : Fin 1) (0 : Fin 1) r k)) (fun k => P1 (ix3 (0 : Fin 1) (0 : Fin 1) k)) w (fun h => P4 (ix3 (0 : Fin 1) (0 : Fin 1) h))
          (fun h d => P5 (ix3 (0 : Fin 1) h d)) (fun d => P6 (ix3 (0 : Fin 1) (0 : Fin 1) d)) r d := by
  have hp := fun h => hidden_apply P0 P1 P2 P3 P4 w h2 h3 r h
  unfold k0_pay1 k0_pay5 k0_pay6
  dsimp only
  generalize k0_pay4 (F := Ideal) P0 P1 P2 P3 P4 = v at hp ⊢
  refine (congrArg₂ (FloatOps.addf (F := Ideal) (φ := .f32)) ((product_512 _ _ r d).trans (Finset.sum_congr rfl fun k _ =>
    congrArg₂ (HMul.hMul (α := EReal) (β := EReal) (γ := EReal)) (show _ = act (v (ix2 r k)) from rfl) (weight2_apply P5 k d))) (bias2_apply P6 r d)).trans ?_
  unfold outv
  simp only [← hp]
  rfl

theorem entry_6 (y : S1x1x1024x128.Idx) : (Cert.Kernel4Ideal.Value.E6 (F := Ideal) P0 P1 P2 P3 P4 P5 P6 y : EReal)
    = k0_pay1 (F := Ideal) (k0_pay4 P0 P1 P2 P3 P4) (k0_pay5 P0 P1 P2 P3 P4) (k0_pay6 (F := Ideal)) P5 P6 (Cert.Kernel4Ideal.Value.ix6_0 y) := by
  unfold k0_pay5
  rfl

theorem entry_7 (y : S1x1x128x1024.Idx) : (Cert.Kernel4Ideal.Value.E7 (F := Ideal) P0 P1 P2 P3 P4 P5 P6 y : EReal)
    = k0_pay1 (F := Ideal) (k0_pay4 P0 P1 P2 P3 P4) (k0_pay5 P0 P1 P2 P3 P4) (k0_pay6 (F := Ideal)) P5 P6 (Cert.Kernel4Ideal.Value.ix7_0 y) := by
  unfold k0_pay5
  rfl

end

section
variable (x0 : FVec Ideal S1x1x1024x2048 .f32) (x1 : FVec Ideal S1x1x4096 .f32) (x2 : FVec Ideal S1x4096x512 .bf16) (x3 : FVec Ideal S1x1x512 .f32)
  (x4 : FVec Ideal S1x512x128 .bf16) (x5 : FVec Ideal S1x1x128 .f32)

/-- A point's entry, from the blocks its windows hold. -/
def here (r : Fin 1024) (d : Fin 128) : EReal :=
  outv (fun r k => x0 (ix4 (0 : Fin 1) (0 : Fin 1) r k)) (fun k => x1 (ix3 (0 : Fin 1) (0 : Fin 1) k)) (fun k h => x2 (ix3 (0 : Fin 1) k h))
    (fun h => x3 (ix3 (0 : Fin 1) (0 : Fin 1) h)) (fun h d => x4 (ix3 (0 : Fin 1) h d)) (fun d => x5 (ix3 (0 : Fin 1) (0 : Fin 1) d)) r d

theorem half_lo (k : Fin 2048) (h : Fin 512) : (View.ld (Val := Elt Ideal) (e' := .bf16) x2 r0_2 (ix3 (0 : Fin 1) k h) : EReal) = x2 (ix3 (0 : Fin 1) (lo k) h) :=
  View.ld_unit_apply_of _ _ _ _ _ _ (fun (a : Fin 3) => by
    match a with
    | 0 => rfl
    | 1 => exact (Nat.zero_add _).symm
    | 2 => exact (Nat.zero_add _).symm)

theorem half_hi (k : Fin 2048) (h : Fin 512) : (View.ld (Val := Elt Ideal) (e' := .bf16) x2 r0_3 (ix3 (0 : Fin 1) k h) : EReal) = x2 (ix3 (0 : Fin 1) (hi k) h) :=
  View.ld_unit_apply_of _ _ _ _ _ _ (fun (a : Fin 3) => by
    match a with
    | 0 => rfl
    | 1 => rfl
    | 2 => exact (Nat.zero_add _).symm)

theorem loads_eq (r : Fin 1024) (d : Fin 128) :
    (k0_pay1 (F := Ideal) (k0_pay4 (View.ld x0 r0_0) (View.ld x1 r0_1) (View.ld x2 r0_2) (View.ld x2 r0_3) (View.ld x3 r0_4))
      (k0_pay5 (View.ld x0 r0_0) (View.ld x1 r0_1) (View.ld x2 r0_2) (View.ld x2 r0_3) (View.ld x3 r0_4)) (k0_pay6 (F := Ideal)) (View.ld x4 r0_5) (View.ld x5 r0_6) (ix2 r d) : EReal)
      = here x0 x1 x2 x3 x4 x5 r d := by
  have e0 : View.ld (Val := Elt Ideal) (e' := .f32) x0 r0_0 = x0 := View.ld_unit_lit _ _ (fun (a : Fin 4) => by match a with | 0 => rfl | 1 => rfl | 2 => rfl | 3 => rfl)
  have e1 : View.ld (Val := Elt Ideal) (e' := .f32) x1 r0_1 = x1 := View.ld_unit_lit _ _ (fun (a : Fin 3) => by match a with | 0 => rfl | 1 => rfl | 2 => rfl)
  have e3 : View.ld (Val := Elt Ideal) (e' := .f32) x3 r0_4 = x3 := View.ld_unit_lit _ _ (fun (a : Fin 3) => by match a with | 0 => rfl | 1 => rfl | 2 => rfl)
  have e4 : View.ld (Val := Elt Ideal) (e' := .bf16) x4 r0_5 = x4 := View.ld_unit_lit _ _ (fun (a : Fin 3) => by match a with | 0 => rfl | 1 => rfl | 2 => rfl)
  have e5 : View.ld (Val := Elt Ideal) (e' := .f32) x5 r0_6 = x5 := View.ld_unit_lit _ _ (fun (a : Fin 3) => by match a with | 0 => rfl | 1 => rfl | 2 => rfl)
  rw [e0, e1, e3, e4, e5]
  exact out_apply x0 x1 _ _ x3 x4 x5 (fun k h => x2 (ix3 (0 : Fin 1) k h)) (half_lo x2) (half_hi x2) r d

theorem block_6 (r : Fin 1024) (d : Fin 128) : (out0_6 (F := Ideal) x0 x1 x2 x3 x4 x5 (ix4 (0 : Fin 1) (0 : Fin 1) r d) : EReal) = here x0 x1 x2 x3 x4 x5 r d := by
  have hi : Cert.Kernel4Ideal.Value.ix6_0 (ix4 (0 : Fin 1) (0 : Fin 1) r d) = ix2 r d := funext fun a => match a with | 0 => rfl | 1 => rfl
  have hc := Cert.Kernel4Ideal.Value.canon6_eq (F := Ideal) (View.ld (Val := Elt Ideal) (e' := .f32) x0 r0_0) (View.ld (Val := Elt Ideal) (e' := .f32) x1 r0_1) (View.ld (Val := Elt Ideal) (e' := .bf16) x2 r0_2) (View.ld (Val := Elt Ideal) (e' := .bf16) x2 r0_3) (View.ld (Val := Elt Ideal) (e' := .f32) x3 r0_4) (View.ld (Val := Elt Ideal) (e' := .bf16) x4 r0_5) (View.ld (Val := Elt Ideal) (e' := .f32) x5 r0_6) (ix4 (0 : Fin 1) (0 : Fin 1) r d)
  have he := entry_6 (View.ld (Val := Elt Ideal) (e' := .f32) x0 r0_0) (View.ld (Val := Elt Ideal) (e' := .f32) x1 r0_1) (View.ld (Val := Elt Ideal) (e' := .bf16) x2 r0_2) (View.ld (Val := Elt Ideal) (e' := .bf16) x2 r0_3) (View.ld (Val := Elt Ideal) (e' := .f32) x3 r0_4) (View.ld (Val := Elt Ideal) (e' := .bf16) x4 r0_5) (View.ld (Val := Elt Ideal) (e' := .f32) x5 r0_6) (ix4 (0 : Fin 1) (0 : Fin 1) r d)
  rw [hi, loads_eq] at he
  unfold_out out0_6
  rw [hc]
  exact he

theorem block_7 (d : Fin 128) (r : Fin 1024) : (out0_7 (F := Ideal) x0 x1 x2 x3 x4 x5 (ix4 (0 : Fin 1) (0 : Fin 1) d r) : EReal) = here x0 x1 x2 x3 x4 x5 r d := by
  have hi : Cert.Kernel4Ideal.Value.ix7_0 (ix4 (0 : Fin 1) (0 : Fin 1) d r) = ix2 r d := funext fun a => match a with | 0 => rfl | 1 => rfl
  have hc := Cert.Kernel4Ideal.Value.canon7_eq (F := Ideal) (View.ld (Val := Elt Ideal) (e' := .f32) x0 r0_0) (View.ld (Val := Elt Ideal) (e' := .f32) x1 r0_1) (View.ld (Val := Elt Ideal) (e' := .bf16) x2 r0_2) (View.ld (Val := Elt Ideal) (e' := .bf16) x2 r0_3) (View.ld (Val := Elt Ideal) (e' := .f32) x3 r0_4) (View.ld (Val := Elt Ideal) (e' := .bf16) x4 r0_5) (View.ld (Val := Elt Ideal) (e' := .f32) x5 r0_6) (ix4 (0 : Fin 1) (0 : Fin 1) d r)
  have he := entry_7 (View.ld (Val := Elt Ideal) (e' := .f32) x0 r0_0) (View.ld (Val := Elt Ideal) (e' := .f32) x1 r0_1) (View.ld (Val := Elt Ideal) (e' := .bf16) x2 r0_2) (View.ld (Val := Elt Ideal) (e' := .bf16) x2 r0_3) (View.ld (Val := Elt Ideal) (e' := .f32) x3 r0_4) (View.ld (Val := Elt Ideal) (e' := .bf16) x4 r0_5) (View.ld (Val := Elt Ideal) (e' := .f32) x5 r0_6) (ix4 (0 : Fin 1) (0 : Fin 1) d r)
  rw [hi, loads_eq] at he
  unfold_out out0_7
  rw [hc]
  exact he
end

end Cert.Kernel4Ideal.Cmp

end
-- ==== Proof.CpValue.lean ====
/- The blocks the compression's windows read, and from the stored blocks the two results. -/
module

public import proofs.«01_k».proof.Proof.CpBody
public import Idealize.ShloMosaic.Lib.Pipeline.Covers
public import Idealize.ShloMosaic.Lib.IdealHost
public import Idealize.ShloMosaic.Lib.Claim

@[expose] public section

set_option maxRecDepth 16384

noncomputable section

namespace Cert.Kernel4Ideal.Cmp

open Cert.Kernel4Ideal.Gen
open Idealize.ShloMosaic.ValueIdx (ix1 ix2 ix3 ix4 ix5 contrEquiv1)
open Idealize.ShloMosaic hiding ix1 ix2 ix3 ix4 ix5
open Idealize.ShloMosaic.TcCoe
open Idealize.ShloMosaic.Pipeline (Dat Cfg Window)

variable (m : (ℓ : Loc nD τ sig) → Buf (Elt Ideal) ℓ) (c : Dev nD)

/-! ## Layer 0 of a stack of weights, and the two stacked -/

theorem layer_32x128 (x : FVec Ideal S2x32x128 .f32) (k : Fin 32) (h : Fin 128) :
    broadcastInDim S1x32x128 ![1, 2] bcast_S32x128_S1x32x128_1_2
      (shapeCast S32x128 (extractStridedSlice S1x32x128 ![0, 0, 0] x slices_S2x32x128_S1x32x128_0_0_0 : FVec Ideal S1x32x128 .f32) shapeCasts_S1x32x128_S32x128 : FVec Ideal S32x128 .f32)
      (ix3 (0 : Fin 1) k h) = x (ix3 (0 : Fin 2) k h) := by
  refine (broadcastInDim_apply _ _ _ _ (ix2 k h) (fun (a : Fin 2) => by
    match a with
    | 0 => exact (if_neg (by decide)).symm
    | 1 => exact (if_neg (by decide)).symm)).trans ?_
  refine (shapeCast_apply (extractStridedSlice S1x32x128 ![0, 0, 0] x slices_S2x32x128_S1x32x128_0_0_0 : FVec Ideal S1x32x128 .f32)
    shapeCasts_S1x32x128_S32x128 (ix2 k h) (ix3 (0 : Fin 1) k h) ((Shape.rowMajor_val_three (d := ![1, 32, 128]) _).trans (Eq.trans
    (by show (0 * 32 + k.val) * 128 + h.val = k.val * 128 + h.val; omega) (Shape.rowMajor_val_two (d := ![32, 128]) _).symm))).trans ?_
  exact extractStridedSlice_apply _ _ _ _ (ix3 (0 : Fin 2) k h) (fun (a : Fin 3) => by
    match a with
    | 0 => rfl
    | 1 => exact (Nat.zero_add _).symm
    | 2 => exact (Nat.zero_add _).symm)

/-- The two layers stacked. -/
def both_32x128 (x y : FVec Ideal S2x32x128 .f32) : FVec Ideal S2x32x128 .f32 :=
  concatenate S2x32x128 0
    [⟨S1x32x128, (broadcastInDim S1x32x128 ![1, 2] bcast_S32x128_S1x32x128_1_2
        (shapeCast S32x128 (extractStridedSlice S1x32x128 ![0, 0, 0] x slices_S2x32x128_S1x32x128_0_0_0 : FVec Ideal S1x32x128 .f32) shapeCasts_S1x32x128_S32x128 : FVec Ideal S32x128 .f32) : FVec Ideal S1x32x128 .f32)⟩,
      ⟨S1x32x128, (broadcastInDim S1x32x128 ![1, 2] bcast_S32x128_S1x32x128_1_2
        (shapeCast S32x128 (extractStridedSlice S1x32x128 ![0, 0, 0] y slices_S2x32x128_S1x32x128_0_0_0 : FVec Ideal S1x32x128 .f32) shapeCasts_S1x32x128_S32x128 : FVec Ideal S32x128 .f32) : FVec Ideal S1x32x128 .f32)⟩]
    concatenates_S1x32x128_S1x32x128_S2x32x128_d0

theorem both_32x128_eq (x y : FVec Ideal S2x32x128 .f32) (g : Fin 2) (k : Fin 32) (h : Fin 128) :
    both_32x128 x y (ix3 g k h) = if g.val = 0 then x (ix3 (0 : Fin 2) k h) else y (ix3 (0 : Fin 2) k h) := by
  have hg := g.isLt
  unfold both_32x128
  by_cases h0 : g.val = 0
  · rw [if_pos h0]
    exact (concatenate_pair_apply_left (t := S2x32x128) (s₁ := S1x32x128) (s₂ := S1x32x128) (0 : Fin 3) _ _ _ (ix3 g k h) rfl (ix3 (0 : Fin 1) k h)
      (fun a => match a with | 0 => h0.symm | 1 => rfl | 2 => rfl)).trans (layer_32x128 x k h)
  · rw [if_neg h0]
    exact (concatenate_pair_apply_right (t := S2x32x128) (s₁ := S1x32x128) (s₂ := S1x32x128) (0 : Fin 3) _ _ _ (ix3 g k h) rfl rfl (ix3 (0 : Fin 1) k h)
      (fun a => match a with | 0 => fun hne => absurd rfl hne | 1 => fun _ => rfl | 2 => fun _ => rfl) (show 0 + 1 = g.val by omega)).trans (layer_32x128 y k h)

theorem layer_4096x512 (x : FVec Ideal S2x4096x512 .f32) (k : Fin 4096) (h : Fin 512) :
    broadcastInDim S1x4096x512 ![1, 2] bcast_S4096x512_S1x4096x512_1_2
      (shapeCast S4096x512 (extractStridedSlice S1x4096x512 ![0, 0, 0] x slices_S2x4096x512_S1x4096x512_0_0_0 : FVec Ideal S1x4096x512 .f32) shapeCasts_S1x4096x512_S4096x512 : FVec Ideal S4096x512 .f32)
      (ix3 (0 : Fin 1) k h) = x (ix3 (0 : Fin 2) k h) := by
  refine (broadcastInDim_apply _ _ _ _ (ix2 k h) (fun (a : Fin 2) => by
    match a with
    | 0 => exact (if_neg (by decide)).symm
    | 1 => exact (if_neg (by decide)).symm)).trans ?_
  refine (shapeCast_apply (extractStridedSlice S1x4096x512 ![0, 0, 0] x slices_S2x4096x512_S1x4096x512_0_0_0 : FVec Ideal S1x4096x512 .f32)
    shapeCasts_S1x4096x512_S4096x512 (ix2 k h) (ix3 (0 : Fin 1) k h) ((Shape.rowMajor_val_three (d := ![1, 4096, 512]) _).trans (Eq.trans
    (by show (0 * 4096 + k.val) * 512 + h.val = k.val * 512 + h.val; omega) (Shape.rowMajor_val_two (d := ![4096, 512]) _).symm))).trans ?_
  exact extractStridedSlice_apply _ _ _ _ (ix3 (0 : Fin 2) k h) (fun (a : Fin 3) => by
    match a with
    | 0 => rfl
    | 1 => exact (Nat.zero_add _).symm
    | 2 => exact (Nat.zero_add _).symm)

/-- The two layers stacked. -/
def both_4096x512 (x y : FVec Ideal S2x4096x512 .f32) : FVec Ideal S2x4096x512 .f32 :=
  concatenate S2x4096x512 0
    [⟨S1x4096x512, (broadcastInDim S1x4096x512 ![1, 2] bcast_S4096x512_S1x4096x512_1_2
        (shapeCast S4096x512 (extractStridedSlice S1x4096x512 ![0, 0, 0] x slices_S2x4096x512_S1x4096x512_0_0_0 : FVec Ideal S1x4096x512 .f32) shapeCasts_S1x4096x512_S4096x512 : FVec Ideal S4096x512 .f32) : FVec Ideal S1x4096x512 .f32)⟩,
      ⟨S1x4096x512, (broadcastInDim S1x4096x512 ![1, 2] bcast_S4096x512_S1x4096x512_1_2
        (shapeCast S4096x512 (extractStridedSlice S1x4096x512 ![0, 0, 0] y slices_S2x4096x512_S1x4096x512_0_0_0 : FVec Ideal S1x4096x512 .f32) shapeCasts_S1x4096x512_S4096x512 : FVec Ideal S4096x512 .f32) : FVec Ideal S1x4096x512 .f32)⟩]
    concatenates_S1x4096x512_S1x4096x512_S2x4096x512_d0

theorem both_4096x512_eq (x y : FVec Ideal S2x4096x512 .f32) (g : Fin 2) (k : Fin 4096) (h : Fin 512) :
    both_4096x512 x y (ix3 g k h) = if g.val = 0 then x (ix3 (0 : Fin 2) k h) else y (ix3 (0 : Fin 2) k h) := by
  have hg := g.isLt
  unfold both_4096x512
  by_cases h0 : g.val = 0
  · rw [if_pos h0]
    exact (concatenate_pair_apply_left (t := S2x4096x512) (s₁ := S1x4096x512) (s₂ := S1x4096x512) (0 : Fin 3) _ _ _ (ix3 g k h) rfl (ix3 (0 : Fin 1) k h)
      (fun a => match a with | 0 => h0.symm | 1 => rfl | 2 => rfl)).trans (layer_4096x512 x k h)
  · rw [if_neg h0]
    exact (concatenate_pair_apply_right (t := S2x4096x512) (s₁ := S1x4096x512) (s₂ := S1x4096x512) (0 : Fin 3) _ _ _ (ix3 g k h) rfl rfl (ix3 (0 : Fin 1) k h)
      (fun a => match a with | 0 => fun hne => absurd rfl hne | 1 => fun _ => rfl | 2 => fun _ => rfl) (show 0 + 1 = g.val by omega)).trans (layer_4096x512 y k h)

theorem layer_512x128 (x : FVec Ideal S2x512x128 .f32) (k : Fin 512) (h : Fin 128) :
    broadcastInDim S1x512x128 ![1, 2] bcast_S512x128_S1x512x128_1_2
      (shapeCast S512x128 (extractStridedSlice S1x512x128 ![0, 0, 0] x slices_S2x512x128_S1x512x128_0_0_0 : FVec Ideal S1x512x128 .f32) shapeCasts_S1x512x128_S512x128 : FVec Ideal S512x128 .f32)
      (ix3 (0 : Fin 1) k h) = x (ix3 (0 : Fin 2) k h) := by
  refine (broadcastInDim_apply _ _ _ _ (ix2 k h) (fun (a : Fin 2) => by
    match a with
    | 0 => exact (if_neg (by decide)).symm
    | 1 => exact (if_neg (by decide)).symm)).trans ?_
  refine (shapeCast_apply (extractStridedSlice S1x512x128 ![0, 0, 0] x slices_S2x512x128_S1x512x128_0_0_0 : FVec Ideal S1x512x128 .f32)
    shapeCasts_S1x512x128_S512x128 (ix2 k h) (ix3 (0 : Fin 1) k h) ((Shape.rowMajor_val_three (d := ![1, 512, 128]) _).trans (Eq.trans
    (by show (0 * 512 + k.val) * 128 + h.val = k.val * 128 + h.val; omega) (Shape.rowMajor_val_two (d := ![512, 128]) _).symm))).trans ?_
  exact extractStridedSlice_apply _ _ _ _ (ix3 (0 : Fin 2) k h) (fun (a : Fin 3) => by
    match a with
    | 0 => rfl
    | 1 => exact (Nat.zero_add _).symm
    | 2 => exact (Nat.zero_add _).symm)

/-- The two layers stacked. -/
def both_512x128 (x y : FVec Ideal S2x512x128 .f32) : FVec Ideal S2x512x128 .f32 :=
  concatenate S2x512x128 0
    [⟨S1x512x128, (broadcastInDim S1x512x128 ![1, 2] bcast_S512x128_S1x512x128_1_2
        (shapeCast S512x128 (extractStridedSlice S1x512x128 ![0, 0, 0] x slices_S2x512x128_S1x512x128_0_0_0 : FVec Ideal S1x512x128 .f32) shapeCasts_S1x512x128_S512x128 : FVec Ideal S512x128 .f32) : FVec Ideal S1x512x128 .f32)⟩,
      ⟨S1x512x128, (broadcastInDim S1x512x128 ![1, 2] bcast_S512x128_S1x512x128_1_2
        (shapeCast S512x128 (extractStridedSlice S1x512x128 ![0, 0, 0] y slices_S2x512x128_S1x512x128_0_0_0 : FVec Ideal S1x512x128 .f32) shapeCasts_S1x512x128_S512x128 : FVec Ideal S512x128 .f32) : FVec Ideal S1x512x128 .f32)⟩]
    concatenates_S1x512x128_S1x512x128_S2x512x128_d0

theorem both_512x128_eq (x y : FVec Ideal S2x512x128 .f32) (g : Fin 2) (k : Fin 512) (h : Fin 128) :
    both_512x128 x y (ix3 g k h) = if g.val = 0 then x (ix3 (0 : Fin 2) k h) else y (ix3 (0 : Fin 2) k h) := by
  have hg := g.isLt
  unfold both_512x128
  by_cases h0 : g.val = 0
  · rw [if_pos h0]
    exact (concatenate_pair_apply_left (t := S2x512x128) (s₁ := S1x512x128) (s₂ := S1x512x128) (0 : Fin 3) _ _ _ (ix3 g k h) rfl (ix3 (0 : Fin 1) k h)
      (fun a => match a with | 0 => h0.symm | 1 => rfl | 2 => rfl)).trans (layer_512x128 x k h)
  · rw [if_neg h0]
    exact (concatenate_pair_apply_right (t := S2x512x128) (s₁ := S1x512x128) (s₂ := S1x512x128) (0 : Fin 3) _ _ _ (ix3 g k h) rfl rfl (ix3 (0 : Fin 1) k h)
      (fun a => match a with | 0 => fun hne => absurd rfl hne | 1 => fun _ => rfl | 2 => fun _ => rfl) (show 0 + 1 = g.val by omega)).trans (layer_512x128 y k h)

theorem layer_512 (x : FVec Ideal S2x512 .f32) (h : Fin 512) :
    broadcastInDim S1x512 ![1] bcast_S512_S1x512_1
      (shapeCast S512 (extractStridedSlice S1x512 ![0, 0] x slices_S2x512_S1x512_0_0 : FVec Ideal S1x512 .f32) shapeCasts_S1x512_S512 : FVec Ideal S512 .f32)
      (ix2 (0 : Fin 1) h) = x (ix2 (0 : Fin 2) h) := by
  refine (broadcastInDim_apply _ _ _ _ (ix1 h) (fun (a : Fin 1) => by
    match a with
    | 0 => exact (if_neg (by decide)).symm)).trans ?_
  refine (shapeCast_apply (extractStridedSlice S1x512 ![0, 0] x slices_S2x512_S1x512_0_0 : FVec Ideal S1x512 .f32)
    shapeCasts_S1x512_S512 (ix1 h) (ix2 (0 : Fin 1) h) ((Shape.rowMajor_val_two (d := ![1, 512]) _).trans (Eq.trans
    (by show 0 * 512 + h.val = h.val; omega) (Shape.rowMajor_val_one (d := ![512]) _).symm))).trans ?_
  exact extractStridedSlice_apply _ _ _ _ (ix2 (0 : Fin 2) h) (fun (a : Fin 2) => by
    match a with
    | 0 => rfl
    | 1 => exact (Nat.zero_add _).symm)

/-- The two layers stacked. -/
def both_512 (x y : FVec Ideal S2x512 .f32) : FVec Ideal S2x512 .f32 :=
  concatenate S2x512 0
    [⟨S1x512, (broadcastInDim S1x512 ![1] bcast_S512_S1x512_1
        (shapeCast S512 (extractStridedSlice S1x512 ![0, 0] x slices_S2x512_S1x512_0_0 : FVec Ideal S1x512 .f32) shapeCasts_S1x512_S512 : FVec Ideal S512 .f32) : FVec Ideal S1x512 .f32)⟩,
      ⟨S1x512, (broadcastInDim S1x512 ![1] bcast_S512_S1x512_1
        (shapeCast S512 (extractStridedSlice S1x512 ![0, 0] y slices_S2x512_S1x512_0_0 : FVec Ideal S1x512 .f32) shapeCasts_S1x512_S512 : FVec Ideal S512 .f32) : FVec Ideal S1x512 .f32)⟩]
    concatenates_S1x512_S1x512_S2x512_d0

theorem both_512_eq (x y : FVec Ideal S2x512 .f32) (g : Fin 2) (h : Fin 512) :
    both_512 x y (ix2 g h) = if g.val = 0 then x (ix2 (0 : Fin 2) h) else y (ix2 (0 : Fin 2) h) := by
  have hg := g.isLt
  unfold both_512
  by_cases h0 : g.val = 0
  · rw [if_pos h0]
    exact (concatenate_pair_apply_left (t := S2x512) (s₁ := S1x512) (s₂ := S1x512) (0 : Fin 2) _ _ _ (ix2 g h) rfl (ix2 (0 : Fin 1) h)
      (fun a => match a with | 0 => h0.symm | 1 => rfl)).trans (layer_512 x h)
  · rw [if_neg h0]
    exact (concatenate_pair_apply_right (t := S2x512) (s₁ := S1x512) (s₂ := S1x512) (0 : Fin 2) _ _ _ (ix2 g h) rfl rfl (ix2 (0 : Fin 1) h)
      (fun a => match a with | 0 => fun hne => absurd rfl hne | 1 => fun _ => rfl) (show 0 + 1 = g.val by omega)).trans (layer_512 y h)

theorem layer_128 (x : FVec Ideal S2x128 .f32) (h : Fin 128) :
    broadcastInDim S1x128 ![1] bcast_S128_S1x128_1
      (shapeCast S128 (extractStridedSlice S1x128 ![0, 0] x slices_S2x128_S1x128_0_0 : FVec Ideal S1x128 .f32) shapeCasts_S1x128_S128 : FVec Ideal S128 .f32)
      (ix2 (0 : Fin 1) h) = x (ix2 (0 : Fin 2) h) := by
  refine (broadcastInDim_apply _ _ _ _ (ix1 h) (fun (a : Fin 1) => by
    match a with
    | 0 => exact (if_neg (by decide)).symm)).trans ?_
  refine (shapeCast_apply (extractStridedSlice S1x128 ![0, 0] x slices_S2x128_S1x128_0_0 : FVec Ideal S1x128 .f32)
    shapeCasts_S1x128_S128 (ix1 h) (ix2 (0 : Fin 1) h) ((Shape.rowMajor_val_two (d := ![1, 128]) _).trans (Eq.trans
    (by show 0 * 128 + h.val = h.val; omega) (Shape.rowMajor_val_one (d := ![128]) _).symm))).trans ?_
  exact extractStridedSlice_apply _ _ _ _ (ix2 (0 : Fin 2) h) (fun (a : Fin 2) => by
    match a with
    | 0 => rfl
    | 1 => exact (Nat.zero_add _).symm)

/-- The two layers stacked. -/
def both_128 (x y : FVec Ideal S2x128 .f32) : FVec Ideal S2x128 .f32 :=
  concatenate S2x128 0
    [⟨S1x128, (broadcastInDim S1x128 ![1] bcast_S128_S1x128_1
        (shapeCast S128 (extractStridedSlice S1x128 ![0, 0] x slices_S2x128_S1x128_0_0 : FVec Ideal S1x128 .f32) shapeCasts_S1x128_S128 : FVec Ideal S128 .f32) : FVec Ideal S1x128 .f32)⟩,
      ⟨S1x128, (broadcastInDim S1x128 ![1] bcast_S128_S1x128_1
        (shapeCast S128 (extractStridedSlice S1x128 ![0, 0] y slices_S2x128_S1x128_0_0 : FVec Ideal S1x128 .f32) shapeCasts_S1x128_S128 : FVec Ideal S128 .f32) : FVec Ideal S1x128 .f32)⟩]
    concatenates_S1x128_S1x128_S2x128_d0

theorem both_128_eq (x y : FVec Ideal S2x128 .f32) (g : Fin 2) (h : Fin 128) :
    both_128 x y (ix2 g h) = if g.val = 0 then x (ix2 (0 : Fin 2) h) else y (ix2 (0 : Fin 2) h) := by
  have hg := g.isLt
  unfold both_128
  by_cases h0 : g.val = 0
  · rw [if_pos h0]
    exact (concatenate_pair_apply_left (t := S2x128) (s₁ := S1x128) (s₂ := S1x128) (0 : Fin 2) _ _ _ (ix2 g h) rfl (ix2 (0 : Fin 1) h)
      (fun a => match a with | 0 => h0.symm | 1 => rfl)).trans (layer_128 x h)
  · rw [if_neg h0]
    exact (concatenate_pair_apply_right (t := S2x128) (s₁ := S1x128) (s₂ := S1x128) (0 : Fin 2) _ _ _ (ix2 g h) rfl rfl (ix2 (0 : Fin 1) h)
      (fun a => match a with | 0 => fun hne => absurd rfl hne | 1 => fun _ => rfl) (show 0 + 1 = g.val by omega)).trans (layer_128 y h)

/-! ## The windows' arrays as the region finds them -/

theorem chunks_read (b : Fin 2) (i : Fin 4) (r : Fin 1024) (k : Fin 2048) : V m c main_v40 (ix4 b i r k) = chunk (m ((c : Thread nD τ).loc main_arg0)) b i r k := by
  entry_read
  have hb := b.isLt; have hi := i.isLt; have hr := r.isLt; have hk := k.isLt
  exact shapeCast_apply ((m ((c : Thread nD τ).loc main_arg0)) : FVec Ideal S2x4x16384x128 .f32) shapeCasts_S2x4x16384x128_S2x4x1024x2048 (ix4 b i r k)
    (ix4 b i (⟨16 * r.val + k.val / 128, by omega⟩ : Fin 16384) (⟨k.val % 128, Nat.mod_lt _ (by norm_num)⟩ : Fin 128))
    ((Shape.rowMajor_val_four (d := ![2, 4, 16384, 128]) _).trans (Eq.trans
      (by show ((b.val * 4 + i.val) * 16384 + (16 * r.val + k.val / 128)) * 128 + k.val % 128 = ((b.val * 4 + i.val) * 1024 + r.val) * 2048 + k.val; omega)
      (Shape.rowMajor_val_four (d := ![2, 4, 1024, 2048]) _).symm))

theorem pos_read (g : Fin 2) (k : Fin 4096) : V m c main_v7 (ix3 g (0 : Fin 1) k) = if g.val = 0 then posOf (m ((c : Thread nD τ).loc main_arg1)) k else posOf (m ((c : Thread nD τ).loc main_arg6)) k := by
  entry_read
  have hg := g.isLt; have hk := k.isLt
  refine (shapeCast_apply (both_32x128 (m ((c : Thread nD τ).loc main_arg1)) (m ((c : Thread nD τ).loc main_arg6)) : FVec Ideal S2x32x128 .f32) shapeCasts_S2x32x128_S2x1x4096 (ix3 g (0 : Fin 1) k)
    (ix3 g (⟨k.val / 128, by omega⟩ : Fin 32) (⟨k.val % 128, Nat.mod_lt _ (by norm_num)⟩ : Fin 128))
    ((Shape.rowMajor_val_three (d := ![2, 32, 128]) _).trans (Eq.trans
      (by show (g.val * 32 + k.val / 128) * 128 + k.val % 128 = (g.val * 1 + 0) * 4096 + k.val; omega)
      (Shape.rowMajor_val_three (d := ![2, 1, 4096]) _).symm))).trans ?_
  exact both_32x128_eq _ _ g _ _

theorem w1_read (g : Fin 2) (k : Fin 4096) (h : Fin 512) : (V m c main_v15 (ix3 g k h) : EReal) = if g.val = 0 then w1Of (m ((c : Thread nD τ).loc main_arg2)) k h else w1Of (m ((c : Thread nD τ).loc main_arg7)) k h := by
  entry_read
  exact both_4096x512_eq (m ((c : Thread nD τ).loc main_arg2)) (m ((c : Thread nD τ).loc main_arg7)) g k h

theorem b1_read (g : Fin 2) (h : Fin 512) : V m c main_v23 (ix3 g (0 : Fin 1) h) = if g.val = 0 then b1Of (m ((c : Thread nD τ).loc main_arg3)) h else b1Of (m ((c : Thread nD τ).loc main_arg8)) h := by
  entry_read
  refine (broadcastInDim_apply _ _ _ _ (ix2 g h) (fun (a : Fin 2) => by
    match a with
    | 0 => exact (if_neg (by decide)).symm
    | 1 => exact (if_neg (by decide)).symm)).trans ?_
  exact both_512_eq (m ((c : Thread nD τ).loc main_arg3)) (m ((c : Thread nD τ).loc main_arg8)) g h

theorem w2_read (g : Fin 2) (k : Fin 512) (h : Fin 128) : (V m c main_v31 (ix3 g k h) : EReal) = if g.val = 0 then w2Of (m ((c : Thread nD τ).loc main_arg4)) k h else w2Of (m ((c : Thread nD τ).loc main_arg9)) k h := by
  entry_read
  exact both_512x128_eq (m ((c : Thread nD τ).loc main_arg4)) (m ((c : Thread nD τ).loc main_arg9)) g k h

theorem b2_read (g : Fin 2) (h : Fin 128) : V m c main_v39 (ix3 g (0 : Fin 1) h) = if g.val = 0 then b2Of (m ((c : Thread nD τ).loc main_arg5)) h else b2Of (m ((c : Thread nD τ).loc main_arg10)) h := by
  entry_read
  refine (broadcastInDim_apply _ _ _ _ (ix2 g h) (fun (a : Fin 2) => by
    match a with
    | 0 => exact (if_neg (by decide)).symm
    | 1 => exact (if_neg (by decide)).symm)).trans ?_
  exact both_128_eq (m ((c : Thread nD τ).loc main_arg5)) (m ((c : Thread nD τ).loc main_arg10)) g h

/-! ## The blocks of a point -/

variable (t : Fin cfg0.N)

/-- The weights a point reads: the keys' for the heads 0 and 1, the values' for 2 and 3. -/
def side : Fin 2 := ⟨(grid0.coords t 1).val / 2, by have h : (grid0.coords t 1).val < 4 := (grid0.coords t 1).isLt; omega⟩

theorem in0 (r : Fin 1024) (k : Fin 2048) : iblk m c 0 t (ix4 (0 : Fin 1) (0 : Fin 1) r k) = chunk (m ((c : Thread nD τ).loc main_arg0)) (grid0.coords t 0) (grid0.coords t 1) r k := by
  refine Eq.trans ?_ (chunks_read m c (grid0.coords t 0) (grid0.coords t 1) r k)
  refine congrArg (V m c main_v40) (funext fun (a : Fin 4) => Fin.ext ?_)
  refine (Window.rect_emb_val (cfg0.win 0) t (ix4 (0 : Fin 1) (0 : Fin 1) r k) a).trans ?_
  have h0 : (grid0.coords t 0).val < 2 := (grid0.coords t 0).isLt
  have h1 : (grid0.coords t 1).val < 4 := (grid0.coords t 1).isLt
  have hx : (cfg0.win 0).index t = ![(grid0.coords t 0).val, (grid0.coords t 1).val, 0, 0] := by
    show ![(BitVec.ofNat 32 (grid0.coords t 0).val).toNat, (BitVec.ofNat 32 (grid0.coords t 1).val).toNat, 0, 0] = _
    rw [BitVec.toNat_ofNat, BitVec.toNat_ofNat, Nat.mod_eq_of_lt (by omega), Nat.mod_eq_of_lt (by omega)]
  rw [hx]
  match a with
  | 0 => show (grid0.coords t 0).val * 1 + 0 = (grid0.coords t 0).val; omega
  | 1 => show (grid0.coords t 1).val * 1 + 0 = (grid0.coords t 1).val; omega
  | 2 => show 0 * 1024 + r.val = r.val; omega
  | 3 => show 0 * 2048 + k.val = k.val; omega

theorem in1 (h : Fin 4096) : iblk m c 1 t (ix3 (0 : Fin 1) (0 : Fin 1) h) = if (side t).val = 0 then posOf (m ((c : Thread nD τ).loc main_arg1)) h else posOf (m ((c : Thread nD τ).loc main_arg6)) h := by
  refine Eq.trans ?_ (pos_read m c (side t) h)
  refine congrArg (V m c main_v7) (funext fun (a : Fin 3) => Fin.ext ?_)
  refine (Window.rect_emb_val (cfg0.win 1) t (ix3 (0 : Fin 1) (0 : Fin 1) h) a).trans ?_
  have hx : (cfg0.win 1).index t = ![(grid0.coords t 1).val / 2, 0, 0] := by
    revert t
    decide
  rw [hx]
  match a with
  | 0 => show (grid0.coords t 1).val / 2 * 1 + 0 = (grid0.coords t 1).val / 2; omega
  | 1 => rfl
  | 2 => show 0 * 4096 + h.val = h.val; omega

theorem in3 (h : Fin 512) : iblk m c 3 t (ix3 (0 : Fin 1) (0 : Fin 1) h) = if (side t).val = 0 then b1Of (m ((c : Thread nD τ).loc main_arg3)) h else b1Of (m ((c : Thread nD τ).loc main_arg8)) h := by
  refine Eq.trans ?_ (b1_read m c (side t) h)
  refine congrArg (V m c main_v23) (funext fun (a : Fin 3) => Fin.ext ?_)
  refine (Window.rect_emb_val (cfg0.win 3) t (ix3 (0 : Fin 1) (0 : Fin 1) h) a).trans ?_
  have hx : (cfg0.win 3).index t = ![(grid0.coords t 1).val / 2, 0, 0] := by
    revert t
    decide
  rw [hx]
  match a with
  | 0 => show (grid0.coords t 1).val / 2 * 1 + 0 = (grid0.coords t 1).val / 2; omega
  | 1 => rfl
  | 2 => show 0 * 512 + h.val = h.val; omega

theorem in5 (h : Fin 128) : iblk m c 5 t (ix3 (0 : Fin 1) (0 : Fin 1) h) = if (side t).val = 0 then b2Of (m ((c : Thread nD τ).loc main_arg5)) h else b2Of (m ((c : Thread nD τ).loc main_arg10)) h := by
  refine Eq.trans ?_ (b2_read m c (side t) h)
  refine congrArg (V m c main_v39) (funext fun (a : Fin 3) => Fin.ext ?_)
  refine (Window.rect_emb_val (cfg0.win 5) t (ix3 (0 : Fin 1) (0 : Fin 1) h) a).trans ?_
  have hx : (cfg0.win 5).index t = ![(grid0.coords t 1).val / 2, 0, 0] := by
    revert t
    decide
  rw [hx]
  match a with
  | 0 => show (grid0.coords t 1).val / 2 * 1 + 0 = (grid0.coords t 1).val / 2; omega
  | 1 => rfl
  | 2 => show 0 * 128 + h.val = h.val; omega

theorem in2 (k : Fin 4096) (h : Fin 512) : (iblk m c 2 t (ix3 (0 : Fin 1) k h) : EReal) = if (side t).val = 0 then w1Of (m ((c : Thread nD τ).loc main_arg2)) k h else w1Of (m ((c : Thread nD τ).loc main_arg7)) k h := by
  refine Eq.trans ?_ (w1_read m c (side t) k h)
  refine congrArg (V m c main_v15) (funext fun (a : Fin 3) => Fin.ext ?_)
  refine (Window.rect_emb_val (cfg0.win 2) t (ix3 (0 : Fin 1) k h) a).trans ?_
  have hx : (cfg0.win 2).index t = ![(grid0.coords t 1).val / 2, 0, 0] := by
    revert t
    decide
  rw [hx]
  match a with
  | 0 => show (grid0.coords t 1).val / 2 * 1 + 0 = (grid0.coords t 1).val / 2; omega
  | 1 => show 0 * 4096 + k.val = k.val; omega
  | 2 => show 0 * 512 + h.val = h.val; omega

theorem in4 (k : Fin 512) (h : Fin 128) : (iblk m c 4 t (ix3 (0 : Fin 1) k h) : EReal) = if (side t).val = 0 then w2Of (m ((c : Thread nD τ).loc main_arg4)) k h else w2Of (m ((c : Thread nD τ).loc main_arg9)) k h := by
  refine Eq.trans ?_ (w2_read m c (side t) k h)
  refine congrArg (V m c main_v31) (funext fun (a : Fin 3) => Fin.ext ?_)
  refine (Window.rect_emb_val (cfg0.win 4) t (ix3 (0 : Fin 1) k h) a).trans ?_
  have hx : (cfg0.win 4).index t = ![(grid0.coords t 1).val / 2, 0, 0] := by
    revert t
    decide
  rw [hx]
  match a with
  | 0 => show (grid0.coords t 1).val / 2 * 1 + 0 = (grid0.coords t 1).val / 2; omega
  | 1 => show 0 * 512 + k.val = k.val; omega
  | 2 => show 0 * 128 + h.val = h.val; omega

/-- The results' entries, of the arguments. -/
def full (b : Fin 2) (i : Fin 4) (r : Fin 1024) (d : Fin 128) : EReal :=
  value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b i r d

/-- A point's entries are the arguments', at the point's batch and head. -/
theorem here_eq (r : Fin 1024) (d : Fin 128) :
    here (iblk m c 0 t) (iblk m c 1 t) (iblk m c 2 t) (iblk m c 3 t) (iblk m c 4 t) (iblk m c 5 t) r d = full m c (grid0.coords t 0) (grid0.coords t 1) r d := by
  have h1 : (grid0.coords t 1).val < 4 := (grid0.coords t 1).isLt
  have e0 := in0 m c t
  have e1 := in1 m c t
  have e2 := in2 m c t
  have e3 := in3 m c t
  have e4 := in4 m c t
  have e5 := in5 m c t
  unfold full value
  by_cases h : (grid0.coords t 1).val < 2
  · have hs : (side t).val = 0 := show (grid0.coords t 1).val / 2 = 0 by omega
    rw [if_pos h]
    simp only [if_pos hs] at e1 e2 e3 e4 e5
    unfold here
    congr 1
    · funext r k; exact e0 r k
    · funext k; exact e1 k
    · funext k h; exact e2 k h
    · funext k; exact e3 k
    · funext k h; exact e4 k h
    · funext k; exact e5 k
  · have hs : ¬ (side t).val = 0 := show ¬ (grid0.coords t 1).val / 2 = 0 by omega
    rw [if_neg h]
    simp only [if_neg hs] at e1 e2 e3 e4 e5
    unfold here
    congr 1
    · funext r k; exact e0 r k
    · funext k; exact e1 k
    · funext k h; exact e2 k h
    · funext k; exact e3 k
    · funext k h; exact e4 k h
    · funext k; exact e5 k

/-! ## The two results -/

/-- The compressed keys and values, and the same transposed. -/
def whole6 : FVec Ideal S2x4x1024x128 .bf16 := fun y => full m c (y 0) (y 1) (y 2) (y 3)
def whole7 : FVec Ideal S2x4x128x1024 .bf16 := fun y => full m c (y 0) (y 1) (y 3) (y 2)

theorem result_6 : (dats m 0 c).arrAt 6 cfg0.N = whole6 m c := by
  refine (dats m 0 c).arrAt_eq_of_covers 6 _ ?_ fun t hf y => ?_
  · exact (cfg0.win 6).covers_of_indexMap_surj rfl (fun (a : Fin 4) => match a with | 0 => (by decide : 0 < 1) | 1 => (by decide : 0 < 1) | 2 => (by decide : 0 < 1024) | 3 => (by decide : 0 < 128)) fun β => by
      obtain ⟨b0, hb0⟩ : ∃ b0 : Fin 2, b0.val = (β (0 : Fin 4)).val :=
        ⟨⟨(β (0 : Fin 4)).val, lt_of_lt_of_eq (β (0 : Fin 4)).isLt (show (2 + 1 - 1) / 1 = 2 by norm_num)⟩, rfl⟩
      obtain ⟨b1, hb1⟩ : ∃ b1 : Fin 4, b1.val = (β (1 : Fin 4)).val :=
        ⟨⟨(β (1 : Fin 4)).val, lt_of_lt_of_eq (β (1 : Fin 4)).isLt (show (4 + 1 - 1) / 1 = 4 by norm_num)⟩, rfl⟩
      have h0 := b0.isLt
      have h1 := b1.isLt
      refine ⟨fun (a : Fin 2) => match a with | 0 => b0 | 1 => b1, fun (a : Fin 4) => ?_⟩
      match a with
      | 0 =>
        refine Eq.trans ?_ hb0
        show (BitVec.ofNat 32 b0.val).toNat = b0.val
        rw [BitVec.toNat_ofNat, Nat.mod_eq_of_lt (by omega)]
      | 1 =>
        refine Eq.trans ?_ hb1
        show (BitVec.ofNat 32 b1.val).toNat = b1.val
        rw [BitVec.toNat_ofNat, Nat.mod_eq_of_lt (by omega)]
      | 2 =>
        have hz : (β (2 : Fin 4)).val < 1 := lt_of_lt_of_eq (β (2 : Fin 4)).isLt (show (1024 + 1024 - 1) / 1024 = 1 by norm_num)
        show 0 = (β (2 : Fin 4)).val
        omega
      | 3 =>
        have hz : (β (3 : Fin 4)).val < 1 := lt_of_lt_of_eq (β (3 : Fin 4)).isLt (show (128 + 128 - 1) / 128 = 1 by norm_num)
        show 0 = (β (3 : Fin 4)).val
        omega
  · have h0 : (grid0.coords t 0).val < 2 := (grid0.coords t 0).isLt
    have h1 : (grid0.coords t 1).val < 4 := (grid0.coords t 1).isLt
    have hx : (cfg0.win 6).index t = ![(grid0.coords t 0).val, (grid0.coords t 1).val, 0, 0] := by
      show ![(BitVec.ofNat 32 (grid0.coords t 0).val).toNat, (BitVec.ofNat 32 (grid0.coords t 1).val).toNat, 0, 0] = _
      rw [BitVec.toNat_ofNat, BitVec.toNat_ofNat, Nat.mod_eq_of_lt (by omega), Nat.mod_eq_of_lt (by omega)]
    obtain ⟨z, z', p, q, rfl⟩ : ∃ (z z' : Fin 1) (p : Fin 1024) (q : Fin 128), y = ix4 z z' p q :=
      ⟨y (0 : Fin 4), y (1 : Fin 4), y (2 : Fin 4), y (3 : Fin 4), ValueIdx.eq_ix4 (n0 := 1) (n1 := 1) (n2 := 1024) (n3 := 128) y⟩
    obtain rfl : z = 0 := Subsingleton.elim _ _
    obtain rfl : z' = 0 := Subsingleton.elim _ _
    have hemb : ((cfg0.win 6).blk t).view.emb (ix4 (0 : Fin 1) (0 : Fin 1) p q) = ix4 (grid0.coords t 0) (grid0.coords t 1) p q := by
      refine funext fun (i : Fin 4) => Fin.ext ?_
      refine (Window.rect_emb_val (cfg0.win 6) t (ix4 (0 : Fin 1) (0 : Fin 1) p q) i).trans ?_
      rw [hx]
      match i with
      | 0 => show (grid0.coords t 0).val * 1 + 0 = (grid0.coords t 0).val; omega
      | 1 => show (grid0.coords t 1).val * 1 + 0 = (grid0.coords t 1).val; omega
      | 2 => show 0 * 1024 + p.val = p.val; omega
      | 3 => show 0 * 128 + q.val = q.val; omega
    exact (congrFun (after0_6 m c t) (ix4 (0 : Fin 1) (0 : Fin 1) p q)).trans ((block_6 _ _ _ _ _ _ p q).trans ((here_eq m c t p q).trans (congrArg (whole6 m c) hemb.symm)))

theorem result_7 : (dats m 0 c).arrAt 7 cfg0.N = whole7 m c := by
  refine (dats m 0 c).arrAt_eq_of_covers 7 _ ?_ fun t hf y => ?_
  · exact (cfg0.win 7).covers_of_indexMap_surj rfl (fun (a : Fin 4) => match a with | 0 => (by decide : 0 < 1) | 1 => (by decide : 0 < 1) | 2 => (by decide : 0 < 128) | 3 => (by decide : 0 < 1024)) fun β => by
      obtain ⟨b0, hb0⟩ : ∃ b0 : Fin 2, b0.val = (β (0 : Fin 4)).val :=
        ⟨⟨(β (0 : Fin 4)).val, lt_of_lt_of_eq (β (0 : Fin 4)).isLt (show (2 + 1 - 1) / 1 = 2 by norm_num)⟩, rfl⟩
      obtain ⟨b1, hb1⟩ : ∃ b1 : Fin 4, b1.val = (β (1 : Fin 4)).val :=
        ⟨⟨(β (1 : Fin 4)).val, lt_of_lt_of_eq (β (1 : Fin 4)).isLt (show (4 + 1 - 1) / 1 = 4 by norm_num)⟩, rfl⟩
      have h0 := b0.isLt
      have h1 := b1.isLt
      refine ⟨fun (a : Fin 2) => match a with | 0 => b0 | 1 => b1, fun (a : Fin 4) => ?_⟩
      match a with
      | 0 =>
        refine Eq.trans ?_ hb0
        show (BitVec.ofNat 32 b0.val).toNat = b0.val
        rw [BitVec.toNat_ofNat, Nat.mod_eq_of_lt (by omega)]
      | 1 =>
        refine Eq.trans ?_ hb1
        show (BitVec.ofNat 32 b1.val).toNat = b1.val
        rw [BitVec.toNat_ofNat, Nat.mod_eq_of_lt (by omega)]
      | 2 =>
        have hz : (β (2 : Fin 4)).val < 1 := lt_of_lt_of_eq (β (2 : Fin 4)).isLt (show (128 + 128 - 1) / 128 = 1 by norm_num)
        show 0 = (β (2 : Fin 4)).val
        omega
      | 3 =>
        have hz : (β (3 : Fin 4)).val < 1 := lt_of_lt_of_eq (β (3 : Fin 4)).isLt (show (1024 + 1024 - 1) / 1024 = 1 by norm_num)
        show 0 = (β (3 : Fin 4)).val
        omega
  · have h0 : (grid0.coords t 0).val < 2 := (grid0.coords t 0).isLt
    have h1 : (grid0.coords t 1).val < 4 := (grid0.coords t 1).isLt
    have hx : (cfg0.win 7).index t = ![(grid0.coords t 0).val, (grid0.coords t 1).val, 0, 0] := by
      show ![(BitVec.ofNat 32 (grid0.coords t 0).val).toNat, (BitVec.ofNat 32 (grid0.coords t 1).val).toNat, 0, 0] = _
      rw [BitVec.toNat_ofNat, BitVec.toNat_ofNat, Nat.mod_eq_of_lt (by omega), Nat.mod_eq_of_lt (by omega)]
    obtain ⟨z, z', p, q, rfl⟩ : ∃ (z z' : Fin 1) (p : Fin 128) (q : Fin 1024), y = ix4 z z' p q :=
      ⟨y (0 : Fin 4), y (1 : Fin 4), y (2 : Fin 4), y (3 : Fin 4), ValueIdx.eq_ix4 (n0 := 1) (n1 := 1) (n2 := 128) (n3 := 1024) y⟩
    obtain rfl : z = 0 := Subsingleton.elim _ _
    obtain rfl : z' = 0 := Subsingleton.elim _ _
    have hemb : ((cfg0.win 7).blk t).view.emb (ix4 (0 : Fin 1) (0 : Fin 1) p q) = ix4 (grid0.coords t 0) (grid0.coords t 1) p q := by
      refine funext fun (i : Fin 4) => Fin.ext ?_
      refine (Window.rect_emb_val (cfg0.win 7) t (ix4 (0 : Fin 1) (0 : Fin 1) p q) i).trans ?_
      rw [hx]
      match i with
      | 0 => show (grid0.coords t 0).val * 1 + 0 = (grid0.coords t 0).val; omega
      | 1 => show (grid0.coords t 1).val * 1 + 0 = (grid0.coords t 1).val; omega
      | 2 => show 0 * 128 + p.val = p.val; omega
      | 3 => show 0 * 1024 + q.val = q.val; omega
    exact (congrFun (after0_7 m c t) (ix4 (0 : Fin 1) (0 : Fin 1) p q)).trans ((block_7 _ _ _ _ _ _ p q).trans ((here_eq m c t q p).trans (congrArg (whole7 m c) hemb.symm)))

end Cert.Kernel4Ideal.Cmp

end
-- ==== Proof.InRef.lean ====
/- The reference of the input projection read at an entry: the plain formulas. -/
module

public import proofs.«01_k».proof.Proof.InPlain
public import proofs.«01_k».proof.Proof.Gen.Reference3Ideal.Read
public import Idealize.ShloMosaic.Lib.IdealHost

@[expose] public section

set_option maxRecDepth 16384

noncomputable section

namespace Cert.Reference3Ideal.Proj

open Cert.Reference3Ideal.Read
open Idealize.ShloMosaic.ValueIdx (ix1 ix2 ix3 ix4 ix5)
open Cert.Kernel3Ideal.Proj (normed col proj mark qscale one res0 res1 res2 res3 res4 res5 res6 res7)
open Idealize.ShloMosaic hiding ix1 ix2 ix3 ix4 ix5

variable (x : FVec Ideal S2x16384x2048 .f32) (g : FVec Ideal S2x2048 .f32) (sc sh : FVec Ideal S2x1x2048 .f32) (w : FVec Ideal S2x2048x3608 .f32)

theorem sum_eq (b : Fin 2) (p : Fin 16384) :
    val_main_v3 (F := Ideal) x (ix2 b p) = ∑ j : Fin 2048, FloatOps.mulf (F := Ideal) (φ := .f32) (x (ix3 b p j)) (x (ix3 b p j)) := by
  rw [val_main_v3_apply, val_main_cst_apply]
  refine (congrArg (· + _) (Ideal.ofBits_zero_f32)).trans ((zero_add _).trans (Finset.sum_congr rfl fun j _ => ?_))
  have e : idx_main_v3 (ix2 b p) j = ix3 b p j := funext fun a => match a with | 0 => rfl | 1 => rfl | 2 => rfl
  rw [e]
  exact val_main_v2_apply (F := Ideal) x _

theorem weight_eq (k : Fin 2048) : val_main_v1 (F := Ideal) g (ix1 k) = g (ix2 (0 : Fin 2) k) := by
  rw [val_main_v1_apply, val_main_v0_apply]
  refine congrArg g (funext fun a => Fin.ext ?_)
  have hk := k.isLt
  match a with
  | 0 => rfl
  | 1 => show k.val % 2048 = k.val; omega

theorem normed_eq (b : Fin 2) (p : Fin 16384) (k : Fin 2048) : val_main_v20 (F := Ideal) x g sc sh (ix3 b p k)
    = normed (fun j => x (ix3 b p j)) (fun j => g (ix2 (0 : Fin 2) j)) (fun j => sc (ix3 b (0 : Fin 1) j)) (fun j => sh (ix3 b (0 : Fin 1) j)) k := by
  rw [val_main_v20_apply, val_main_v18_apply, val_main_v14_apply, val_main_v11_apply, val_main_v10_apply, val_main_v9_apply, val_main_v8_apply,
    val_main_v6_apply, val_main_v4_apply, val_main_v5_apply, val_main_v7_apply, val_main_v13_apply, val_main_v12_apply, val_main_v17_apply,
    val_main_v16_apply, val_main_v15_apply, val_main_v19_apply]
  have e4 : idx_main_v4 (idx_main_v10 (ix3 b p k)) = ix2 b p := funext fun a => match a with | 0 => rfl | 1 => rfl
  have e12 : idx_main_v12 (idx_main_v13 (ix3 b p k)) = ix1 k := funext fun a => match a with | 0 => rfl
  have e17 : idx_main_v17 (ix3 b p k) = ix3 b (0 : Fin 1) k := funext fun a => match a with | 0 => rfl | 1 => rfl | 2 => rfl
  have e19 : idx_main_v19 (ix3 b p k) = ix3 b (0 : Fin 1) k := funext fun a => match a with | 0 => rfl | 1 => rfl | 2 => rfl
  rw [e4, e12, e17, e19, sum_eq, weight_eq]
  rfl

theorem matrix_eq (k : Fin 2048) (q : Fin 3608) : val_main_v22 (F := Ideal) w (ix2 k q) = w (ix3 (0 : Fin 2) k q) := by
  rw [val_main_v22_apply, val_main_v21_apply]
  refine congrArg w (funext fun a => Fin.ext ?_)
  have hk := k.isLt
  have hq := q.isLt
  match a with
  | 0 => rfl
  | 1 => show (k.val * 3608 + q.val) / 3608 % 2048 = k.val; omega
  | 2 => show (k.val * 3608 + q.val) % 3608 = q.val; omega

/-- The table of the projected entries. -/
theorem proj_eq (b : Fin 2) (p : Fin 16384) (q : Fin 3608) : val_main_v23 (F := Ideal) x g sc sh w (ix3 b p q) = proj x g sc sh w b.val p.val q.val := by
  have eb : (⟨b.val % 2, Nat.mod_lt _ (by norm_num)⟩ : Fin 2) = b := Fin.ext (Nat.mod_eq_of_lt b.isLt)
  have ep : (⟨p.val % 16384, Nat.mod_lt _ (by norm_num)⟩ : Fin 16384) = p := Fin.ext (Nat.mod_eq_of_lt p.isLt)
  have eq : (⟨q.val % 3608, Nat.mod_lt _ (by norm_num)⟩ : Fin 3608) = q := Fin.ext (Nat.mod_eq_of_lt q.isLt)
  unfold proj
  rw [eb, ep, eq, val_main_v23_apply]
  refine Finset.sum_congr rfl fun k _ => congrArg₂ (HMul.hMul (α := EReal) (β := EReal) (γ := EReal)) ?_ ?_
  · exact (congrArg _ (funext fun a => match a with | 0 => rfl | 1 => rfl | 2 => rfl : lidx_main_v23 (ix3 b p q) k = ix3 b p k)).trans (normed_eq x g sc sh b p k)
  · exact (congrArg _ (funext fun a => match a with | 0 => rfl | 1 => rfl : ridx_main_v23 (ix3 b p q) k = ix2 k q)).trans (matrix_eq w k q)

/-- The table at any index with the coordinates given. -/
theorem entry (i : S2x16384x3608.Idx) (b p q : ℕ) (hb : (i 0).val = b) (hp : (i 1).val = p) (hq : (i 2).val = q) :
    val_main_v23 (F := Ideal) x g sc sh w i = proj x g sc sh w b p q := by
  subst hb hp hq
  exact (congrArg _ (funext fun a => match a with | 0 => rfl | 1 => rfl | 2 => rfl : i = ix3 (i 0) (i 1) (i 2))).trans (proj_eq x g sc sh w (i 0) (i 1) (i 2))

theorem result_48 (y : S2x16384x1024.Idx) : val_main_v48 (F := Ideal) x g sc sh w y = res0 (proj x g sc sh w) (y 0).val (y 1).val (y 2).val := by
  rw [val_main_v48_apply]
  exact entry x g sc sh w _ _ _ _ rfl rfl rfl

theorem result_52 (y : S2x1024x16384.Idx) : val_main_v52 (F := Ideal) x g sc sh w y = res1 (proj x g sc sh w) (y 0).val (y 1).val (y 2).val := by
  rw [val_main_v52_apply, val_main_v51_apply, val_main_v50_apply, val_main_v24_apply, val_main_v49_apply, val_main_cst_8_apply,
    entry x g sc sh w (idx_main_v24 (idx_main_v51 y)) (y 0).val (y 2).val (1024 + (y 1).val) rfl rfl rfl]
  rfl

/-- The heads of a slice of 256 columns from column `o` on: an index of the reshape of the transposed heads. -/
theorem heads_coords (b : Fin 2) (h : Fin 2) (p : Fin 16384) (d : Fin 128) :
    (((b.val * 16384 + p.val) * 2 + h.val) * 128 + d.val) / 4194304 = b.val
    ∧ (((b.val * 16384 + p.val) * 2 + h.val) * 128 + d.val) / 256 % 16384 = p.val
    ∧ (((b.val * 16384 + p.val) * 2 + h.val) * 128 + d.val) % 256 = 128 * h.val + d.val := by
  have := b.isLt; have := h.isLt; have := p.isLt; have := d.isLt
  refine ⟨?_, ?_, ?_⟩ <;> omega

theorem heads_54 (b : Fin 2) (h : Fin 2) (p : Fin 16384) (d : Fin 128) :
    val_main_v54 (F := Ideal) x g sc sh w (ix4 b h p d) = proj x g sc sh w b.val p.val (2048 + 128 * h.val + d.val) := by
  rw [val_main_v54_apply, val_main_v53_apply, val_main_v25_apply]
  obtain ⟨h0, h1, h2⟩ := heads_coords b h p d
  exact entry x g sc sh w _ _ _ _ h0 h1 ((congrArg (2048 + ·) h2).trans (Nat.add_assoc _ _ _).symm)

theorem heads_56 (b : Fin 2) (h : Fin 2) (p : Fin 16384) (d : Fin 128) :
    val_main_v56 (F := Ideal) x g sc sh w (ix4 b h p d) = proj x g sc sh w b.val p.val (2304 + 128 * h.val + d.val) := by
  rw [val_main_v56_apply, val_main_v55_apply, val_main_v26_apply]
  obtain ⟨h0, h1, h2⟩ := heads_coords b h p d
  exact entry x g sc sh w _ _ _ _ h0 h1 ((congrArg (2304 + ·) h2).trans (Nat.add_assoc _ _ _).symm)

theorem heads_59 (b : Fin 2) (h : Fin 2) (p : Fin 16384) (d : Fin 128) :
    val_main_v59 (F := Ideal) x g sc sh w (ix4 b h p d) = proj x g sc sh w b.val p.val (2560 + 128 * h.val + d.val) := by
  rw [val_main_v59_apply, val_main_v58_apply, val_main_v27_apply]
  obtain ⟨h0, h1, h2⟩ := heads_coords b h p d
  exact entry x g sc sh w _ _ _ _ h0 h1 ((congrArg (2560 + ·) h2).trans (Nat.add_assoc _ _ _).symm)

theorem heads_65 (b : Fin 2) (h : Fin 2) (p : Fin 16384) (d : Fin 128) :
    val_main_v65 (F := Ideal) x g sc sh w (ix4 b h p d) = proj x g sc sh w b.val p.val (2816 + 128 * h.val + d.val) := by
  rw [val_main_v65_apply, val_main_v64_apply, val_main_v28_apply]
  obtain ⟨h0, h1, h2⟩ := heads_coords b h p d
  exact entry x g sc sh w _ _ _ _ h0 h1 ((congrArg (2816 + ·) h2).trans (Nat.add_assoc _ _ _).symm)

theorem heads_72 (b : Fin 2) (h : Fin 2) (p : Fin 16384) (d : Fin 128) :
    val_main_v72 (F := Ideal) x g sc sh w (ix4 b h p d) = proj x g sc sh w b.val p.val (3072 + 128 * h.val + d.val) := by
  rw [val_main_v72_apply, val_main_v71_apply, val_main_v29_apply]
  obtain ⟨h0, h1, h2⟩ := heads_coords b h p d
  exact entry x g sc sh w _ _ _ _ h0 h1 ((congrArg (3072 + ·) h2).trans (Nat.add_assoc _ _ _).symm)

theorem heads_75 (b : Fin 2) (h : Fin 2) (p : Fin 16384) (d : Fin 128) :
    val_main_v75 (F := Ideal) x g sc sh w (ix4 b h p d) = proj x g sc sh w b.val p.val (3328 + 128 * h.val + d.val) := by
  rw [val_main_v75_apply, val_main_v74_apply, val_main_v30_apply]
  obtain ⟨h0, h1, h2⟩ := heads_coords b h p d
  exact entry x g sc sh w _ _ _ _ h0 h1 ((congrArg (3328 + ·) h2).trans (Nat.add_assoc _ _ _).symm)

/-- The number of a position's block of 64, modulo 128, as the reference computes it. -/
def refBlock (t : BitVec 32) : BitVec 32 :=
  let sgn (z : BitVec 32) : BitVec 32 := if z = 0 then 0 else if z.msb then -1 else 1
  let q := Scalar.select (IntOp.andi (IntOp.cmpi .ne (sgn t) (sgn 64#32)) (IntOp.cmpi .ne (IntOp.remsi .host t 64#32) 0#32))
    (IntOp.subi (IntOp.divsi .host t 64#32) 1#32) (IntOp.divsi .host t 64#32)
  let n := Scalar.select (IntOp.cmpi .eq 128#32 0#32) 1#32 128#32
  let r := IntOp.remsi .host q n
  Scalar.select (IntOp.andi (IntOp.cmpi .ne (IntOp.cmpi .slt r 0#32) (IntOp.cmpi .slt n 0#32)) (IntOp.cmpi .ne r 0#32)) (IntOp.addi r n) r

theorem refBlock_table : ∀ a b : Fin 128, refBlock (BitVec.ofNat 32 (128 * a.val + b.val)) = BitVec.ofNat 32 ((128 * a.val + b.val) / 64 % 128) := by
  decide +kernel

theorem block_eq (p : Fin 16384) : val_main_v40 (F := Ideal) (ix1 p) = BitVec.ofNat 32 (p.val / 64 % 128) := by
  have hp := p.isLt
  have h := refBlock_table ⟨p.val / 128, by omega⟩ ⟨p.val % 128, by omega⟩
  have e : 128 * (p.val / 128) + p.val % 128 = p.val := Nat.div_add_mod p.val 128
  have h' : refBlock (BitVec.ofNat 32 (128 * (p.val / 128) + p.val % 128)) = BitVec.ofNat 32 ((128 * (p.val / 128) + p.val % 128) / 64 % 128) := h
  rw [e] at h'
  refine Eq.trans ?_ h'
  rw [val_main_v40_apply, val_main_call1_v12_apply, val_main_call1_v11_apply, val_main_call1_v8_apply, val_main_call1_v10_apply, val_main_call1_v9_apply,
    val_main_call1_v6_apply, val_main_call1_v14_apply, val_main_call1_v13_apply, val_main_call1_v4_apply, val_main_call1_v3_apply, val_main_call1_v5_apply,
    val_main_call1_v7_apply, val_main_v39_apply, val_main_call0_v11_apply, val_main_call0_v6_apply, val_main_call0_v10_apply, val_main_call0_v8_apply,
    val_main_call0_v13_apply, val_main_call0_v2_apply, val_main_call0_v1_apply, val_main_call0_v5_apply, val_main_call0_v7_apply, val_main_call0_v9_apply,
    val_main_call0_v12_apply]
  rfl

theorem mark_eq (p : Fin 16384) (l : Fin 128) : val_main_v47 (F := Ideal) (ix2 p l) = mark p.val l.val := by
  rw [val_main_v47_apply, val_main_v46_apply, val_main_v44_apply, val_main_v41_apply, val_main_v45_apply, val_main_v43_apply, val_main_v42_apply,
    val_main_call2_v0_apply, val_main_call2_v1_apply, val_main_cst_6_apply, val_main_cst_7_apply]
  have e : idx_main_v41 (idx_main_v44 (ix2 p l)) = ix1 p := funext fun a => match a with | 0 => rfl
  rw [e, block_eq]
  show Scalar.select (IntOp.cmpi .eq (BitVec.ofNat 32 (p.val / 64 % 128)) (BitVec.ofNat 32 l.val)) _ _ = _
  unfold mark
  by_cases h : BitVec.ofNat 32 l.val = BitVec.ofNat 32 (p.val / 64 % 128)
  · rw [if_pos h, ← h]
    unfold Scalar.select IntOp.cmpi
    simp
  · rw [if_neg h]
    have h2 : ¬ BitVec.ofNat 32 (p.val / 64 % 128) = BitVec.ofNat 32 l.val := fun e => h e.symm
    unfold Scalar.select IntOp.cmpi
    simp [h2]
    rw [beq_eq_false_iff_ne.mpr h2]
    decide

theorem result_57 (y : S2x4x16384x128.Idx) : val_main_v57 (F := Ideal) x g sc sh w y = res2 (proj x g sc sh w) (y 0).val (y 1).val (y 2).val (y 3).val := by
  have h1 : (y 1).val < 4 := (y 1).isLt
  unfold val_main_v57 res2
  by_cases h : (y 1).val < 2
  · refine (concatenate_pair_apply_left (t := S2x4x16384x128) (s₁ := S2x2x16384x128) (s₂ := S2x2x16384x128) (1 : Fin 4) _ _ _ y rfl (ix4 (y 0) (⟨(y 1).val, h⟩ : Fin 2) (y 2) (y 3)) (fun b => by
      match b with
      | 0 => rfl
      | 1 => rfl
      | 2 => rfl
      | 3 => rfl)).trans ?_
    exact heads_54 x g sc sh w (y 0) (⟨(y 1).val, h⟩ : Fin 2) (y 2) (y 3)
  · refine (concatenate_pair_apply_right (t := S2x4x16384x128) (s₁ := S2x2x16384x128) (s₂ := S2x2x16384x128) (1 : Fin 4) _ _ _ y rfl rfl (ix4 (y 0) (⟨(y 1).val - 2, by omega⟩ : Fin 2) (y 2) (y 3)) (fun b hb => by
      match b with
      | 0 => rfl
      | 1 => exact absurd rfl hb
      | 2 => rfl
      | 3 => rfl) (by show (y 1).val - 2 + 2 = (y 1).val; omega)).trans ?_
    refine (heads_56 x g sc sh w (y 0) (⟨(y 1).val - 2, by omega⟩ : Fin 2) (y 2) (y 3)).trans (congrArg (proj x g sc sh w (y 0).val (y 2).val) ?_)
    show 2304 + 128 * ((y 1).val - 2) + (y 3).val = 2048 + 128 * (y 1).val + (y 3).val
    omega

theorem result_63 (y : S2x2x16384x256.Idx) : val_main_v63 (F := Ideal) x g sc sh w y = res3 (proj x g sc sh w) 0 (y 0).val (y 1).val (y 2).val (y 3).val := by
  have h3 : (y 3).val < 256 := (y 3).isLt
  rw [val_main_v63_apply]
  show val_main_v62 (F := Ideal) x g sc sh w y = _
  unfold val_main_v62 res3
  by_cases h : (y 3).val < 128
  · rw [if_pos h]
    refine (concatenate_pair_apply_left (t := S2x2x16384x256) (s₁ := S2x2x16384x128) (s₂ := S2x2x16384x128) (3 : Fin 4) _ _ _ y rfl (ix4 (y 0) (y 1) (y 2) (⟨(y 3).val, h⟩ : Fin 128)) (fun b => by
      match b with
      | 0 => rfl
      | 1 => rfl
      | 2 => rfl
      | 3 => rfl)).trans ?_
    exact heads_59 x g sc sh w (y 0) (y 1) (y 2) (⟨(y 3).val, h⟩ : Fin 128)
  · rw [if_neg h]
    refine (concatenate_pair_apply_right (t := S2x2x16384x256) (s₁ := S2x2x16384x128) (s₂ := S2x2x16384x128) (3 : Fin 4) _ _ _ y rfl rfl (ix4 (y 0) (y 1) (y 2) (⟨(y 3).val - 128, by omega⟩ : Fin 128)) (fun b hb => by
      match b with
      | 0 => rfl
      | 1 => rfl
      | 2 => rfl
      | 3 => exact absurd rfl hb) (by show (y 3).val - 128 + 128 = (y 3).val; omega)).trans ?_
    rw [val_main_v61_apply, val_main_v60_apply]
    have e : idx_main_v60 (ix4 (y 0) (y 1) (y 2) (⟨(y 3).val - 128, by omega⟩ : Fin 128)) = ix2 (y 2) (⟨(y 3).val - 128, by omega⟩ : Fin 128) := funext fun a => match a with | 0 => rfl | 1 => rfl
    rw [e]
    exact (mark_eq (y 2) (⟨(y 3).val - 128, by omega⟩ : Fin 128)).trans (congrArg (fun p => mark p ((y 3).val - 128)) (Nat.zero_add _).symm)

theorem result_73 (y : S2x2x16384x128.Idx) : val_main_v73 (F := Ideal) x g sc sh w y = res5 (proj x g sc sh w) (y 0).val (y 1).val (y 2).val (y 3).val := by
  rw [val_main_v73_apply]
  exact (congrArg (val_main_v72 (F := Ideal) x g sc sh w) (funext fun a => match a with | 0 => rfl | 1 => rfl | 2 => rfl | 3 => rfl : y = ix4 (y 0) (y 1) (y 2) (y 3))).trans
    (heads_72 x g sc sh w (y 0) (y 1) (y 2) (y 3))

/-- The one of the wider type is the same number. -/
theorem one_eq : FloatOps.ofBits (F := Ideal) .f32 0x3F800000#32 = one := Ideal.ofBits_one_f32.trans Ideal.ofBits_one_bf16.symm

theorem columns_67 (b : Fin 2) (h : Fin 2) (c : Fin 64) (d : Fin 128) (p : Fin 256) :
    val_main_v67 (F := Ideal) x g sc sh w (ix5 b h c d p) = proj x g sc sh w b.val (256 * c.val + p.val) (2816 + 128 * h.val + d.val) := by
  have := b.isLt; have := h.isLt; have := c.isLt; have := d.isLt; have := p.isLt
  rw [val_main_v67_apply, val_main_v66_apply]
  refine Eq.trans (congrArg (val_main_v65 (F := Ideal) x g sc sh w) (funext fun a => Fin.ext ?_ : _ = ix4 b h (⟨256 * c.val + p.val, by omega⟩ : Fin 16384) d)) (heads_65 x g sc sh w b h (⟨256 * c.val + p.val, by omega⟩ : Fin 16384) d)
  match a with
  | 0 => show ((((b.val * 2 + h.val) * 64 + c.val) * 256 + p.val) * 128 + d.val) / 4194304 = b.val; omega
  | 1 => show ((((b.val * 2 + h.val) * 64 + c.val) * 256 + p.val) * 128 + d.val) / 2097152 % 2 = h.val; omega
  | 2 => show ((((b.val * 2 + h.val) * 64 + c.val) * 256 + p.val) * 128 + d.val) / 128 % 16384 = 256 * c.val + p.val; omega
  | 3 => show ((((b.val * 2 + h.val) * 64 + c.val) * 256 + p.val) * 128 + d.val) % 128 = d.val; omega

theorem result_70 (y : S2x2x64x144x256.Idx) : val_main_v70 (F := Ideal) x g sc sh w y = res4 (proj x g sc sh w) (y 0).val (y 1).val (y 2).val (y 3).val (y 4).val := by
  have h3 : (y 3).val < 144 := (y 3).isLt
  rw [val_main_v70_apply]
  show val_main_v69 (F := Ideal) x g sc sh w y = _
  unfold val_main_v69 res4
  by_cases h : (y 3).val < 128
  · rw [if_pos h]
    refine (concatenate_pair_apply_left (t := S2x2x64x144x256) (s₁ := S2x2x64x128x256) (s₂ := S2x2x64x16x256) (3 : Fin 5) _ _ _ y rfl (ix5 (y 0) (y 1) (y 2) (⟨(y 3).val, h⟩ : Fin 128) (y 4)) (fun b => by
      match b with
      | 0 => rfl
      | 1 => rfl
      | 2 => rfl
      | 3 => rfl
      | 4 => rfl)).trans ?_
    exact columns_67 x g sc sh w (y 0) (y 1) (y 2) (⟨(y 3).val, h⟩ : Fin 128) (y 4)
  · rw [if_neg h]
    refine (concatenate_pair_apply_right (t := S2x2x64x144x256) (s₁ := S2x2x64x128x256) (s₂ := S2x2x64x16x256) (3 : Fin 5) _ _ _ y rfl rfl (ix5 (y 0) (y 1) (y 2) (⟨(y 3).val - 128, by omega⟩ : Fin 16) (y 4)) (fun b hb => by
      match b with
      | 0 => rfl
      | 1 => rfl
      | 2 => rfl
      | 3 => exact absurd rfl hb
      | 4 => rfl) (by show (y 3).val - 128 + 128 = (y 3).val; omega)).trans ?_
    rw [val_main_v68_apply, val_main_cst_9_apply]
    exact one_eq

theorem columns_77 (b : Fin 2) (h : Fin 2) (c : Fin 128) (d : Fin 128) (p : Fin 128) :
    val_main_v77 (F := Ideal) x g sc sh w (ix5 b h c d p) = proj x g sc sh w b.val (128 * c.val + p.val) (3328 + 128 * h.val + d.val) := by
  have := b.isLt; have := h.isLt; have := c.isLt; have := d.isLt; have := p.isLt
  rw [val_main_v77_apply, val_main_v76_apply]
  refine Eq.trans (congrArg (val_main_v75 (F := Ideal) x g sc sh w) (funext fun a => Fin.ext ?_ : _ = ix4 b h (⟨128 * c.val + p.val, by omega⟩ : Fin 16384) d)) (heads_75 x g sc sh w b h (⟨128 * c.val + p.val, by omega⟩ : Fin 16384) d)
  match a with
  | 0 => show ((((b.val * 2 + h.val) * 128 + c.val) * 128 + p.val) * 128 + d.val) / 4194304 = b.val; omega
  | 1 => show ((((b.val * 2 + h.val) * 128 + c.val) * 128 + p.val) * 128 + d.val) / 2097152 % 2 = h.val; omega
  | 2 => show ((((b.val * 2 + h.val) * 128 + c.val) * 128 + p.val) * 128 + d.val) / 128 % 16384 = 128 * c.val + p.val; omega
  | 3 => show ((((b.val * 2 + h.val) * 128 + c.val) * 128 + p.val) * 128 + d.val) % 128 = d.val; omega

theorem result_80 (y : S2x2x128x144x128.Idx) : val_main_v80 (F := Ideal) x g sc sh w y = res6 (proj x g sc sh w) (y 0).val (y 1).val (y 2).val (y 3).val (y 4).val := by
  have h3 : (y 3).val < 144 := (y 3).isLt
  rw [val_main_v80_apply]
  show val_main_v79 (F := Ideal) x g sc sh w y = _
  unfold val_main_v79 res6
  by_cases h : (y 3).val < 128
  · rw [if_pos h]
    refine (concatenate_pair_apply_left (t := S2x2x128x144x128) (s₁ := S2x2x128x128x128) (s₂ := S2x2x128x16x128) (3 : Fin 5) _ _ _ y rfl (ix5 (y 0) (y 1) (y 2) (⟨(y 3).val, h⟩ : Fin 128) (y 4)) (fun b => by
      match b with
      | 0 => rfl
      | 1 => rfl
      | 2 => rfl
      | 3 => rfl
      | 4 => rfl)).trans ?_
    exact columns_77 x g sc sh w (y 0) (y 1) (y 2) (⟨(y 3).val, h⟩ : Fin 128) (y 4)
  · rw [if_neg h]
    refine (concatenate_pair_apply_right (t := S2x2x128x144x128) (s₁ := S2x2x128x128x128) (s₂ := S2x2x128x16x128) (3 : Fin 5) _ _ _ y rfl rfl (ix5 (y 0) (y 1) (y 2) (⟨(y 3).val - 128, by omega⟩ : Fin 16) (y 4)) (fun b hb => by
      match b with
      | 0 => rfl
      | 1 => rfl
      | 2 => rfl
      | 3 => exact absurd rfl hb
      | 4 => rfl) (by show (y 3).val - 128 + 128 = (y 3).val; omega)).trans ?_
    rw [val_main_v78_apply, val_main_cst_10_apply]
    exact one_eq

theorem result_81 (y : S2x24x16384.Idx) : val_main_v81 (F := Ideal) x g sc sh w y = res7 (proj x g sc sh w) (y 0).val (y 1).val (y 2).val := by
  rw [val_main_v81_apply, val_main_v37_apply, val_main_v36_apply, val_main_cst_4_apply, val_main_v35_apply, val_main_v34_apply, val_main_cst_3_apply,
    val_main_v33_apply, val_main_v32_apply, val_main_v31_apply,
    entry x g sc sh w (idx_main_v31 (idx_main_v81 y)) (y 0).val (y 2).val (3584 + (y 1).val) rfl rfl rfl,
    show FloatOps.ofBits (F := Ideal) .f32 0x3F800000#32 = (1 : EReal) from Ideal.ofBits_one_f32]
  rfl

end Cert.Reference3Ideal.Proj

end
-- ==== Proof.PlPlain.lean ====
/- The pooling mixer by plain formulas: the mean of the last few positions of a column, less the entry itself, times a
   group's weights and the scale. -/
module

public import proofs.«01_k».proof.Proof.Gen.Kernel5Ideal
public import Idealize.ShloMosaic.Lib.ValueIdxCore
public import Idealize.ShloMosaic.Lib.Pointwise.Tactic
public import Idealize.ShloMosaic.Lib.IdealHost
public import Idealize.ShloMosaic.PureOps.Ideal.Laws

@[expose] public section

noncomputable section

namespace Cert.Kernel5Ideal.Pool

open Cert.Kernel5Ideal.Gen
open Idealize.ShloMosaic.ValueIdx (ix1 ix2 ix3 ix4 ix5)
open Idealize.ShloMosaic hiding ix1 ix2 ix3 ix4 ix5

/-- A column's entry `i` positions before position `t`; zero before the first position. -/
def back (f : ℕ → EReal) (t i : ℕ) : EReal := if i ≤ t then f (t - i) else 0

/-- The sum of the last `w` positions up to `t`. -/
def total (f : ℕ → EReal) (w t : ℕ) : EReal := ∑ i ∈ Finset.range w, back f t i

/-- How many positions there are among the last `w` up to `t`. -/
def count (w : BitVec 32) (t : ℕ) : EReal :=
  FloatOps.sitofp (F := Ideal) .f32 (IntOp.minsi (IntOp.addi (BitVec.ofNat 32 t) 1#32) w)

/-- The mean of the last positions less the entry. -/
def mixed (f : ℕ → EReal) (w : ℕ) (t : ℕ) : EReal :=
  FloatOps.subf (F := Ideal) (φ := .f32) (FloatOps.divf (F := Ideal) (φ := .f32) (total f w t) (count (BitVec.ofNat 32 w) t)) (f t)

/-- How many positions a group of columns looks back. -/
def width (g : Fin 4) : ℕ := 2 ^ (g.val + 1)

/-- A result's entry: the group's mixed columns times the group's weights, times the scale. -/
def outv (f : Fin 1024 → ℕ → EReal) (w : Fin 4 → Fin 256 → Fin 256 → EReal) (s : Fin 1024 → EReal) (t : ℕ) (g : Fin 4) (o : Fin 256) : EReal :=
  (∑ k : Fin 256, mixed (f ⟨256 * g.val + k.val, by have := g.isLt; have := k.isLt; omega⟩) (width g) t * w g k o)
    * s ⟨256 * g.val + o.val, by have := g.isLt; have := o.isLt; omega⟩

/-- The columns of one batch of the argument. -/
def colOf (u : FVec Ideal S2x16384x1024 .f32) (b : Fin 2) (q : Fin 1024) (t : ℕ) : EReal :=
  if h : t < 16384 then u (ix3 b (⟨t, h⟩ : Fin 16384) q) else 0
def wOf (a : FVec Ideal S2x4x256x256 .f32) (g : Fin 4) (k o : Fin 256) : EReal := a (ix4 (0 : Fin 2) g k o)
def sOf (a : FVec Ideal S2x1024 .f32) (q : Fin 1024) : EReal := a (ix2 (0 : Fin 2) q)

/-- A column's group, and its place in the group. -/
def grp (q : Fin 1024) : Fin 4 := ⟨q.val / 256, by have := q.isLt; omega⟩
def plc (q : Fin 1024) : Fin 256 := ⟨q.val % 256, Nat.mod_lt _ (by norm_num)⟩

/-- The result's entries, of the arguments. -/
def value (u : FVec Ideal S2x16384x1024 .f32) (a : FVec Ideal S2x4x256x256 .f32) (e : FVec Ideal S2x1024 .f32) (b : Fin 2) (t : ℕ) (q : Fin 1024) : EReal :=
  outv (colOf u b) (wOf a) (sOf e) t (grp q) (plc q)

end Cert.Kernel5Ideal.Pool

end
-- ==== Proof.PlRef.lean ====
/- The reference of the pooling mixer read at an entry: the plain formulas. -/
module

public import proofs.«01_k».proof.Proof.PlPlain
public import proofs.«01_k».proof.Proof.Gen.Reference5Ideal.Read
public import Idealize.ShloMosaic.Lib.IdealHost
public import Idealize.ShloMosaic.Lib.KernelVsHost

@[expose] public section

set_option maxRecDepth 16384

noncomputable section

namespace Cert.Reference5Ideal.Pool

open Cert.Reference5Ideal Cert.Reference5Ideal.Gen Cert.Reference5Ideal.Read
open Idealize.ShloMosaic.ValueIdx (ix1 ix2 ix3 ix4 ix5)
open Cert.Kernel5Ideal.Pool (back total count mixed width outv colOf wOf sOf grp plc value)
open Idealize.ShloMosaic hiding ix1 ix2 ix3 ix4 ix5

theorem folded {β : Type} (l : List β) (g : β → EReal) (a : EReal) : l.foldl (fun r n => r + g n) a = a + (l.map g).sum := by
  induction l generalizing a with
  | nil => exact (add_zero a).symm
  | cons b l ih => exact (ih (a + g b)).trans ((add_assoc _ _ _).trans (congrArg (a + ·) (List.sum_cons (a := g b) (l := l.map g)).symm))

/-- The positions of a window along the middle axis. -/
def along (w : ℕ) : (⟨3, ![1, w, 1]⟩ : Shape).Idx ≃ Fin w where
  toFun p := p (1 : Fin 3)
  invFun i := ix3 (0 : Fin 1) i (0 : Fin 1)
  left_inv p := funext fun (a : Fin 3) => by
    match a with
    | 0 => exact Subsingleton.elim (α := Fin 1) _ _
    | 1 => rfl
    | 2 => exact Subsingleton.elim (α := Fin 1) _ _
  right_inv i := rfl

/-- A column of one batch. -/
def line (x : FVec Ideal S2x16384x256 .f32) (b : Fin 2) (k : Fin 256) (t : ℕ) : EReal :=
  if h : t < 16384 then x (ix3 b (⟨t, h⟩ : Fin 16384) k) else 0

/-- The sum over a window ending at each position, padded at the front by zeros. -/
theorem windowed (v : ℕ) (x : FVec Ideal S2x16384x256 .f32)
    (h : S2x16384x256.ReduceWindows ![1, v + 1, 1] ![1, 1, 1] ![0, v, 0] ![0, 0, 0] S2x16384x256) (b : Fin 2) (t : Fin 16384) (k : Fin 256) :
    Ideal.hostReduceWindowAdd (s := S2x16384x256) ![1, v + 1, 1] ![1, 1, 1] ![0, v, 0] ![0, 0, 0] h x 0 (ix3 b t k) = total (line x b k) (v + 1) t.val := by
  have ht := t.isLt
  unfold Ideal.hostReduceWindowAdd Host.reduceWindow
  dsimp only
  refine (folded _ _ _).trans ((zero_add _).trans ?_)
  refine (Fin.sum_univ_def _).symm.trans ?_
  refine (Fintype.sum_equiv (Shape.rowMajor (⟨3, ![1, v + 1, 1]⟩ : Shape)).symm _ (fun p : (⟨3, ![1, v + 1, 1]⟩ : Shape).Idx =>
    back (line x b k) t.val (v - (p (1 : Fin 3)).val)) fun n => ?_).trans ?_
  · have b0 : ((Shape.rowMajor (⟨3, ![1, v + 1, 1]⟩ : Shape)).symm n (0 : Fin 3)).val < 1 := ((Shape.rowMajor (⟨3, ![1, v + 1, 1]⟩ : Shape)).symm n (0 : Fin 3)).isLt
    have b1 : ((Shape.rowMajor (⟨3, ![1, v + 1, 1]⟩ : Shape)).symm n (1 : Fin 3)).val < v + 1 := ((Shape.rowMajor (⟨3, ![1, v + 1, 1]⟩ : Shape)).symm n (1 : Fin 3)).isLt
    have b2 : ((Shape.rowMajor (⟨3, ![1, v + 1, 1]⟩ : Shape)).symm n (2 : Fin 3)).val < 1 := ((Shape.rowMajor (⟨3, ![1, v + 1, 1]⟩ : Shape)).symm n (2 : Fin 3)).isLt
    have z0 : ((Shape.rowMajor (⟨3, ![1, v + 1, 1]⟩ : Shape)).symm n (0 : Fin 3)).val = 0 := by omega
    have z2 : ((Shape.rowMajor (⟨3, ![1, v + 1, 1]⟩ : Shape)).symm n (2 : Fin 3)).val = 0 := by omega
    obtain ⟨i, hi⟩ : ∃ i, ((Shape.rowMajor (⟨3, ![1, v + 1, 1]⟩ : Shape)).symm n (1 : Fin 3)).val = i := ⟨_, rfl⟩
    rw [hi] at b1 ⊢
    unfold back line
    by_cases hin : v ≤ t.val + i
    · rw [if_pos (show v - i ≤ t.val by omega), dif_pos (show t.val - (v - i) < 16384 by omega)]
      refine (dif_pos (fun (a : Fin 3) => ?_)).trans (congrArg x (funext fun (a : Fin 3) => Fin.ext ?_))
      · match a with
        | 0 =>
          show 0 ≤ b.val * 1 + ((Shape.rowMajor (⟨3, ![1, v + 1, 1]⟩ : Shape)).symm n (0 : Fin 3)).val ∧ b.val * 1 + ((Shape.rowMajor (⟨3, ![1, v + 1, 1]⟩ : Shape)).symm n (0 : Fin 3)).val - 0 < 2
          have := b.isLt
          omega
        | 1 =>
          show v ≤ t.val * 1 + ((Shape.rowMajor (⟨3, ![1, v + 1, 1]⟩ : Shape)).symm n (1 : Fin 3)).val ∧ t.val * 1 + ((Shape.rowMajor (⟨3, ![1, v + 1, 1]⟩ : Shape)).symm n (1 : Fin 3)).val - v < 16384
          omega
        | 2 =>
          show 0 ≤ k.val * 1 + ((Shape.rowMajor (⟨3, ![1, v + 1, 1]⟩ : Shape)).symm n (2 : Fin 3)).val ∧ k.val * 1 + ((Shape.rowMajor (⟨3, ![1, v + 1, 1]⟩ : Shape)).symm n (2 : Fin 3)).val - 0 < 256
          have := k.isLt
          omega
      · match a with
        | 0 =>
          show b.val * 1 + ((Shape.rowMajor (⟨3, ![1, v + 1, 1]⟩ : Shape)).symm n (0 : Fin 3)).val - 0 = b.val
          omega
        | 1 =>
          show t.val * 1 + ((Shape.rowMajor (⟨3, ![1, v + 1, 1]⟩ : Shape)).symm n (1 : Fin 3)).val - v = t.val - (v - i)
          omega
        | 2 =>
          show k.val * 1 + ((Shape.rowMajor (⟨3, ![1, v + 1, 1]⟩ : Shape)).symm n (2 : Fin 3)).val - 0 = k.val
          omega
    · rw [if_neg (show ¬ v - i ≤ t.val by omega)]
      refine dif_neg fun hall => ?_
      have h1 : v ≤ t.val * 1 + ((Shape.rowMajor (⟨3, ![1, v + 1, 1]⟩ : Shape)).symm n (1 : Fin 3)).val := (hall (1 : Fin 3)).1
      omega
  · refine (Fintype.sum_equiv (along (v + 1)) _ (fun i : Fin (v + 1) => back (line x b k) t.val (v - i.val)) fun p => rfl).trans ?_
    refine (Finset.sum_range (fun i : ℕ => back (line x b k) t.val (v - i))).symm.trans ?_
    exact Finset.sum_range_reflect (fun i : ℕ => back (line x b k) t.val i) (v + 1)

variable (x0 : FVec Ideal S2x16384x1024 .f32) (x1 : FVec Ideal S2x4x256x256 .f32) (x2 : FVec Ideal S2x1024 .f32)

/-! ## Group 0: the columns from 0, 2 positions -/

theorem part_0 (b : Fin 2) (t : Fin 16384) (k : Fin 256) : val_main_v1 (F := Ideal) x0 (ix3 b t k) = x0 (ix3 b t (⟨0 + k.val, by have := k.isLt; omega⟩ : Fin 1024)) := by
  rw [val_main_v1_apply]
  refine congrArg x0 (funext fun (a : Fin 3) => Fin.ext ?_)
  match a with
  | 0 => rfl
  | 1 => rfl
  | 2 => exact (Nat.zero_add _).symm

theorem line_0 (b : Fin 2) (k : Fin 256) : line (val_main_v1 (F := Ideal) x0) b k = colOf x0 b (⟨0 + k.val, by have := k.isLt; omega⟩ : Fin 1024) := by
  funext t
  unfold line colOf
  by_cases h : t < 16384
  · rw [dif_pos h, dif_pos h, part_0]
  · rw [dif_neg h, dif_neg h]

theorem sum_0 (b : Fin 2) (t : Fin 16384) (k : Fin 256) :
    val_main_v3 (F := Ideal) x0 (ix3 b t k) = total (colOf x0 b (⟨0 + k.val, by have := k.isLt; omega⟩ : Fin 1024)) 2 t.val := by
  have hz : val_main_v2 (F := Ideal) (Shape.Idx.first (s := S_) h_S_) = (0 : EReal) := (val_main_v2_apply _).trans Ideal.ofBits_zero_f32
  unfold val_main_v3 Host.reduceWindowAdd
  rw [hz, ← line_0]
  exact windowed 1 _ _ b t k

theorem count_0 (b : Fin 2) (t : Fin 16384) (k : Fin 256) : val_main_v10 (F := Ideal) (ix3 b t k) = count (BitVec.ofNat 32 2) t.val := by
  rw [val_main_v10_apply, val_main_v9_apply, val_main_v8_apply, val_main_v7_apply, val_main_v5_apply, val_main_v0_apply, val_main_v4_apply, val_main_v6_apply]
  rfl

theorem mixed_0 (b : Fin 2) (t : Fin 16384) (k : Fin 256) :
    val_main_v12 (F := Ideal) x0 (ix3 b t k) = mixed (colOf x0 b (⟨0 + k.val, by have := k.isLt; omega⟩ : Fin 1024)) 2 t.val := by
  rw [val_main_v12_apply, val_main_v11_apply, sum_0, count_0, part_0]
  have he : colOf x0 b (⟨0 + k.val, by have := k.isLt; omega⟩ : Fin 1024) t.val = x0 (ix3 b t (⟨0 + k.val, by have := k.isLt; omega⟩ : Fin 1024)) := dif_pos t.isLt
  unfold mixed
  rw [he]
  rfl

theorem weight_0 (k o : Fin 256) : val_main_v14 (F := Ideal) x1 (ix2 k o) = wOf x1 (⟨0, by norm_num⟩ : Fin 4) k o := by
  rw [val_main_v14_apply, val_main_v13_apply]
  have hk := k.isLt; have ho := o.isLt
  refine congrArg x1 (funext fun (a : Fin 4) => Fin.ext ?_)
  match a with
  | 0 => rfl
  | 1 => rfl
  | 2 => show (k.val * 256 + o.val) / 256 % 256 = k.val; omega
  | 3 => show (k.val * 256 + o.val) % 256 = o.val; omega

theorem prod_0 (b : Fin 2) (t : Fin 16384) (o : Fin 256) :
    val_main_v15 (F := Ideal) x0 x1 (ix3 b t o) = ∑ k : Fin 256, mixed (colOf x0 b ⟨256 * (⟨0, by norm_num⟩ : Fin 4).val + k.val, by have := k.isLt; show 256 * 0 + k.val < 1024; omega⟩) (width (⟨0, by norm_num⟩ : Fin 4)) t.val * wOf x1 (⟨0, by norm_num⟩ : Fin 4) k o := by
  rw [val_main_v15_apply]
  refine Finset.sum_congr rfl fun k _ => congrArg₂ (HMul.hMul (α := EReal) (β := EReal) (γ := EReal)) ?_ ?_
  · refine (congrArg (val_main_v12 (F := Ideal) x0) (funext fun (a : Fin 3) => ?_ : lidx_main_v15 (ix3 b t o) k = ix3 b t k)).trans ((mixed_0 x0 b t k).trans rfl)
    match a with
    | 0 => rfl
    | 1 => rfl
    | 2 => rfl
  · refine (congrArg (val_main_v14 (F := Ideal) x1) (funext fun (a : Fin 2) => ?_ : ridx_main_v15 (ix3 b t o) k = ix2 k o)).trans (weight_0 x1 k o)
    match a with
    | 0 => rfl
    | 1 => rfl

theorem join_0 (b : Fin 2) (t : Fin 16384) (q : Fin 1024) (o : Fin 256) (h : 0 + o.val = q.val) :
    val_main_v61 (F := Ideal) x0 x1 (ix3 b t q) = val_main_v15 (F := Ideal) x0 x1 (ix3 b t o) := by
  unfold val_main_v61
  refine concatenate_apply_piece (t := S2x16384x1024) (2 : Fin 3) _ _ (ix3 b t q) 0 (by show 0 < 4; norm_num) S2x16384x256 _ rfl rfl 0 rfl (ix3 b t o) (fun (a : Fin 3) ha => ?_) h
  match a with
  | 0 => rfl
  | 1 => rfl
  | 2 => exact absurd rfl ha

/-! ## Group 1: the columns from 256, 4 positions -/

theorem part_1 (b : Fin 2) (t : Fin 16384) (k : Fin 256) : val_main_v16 (F := Ideal) x0 (ix3 b t k) = x0 (ix3 b t (⟨256 + k.val, by have := k.isLt; omega⟩ : Fin 1024)) := by
  rw [val_main_v16_apply]
  refine congrArg x0 (funext fun (a : Fin 3) => Fin.ext ?_)
  match a with
  | 0 => rfl
  | 1 => rfl
  | 2 => rfl

theorem line_1 (b : Fin 2) (k : Fin 256) : line (val_main_v16 (F := Ideal) x0) b k = colOf x0 b (⟨256 + k.val, by have := k.isLt; omega⟩ : Fin 1024) := by
  funext t
  unfold line colOf
  by_cases h : t < 16384
  · rw [dif_pos h, dif_pos h, part_1]
  · rw [dif_neg h, dif_neg h]

theorem sum_1 (b : Fin 2) (t : Fin 16384) (k : Fin 256) :
    val_main_v18 (F := Ideal) x0 (ix3 b t k) = total (colOf x0 b (⟨256 + k.val, by have := k.isLt; omega⟩ : Fin 1024)) 4 t.val := by
  have hz : val_main_v17 (F := Ideal) (Shape.Idx.first (s := S_) h_S_) = (0 : EReal) := (val_main_v17_apply _).trans Ideal.ofBits_zero_f32
  unfold val_main_v18 Host.reduceWindowAdd
  rw [hz, ← line_1]
  exact windowed 3 _ _ b t k

theorem count_1 (b : Fin 2) (t : Fin 16384) (k : Fin 256) : val_main_v25 (F := Ideal) (ix3 b t k) = count (BitVec.ofNat 32 4) t.val := by
  rw [val_main_v25_apply, val_main_v24_apply, val_main_v23_apply, val_main_v22_apply, val_main_v20_apply, val_main_v0_apply, val_main_v19_apply, val_main_v21_apply]
  rfl

theorem mixed_1 (b : Fin 2) (t : Fin 16384) (k : Fin 256) :
    val_main_v27 (F := Ideal) x0 (ix3 b t k) = mixed (colOf x0 b (⟨256 + k.val, by have := k.isLt; omega⟩ : Fin 1024)) 4 t.val := by
  rw [val_main_v27_apply, val_main_v26_apply, sum_1, count_1, part_1]
  have he : colOf x0 b (⟨256 + k.val, by have := k.isLt; omega⟩ : Fin 1024) t.val = x0 (ix3 b t (⟨256 + k.val, by have := k.isLt; omega⟩ : Fin 1024)) := dif_pos t.isLt
  unfold mixed
  rw [he]
  rfl

theorem weight_1 (k o : Fin 256) : val_main_v29 (F := Ideal) x1 (ix2 k o) = wOf x1 (⟨1, by norm_num⟩ : Fin 4) k o := by
  rw [val_main_v29_apply, val_main_v28_apply]
  have hk := k.isLt; have ho := o.isLt
  refine congrArg x1 (funext fun (a : Fin 4) => Fin.ext ?_)
  match a with
  | 0 => rfl
  | 1 => rfl
  | 2 => show (k.val * 256 + o.val) / 256 % 256 = k.val; omega
  | 3 => show (k.val * 256 + o.val) % 256 = o.val; omega

theorem prod_1 (b : Fin 2) (t : Fin 16384) (o : Fin 256) :
    val_main_v30 (F := Ideal) x0 x1 (ix3 b t o) = ∑ k : Fin 256, mixed (colOf x0 b ⟨256 * (⟨1, by norm_num⟩ : Fin 4).val + k.val, by have := k.isLt; show 256 * 1 + k.val < 1024; omega⟩) (width (⟨1, by norm_num⟩ : Fin 4)) t.val * wOf x1 (⟨1, by norm_num⟩ : Fin 4) k o := by
  rw [val_main_v30_apply]
  refine Finset.sum_congr rfl fun k _ => congrArg₂ (HMul.hMul (α := EReal) (β := EReal) (γ := EReal)) ?_ ?_
  · refine (congrArg (val_main_v27 (F := Ideal) x0) (funext fun (a : Fin 3) => ?_ : lidx_main_v30 (ix3 b t o) k = ix3 b t k)).trans ((mixed_1 x0 b t k).trans rfl)
    match a with
    | 0 => rfl
    | 1 => rfl
    | 2 => rfl
  · refine (congrArg (val_main_v29 (F := Ideal) x1) (funext fun (a : Fin 2) => ?_ : ridx_main_v30 (ix3 b t o) k = ix2 k o)).trans (weight_1 x1 k o)
    match a with
    | 0 => rfl
    | 1 => rfl

theorem join_1 (b : Fin 2) (t : Fin 16384) (q : Fin 1024) (o : Fin 256) (h : 256 + o.val = q.val) :
    val_main_v61 (F := Ideal) x0 x1 (ix3 b t q) = val_main_v30 (F := Ideal) x0 x1 (ix3 b t o) := by
  unfold val_main_v61
  refine concatenate_apply_piece (t := S2x16384x1024) (2 : Fin 3) _ _ (ix3 b t q) 1 (by show 1 < 4; norm_num) S2x16384x256 _ rfl rfl 256 rfl (ix3 b t o) (fun (a : Fin 3) ha => ?_) h
  match a with
  | 0 => rfl
  | 1 => rfl
  | 2 => exact absurd rfl ha

/-! ## Group 2: the columns from 512, 8 positions -/

theorem part_2 (b : Fin 2) (t : Fin 16384) (k : Fin 256) : val_main_v31 (F := Ideal) x0 (ix3 b t k) = x0 (ix3 b t (⟨512 + k.val, by have := k.isLt; omega⟩ : Fin 1024)) := by
  rw [val_main_v31_apply]
  refine congrArg x0 (funext fun (a : Fin 3) => Fin.ext ?_)
  match a with
  | 0 => rfl
  | 1 => rfl
  | 2 => rfl

theorem line_2 (b : Fin 2) (k : Fin 256) : line (val_main_v31 (F := Ideal) x0) b k = colOf x0 b (⟨512 + k.val, by have := k.isLt; omega⟩ : Fin 1024) := by
  funext t
  unfold line colOf
  by_cases h : t < 16384
  · rw [dif_pos h, dif_pos h, part_2]
  · rw [dif_neg h, dif_neg h]

theorem sum_2 (b : Fin 2) (t : Fin 16384) (k : Fin 256) :
    val_main_v33 (F := Ideal) x0 (ix3 b t k) = total (colOf x0 b (⟨512 + k.val, by have := k.isLt; omega⟩ : Fin 1024)) 8 t.val := by
  have hz : val_main_v32 (F := Ideal) (Shape.Idx.first (s := S_) h_S_) = (0 : EReal) := (val_main_v32_apply _).trans Ideal.ofBits_zero_f32
  unfold val_main_v33 Host.reduceWindowAdd
  rw [hz, ← line_2]
  exact windowed 7 _ _ b t k

theorem count_2 (b : Fin 2) (t : Fin 16384) (k : Fin 256) : val_main_v40 (F := Ideal) (ix3 b t k) = count (BitVec.ofNat 32 8) t.val := by
  rw [val_main_v40_apply, val_main_v39_apply, val_main_v38_apply, val_main_v37_apply, val_main_v35_apply, val_main_v0_apply, val_main_v34_apply, val_main_v36_apply]
  rfl

theorem mixed_2 (b : Fin 2) (t : Fin 16384) (k : Fin 256) :
    val_main_v42 (F := Ideal) x0 (ix3 b t k) = mixed (colOf x0 b (⟨512 + k.val, by have := k.isLt; omega⟩ : Fin 1024)) 8 t.val := by
  rw [val_main_v42_apply, val_main_v41_apply, sum_2, count_2, part_2]
  have he : colOf x0 b (⟨512 + k.val, by have := k.isLt; omega⟩ : Fin 1024) t.val = x0 (ix3 b t (⟨512 + k.val, by have := k.isLt; omega⟩ : Fin 1024)) := dif_pos t.isLt
  unfold mixed
  rw [he]
  rfl

theorem weight_2 (k o : Fin 256) : val_main_v44 (F := Ideal) x1 (ix2 k o) = wOf x1 (⟨2, by norm_num⟩ : Fin 4) k o := by
  rw [val_main_v44_apply, val_main_v43_apply]
  have hk := k.isLt; have ho := o.isLt
  refine congrArg x1 (funext fun (a : Fin 4) => Fin.ext ?_)
  match a with
  | 0 => rfl
  | 1 => rfl
  | 2 => show (k.val * 256 + o.val) / 256 % 256 = k.val; omega
  | 3 => show (k.val * 256 + o.val) % 256 = o.val; omega

theorem prod_2 (b : Fin 2) (t : Fin 16384) (o : Fin 256) :
    val_main_v45 (F := Ideal) x0 x1 (ix3 b t o) = ∑ k : Fin 256, mixed (colOf x0 b ⟨256 * (⟨2, by norm_num⟩ : Fin 4).val + k.val, by have := k.isLt; show 256 * 2 + k.val < 1024; omega⟩) (width (⟨2, by norm_num⟩ : Fin 4)) t.val * wOf x1 (⟨2, by norm_num⟩ : Fin 4) k o := by
  rw [val_main_v45_apply]
  refine Finset.sum_congr rfl fun k _ => congrArg₂ (HMul.hMul (α := EReal) (β := EReal) (γ := EReal)) ?_ ?_
  · refine (congrArg (val_main_v42 (F := Ideal) x0) (funext fun (a : Fin 3) => ?_ : lidx_main_v45 (ix3 b t o) k = ix3 b t k)).trans ((mixed_2 x0 b t k).trans rfl)
    match a with
    | 0 => rfl
    | 1 => rfl
    | 2 => rfl
  · refine (congrArg (val_main_v44 (F := Ideal) x1) (funext fun (a : Fin 2) => ?_ : ridx_main_v45 (ix3 b t o) k = ix2 k o)).trans (weight_2 x1 k o)
    match a with
    | 0 => rfl
    | 1 => rfl

theorem join_2 (b : Fin 2) (t : Fin 16384) (q : Fin 1024) (o : Fin 256) (h : 512 + o.val = q.val) :
    val_main_v61 (F := Ideal) x0 x1 (ix3 b t q) = val_main_v45 (F := Ideal) x0 x1 (ix3 b t o) := by
  unfold val_main_v61
  refine concatenate_apply_piece (t := S2x16384x1024) (2 : Fin 3) _ _ (ix3 b t q) 2 (by show 2 < 4; norm_num) S2x16384x256 _ rfl rfl 512 rfl (ix3 b t o) (fun (a : Fin 3) ha => ?_) h
  match a with
  | 0 => rfl
  | 1 => rfl
  | 2 => exact absurd rfl ha

/-! ## Group 3: the columns from 768, 16 positions -/

theorem part_3 (b : Fin 2) (t : Fin 16384) (k : Fin 256) : val_main_v46 (F := Ideal) x0 (ix3 b t k) = x0 (ix3 b t (⟨768 + k.val, by have := k.isLt; omega⟩ : Fin 1024)) := by
  rw [val_main_v46_apply]
  refine congrArg x0 (funext fun (a : Fin 3) => Fin.ext ?_)
  match a with
  | 0 => rfl
  | 1 => rfl
  | 2 => rfl

theorem line_3 (b : Fin 2) (k : Fin 256) : line (val_main_v46 (F := Ideal) x0) b k = colOf x0 b (⟨768 + k.val, by have := k.isLt; omega⟩ : Fin 1024) := by
  funext t
  unfold line colOf
  by_cases h : t < 16384
  · rw [dif_pos h, dif_pos h, part_3]
  · rw [dif_neg h, dif_neg h]

theorem sum_3 (b : Fin 2) (t : Fin 16384) (k : Fin 256) :
    val_main_v48 (F := Ideal) x0 (ix3 b t k) = total (colOf x0 b (⟨768 + k.val, by have := k.isLt; omega⟩ : Fin 1024)) 16 t.val := by
  have hz : val_main_v47 (F := Ideal) (Shape.Idx.first (s := S_) h_S_) = (0 : EReal) := (val_main_v47_apply _).trans Ideal.ofBits_zero_f32
  unfold val_main_v48 Host.reduceWindowAdd
  rw [hz, ← line_3]
  exact windowed 15 _ _ b t k

theorem count_3 (b : Fin 2) (t : Fin 16384) (k : Fin 256) : val_main_v55 (F := Ideal) (ix3 b t k) = count (BitVec.ofNat 32 16) t.val := by
  rw [val_main_v55_apply, val_main_v54_apply, val_main_v53_apply, val_main_v52_apply, val_main_v50_apply, val_main_v0_apply, val_main_v49_apply, val_main_v51_apply]
  rfl

theorem mixed_3 (b : Fin 2) (t : Fin 16384) (k : Fin 256) :
    val_main_v57 (F := Ideal) x0 (ix3 b t k) = mixed (colOf x0 b (⟨768 + k.val, by have := k.isLt; omega⟩ : Fin 1024)) 16 t.val := by
  rw [val_main_v57_apply, val_main_v56_apply, sum_3, count_3, part_3]
  have he : colOf x0 b (⟨768 + k.val, by have := k.isLt; omega⟩ : Fin 1024) t.val = x0 (ix3 b t (⟨768 + k.val, by have := k.isLt; omega⟩ : Fin 1024)) := dif_pos t.isLt
  unfold mixed
  rw [he]
  rfl

theorem weight_3 (k o : Fin 256) : val_main_v59 (F := Ideal) x1 (ix2 k o) = wOf x1 (⟨3, by norm_num⟩ : Fin 4) k o := by
  rw [val_main_v59_apply, val_main_v58_apply]
  have hk := k.isLt; have ho := o.isLt
  refine congrArg x1 (funext fun (a : Fin 4) => Fin.ext ?_)
  match a with
  | 0 => rfl
  | 1 => rfl
  | 2 => show (k.val * 256 + o.val) / 256 % 256 = k.val; omega
  | 3 => show (k.val * 256 + o.val) % 256 = o.val; omega

theorem prod_3 (b : Fin 2) (t : Fin 16384) (o : Fin 256) :
    val_main_v60 (F := Ideal) x0 x1 (ix3 b t o) = ∑ k : Fin 256, mixed (colOf x0 b ⟨256 * (⟨3, by norm_num⟩ : Fin 4).val + k.val, by have := k.isLt; show 256 * 3 + k.val < 1024; omega⟩) (width (⟨3, by norm_num⟩ : Fin 4)) t.val * wOf x1 (⟨3, by norm_num⟩ : Fin 4) k o := by
  rw [val_main_v60_apply]
  refine Finset.sum_congr rfl fun k _ => congrArg₂ (HMul.hMul (α := EReal) (β := EReal) (γ := EReal)) ?_ ?_
  · refine (congrArg (val_main_v57 (F := Ideal) x0) (funext fun (a : Fin 3) => ?_ : lidx_main_v60 (ix3 b t o) k = ix3 b t k)).trans ((mixed_3 x0 b t k).trans rfl)
    match a with
    | 0 => rfl
    | 1 => rfl
    | 2 => rfl
  · refine (congrArg (val_main_v59 (F := Ideal) x1) (funext fun (a : Fin 2) => ?_ : ridx_main_v60 (ix3 b t o) k = ix2 k o)).trans (weight_3 x1 k o)
    match a with
    | 0 => rfl
    | 1 => rfl

theorem join_3 (b : Fin 2) (t : Fin 16384) (q : Fin 1024) (o : Fin 256) (h : 768 + o.val = q.val) :
    val_main_v61 (F := Ideal) x0 x1 (ix3 b t q) = val_main_v60 (F := Ideal) x0 x1 (ix3 b t o) := by
  unfold val_main_v61
  refine concatenate_apply_piece (t := S2x16384x1024) (2 : Fin 3) _ _ (ix3 b t q) 3 (by show 3 < 4; norm_num) S2x16384x256 _ rfl rfl 768 rfl (ix3 b t o) (fun (a : Fin 3) ha => ?_) h
  match a with
  | 0 => rfl
  | 1 => rfl
  | 2 => exact absurd rfl ha

/-! ## The result -/

theorem scale_eq (b : Fin 2) (t : Fin 16384) (q : Fin 1024) : val_main_v65 (F := Ideal) x2 (ix3 b t q) = sOf x2 q := by
  rw [val_main_v65_apply, val_main_v64_apply, val_main_v63_apply, val_main_v62_apply]
  have hq := q.isLt
  refine congrArg x2 (funext fun (a : Fin 2) => Fin.ext ?_)
  match a with
  | 0 => rfl
  | 1 => show q.val % 1024 = q.val; omega

theorem joined_eq (b : Fin 2) (t : Fin 16384) (g : Fin 4) (o : Fin 256) (q : Fin 1024) (h : 256 * g.val + o.val = q.val) :
    val_main_v61 (F := Ideal) x0 x1 (ix3 b t q)
      = ∑ k : Fin 256, mixed (colOf x0 b ⟨256 * g.val + k.val, by have := g.isLt; have := k.isLt; omega⟩) (width g) t.val * wOf x1 g k o := by
  match g, h with
  | ⟨0, _⟩, h => exact (join_0 x0 x1 b t q o h).trans (prod_0 x0 x1 b t o)
  | ⟨1, _⟩, h => exact (join_1 x0 x1 b t q o h).trans (prod_1 x0 x1 b t o)
  | ⟨2, _⟩, h => exact (join_2 x0 x1 b t q o h).trans (prod_2 x0 x1 b t o)
  | ⟨3, _⟩, h => exact (join_3 x0 x1 b t q o h).trans (prod_3 x0 x1 b t o)

theorem result_67 (y : S2x16384x1024.Idx) : (val_main_v67 (F := Ideal) x0 x1 x2 y : EReal) = value x0 x1 x2 (y 0) (y 1).val (y 2) := by
  obtain ⟨b, t, q, rfl⟩ : ∃ (b : Fin 2) (t : Fin 16384) (q : Fin 1024), y = ix3 b t q :=
    ⟨y (0 : Fin 3), y (1 : Fin 3), y (2 : Fin 3), ValueIdx.eq_ix3 (n0 := 2) (n1 := 16384) (n2 := 1024) y⟩
  have hq := q.isLt
  have hqq : 256 * (grp q).val + (plc q).val = q.val := show 256 * (q.val / 256) + q.val % 256 = q.val by omega
  rw [val_main_v67_apply]
  show (val_main_v61 (F := Ideal) x0 x1 (ix3 b t q) : EReal) * val_main_v65 (F := Ideal) x2 (ix3 b t q) = outv (colOf x0 b) (wOf x1) (sOf x2) t.val (grp q) (plc q)
  unfold outv
  rw [scale_eq]
  refine congrArg₂ (HMul.hMul (α := EReal) (β := EReal) (γ := EReal)) (joined_eq x0 x1 b t (grp q) (plc q) q hqq) (congrArg (sOf x2) (Fin.ext hqq.symm))

end Cert.Reference5Ideal.Pool

end
-- ==== Proof.MdBody.lean ====
/- The modulation's plain formula, and the block its body leaves at one point. -/
module

public import proofs.«01_k».proof.Proof.Gen.Kernel6Ideal.Value
public import Idealize.ShloMosaic.Lib.Pipeline.ValueKit.Tiles
public import Idealize.ShloMosaic.Lib.Pipeline.ValueKit.Basic
public import Idealize.ShloMosaic.Lib.KernelVsHost
public import Idealize.ShloMosaic.Lib.ValueIdxCore
public import Idealize.ShloMosaic.Lib.Pointwise.Tactic
public import Idealize.ShloMosaic.Lib.IdealHost
public import Idealize.ShloMosaic.PureOps.Ideal.Laws

@[expose] public section

set_option maxRecDepth 16384

noncomputable section

namespace Cert.Kernel6Ideal.Mod

open Cert.Kernel6Ideal.Gen
open Idealize.ShloMosaic.ValueIdx (ix1 ix2 ix3 ix4 ix5 contrEquiv1)
open Idealize.ShloMosaic hiding ix1 ix2 ix3 ix4 ix5

/-- The conditioning rows, padded to eight by rows of zeros. -/
def padded (x : FVec Ideal S2x2048 .f32) : FVec Ideal S8x2048 .f32 :=
  pad S8x2048 ![0, 0] ![6, 0] ![0, 0] x (sitofp .f32 (constantI S_ 32 0#32)) pads_S2x2048_S8x2048_060_000 h_S_

/-- An entry through the gate that multiplies it by its own logistic. -/
def gate (x : EReal) : EReal := x * FloatOps.logistic (F := Ideal) (φ := .f32) x

/-- The modulation: in each layer the gated rows through that layer's matrix, and its bias. -/
def value (x : FVec Ideal S2x2048 .f32) (w : FVec Ideal S2x2048x12288 .f32) (b : FVec Ideal S2x12288 .f32) (l : Fin 2) (r : Fin 8) (q : Fin 12288) : EReal :=
  (∑ k : Fin 2048, gate (padded x (ix2 r k)) * w (ix3 l k q)) + b (ix2 l q)

theorem product_apply (x : FVec Ideal S8x2048 .bf16) (w : FVec Ideal S2048x1024 .bf16) (r : Fin 8) (o : Fin 1024) :
    matmul dot_S8x2048_S2048x1024_S8x1024_1_0_0_1_n_n none x w (constant S8x1024 .f32 0x00000000#32) (ix2 r o)
      = ∑ k : Fin 2048, (x (ix2 r k) : EReal) * w (ix2 k o) := by
  refine (Ideal.matmul_constant_zero_apply _ none _ _ _).trans ?_
  refine Fintype.sum_equiv (contrEquiv1 dot_S8x2048_S2048x1024_S8x1024_1_0_0_1_n_n 2048 rfl rfl) _ _ fun k => ?_
  refine congrArg₂ (HMul.hMul (α := EReal) (β := EReal) (γ := EReal)) (congrArg x (funext fun a => Fin.ext ?_)) (congrArg w (funext fun a => Fin.ext ?_))
  · match a with
    | 0 => rfl
    | 1 => rfl
  · match a with
    | 0 => rfl
    | 1 => rfl

theorem same_apply (x : FVec Ideal S8x2048 .f32) (r : Fin 8) (k : Fin 2048) :
    shapeCast S8x2048 x shapeCasts_S8x2048_S8x2048 (ix2 r k) = x (ix2 r k) :=
  shapeCast_apply _ _ _ _ rfl

theorem tile_apply (x : FVec Ideal S1x2048x1024 .f32) (k : Fin 2048) (o : Fin 1024) :
    shapeCast S2048x1024 x shapeCasts_S1x2048x1024_S2048x1024 (ix2 k o) = x (ix3 (0 : Fin 1) k o) :=
  shapeCast_apply _ _ _ _ (by rw [Shape.rowMajor_val_three, Shape.rowMajor_val_two]; show (0 * 2048 + k.val) * 1024 + o.val = k.val * 1024 + o.val; omega)

theorem bias_apply (x : FVec Ideal S1x1x1024 .f32) (r : Fin 8) (o : Fin 1024) :
    broadcastTo S8x1024 (shapeCast S1x1024 x shapeCasts_S1x1x1024_S1x1024) broadcasts_S1x1024_S8x1024 (ix2 r o) = x (ix3 (0 : Fin 1) (0 : Fin 1) o) := by
  refine (broadcastTo_apply _ _ _ (ix2 (0 : Fin 1) o) (fun a => ?_)).trans (shapeCast_apply _ _ _ _
    (by rw [Shape.rowMajor_val_three, Shape.rowMajor_val_two]; show (0 * 1 + 0) * 1024 + o.val = 0 * 1024 + o.val; omega))
  match a with
  | 0 => rfl
  | 1 => rfl

theorem payload (x0 : FVec Ideal S8x2048 .f32) (x1 : FVec Ideal S1x2048x1024 .f32) (x2 : FVec Ideal S1x1x1024 .f32) (r : Fin 8) (o : Fin 1024) :
    (k0_pay1 (F := Ideal) x0 x1 x2 (ix3 (0 : Fin 1) r o) : EReal)
      = (∑ k : Fin 2048, gate (x0 (ix2 r k)) * x1 (ix3 (0 : Fin 1) k o)) + x2 (ix3 (0 : Fin 1) (0 : Fin 1) o) := by
  unfold k0_pay1
  refine (shapeCast_apply _ _ _ (ix2 r o)
    (by rw [Shape.rowMajor_val_two, Shape.rowMajor_val_three]; show r.val * 1024 + o.val = (0 * 8 + r.val) * 1024 + o.val; omega)).trans ?_
  refine congrArg₂ (HAdd.hAdd (α := EReal) (β := EReal) (γ := EReal)) ((product_apply _ _ r o).trans (Finset.sum_congr rfl fun k _ => ?_)) (bias_apply x2 r o)
  exact congrArg₂ (HMul.hMul (α := EReal) (β := EReal) (γ := EReal)) (congrArg gate (same_apply x0 r k)) (tile_apply x1 k o)

/-- One store of the whole block leaves it. -/
theorem whole_piece (p : Vec Ideal S1x8x1024 .f32) : View.canon ([⟨r0_3, p⟩] : List (View.Piece (Elt Ideal) S1x8x1024 .f32)) = p :=
  View.canon_cons_unit_lit (Val := Elt Ideal) (S := S1x8x1024) (e := .f32) (off := ![0, 0, 0]) inb_S1x8x1024_S1x8x1024_0_0_0 p [] (fun (a : Fin 3) => by match a with | 0 => rfl | 1 => rfl | 2 => rfl)

theorem stored (x0 : FVec Ideal S8x2048 .f32) (x1 : FVec Ideal S1x2048x1024 .f32) (x2 : FVec Ideal S1x1x1024 .f32) (r : Fin 8) (o : Fin 1024) :
    (out0_3 (F := Ideal) x0 x1 x2 (ix3 (0 : Fin 1) r o) : EReal)
      = (∑ k : Fin 2048, gate (x0 (ix2 r k)) * x1 (ix3 (0 : Fin 1) k o)) + x2 (ix3 (0 : Fin 1) (0 : Fin 1) o) := by
  have e0 : View.ld (Val := Elt Ideal) (e' := .f32) x0 r0_0 = x0 := View.ld_unit_lit _ _ (fun (a : Fin 2) => by match a with | 0 => rfl | 1 => rfl)
  have e1 : View.ld (Val := Elt Ideal) (e' := .f32) x1 r0_1 = x1 := View.ld_unit_lit _ _ (fun (a : Fin 3) => by match a with | 0 => rfl | 1 => rfl | 2 => rfl)
  have e2 : View.ld (Val := Elt Ideal) (e' := .f32) x2 r0_2 = x2 := View.ld_unit_lit _ _ (fun (a : Fin 3) => by match a with | 0 => rfl | 1 => rfl | 2 => rfl)
  unfold out0_3
  rw [e0, e1, e2]
  rw [whole_piece]
  exact payload x0 x1 x2 r o

end Cert.Kernel6Ideal.Mod

end
-- ==== Proof.MdRef.lean ====
/- The reference of the modulation read at an entry: the plain formula. -/
module

public import proofs.«01_k».proof.Proof.MdBody
public import proofs.«01_k».proof.Proof.Gen.Reference6Ideal.Read

@[expose] public section

set_option maxRecDepth 16384

noncomputable section

namespace Cert.Reference6Ideal.Mod

open Cert.Reference6Ideal Cert.Reference6Ideal.Gen Cert.Reference6Ideal.Read
open Idealize.ShloMosaic.ValueIdx (ix1 ix2 ix3 ix4 ix5)
open Cert.Kernel6Ideal.Mod (padded gate value)
open Idealize.ShloMosaic hiding ix1 ix2 ix3 ix4 ix5

variable (x : FVec Ideal S2x2048 .f32) (w : FVec Ideal S2x2048x12288 .f32) (b : FVec Ideal S2x12288 .f32)

theorem padded_eq : val_main_v0 (F := Ideal) x = padded x := rfl

theorem gated (i : S8x2048.Idx) : (val_main_v1 (F := Ideal) x i : EReal) = gate (padded x i) := by
  rw [val_main_v1_apply, val_main_call1_v5_apply, val_main_call1_v4_apply, val_main_call1_cst_0_apply, val_main_call1_v3_apply, val_main_call1_v2_apply,
    val_main_call1_cst_apply, val_main_call1_v1_apply, val_main_call1_v0_apply, padded_eq,
    show FloatOps.ofBits (F := Ideal) .f32 0x3F800000#32 = (1 : EReal) from Ideal.ofBits_one_f32]
  rfl

theorem lhs_index (r : Fin 8) (q : Fin 12288) (k : Fin 2048) : lidx_main_v4 (ix2 r q) k = ix2 r k := funext fun (a : Fin 2) => by
  match a with
  | 0 => rfl
  | 1 => rfl

theorem weight_0 (k : Fin 2048) (q : Fin 12288) : val_main_v3 (F := Ideal) w (ix2 k q) = w (ix3 (0 : Fin 2) k q) := by
  have hk := k.isLt
  have hq := q.isLt
  rw [val_main_v3_apply, val_main_v2_apply]
  refine congrArg w (funext fun (a : Fin 3) => Fin.ext ?_)
  match a with
  | 0 => rfl
  | 1 => show (k.val * 12288 + q.val) / 12288 % 2048 = k.val; omega
  | 2 => show (k.val * 12288 + q.val) % 12288 = q.val; omega

theorem weight_1 (k : Fin 2048) (q : Fin 12288) : val_main_v11 (F := Ideal) w (ix2 k q) = w (ix3 (1 : Fin 2) k q) := by
  have hk := k.isLt
  have hq := q.isLt
  rw [val_main_v11_apply, val_main_v10_apply]
  refine congrArg w (funext fun (a : Fin 3) => Fin.ext ?_)
  match a with
  | 0 => rfl
  | 1 => show (k.val * 12288 + q.val) / 12288 % 2048 = k.val; omega
  | 2 => show (k.val * 12288 + q.val) % 12288 = q.val; omega

theorem bias_0 (r : Fin 8) (q : Fin 12288) : val_main_v8 (F := Ideal) b (ix2 r q) = b (ix2 (0 : Fin 2) q) := by
  rw [val_main_v8_apply, val_main_v7_apply, val_main_v6_apply, val_main_v5_apply]
  refine congrArg b (funext fun (a : Fin 2) => Fin.ext ?_)
  match a with
  | 0 => rfl
  | 1 => exact Nat.mod_eq_of_lt q.isLt

theorem bias_1 (r : Fin 8) (q : Fin 12288) : val_main_v16 (F := Ideal) b (ix2 r q) = b (ix2 (1 : Fin 2) q) := by
  rw [val_main_v16_apply, val_main_v15_apply, val_main_v14_apply, val_main_v13_apply]
  refine congrArg b (funext fun (a : Fin 2) => Fin.ext ?_)
  match a with
  | 0 => rfl
  | 1 => exact Nat.mod_eq_of_lt q.isLt

theorem layer_0 (r : Fin 8) (q : Fin 12288) : (val_main_v9 (F := Ideal) x w b (ix2 r q) : EReal) = value x w b (0 : Fin 2) r q := by
  rw [val_main_v9_apply, val_main_v4_apply, bias_0]
  refine congrArg (fun s : EReal => s + b (ix2 (0 : Fin 2) q)) (Finset.sum_congr rfl fun k _ => ?_)
  refine congrArg₂ (HMul.hMul (α := EReal) (β := EReal) (γ := EReal)) ((gated x _).trans (congrArg (fun i => gate (padded x i)) (lhs_index r q k))) ?_
  refine Eq.trans (congrArg (val_main_v3 (F := Ideal) w) (funext fun (a : Fin 2) => ?_)) (weight_0 w k q)
  match a with
  | 0 => rfl
  | 1 => rfl

theorem layer_1 (r : Fin 8) (q : Fin 12288) : (val_main_v17 (F := Ideal) x w b (ix2 r q) : EReal) = value x w b (1 : Fin 2) r q := by
  rw [val_main_v17_apply, val_main_v12_apply, bias_1]
  refine congrArg (fun s : EReal => s + b (ix2 (1 : Fin 2) q)) (Finset.sum_congr rfl fun k _ => ?_)
  refine congrArg₂ (HMul.hMul (α := EReal) (β := EReal) (γ := EReal)) ((gated x _).trans (congrArg (fun i => gate (padded x i)) (lhs_index r q k))) ?_
  refine Eq.trans (congrArg (val_main_v11 (F := Ideal) w) (funext fun (a : Fin 2) => ?_)) (weight_1 w k q)
  match a with
  | 0 => rfl
  | 1 => rfl

theorem result_20 (y : S2x8x12288.Idx) : (val_main_v20 (F := Ideal) x w b y : EReal) = value x w b (y 0) (y 1) (y 2) := by
  obtain ⟨l, r, q, rfl⟩ : ∃ (l : Fin 2) (r : Fin 8) (q : Fin 12288), y = ix3 l r q :=
    ⟨y (0 : Fin 3), y (1 : Fin 3), y (2 : Fin 3), ValueIdx.eq_ix3 (n0 := 2) (n1 := 8) (n2 := 12288) y⟩
  unfold val_main_v20
  match l with
  | 0 =>
    refine (concatenate_pair_apply_left (t := S2x8x12288) (s₁ := S1x8x12288) (s₂ := S1x8x12288) (0 : Fin 3) _ _ _ (ix3 (0 : Fin 2) r q) rfl (ix3 (0 : Fin 1) r q) (fun a => by
      match a with
      | 0 => rfl
      | 1 => rfl
      | 2 => rfl)).trans ?_
    rw [val_main_v18_apply]
    refine Eq.trans (congrArg (val_main_v9 (F := Ideal) x w b) (funext fun (a : Fin 2) => ?_)) (layer_0 x w b r q)
    match a with
    | 0 => rfl
    | 1 => rfl
  | 1 =>
    refine (concatenate_pair_apply_right (t := S2x8x12288) (s₁ := S1x8x12288) (s₂ := S1x8x12288) (0 : Fin 3) _ _ _ (ix3 (1 : Fin 2) r q) rfl rfl (ix3 (0 : Fin 1) r q) (fun a ha => by
      match a with
      | 0 => exact absurd rfl ha
      | 1 => rfl
      | 2 => rfl) rfl).trans ?_
    rw [val_main_v19_apply]
    refine Eq.trans (congrArg (val_main_v17 (F := Ideal) x w b) (funext fun (a : Fin 2) => ?_)) (layer_1 x w b r q)
    match a with
    | 0 => rfl
    | 1 => rfl

end Cert.Reference6Ideal.Mod

end
-- ==== Proof.PlBody.lean ====
/- The body of the pooling mixer at one point: a group's columns by the plain formula, from the staged rows. -/
module

public import proofs.«01_k».proof.Proof.PlPlain
public import proofs.«01_k».proof.Proof.Gen.Kernel5Ideal.Value
public import Idealize.ShloMosaic.Lib.Pipeline.ValueKit.Tiles
public import Idealize.ShloMosaic.Lib.Pipeline.ValueKit.Basic
public import Idealize.ShloMosaic.Lib.WritesUnit
public import Idealize.ShloMosaic.Lib.WholeRead
public import Idealize.ShloMosaic.Lib.KernelVsHost

@[expose] public section

set_option maxRecDepth 16384

noncomputable section

namespace Cert.Kernel5Ideal.Pool

open Cert.Kernel5Ideal.Gen
open Idealize.ShloMosaic.ValueIdx (ix1 ix2 ix3 ix4 ix5 contrEquiv1)
open Idealize.ShloMosaic hiding ix1 ix2 ix3 ix4 ix5
open Idealize.ShloMosaic.TcCoe Idealize.SL.Sem

/-- A column of a group. -/
def col (g : Fin 4) (k : Fin 256) : Fin 1024 := ⟨256 * g.val + k.val, by have := g.isLt; have := k.isLt; omega⟩

theorem product_256 (x : FVec Ideal S512x256 .bf16) (w : FVec Ideal S256x256 .bf16) (p : Fin 512) (q : Fin 256) :
    matmul dot_S512x256_S256x256_S512x256_1_0_0_1_n_n none x w (constant S512x256 .f32 0x00000000#32) (ix2 p q)
      = ∑ k : Fin 256, (x (ix2 p k) : EReal) * w (ix2 k q) := by
  refine (Ideal.matmul_constant_zero_apply _ none _ _ _).trans ?_
  refine Fintype.sum_equiv (contrEquiv1 dot_S512x256_S256x256_S512x256_1_0_0_1_n_n 256 rfl rfl) _ _ fun k => ?_
  refine congrArg₂ (HMul.hMul (α := EReal) (β := EReal) (γ := EReal)) (congrArg x (funext fun a => Fin.ext ?_)) (congrArg w (funext fun a => Fin.ext ?_))
  · match a with
    | 0 => rfl
    | 1 => rfl
  · match a with
    | 0 => rfl
    | 1 => rfl

theorem weight_apply (x : FVec Ideal S1x256x256 .bf16) (k o : Fin 256) :
    shapeCast S256x256 x shapeCasts_S1x256x256_S256x256 (ix2 k o) = x (ix3 (0 : Fin 1) k o) :=
  shapeCast_apply _ _ _ _ (by rw [Shape.rowMajor_val_three, Shape.rowMajor_val_two]; show (0 * 256 + k.val) * 256 + o.val = k.val * 256 + o.val; omega)

theorem scale_apply (x : FVec Ideal S1x256 .f32) (r : Fin 512) (o : Fin 256) :
    broadcastTo S512x256 (shapeCast S1x256 x shapeCasts_S1x256_S1x256 : FVec Ideal S1x256 .f32) broadcasts_S1x256_S512x256 (ix2 r o) = x (ix2 (0 : Fin 1) o) := by
  refine (broadcastTo_apply _ _ _ (ix2 (0 : Fin 1) o) (fun a => ?_)).trans (shapeCast_apply _ _ _ _
    (by rw [Shape.rowMajor_val_two]))
  match a with
  | 0 => rfl
  | 1 => rfl

theorem counts_apply (x : FVec Ideal S512x1 .f32) (r : Fin 512) (k : Fin 256) :
    broadcastTo S512x256 x broadcasts_S512x1_S512x256 (ix2 r k) = x (ix2 r (0 : Fin 1)) :=
  broadcastTo_apply _ _ _ (ix2 r (0 : Fin 1)) (fun a => by
    match a with
    | 0 => rfl
    | 1 => rfl)

theorem block_apply (x : FVec Ideal S512x256 .bf16) (r : Fin 512) (o : Fin 256) :
    shapeCast S1x512x256 x shapeCasts_S512x256_S1x512x256 (ix3 (0 : Fin 1) r o) = x (ix2 r o) :=
  shapeCast_apply _ _ _ _ (by rw [Shape.rowMajor_val_three, Shape.rowMajor_val_two]; show r.val * 256 + o.val = (0 * 512 + r.val) * 256 + o.val; omega)

/-- The position of a row of the block. -/
theorem place_apply (i : grid0.Coords) (r : Fin 512) : k0_pay5 i (ix2 r (0 : Fin 1)) = BitVec.ofNat 32 (512 * (i 1).val + r.val) := by
  have h1 : (i 1).val < 32 := (i 1).isLt
  have hr := r.isLt
  unfold k0_pay5
  dsimp only
  show BitVec.ofNat 32 (i 1).val * 512#32 + BitVec.ofNat 32 _ = _
  refine BitVec.eq_of_toNat_eq ?_
  simp only [BitVec.toNat_add, BitVec.toNat_mul, BitVec.toNat_ofNat]
  show ((i 1).val % 2 ^ 32 * (512 % 2 ^ 32) % 2 ^ 32 + (0 * 512 + r.val) % 2 ^ 32) % 2 ^ 32 = (512 * (i 1).val + r.val) % 2 ^ 32
  omega

/-- A group's columns from the sums of the last positions and the entries themselves. -/
def tail (i : grid0.Coords) (w : BitVec 32) (tot self : FVec Ideal S512x256 .f32) (p : FVec Ideal S1x256x256 .bf16) (s : FVec Ideal S1x256 .f32) : FVec Ideal S512x256 .bf16 :=
  truncf .bf16 (mulf (matmul dot_S512x256_S256x256_S512x256_1_0_0_1_n_n none
      (truncf .bf16 (subf (divf tot (broadcastTo S512x256 (sitofp .f32 (minsi (addi (k0_pay5 i) (broadcast S512x1 1#32)) (broadcast S512x1 w)) : FVec Ideal S512x1 .f32) broadcasts_S512x1_S512x256)) self) bitsLt_bf16_f32)
      (shapeCast S256x256 p shapeCasts_S1x256x256_S256x256) (constant S512x256 .f32 0x00000000#32))
    (broadcastTo S512x256 (shapeCast S1x256 s shapeCasts_S1x256_S1x256 : FVec Ideal S1x256 .f32) broadcasts_S1x256_S512x256)) bitsLt_bf16_f32

theorem pay7_eq (i : grid0.Coords) (a b : FVec Ideal S512x256 .f32) (p : FVec Ideal S1x256x256 .bf16) (s : FVec Ideal S1x256 .f32) :
    k0_pay7 (k0_pay6 i a b p s) = shapeCast S1x512x256 (tail i 2#32 (addf a b) a p s) shapeCasts_S512x256_S1x512x256 := rfl

theorem pay8_eq (i : grid0.Coords) (a b d e : FVec Ideal S512x256 .f32) (p : FVec Ideal S1x256x256 .bf16) (s : FVec Ideal S1x256 .f32) :
    k0_pay8 (k0_pay5 i) a b d e p s = shapeCast S1x512x256 (tail i 4#32 (addf (addf (addf a b) d) e) a p s) shapeCasts_S512x256_S1x512x256 := rfl

theorem pay10_eq (i : grid0.Coords) (a b d e f g h j : FVec Ideal S512x256 .f32) (p : FVec Ideal S1x256x256 .bf16) (s : FVec Ideal S1x256 .f32) :
    k0_pay10 (k0_pay5 i) a (k0_pay9 a b) d e f g h j p s
      = shapeCast S1x512x256 (tail i 8#32 (addf (addf (addf (addf (addf (addf (addf a b) d) e) f) g) h) j) a p s) shapeCasts_S512x256_S1x512x256 := rfl

theorem pay1_eq (i : grid0.Coords) (a b d e f g h j k l m n o q t u : FVec Ideal S512x256 .f32) (p : FVec Ideal S1x256x256 .bf16) (s : FVec Ideal S1x256 .f32) :
    k0_pay1 a (k0_pay12 (k0_pay11 a b) d e f g h j k l m n o q t u) (k0_pay13 (k0_pay5 i)) 16#32 p s
      = shapeCast S1x512x256 (tail i 16#32 (addf (addf (addf (addf (addf (addf (addf (addf (addf (addf (addf (addf (addf (addf (addf a b) d) e) f) g) h) j) k) l) m) n) o) q) t) u) a p s) shapeCasts_S512x256_S1x512x256 := rfl

section Group
variable (f : Fin 1024 → ℕ → EReal) (w : Fin 4 → Fin 256 → Fin 256 → EReal) (s : Fin 1024 → EReal)

theorem tail_apply (i : grid0.Coords) (wb : BitVec 32) (tot self : FVec Ideal S512x256 .f32) (p : FVec Ideal S1x256x256 .bf16) (sc : FVec Ideal S1x256 .f32)
    (T : ℕ) (hT : 512 * (i 1).val = T) (g : Fin 4) (hw : wb = BitVec.ofNat 32 (width g))
    (htot : ∀ (r : Fin 512) (k : Fin 256), (tot (ix2 r k) : EReal) = total (f (col g k)) (width g) (T + r.val))
    (hself : ∀ (r : Fin 512) (k : Fin 256), (self (ix2 r k) : EReal) = f (col g k) (T + r.val))
    (hp : ∀ k o : Fin 256, (p (ix3 (0 : Fin 1) k o) : EReal) = w g k o) (hs : ∀ o : Fin 256, (sc (ix2 (0 : Fin 1) o) : EReal) = s (col g o)) (r : Fin 512) (o : Fin 256) :
    (shapeCast S1x512x256 (tail i wb tot self p sc) shapeCasts_S512x256_S1x512x256 (ix3 (0 : Fin 1) r o) : EReal) = outv f w s (T + r.val) g o := by
  subst hw hT
  refine (block_apply _ r o).trans ?_
  unfold tail outv
  refine congrArg₂ (FloatOps.mulf (F := Ideal) (φ := .f32)) ((product_256 _ _ r o).trans (Finset.sum_congr rfl fun k _ =>
    congrArg₂ (HMul.hMul (α := EReal) (β := EReal) (γ := EReal)) ?_ ((weight_apply p k o).trans (hp k o)))) ((scale_apply sc r o).trans (hs o))
  refine congrArg₂ (FloatOps.subf (F := Ideal) (φ := .f32)) (congrArg₂ (FloatOps.divf (F := Ideal) (φ := .f32)) (htot r k) ((counts_apply _ r k).trans ?_)) (hself r k)
  show FloatOps.sitofp (F := Ideal) .f32 (IntOp.minsi (IntOp.addi (k0_pay5 i (ix2 r (0 : Fin 1))) 1#32) (BitVec.ofNat 32 (width g))) = _
  rw [place_apply]
  rfl
end Group

/-! ## The staged rows -/

/-- Row `j` of the staged rows holds position `T + j - 16` of a column; zero before the first. -/
def ext (f : Fin 1024 → ℕ → EReal) (T : ℕ) (q : Fin 1024) (j : ℕ) : EReal := if T + j < 16 then 0 else f q (T + j - 16)

theorem ext_back (f : Fin 1024 → ℕ → EReal) (T : ℕ) (q : Fin 1024) (r i j : ℕ) (h : j + i = 16 + r) : ext f T q j = back (f q) (T + r) i := by
  unfold ext back
  by_cases hc : i ≤ T + r
  · rw [if_neg (show ¬ T + j < 16 by omega), if_pos hc]
    exact congrArg (f q) (by omega)
  · rw [if_pos (show T + j < 16 by omega), if_neg hc]

theorem back_zero (f : ℕ → EReal) (t : ℕ) : back f t 0 = f t := if_pos (Nat.zero_le t)

section Loads
variable (arg6 : Memref sig .tc .vmem S528x1024 .f32) (F : arg6.view.ty.Contents (Elt Ideal))

theorem row_apply (o p : ℕ) (inb : ∀ a, (![o, p] : Fin 2 → ℕ) a + S512x256.size a ≤ S528x1024.size a) (r : Fin 512) (k : Fin 256) (j : Fin 528) (q : Fin 1024)
    (hj : j.val = o + r.val) (hq : q.val = p + k.val) :
    View.readAt (Elt Ideal) arg6.view (Rect.unit (s := S528x1024) ![o, p] S512x256.size inb).toLoadRect F (ix2 r k) = arg6.view.read (Elt Ideal) F (ix2 j q) := by
  refine (View.readAt_apply _ _ _).trans (congrArg (arg6.view.read (Elt Ideal) F) (funext fun a => Fin.ext ?_))
  refine (Rect.idx_unit_val _ _ _ _ a).trans ?_
  match a with
  | 0 => exact hj.symm
  | 1 => exact hq.symm

theorem last_apply (inb : ∀ a, (![512, 0] : Fin 2 → ℕ) a + (![16, 1024] : Fin 2 → ℕ) a ≤ S528x1024.size a) (r : Fin 16) (q : Fin 1024) (j : Fin 528) (hj : j.val = 512 + r.val) :
    View.readAt (Elt Ideal) arg6.view (Rect.unit (s := S528x1024) ![512, 0] ![16, 1024] inb).toLoadRect F (ix2 r q) = arg6.view.read (Elt Ideal) F (ix2 j q) := by
  refine (View.readAt_apply _ _ _).trans (congrArg (arg6.view.read (Elt Ideal) F) (funext fun a => Fin.ext ?_))
  refine (Rect.idx_unit_val _ _ _ _ a).trans ?_
  match a with
  | 0 => exact hj.symm
  | 1 => exact Nat.zero_add _
end Loads

section Others
variable (arg3 : Memref sig .tc .vmem S4x256x256 .bf16) (harg3 : arg3.IsWhole) (x1 : FVec Ideal S4x256x256 .bf16)
  (arg4 : Memref sig .tc .vmem S1x1024 .f32) (harg4 : arg4.IsWhole) (x2 : FVec Ideal S1x1024 .f32)
  (arg2 : Memref sig .tc .vmem S1x512x1024 .f32) (harg2 : arg2.IsWhole) (x0 : FVec Ideal S1x512x1024 .f32)

theorem part_apply (n : ℕ) (inb : ∀ a, (![n, 0, 0] : Fin 3 → ℕ) a + S1x256x256.size a ≤ S4x256x256.size a) (g : Fin 4) (hg : g.val = n) (k o : Fin 256) :
    View.readAt (Elt Ideal) arg3.view (Rect.unit (s := S4x256x256) ![n, 0, 0] S1x256x256.size inb).toLoadRect (harg3.unread x1) (ix3 (0 : Fin 1) k o) = x1 (ix3 g k o) := by
  refine (harg3.readAt_unread (Val := Elt Ideal) x1 _ _).trans ?_
  refine congrArg x1 (funext fun a => Fin.ext ?_)
  refine (Rect.idx_unit_val _ _ _ _ a).trans ?_
  match a with
  | 0 => exact hg.symm
  | 1 => exact Nat.zero_add _
  | 2 => exact Nat.zero_add _

theorem piece_apply (n : ℕ) (inb : ∀ a, (![0, n] : Fin 2 → ℕ) a + S1x256.size a ≤ S1x1024.size a) (o : Fin 256) (q : Fin 1024) (hq : q.val = n + o.val) :
    View.readAt (Elt Ideal) arg4.view (Rect.unit (s := S1x1024) ![0, n] S1x256.size inb).toLoadRect (harg4.unread x2) (ix2 (0 : Fin 1) o) = x2 (ix2 (0 : Fin 1) q) := by
  refine (harg4.readAt_unread (Val := Elt Ideal) x2 _ _).trans ?_
  refine congrArg x2 (funext fun a => Fin.ext ?_)
  refine (Rect.idx_unit_val _ _ _ _ a).trans ?_
  match a with
  | 0 => rfl
  | 1 => exact hq.symm

theorem whole_apply (r : Fin 512) (q : Fin 1024) :
    k0_pay4 (View.readAt (Elt Ideal) arg2.view (Rect.unit (s := S1x512x1024) ![0, 0, 0] S1x512x1024.size inb_S1x512x1024_S1x512x1024_0_0_0).toLoadRect (harg2.unread x0)) (ix2 r q)
      = x0 (ix3 (0 : Fin 1) r q) := by
  unfold k0_pay4
  dsimp only
  refine (shapeCast_apply _ _ _ (ix2 r q) (by rw [Shape.rowMajor_val_two])).trans ?_
  refine (shapeCast_apply _ _ _ (ix3 (0 : Fin 1) r q) (by rw [Shape.rowMajor_val_three, Shape.rowMajor_val_two]; show (0 * 512 + r.val) * 1024 + q.val = r.val * 1024 + q.val; omega)).trans ?_
  refine (harg2.readAt_unread (Val := Elt Ideal) x0 _ _).trans ?_
  refine congrArg x0 (funext fun a => Fin.ext ?_)
  refine (Rect.idx_unit_val _ _ _ _ a).trans ?_
  match a with
  | 0 => rfl
  | 1 => exact Nat.zero_add _
  | 2 => exact Nat.zero_add _
end Others

end Cert.Kernel5Ideal.Pool

end
-- ==== Proof.PlStores.lean ====
/- The stores of the pooling mixer at one point: the result's block and the rows kept for the next point. -/
module

public import proofs.«01_k».proof.Proof.PlBody

@[expose] public section

set_option maxRecDepth 16384

noncomputable section

namespace Cert.Kernel5Ideal.Pool

open Cert.Kernel5Ideal.Gen
open Idealize.ShloMosaic.ValueIdx (ix1 ix2 ix3 ix4 ix5 contrEquiv1)
open Idealize.ShloMosaic hiding ix1 ix2 ix3 ix4 ix5
open Idealize.ShloMosaic.TcCoe Idealize.SL.Sem

/-! ## Four groups of columns -/

section Four
variable {κ : Kind} {sp : Space} (v : View sig κ sp S1x512x1024 .bf16) (F : v.ty.Contents (Elt Ideal))
  (w3 : (Rect.unit (s := S1x512x1024) ![0, 0, 768] S1x512x256.size inb_S1x512x1024_S1x512x256_0_0_768).shape.Idx → Elt Ideal .bf16)
  (w2 : (Rect.unit (s := S1x512x1024) ![0, 0, 512] S1x512x256.size inb_S1x512x1024_S1x512x256_0_0_512).shape.Idx → Elt Ideal .bf16)
  (w1 : (Rect.unit (s := S1x512x1024) ![0, 0, 256] S1x512x256.size inb_S1x512x1024_S1x512x256_0_0_256).shape.Idx → Elt Ideal .bf16)
  (w0 : (Rect.unit (s := S1x512x1024) ![0, 0, 0] S1x512x256.size inb_S1x512x1024_S1x512x256_0_0_0).shape.Idx → Elt Ideal .bf16)

theorem four_0 (r : Fin 512) (o : Fin 256) (q : Fin 1024) (hq : q.val = 0 + o.val) :
    v.read (Elt Ideal) (v.writes (Elt Ideal) F
      [⟨Rect.unit (s := S1x512x1024) ![0, 0, 768] S1x512x256.size inb_S1x512x1024_S1x512x256_0_0_768, w3⟩, ⟨Rect.unit (s := S1x512x1024) ![0, 0, 512] S1x512x256.size inb_S1x512x1024_S1x512x256_0_0_512, w2⟩,
       ⟨Rect.unit (s := S1x512x1024) ![0, 0, 256] S1x512x256.size inb_S1x512x1024_S1x512x256_0_0_256, w1⟩, ⟨Rect.unit (s := S1x512x1024) ![0, 0, 0] S1x512x256.size inb_S1x512x1024_S1x512x256_0_0_0, w0⟩]) (ix3 (0 : Fin 1) r q)
      = w0 (ix3 (0 : Fin 1) r o) := by
  have ho := o.isLt
  refine (View.read_writes_cons_unit_of_not_mem v F _ w3 _ (ix3 (0 : Fin 1) r q) (off' := ![0, 0, 768]) rfl (2 : Fin 3) (Or.inl (show q.val < 768 by omega))).trans ?_
  refine (View.read_writes_cons_unit_of_not_mem v F _ w2 _ (ix3 (0 : Fin 1) r q) (off' := ![0, 0, 512]) rfl (2 : Fin 3) (Or.inl (show q.val < 512 by omega))).trans ?_
  refine (View.read_writes_cons_unit_of_not_mem v F _ w1 _ (ix3 (0 : Fin 1) r q) (off' := ![0, 0, 256]) rfl (2 : Fin 3) (Or.inl (show q.val < 256 by omega))).trans ?_
  refine View.read_writes_cons_unit_of_mem v F _ w0 _ (ix3 (0 : Fin 1) r q) (ix3 (0 : Fin 1) r o) (off' := ![0, 0, 0]) rfl (fun a => ?_)
  match a with
  | 0 => rfl
  | 1 => exact (Nat.zero_add _).symm
  | 2 => exact hq

theorem four_1 (r : Fin 512) (o : Fin 256) (q : Fin 1024) (hq : q.val = 256 + o.val) :
    v.read (Elt Ideal) (v.writes (Elt Ideal) F
      [⟨Rect.unit (s := S1x512x1024) ![0, 0, 768] S1x512x256.size inb_S1x512x1024_S1x512x256_0_0_768, w3⟩, ⟨Rect.unit (s := S1x512x1024) ![0, 0, 512] S1x512x256.size inb_S1x512x1024_S1x512x256_0_0_512, w2⟩,
       ⟨Rect.unit (s := S1x512x1024) ![0, 0, 256] S1x512x256.size inb_S1x512x1024_S1x512x256_0_0_256, w1⟩, ⟨Rect.unit (s := S1x512x1024) ![0, 0, 0] S1x512x256.size inb_S1x512x1024_S1x512x256_0_0_0, w0⟩]) (ix3 (0 : Fin 1) r q)
      = w1 (ix3 (0 : Fin 1) r o) := by
  have ho := o.isLt
  refine (View.read_writes_cons_unit_of_not_mem v F _ w3 _ (ix3 (0 : Fin 1) r q) (off' := ![0, 0, 768]) rfl (2 : Fin 3) (Or.inl (show q.val < 768 by omega))).trans ?_
  refine (View.read_writes_cons_unit_of_not_mem v F _ w2 _ (ix3 (0 : Fin 1) r q) (off' := ![0, 0, 512]) rfl (2 : Fin 3) (Or.inl (show q.val < 512 by omega))).trans ?_
  refine View.read_writes_cons_unit_of_mem v F _ w1 _ (ix3 (0 : Fin 1) r q) (ix3 (0 : Fin 1) r o) (off' := ![0, 0, 256]) rfl (fun a => ?_)
  match a with
  | 0 => rfl
  | 1 => exact (Nat.zero_add _).symm
  | 2 => exact hq

theorem four_2 (r : Fin 512) (o : Fin 256) (q : Fin 1024) (hq : q.val = 512 + o.val) :
    v.read (Elt Ideal) (v.writes (Elt Ideal) F
      [⟨Rect.unit (s := S1x512x1024) ![0, 0, 768] S1x512x256.size inb_S1x512x1024_S1x512x256_0_0_768, w3⟩, ⟨Rect.unit (s := S1x512x1024) ![0, 0, 512] S1x512x256.size inb_S1x512x1024_S1x512x256_0_0_512, w2⟩,
       ⟨Rect.unit (s := S1x512x1024) ![0, 0, 256] S1x512x256.size inb_S1x512x1024_S1x512x256_0_0_256, w1⟩, ⟨Rect.unit (s := S1x512x1024) ![0, 0, 0] S1x512x256.size inb_S1x512x1024_S1x512x256_0_0_0, w0⟩]) (ix3 (0 : Fin 1) r q)
      = w2 (ix3 (0 : Fin 1) r o) := by
  have ho := o.isLt
  refine (View.read_writes_cons_unit_of_not_mem v F _ w3 _ (ix3 (0 : Fin 1) r q) (off' := ![0, 0, 768]) rfl (2 : Fin 3) (Or.inl (show q.val < 768 by omega))).trans ?_
  refine View.read_writes_cons_unit_of_mem v F _ w2 _ (ix3 (0 : Fin 1) r q) (ix3 (0 : Fin 1) r o) (off' := ![0, 0, 512]) rfl (fun a => ?_)
  match a with
  | 0 => rfl
  | 1 => exact (Nat.zero_add _).symm
  | 2 => exact hq

theorem four_3 (r : Fin 512) (o : Fin 256) (q : Fin 1024) (hq : q.val = 768 + o.val) :
    v.read (Elt Ideal) (v.writes (Elt Ideal) F
      [⟨Rect.unit (s := S1x512x1024) ![0, 0, 768] S1x512x256.size inb_S1x512x1024_S1x512x256_0_0_768, w3⟩, ⟨Rect.unit (s := S1x512x1024) ![0, 0, 512] S1x512x256.size inb_S1x512x1024_S1x512x256_0_0_512, w2⟩,
       ⟨Rect.unit (s := S1x512x1024) ![0, 0, 256] S1x512x256.size inb_S1x512x1024_S1x512x256_0_0_256, w1⟩, ⟨Rect.unit (s := S1x512x1024) ![0, 0, 0] S1x512x256.size inb_S1x512x1024_S1x512x256_0_0_0, w0⟩]) (ix3 (0 : Fin 1) r q)
      = w3 (ix3 (0 : Fin 1) r o) := by
  have ho := o.isLt
  refine View.read_writes_cons_unit_of_mem v F _ w3 _ (ix3 (0 : Fin 1) r q) (ix3 (0 : Fin 1) r o) (off' := ![0, 0, 768]) rfl (fun a => ?_)
  match a with
  | 0 => rfl
  | 1 => exact (Nat.zero_add _).symm
  | 2 => exact hq

theorem total_2 (f : ℕ → EReal) (t : ℕ) : total f 2 t = back f t 0 + back f t 1 := by
  unfold total
  simp only [Finset.sum_range_succ, Finset.sum_range_zero, zero_add]

theorem total_4 (f : ℕ → EReal) (t : ℕ) : total f 4 t = back f t 0 + back f t 1 + back f t 2 + back f t 3 := by
  unfold total
  simp only [Finset.sum_range_succ, Finset.sum_range_zero, zero_add]

theorem total_8 (f : ℕ → EReal) (t : ℕ) : total f 8 t = back f t 0 + back f t 1 + back f t 2 + back f t 3 + back f t 4 + back f t 5 + back f t 6 + back f t 7 := by
  unfold total
  simp only [Finset.sum_range_succ, Finset.sum_range_zero, zero_add]

theorem total_16 (f : ℕ → EReal) (t : ℕ) : total f 16 t = back f t 0 + back f t 1 + back f t 2 + back f t 3 + back f t 4 + back f t 5 + back f t 6 + back f t 7 + back f t 8 + back f t 9 + back f t 10 + back f t 11 + back f t 12 + back f t 13 + back f t 14 + back f t 15 := by
  unfold total
  simp only [Finset.sum_range_succ, Finset.sum_range_zero, zero_add]

end Four

/-! ## The staged rows -/

section Staged
variable (c : Dev nD) (arg2 : Memref sig .tc .vmem S1x512x1024 .f32) (harg2 : arg2.IsWhole) (arg6 : Memref sig .tc .vmem S528x1024 .f32) (harg6 : arg6.IsWhole)
  (x0 : FVec Ideal S1x512x1024 .f32) (xs0 : FVec Ideal S528x1024 .f32) (F : arg6.view.ty.Contents (Elt Ideal))

theorem new_B (j : Fin 528) (r : Fin 512) (q : Fin 1024) (hj : j.val = 16 + r.val) :
    arg6.view.read (Elt Ideal) (arg6.view.writes (Elt Ideal) F (kernelRun0_B.sl.HS0_1 (F := Ideal) c arg2 harg2 x0)) (ix2 j q) = x0 (ix3 (0 : Fin 1) r q) := by
  unfold kernelRun0_B.sl.HS0_1
  exact (View.read_writes_cons_rows_of_mem arg6.view F _ _ _ (ix2 j q) (ix2 r q) rfl hj rfl).trans (whole_apply arg2 harg2 x0 r q)

theorem new_A (j : Fin 528) (r : Fin 512) (q : Fin 1024) (hj : j.val = 16 + r.val) :
    arg6.view.read (Elt Ideal) (arg6.view.writes (Elt Ideal) F (kernelRun0_A.sl.HS0_2 (F := Ideal) c arg2 harg2 x0)) (ix2 j q) = x0 (ix3 (0 : Fin 1) r q) := by
  unfold kernelRun0_A.sl.HS0_2
  exact (View.read_writes_cons_rows_of_mem arg6.view F _ _ _ (ix2 j q) (ix2 r q) rfl hj rfl).trans (whole_apply arg2 harg2 x0 r q)

theorem old_B (j : Fin 528) (q : Fin 1024) (hj : j.val < 16) :
    arg6.view.read (Elt Ideal) (arg6.view.writes (Elt Ideal) (harg6.unread xs0) (kernelRun0_B.sl.HS0_1 (F := Ideal) c arg2 harg2 x0)) (ix2 j q) = xs0 (ix2 j q) := by
  unfold kernelRun0_B.sl.HS0_1
  refine (View.read_writes_cons_rows_of_not_mem arg6.view _ _ _ _ (ix2 j q) rfl rfl (Or.inl hj)).trans ?_
  exact (congrFun (congrArg (arg6.view.read (Elt Ideal)) (View.writes_nil _ _)) (ix2 j q)).trans (congrFun (harg6.read_unread (Val := Elt Ideal) xs0) (ix2 j q))

theorem old_A (j : Fin 528) (q : Fin 1024) (hj : j.val < 16) :
    arg6.view.read (Elt Ideal) (arg6.view.writes (Elt Ideal) F (kernelRun0_A.sl.HS0_2 (F := Ideal) c arg2 harg2 x0)) (ix2 j q) = (0 : EReal) := by
  unfold kernelRun0_A.sl.HS0_2
  refine (View.read_writes_cons_rows_of_not_mem arg6.view _ _ _ _ (ix2 j q) rfl rfl (Or.inl hj)).trans ?_
  refine (View.read_writes_cons_rows_of_mem arg6.view F _ _ _ (ix2 j q) (ix2 (⟨j.val, hj⟩ : Fin 16) q) rfl (Nat.zero_add _).symm rfl).trans ?_
  unfold k0_pay3
  exact (shapeCast_apply _ _ _ (ix2 (⟨j.val, hj⟩ : Fin 16) q) (by rw [Shape.rowMajor_val_two])).trans Ideal.ofBits_zero_f32

variable (f : Fin 1024 → ℕ → EReal) (T : ℕ) (hx0 : ∀ (r : Fin 512) (q : Fin 1024), (x0 (ix3 (0 : Fin 1) r q) : EReal) = f q (T + r.val))
include hx0

theorem new_ext (j : Fin 528) (q : Fin 1024) (hj : 16 ≤ j.val) (G : EReal) (hG : ∀ r : Fin 512, j.val = 16 + r.val → G = x0 (ix3 (0 : Fin 1) r q)) : G = ext f T q j.val := by
  have hlt := j.isLt
  refine (hG ⟨j.val - 16, by omega⟩ (show j.val = 16 + (j.val - 16) by omega)).trans ((hx0 _ q).trans ?_)
  unfold ext
  rw [if_neg (by omega)]
  exact congrArg (f q) (show T + (j.val - 16) = T + j.val - 16 by omega)

theorem ext_B (hxs : ∀ (j : Fin 528) (q : Fin 1024), j.val < 16 → (xs0 (ix2 j q) : EReal) = ext f T q j.val) (j : Fin 528) (q : Fin 1024) :
    (arg6.view.read (Elt Ideal) (arg6.view.writes (Elt Ideal) (harg6.unread xs0) (kernelRun0_B.sl.HS0_1 (F := Ideal) c arg2 harg2 x0)) (ix2 j q) : EReal) = ext f T q j.val := by
  by_cases hj : j.val < 16
  · exact (old_B c arg2 harg2 arg6 harg6 x0 xs0 j q hj).trans (hxs j q hj)
  · exact new_ext x0 f T hx0 j q (by omega) _ fun r hr => new_B c arg2 harg2 arg6 x0 _ j r q hr

theorem ext_A (hT : T = 0) (j : Fin 528) (q : Fin 1024) :
    (arg6.view.read (Elt Ideal) (arg6.view.writes (Elt Ideal) F (kernelRun0_A.sl.HS0_2 (F := Ideal) c arg2 harg2 x0)) (ix2 j q) : EReal) = ext f T q j.val := by
  by_cases hj : j.val < 16
  · exact (old_A c arg2 harg2 arg6 x0 F j q hj).trans (if_pos (show T + j.val < 16 by omega)).symm
  · exact new_ext x0 f T hx0 j q (by omega) _ fun r hr => new_A c arg2 harg2 arg6 x0 _ j r q hr

/-! ## The loads of a group's columns -/

theorem load_B (hxs : ∀ (j : Fin 528) (q : Fin 1024), j.val < 16 → (xs0 (ix2 j q) : EReal) = ext f T q j.val) (g : Fin 4) (o p i : ℕ) (hoi : o + i = 16) (hp : p = 256 * g.val)
    (inb : ∀ a, (![o, p] : Fin 2 → ℕ) a + S512x256.size a ≤ S528x1024.size a) (r : Fin 512) (k : Fin 256) :
    (View.readAt (Elt Ideal) arg6.view (Rect.unit (s := S528x1024) ![o, p] S512x256.size inb).toLoadRect
      (arg6.view.writes (Elt Ideal) (harg6.unread xs0) (kernelRun0_B.sl.HS0_1 (F := Ideal) c arg2 harg2 x0)) (ix2 r k) : EReal) = back (f (col g k)) (T + r.val) i := by
  have hr := r.isLt
  refine (row_apply arg6 _ o p inb r k (⟨o + r.val, by omega⟩ : Fin 528) (col g k) rfl (by rw [hp]; rfl)).trans ?_
  exact (ext_B c arg2 harg2 arg6 harg6 x0 xs0 f T hx0 hxs _ _).trans (ext_back f T (col g k) r.val i (o + r.val) (by omega))

theorem self_B (g : Fin 4) (p : ℕ) (hp : p = 256 * g.val) (inb : ∀ a, (![16, p] : Fin 2 → ℕ) a + S512x256.size a ≤ S528x1024.size a) (r : Fin 512) (k : Fin 256) :
    (arg6.view.readCov (Val := Elt Ideal) (kernelRun0_B.sl.HS0_1 (F := Ideal) c arg2 harg2 x0) (Rect.unit (s := S528x1024) ![16, p] S512x256.size inb).toLoadRect (ix2 r k) : EReal)
      = back (f (col g k)) (T + r.val) 0 := by
  have hr := r.isLt
  refine (row_apply arg6 _ 16 p inb r k (⟨16 + r.val, by omega⟩ : Fin 528) (col g k) rfl (by rw [hp]; rfl)).trans ?_
  exact (new_B c arg2 harg2 arg6 x0 _ _ r _ rfl).trans ((hx0 r (col g k)).trans (back_zero _ _).symm)

theorem load_A (hT : T = 0) (g : Fin 4) (o p i : ℕ) (hoi : o + i = 16) (hp : p = 256 * g.val)
    (inb : ∀ a, (![o, p] : Fin 2 → ℕ) a + S512x256.size a ≤ S528x1024.size a) (r : Fin 512) (k : Fin 256) :
    (arg6.view.readCov (Val := Elt Ideal) (kernelRun0_A.sl.HS0_2 (F := Ideal) c arg2 harg2 x0) (Rect.unit (s := S528x1024) ![o, p] S512x256.size inb).toLoadRect (ix2 r k) : EReal)
      = back (f (col g k)) (T + r.val) i := by
  have hr := r.isLt
  refine (row_apply arg6 _ o p inb r k (⟨o + r.val, by omega⟩ : Fin 528) (col g k) rfl (by rw [hp]; rfl)).trans ?_
  exact (ext_A c arg2 harg2 arg6 x0 _ f T hx0 hT _ _).trans (ext_back f T (col g k) r.val i (o + r.val) (by omega))

theorem kept_B (inb : ∀ a, (![512, 0] : Fin 2 → ℕ) a + (![16, 1024] : Fin 2 → ℕ) a ≤ S528x1024.size a) (r : Fin 16) (q : Fin 1024) :
    (arg6.view.readCov (Val := Elt Ideal) (kernelRun0_B.sl.HS0_1 (F := Ideal) c arg2 harg2 x0) (Rect.unit (s := S528x1024) ![512, 0] ![16, 1024] inb).toLoadRect (ix2 r q) : EReal) = f q (T + 496 + r.val) := by
  have hr := r.isLt
  refine (last_apply arg6 _ inb r q (⟨512 + r.val, by omega⟩ : Fin 528) rfl).trans ?_
  refine (new_B c arg2 harg2 arg6 x0 _ _ (⟨496 + r.val, by omega⟩ : Fin 512) q (show 512 + r.val = 16 + (496 + r.val) by omega)).trans ((hx0 _ q).trans ?_)
  exact congrArg (f q) (Nat.add_assoc _ _ _).symm

theorem kept_A (inb : ∀ a, (![512, 0] : Fin 2 → ℕ) a + (![16, 1024] : Fin 2 → ℕ) a ≤ S528x1024.size a) (r : Fin 16) (q : Fin 1024) :
    (arg6.view.readCov (Val := Elt Ideal) (kernelRun0_A.sl.HS0_2 (F := Ideal) c arg2 harg2 x0) (Rect.unit (s := S528x1024) ![512, 0] ![16, 1024] inb).toLoadRect (ix2 r q) : EReal) = f q (T + 496 + r.val) := by
  have hr := r.isLt
  refine (last_apply arg6 _ inb r q (⟨512 + r.val, by omega⟩ : Fin 528) rfl).trans ?_
  refine (new_A c arg2 harg2 arg6 x0 _ _ (⟨496 + r.val, by omega⟩ : Fin 512) q (show 512 + r.val = 16 + (496 + r.val) by omega)).trans ((hx0 _ q).trans ?_)
  exact congrArg (f q) (Nat.add_assoc _ _ _).symm
end Staged

section Point
variable (c : Dev nD) (i : grid0.Coords) (arg2 : Memref sig .tc .vmem S1x512x1024 .f32) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S1x512x1024 .bf16) (harg5 : arg5.IsWhole) (arg6 : Memref sig .tc .vmem S528x1024 .f32) (harg6 : arg6.IsWhole)
  (x0 : FVec Ideal S1x512x1024 .f32) (x1 : FVec Ideal S4x256x256 .bf16) (x2 : FVec Ideal S1x1024 .f32) (xs0 : FVec Ideal S528x1024 .f32)
  (f : Fin 1024 → ℕ → EReal) (T : ℕ) (hT : 512 * (i 1).val = T) (hx0 : ∀ (r : Fin 512) (q : Fin 1024), (x0 (ix3 (0 : Fin 1) r q) : EReal) = f q (T + r.val))

include hx0

/-- The weights a point reads. -/
abbrev w1Of (x1 : FVec Ideal S4x256x256 .bf16) (g : Fin 4) (k o : Fin 256) : EReal := x1 (ix3 g k o)

/-- The scale a point reads. -/
abbrev s1Of (x2 : FVec Ideal S1x1024 .f32) (q : Fin 1024) : EReal := x2 (ix2 (0 : Fin 1) q)

include hT in
theorem out_B (hc0 : ¬cond0_0 i) (hxs : ∀ (j : Fin 528) (q : Fin 1024), j.val < 16 → (xs0 (ix2 j q) : EReal) = ext f T q j.val) (r : Fin 512) (q : Fin 1024) :
    (out0_B_3 (F := Ideal) c i arg2 harg2 arg3 harg3 arg4 harg4 arg5 harg5 arg6 harg6 hc0 x0 x1 x2 xs0 (ix3 (0 : Fin 1) r q) : EReal) = outv f (w1Of x1) (s1Of x2) (T + r.val) (grp q) (plc q) := by
  have hq := q.isLt
  have hqq : q.val = 256 * (grp q).val + (plc q).val := show q.val = 256 * (q.val / 256) + q.val % 256 by omega
  unfold out0_B_3 kernelRun0_B
  dsimp only
  generalize grp q = g at hqq ⊢
  generalize plc q = o at hqq ⊢
  match g, hqq with
  | ⟨0, _⟩, hqq =>
    refine (four_0 _ _ _ _ _ _ r o q hqq).trans ?_
    refine (congrFun (pay7_eq _ _ _ _ _ ) (ix3 (0 : Fin 1) r o)).trans ?_
    refine tail_apply f (w1Of x1) (s1Of x2) i _ _ _ _ _ T hT (⟨0, by norm_num⟩ : Fin 4) rfl (fun r k => ?_) (fun r k => ?_) (fun k o => part_apply arg3 harg3 x1 0 _ _ rfl k o)
      (fun o => piece_apply arg4 harg4 x2 0 _ o _ rfl) r o
    · refine Eq.trans ?_ (total_2 (f (col (⟨0, by norm_num⟩ : Fin 4) k)) (T + r.val)).symm
      exact congrArg₂ (FloatOps.addf (F := Ideal) (φ := .f32)) (self_B c arg2 harg2 arg6 x0 f T hx0 (⟨0, by norm_num⟩ : Fin 4) 0 rfl _ r k)
        (load_B c arg2 harg2 arg6 harg6 x0 xs0 f T hx0 hxs (⟨0, by norm_num⟩ : Fin 4) 15 0 1 rfl rfl _ r k)
    · exact (self_B c arg2 harg2 arg6 x0 f T hx0 (⟨0, by norm_num⟩ : Fin 4) 0 rfl _ r k).trans (back_zero _ _)
  | ⟨1, _⟩, hqq =>
    refine (four_1 _ _ _ _ _ _ r o q hqq).trans ?_
    refine (congrFun (pay8_eq _ _ _ _ _ _ _ ) (ix3 (0 : Fin 1) r o)).trans ?_
    refine tail_apply f (w1Of x1) (s1Of x2) i _ _ _ _ _ T hT (⟨1, by norm_num⟩ : Fin 4) rfl (fun r k => ?_) (fun r k => ?_) (fun k o => part_apply arg3 harg3 x1 1 _ _ rfl k o)
      (fun o => piece_apply arg4 harg4 x2 256 _ o _ rfl) r o
    · refine Eq.trans ?_ (total_4 (f (col (⟨1, by norm_num⟩ : Fin 4) k)) (T + r.val)).symm
      exact congrArg₂ (FloatOps.addf (F := Ideal) (φ := .f32)) ((congrArg₂ (FloatOps.addf (F := Ideal) (φ := .f32)) ((congrArg₂ (FloatOps.addf (F := Ideal) (φ := .f32)) (self_B c arg2 harg2 arg6 x0 f T hx0 (⟨1, by norm_num⟩ : Fin 4) 256 rfl _ r k)
        (load_B c arg2 harg2 arg6 harg6 x0 xs0 f T hx0 hxs (⟨1, by norm_num⟩ : Fin 4) 15 256 1 rfl rfl _ r k)))
        (load_B c arg2 harg2 arg6 harg6 x0 xs0 f T hx0 hxs (⟨1, by norm_num⟩ : Fin 4) 14 256 2 rfl rfl _ r k)))
        (load_B c arg2 harg2 arg6 harg6 x0 xs0 f T hx0 hxs (⟨1, by norm_num⟩ : Fin 4) 13 256 3 rfl rfl _ r k)
    · exact (self_B c arg2 harg2 arg6 x0 f T hx0 (⟨1, by norm_num⟩ : Fin 4) 256 rfl _ r k).trans (back_zero _ _)
  | ⟨2, _⟩, hqq =>
    refine (four_2 _ _ _ _ _ _ r o q hqq).trans ?_
    refine (congrFun (pay10_eq _ _ _ _ _ _ _ _ _ _ _ ) (ix3 (0 : Fin 1) r o)).trans ?_
    refine tail_apply f (w1Of x1) (s1Of x2) i _ _ _ _ _ T hT (⟨2, by norm_num⟩ : Fin 4) rfl (fun r k => ?_) (fun r k => ?_) (fun k o => part_apply arg3 harg3 x1 2 _ _ rfl k o)
      (fun o => piece_apply arg4 harg4 x2 512 _ o _ rfl) r o
    · refine Eq.trans ?_ (total_8 (f (col (⟨2, by norm_num⟩ : Fin 4) k)) (T + r.val)).symm
      exact congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) (self_B c arg2 harg2 arg6 x0 f T hx0 (⟨2, by norm_num⟩ : Fin 4) 512 rfl _ r k)
        (load_B c arg2 harg2 arg6 harg6 x0 xs0 f T hx0 hxs (⟨2, by norm_num⟩ : Fin 4) 15 512 1 rfl rfl _ r k)))
        (load_B c arg2 harg2 arg6 harg6 x0 xs0 f T hx0 hxs (⟨2, by norm_num⟩ : Fin 4) 14 512 2 rfl rfl _ r k)))
        (load_B c arg2 harg2 arg6 harg6 x0 xs0 f T hx0 hxs (⟨2, by norm_num⟩ : Fin 4) 13 512 3 rfl rfl _ r k)))
        (load_B c arg2 harg2 arg6 harg6 x0 xs0 f T hx0 hxs (⟨2, by norm_num⟩ : Fin 4) 12 512 4 rfl rfl _ r k)))
        (load_B c arg2 harg2 arg6 harg6 x0 xs0 f T hx0 hxs (⟨2, by norm_num⟩ : Fin 4) 11 512 5 rfl rfl _ r k)))
        (load_B c arg2 harg2 arg6 harg6 x0 xs0 f T hx0 hxs (⟨2, by norm_num⟩ : Fin 4) 10 512 6 rfl rfl _ r k)))
        (load_B c arg2 harg2 arg6 harg6 x0 xs0 f T hx0 hxs (⟨2, by norm_num⟩ : Fin 4) 9 512 7 rfl rfl _ r k)
    · exact (self_B c arg2 harg2 arg6 x0 f T hx0 (⟨2, by norm_num⟩ : Fin 4) 512 rfl _ r k).trans (back_zero _ _)
  | ⟨3, _⟩, hqq =>
    refine (four_3 _ _ _ _ _ _ r o q hqq).trans ?_
    refine (congrFun (pay1_eq _ _ _ _ _ _ _ _ _ _ _ _ _ _ _ _ _ _ _ ) (ix3 (0 : Fin 1) r o)).trans ?_
    refine tail_apply f (w1Of x1) (s1Of x2) i _ _ _ _ _ T hT (⟨3, by norm_num⟩ : Fin 4) rfl (fun r k => ?_) (fun r k => ?_) (fun k o => part_apply arg3 harg3 x1 3 _ _ rfl k o)
      (fun o => piece_apply arg4 harg4 x2 768 _ o _ rfl) r o
    · refine Eq.trans ?_ (total_16 (f (col (⟨3, by norm_num⟩ : Fin 4) k)) (T + r.val)).symm
      exact congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) (self_B c arg2 harg2 arg6 x0 f T hx0 (⟨3, by norm_num⟩ : Fin 4) 768 rfl _ r k)
        (load_B c arg2 harg2 arg6 harg6 x0 xs0 f T hx0 hxs (⟨3, by norm_num⟩ : Fin 4) 15 768 1 rfl rfl _ r k)))
        (load_B c arg2 harg2 arg6 harg6 x0 xs0 f T hx0 hxs (⟨3, by norm_num⟩ : Fin 4) 14 768 2 rfl rfl _ r k)))
        (load_B c arg2 harg2 arg6 harg6 x0 xs0 f T hx0 hxs (⟨3, by norm_num⟩ : Fin 4) 13 768 3 rfl rfl _ r k)))
        (load_B c arg2 harg2 arg6 harg6 x0 xs0 f T hx0 hxs (⟨3, by norm_num⟩ : Fin 4) 12 768 4 rfl rfl _ r k)))
        (load_B c arg2 harg2 arg6 harg6 x0 xs0 f T hx0 hxs (⟨3, by norm_num⟩ : Fin 4) 11 768 5 rfl rfl _ r k)))
        (load_B c arg2 harg2 arg6 harg6 x0 xs0 f T hx0 hxs (⟨3, by norm_num⟩ : Fin 4) 10 768 6 rfl rfl _ r k)))
        (load_B c arg2 harg2 arg6 harg6 x0 xs0 f T hx0 hxs (⟨3, by norm_num⟩ : Fin 4) 9 768 7 rfl rfl _ r k)))
        (load_B c arg2 harg2 arg6 harg6 x0 xs0 f T hx0 hxs (⟨3, by norm_num⟩ : Fin 4) 8 768 8 rfl rfl _ r k)))
        (load_B c arg2 harg2 arg6 harg6 x0 xs0 f T hx0 hxs (⟨3, by norm_num⟩ : Fin 4) 7 768 9 rfl rfl _ r k)))
        (load_B c arg2 harg2 arg6 harg6 x0 xs0 f T hx0 hxs (⟨3, by norm_num⟩ : Fin 4) 6 768 10 rfl rfl _ r k)))
        (load_B c arg2 harg2 arg6 harg6 x0 xs0 f T hx0 hxs (⟨3, by norm_num⟩ : Fin 4) 5 768 11 rfl rfl _ r k)))
        (load_B c arg2 harg2 arg6 harg6 x0 xs0 f T hx0 hxs (⟨3, by norm_num⟩ : Fin 4) 4 768 12 rfl rfl _ r k)))
        (load_B c arg2 harg2 arg6 harg6 x0 xs0 f T hx0 hxs (⟨3, by norm_num⟩ : Fin 4) 3 768 13 rfl rfl _ r k)))
        (load_B c arg2 harg2 arg6 harg6 x0 xs0 f T hx0 hxs (⟨3, by norm_num⟩ : Fin 4) 2 768 14 rfl rfl _ r k)))
        (load_B c arg2 harg2 arg6 harg6 x0 xs0 f T hx0 hxs (⟨3, by norm_num⟩ : Fin 4) 1 768 15 rfl rfl _ r k)
    · exact (self_B c arg2 harg2 arg6 x0 f T hx0 (⟨3, by norm_num⟩ : Fin 4) 768 rfl _ r k).trans (back_zero _ _)

theorem keep_B (hc0 : ¬cond0_0 i) (j : Fin 528) (q : Fin 1024) (hj : j.val < 16) :
    (sout0_B_0 (F := Ideal) c i arg2 harg2 arg3 harg3 arg4 harg4 arg5 harg5 arg6 harg6 hc0 x0 x1 x2 xs0 (ix2 j q) : EReal) = ext f (T + 512) q j.val := by
  unfold sout0_B_0 kernelRun0_B
  dsimp only
  refine (View.read_writes_cons_rows_of_mem VS0_0 _ _ _ _ (ix2 j q) (ix2 (⟨j.val, hj⟩ : Fin 16) q) rfl (Nat.zero_add _).symm rfl).trans ?_
  unfold k0_pay2
  refine (shapeCast_apply _ _ _ (ix2 (⟨j.val, hj⟩ : Fin 16) q) (by rw [Shape.rowMajor_val_two])).trans ?_
  refine (kept_B c arg2 harg2 arg6 x0 f T hx0 _ (⟨j.val, hj⟩ : Fin 16) q).trans ?_
  unfold ext
  rw [if_neg (by omega)]
  exact congrArg (f q) (show T + 496 + j.val = T + 512 + j.val - 16 by omega)

include hT in
theorem out_A (hc0 : cond0_0 i) (hT0 : T = 0) (r : Fin 512) (q : Fin 1024) :
    (out0_A_3 (F := Ideal) c i arg2 harg2 arg3 harg3 arg4 harg4 arg5 harg5 arg6 harg6 hc0 x0 x1 x2 (ix3 (0 : Fin 1) r q) : EReal) = outv f (w1Of x1) (s1Of x2) (T + r.val) (grp q) (plc q) := by
  have hq := q.isLt
  have hqq : q.val = 256 * (grp q).val + (plc q).val := show q.val = 256 * (q.val / 256) + q.val % 256 by omega
  unfold out0_A_3 kernelRun0_A
  dsimp only
  generalize grp q = g at hqq ⊢
  generalize plc q = o at hqq ⊢
  match g, hqq with
  | ⟨0, _⟩, hqq =>
    refine (four_0 _ _ _ _ _ _ r o q hqq).trans ?_
    refine (congrFun (pay7_eq _ _ _ _ _ ) (ix3 (0 : Fin 1) r o)).trans ?_
    refine tail_apply f (w1Of x1) (s1Of x2) i _ _ _ _ _ T hT (⟨0, by norm_num⟩ : Fin 4) rfl (fun r k => ?_) (fun r k => ?_) (fun k o => part_apply arg3 harg3 x1 0 _ _ rfl k o)
      (fun o => piece_apply arg4 harg4 x2 0 _ o _ rfl) r o
    · refine Eq.trans ?_ (total_2 (f (col (⟨0, by norm_num⟩ : Fin 4) k)) (T + r.val)).symm
      exact congrArg₂ (FloatOps.addf (F := Ideal) (φ := .f32)) (load_A c arg2 harg2 arg6 x0 f T hx0 hT0 (⟨0, by norm_num⟩ : Fin 4) 16 0 0 rfl rfl _ r k)
        (load_A c arg2 harg2 arg6 x0 f T hx0 hT0 (⟨0, by norm_num⟩ : Fin 4) 15 0 1 rfl rfl _ r k)
    · exact (load_A c arg2 harg2 arg6 x0 f T hx0 hT0 (⟨0, by norm_num⟩ : Fin 4) 16 0 0 rfl rfl _ r k).trans (back_zero _ _)
  | ⟨1, _⟩, hqq =>
    refine (four_1 _ _ _ _ _ _ r o q hqq).trans ?_
    refine (congrFun (pay8_eq _ _ _ _ _ _ _ ) (ix3 (0 : Fin 1) r o)).trans ?_
    refine tail_apply f (w1Of x1) (s1Of x2) i _ _ _ _ _ T hT (⟨1, by norm_num⟩ : Fin 4) rfl (fun r k => ?_) (fun r k => ?_) (fun k o => part_apply arg3 harg3 x1 1 _ _ rfl k o)
      (fun o => piece_apply arg4 harg4 x2 256 _ o _ rfl) r o
    · refine Eq.trans ?_ (total_4 (f (col (⟨1, by norm_num⟩ : Fin 4) k)) (T + r.val)).symm
      exact congrArg₂ (FloatOps.addf (F := Ideal) (φ := .f32)) ((congrArg₂ (FloatOps.addf (F := Ideal) (φ := .f32)) ((congrArg₂ (FloatOps.addf (F := Ideal) (φ := .f32)) (load_A c arg2 harg2 arg6 x0 f T hx0 hT0 (⟨1, by norm_num⟩ : Fin 4) 16 256 0 rfl rfl _ r k)
        (load_A c arg2 harg2 arg6 x0 f T hx0 hT0 (⟨1, by norm_num⟩ : Fin 4) 15 256 1 rfl rfl _ r k)))
        (load_A c arg2 harg2 arg6 x0 f T hx0 hT0 (⟨1, by norm_num⟩ : Fin 4) 14 256 2 rfl rfl _ r k)))
        (load_A c arg2 harg2 arg6 x0 f T hx0 hT0 (⟨1, by norm_num⟩ : Fin 4) 13 256 3 rfl rfl _ r k)
    · exact (load_A c arg2 harg2 arg6 x0 f T hx0 hT0 (⟨1, by norm_num⟩ : Fin 4) 16 256 0 rfl rfl _ r k).trans (back_zero _ _)
  | ⟨2, _⟩, hqq =>
    refine (four_2 _ _ _ _ _ _ r o q hqq).trans ?_
    refine (congrFun (pay10_eq _ _ _ _ _ _ _ _ _ _ _ ) (ix3 (0 : Fin 1) r o)).trans ?_
    refine tail_apply f (w1Of x1) (s1Of x2) i _ _ _ _ _ T hT (⟨2, by norm_num⟩ : Fin 4) rfl (fun r k => ?_) (fun r k => ?_) (fun k o => part_apply arg3 harg3 x1 2 _ _ rfl k o)
      (fun o => piece_apply arg4 harg4 x2 512 _ o _ rfl) r o
    · refine Eq.trans ?_ (total_8 (f (col (⟨2, by norm_num⟩ : Fin 4) k)) (T + r.val)).symm
      exact congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) (load_A c arg2 harg2 arg6 x0 f T hx0 hT0 (⟨2, by norm_num⟩ : Fin 4) 16 512 0 rfl rfl _ r k)
        (load_A c arg2 harg2 arg6 x0 f T hx0 hT0 (⟨2, by norm_num⟩ : Fin 4) 15 512 1 rfl rfl _ r k)))
        (load_A c arg2 harg2 arg6 x0 f T hx0 hT0 (⟨2, by norm_num⟩ : Fin 4) 14 512 2 rfl rfl _ r k)))
        (load_A c arg2 harg2 arg6 x0 f T hx0 hT0 (⟨2, by norm_num⟩ : Fin 4) 13 512 3 rfl rfl _ r k)))
        (load_A c arg2 harg2 arg6 x0 f T hx0 hT0 (⟨2, by norm_num⟩ : Fin 4) 12 512 4 rfl rfl _ r k)))
        (load_A c arg2 harg2 arg6 x0 f T hx0 hT0 (⟨2, by norm_num⟩ : Fin 4) 11 512 5 rfl rfl _ r k)))
        (load_A c arg2 harg2 arg6 x0 f T hx0 hT0 (⟨2, by norm_num⟩ : Fin 4) 10 512 6 rfl rfl _ r k)))
        (load_A c arg2 harg2 arg6 x0 f T hx0 hT0 (⟨2, by norm_num⟩ : Fin 4) 9 512 7 rfl rfl _ r k)
    · exact (load_A c arg2 harg2 arg6 x0 f T hx0 hT0 (⟨2, by norm_num⟩ : Fin 4) 16 512 0 rfl rfl _ r k).trans (back_zero _ _)
  | ⟨3, _⟩, hqq =>
    refine (four_3 _ _ _ _ _ _ r o q hqq).trans ?_
    refine (congrFun (pay1_eq _ _ _ _ _ _ _ _ _ _ _ _ _ _ _ _ _ _ _ ) (ix3 (0 : Fin 1) r o)).trans ?_
    refine tail_apply f (w1Of x1) (s1Of x2) i _ _ _ _ _ T hT (⟨3, by norm_num⟩ : Fin 4) rfl (fun r k => ?_) (fun r k => ?_) (fun k o => part_apply arg3 harg3 x1 3 _ _ rfl k o)
      (fun o => piece_apply arg4 harg4 x2 768 _ o _ rfl) r o
    · refine Eq.trans ?_ (total_16 (f (col (⟨3, by norm_num⟩ : Fin 4) k)) (T + r.val)).symm
      exact congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) ((congrArg₂ (FloatOps.addf (F := Ideal) (φ := .f32)) (load_A c arg2 harg2 arg6 x0 f T hx0 hT0 (⟨3, by norm_num⟩ : Fin 4) 16 768 0 rfl rfl _ r k)
        (load_A c arg2 harg2 arg6 x0 f T hx0 hT0 (⟨3, by norm_num⟩ : Fin 4) 15 768 1 rfl rfl _ r k)))
        (load_A c arg2 harg2 arg6 x0 f T hx0 hT0 (⟨3, by norm_num⟩ : Fin 4) 14 768 2 rfl rfl _ r k)))
        (load_A c arg2 harg2 arg6 x0 f T hx0 hT0 (⟨3, by norm_num⟩ : Fin 4) 13 768 3 rfl rfl _ r k)))
        (load_A c arg2 harg2 arg6 x0 f T hx0 hT0 (⟨3, by norm_num⟩ : Fin 4) 12 768 4 rfl rfl _ r k)))
        (load_A c arg2 harg2 arg6 x0 f T hx0 hT0 (⟨3, by norm_num⟩ : Fin 4) 11 768 5 rfl rfl _ r k)))
        (load_A c arg2 harg2 arg6 x0 f T hx0 hT0 (⟨3, by norm_num⟩ : Fin 4) 10 768 6 rfl rfl _ r k)))
        (load_A c arg2 harg2 arg6 x0 f T hx0 hT0 (⟨3, by norm_num⟩ : Fin 4) 9 768 7 rfl rfl _ r k)))
        (load_A c arg2 harg2 arg6 x0 f T hx0 hT0 (⟨3, by norm_num⟩ : Fin 4) 8 768 8 rfl rfl _ r k)))
        (load_A c arg2 harg2 arg6 x0 f T hx0 hT0 (⟨3, by norm_num⟩ : Fin 4) 7 768 9 rfl rfl _ r k)))
        (load_A c arg2 harg2 arg6 x0 f T hx0 hT0 (⟨3, by norm_num⟩ : Fin 4) 6 768 10 rfl rfl _ r k)))
        (load_A c arg2 harg2 arg6 x0 f T hx0 hT0 (⟨3, by norm_num⟩ : Fin 4) 5 768 11 rfl rfl _ r k)))
        (load_A c arg2 harg2 arg6 x0 f T hx0 hT0 (⟨3, by norm_num⟩ : Fin 4) 4 768 12 rfl rfl _ r k)))
        (load_A c arg2 harg2 arg6 x0 f T hx0 hT0 (⟨3, by norm_num⟩ : Fin 4) 3 768 13 rfl rfl _ r k)))
        (load_A c arg2 harg2 arg6 x0 f T hx0 hT0 (⟨3, by norm_num⟩ : Fin 4) 2 768 14 rfl rfl _ r k)))
        (load_A c arg2 harg2 arg6 x0 f T hx0 hT0 (⟨3, by norm_num⟩ : Fin 4) 1 768 15 rfl rfl _ r k)
    · exact (load_A c arg2 harg2 arg6 x0 f T hx0 hT0 (⟨3, by norm_num⟩ : Fin 4) 16 768 0 rfl rfl _ r k).trans (back_zero _ _)

theorem keep_A (hc0 : cond0_0 i) (j : Fin 528) (q : Fin 1024) (hj : j.val < 16) :
    (sout0_A_0 (F := Ideal) c i arg2 harg2 arg3 harg3 arg4 harg4 arg5 harg5 arg6 harg6 hc0 x0 x1 x2 (ix2 j q) : EReal) = ext f (T + 512) q j.val := by
  unfold sout0_A_0 kernelRun0_A
  dsimp only
  refine (View.read_writes_cons_rows_of_mem VS0_0 _ _ _ _ (ix2 j q) (ix2 (⟨j.val, hj⟩ : Fin 16) q) rfl (Nat.zero_add _).symm rfl).trans ?_
  unfold k0_pay2
  refine (shapeCast_apply _ _ _ (ix2 (⟨j.val, hj⟩ : Fin 16) q) (by rw [Shape.rowMajor_val_two])).trans ?_
  refine (kept_A c arg2 harg2 arg6 x0 f T hx0 _ (⟨j.val, hj⟩ : Fin 16) q).trans ?_
  unfold ext
  rw [if_neg (by omega)]
  exact congrArg (f q) (show T + 496 + j.val = T + 512 + j.val - 16 by omega)

end Point

end Cert.Kernel5Ideal.Pool

end
-- ==== Proof.PlValue.lean ====
/- The blocks the pooling mixer's windows read, the rows carried from point to point, and from the stored blocks the
   result. -/
module

public import proofs.«01_k».proof.Proof.PlStores
public import proofs.«01_k».proof.Proof.Gen.Kernel5Ideal.Value
public import Idealize.ShloMosaic.Lib.Pipeline.Covers
public import Idealize.ShloMosaic.Lib.IdealHost
public import Idealize.ShloMosaic.Lib.Claim

@[expose] public section

set_option maxRecDepth 16384

noncomputable section

namespace Cert.Kernel5Ideal.Pool

open Cert.Kernel5Ideal.Gen
open Idealize.ShloMosaic.ValueIdx (ix1 ix2 ix3 ix4 ix5 contrEquiv1)
open Idealize.ShloMosaic hiding ix1 ix2 ix3 ix4 ix5
open Idealize.ShloMosaic.TcCoe
open Idealize.ShloMosaic.Pipeline (Dat Cfg Window)

variable (m : (ℓ : Loc nD τ sig) → Buf (Elt Ideal) ℓ) (c : Dev nD)

/-! ## The windows' arrays as the region finds them -/

theorem weights_read (g : Fin 4) (k o : Fin 256) : (V m c main_v2 (ix3 g k o) : EReal) = wOf (m ((c : Thread nD τ).loc main_arg1)) g k o := by
  entry_read
  refine (shapeCast_apply (extractStridedSlice S1x4x256x256 ![0, 0, 0, 0] (m ((c : Thread nD τ).loc main_arg1)) slices_S2x4x256x256_S1x4x256x256_0_0_0_0 : FVec Ideal S1x4x256x256 .f32)
    shapeCasts_S1x4x256x256_S4x256x256 (ix3 g k o) (ix4 (0 : Fin 1) g k o) ((Shape.rowMajor_val_four (d := ![1, 4, 256, 256]) _).trans (Eq.trans
    (by show ((0 * 4 + g.val) * 256 + k.val) * 256 + o.val = (g.val * 256 + k.val) * 256 + o.val; omega) (Shape.rowMajor_val_three (d := ![4, 256, 256]) _).symm))).trans ?_
  exact extractStridedSlice_apply _ _ _ _ (ix4 (0 : Fin 2) g k o) (fun (a : Fin 4) => by
    match a with
    | 0 => rfl
    | 1 => exact (Nat.zero_add _).symm
    | 2 => exact (Nat.zero_add _).symm
    | 3 => exact (Nat.zero_add _).symm)

theorem scale_read (q : Fin 1024) : (V m c main_v5 (ix2 (0 : Fin 1) q) : EReal) = sOf (m ((c : Thread nD τ).loc main_arg2)) q := by
  entry_read
  refine (shapeCast_apply (shapeCast S1024 (extractStridedSlice S1x1024 ![0, 0] (m ((c : Thread nD τ).loc main_arg2)) slices_S2x1024_S1x1024_0_0 : FVec Ideal S1x1024 .f32) shapeCasts_S1x1024_S1024 : FVec Ideal S1024 .f32)
    shapeCasts_S1024_S1x1024 (ix2 (0 : Fin 1) q) (ix1 q) ((Shape.rowMajor_val_one (d := ![1024]) _).trans (Eq.trans
    (by show q.val = 0 * 1024 + q.val; omega) (Shape.rowMajor_val_two (d := ![1, 1024]) _).symm))).trans ?_
  refine (shapeCast_apply (extractStridedSlice S1x1024 ![0, 0] (m ((c : Thread nD τ).loc main_arg2)) slices_S2x1024_S1x1024_0_0 : FVec Ideal S1x1024 .f32)
    shapeCasts_S1x1024_S1024 (ix1 q) (ix2 (0 : Fin 1) q) ((Shape.rowMajor_val_two (d := ![1, 1024]) _).trans (Eq.trans
    (by show 0 * 1024 + q.val = q.val; omega) (Shape.rowMajor_val_one (d := ![1024]) _).symm))).trans ?_
  exact extractStridedSlice_apply _ _ _ _ (ix2 (0 : Fin 2) q) (fun (a : Fin 2) => by
    match a with
    | 0 => rfl
    | 1 => exact (Nat.zero_add _).symm)

/-! ## The blocks of a point -/

section Block
variable (t : Fin cfg0.N)

theorem at_0 : (grid0.coords t 0).val = t.val / 32 := by
  revert t
  decide

theorem at_1 : (grid0.coords t 1).val = t.val % 32 := by
  revert t
  decide

theorem in0 (r : Fin 512) (q : Fin 1024) :
    (iblk m c 0 t (ix3 (0 : Fin 1) r q) : EReal) = colOf (m ((c : Thread nD τ).loc main_arg0)) (grid0.coords t 0) q (512 * (grid0.coords t 1).val + r.val) := by
  have h0 : (grid0.coords t 0).val < 2 := (grid0.coords t 0).isLt
  have h1 : (grid0.coords t 1).val < 32 := (grid0.coords t 1).isLt
  have hr := r.isLt
  unfold colOf
  rw [dif_pos (show 512 * (grid0.coords t 1).val + r.val < 16384 by omega)]
  refine Eq.trans ?_ (congrFun (V_main_arg0 m c) _)
  refine congrArg (V m c main_arg0) (funext fun (a : Fin 3) => Fin.ext ?_)
  refine (Window.rect_emb_val (cfg0.win 0) t (ix3 (0 : Fin 1) r q) a).trans ?_
  have hx : (cfg0.win 0).index t = ![(grid0.coords t 0).val, (grid0.coords t 1).val, 0] := by
    show ![(BitVec.ofNat 32 (grid0.coords t 0).val).toNat, (BitVec.ofNat 32 (grid0.coords t 1).val).toNat, 0] = _
    rw [BitVec.toNat_ofNat, BitVec.toNat_ofNat, Nat.mod_eq_of_lt (by omega), Nat.mod_eq_of_lt (by omega)]
  rw [hx]
  match a with
  | 0 => show (grid0.coords t 0).val * 1 + 0 = (grid0.coords t 0).val; omega
  | 1 => show (grid0.coords t 1).val * 512 + r.val = 512 * (grid0.coords t 1).val + r.val; omega
  | 2 => show 0 * 1024 + q.val = q.val; omega

theorem in1 (g : Fin 4) (k o : Fin 256) : (iblk m c 1 t (ix3 g k o) : EReal) = wOf (m ((c : Thread nD τ).loc main_arg1)) g k o := by
  refine Eq.trans ?_ (weights_read m c g k o)
  refine congrArg (V m c main_v2) (funext fun (a : Fin 3) => Fin.ext ?_)
  refine (Window.rect_emb_val (cfg0.win 1) t (ix3 g k o) a).trans ?_
  have hx : (cfg0.win 1).index t = ![0, 0, 0] := rfl
  rw [hx]
  match a with
  | 0 => show 0 * 4 + g.val = g.val; omega
  | 1 => show 0 * 256 + k.val = k.val; omega
  | 2 => show 0 * 256 + o.val = o.val; omega

theorem in2 (q : Fin 1024) : (iblk m c 2 t (ix2 (0 : Fin 1) q) : EReal) = sOf (m ((c : Thread nD τ).loc main_arg2)) q := by
  refine Eq.trans ?_ (scale_read m c q)
  refine congrArg (V m c main_v5) (funext fun (a : Fin 2) => Fin.ext ?_)
  refine (Window.rect_emb_val (cfg0.win 2) t (ix2 (0 : Fin 1) q) a).trans ?_
  have hx : (cfg0.win 2).index t = ![0, 0] := rfl
  rw [hx]
  match a with
  | 0 => rfl
  | 1 => show 0 * 1024 + q.val = q.val; omega

/-- The columns a point reads. -/
def cols : Fin 1024 → ℕ → EReal := colOf (m ((c : Thread nD τ).loc main_arg0)) (grid0.coords t 0)

/-- A point's first position. -/
def start : ℕ := 512 * (grid0.coords t 1).val

theorem in0_start (r : Fin 512) (q : Fin 1024) : (iblk m c 0 t (ix3 (0 : Fin 1) r q) : EReal) = cols m c t q (start t + r.val) := by
  unfold cols start
  exact in0 m c t r q

theorem kept (j : Fin 528) (q : Fin 1024) (hj : j.val < 16) :
    ((outsAt0 m c t.val t.isLt).2 (ix2 j q) : EReal) = ext (cols m c t) (start t + 512) q j.val := by
  by_cases h0 : t.val % 32 = 0
  · have hk := keep_A c (grid0.coords t) (ms0_0 t) (hs0_0 t) (ms0_1 t) (hs0_1 t) (ms0_2 t) (hs0_2 t) (ms0_3 t) (hs0_3 t) scM0_0 (Memref.isWhole_whole _)
      (iblk m c 0 t) (iblk m c 1 t) (iblk m c 2 t) (cols m c t) (start t) (in0_start m c t) ((hcond0_0 t).mpr h0) j q hj
    have e := congrArg Prod.snd (outsAt0_A m c t h0)
    dsimp only at e
    rw [e]
    exact hk
  · have hk := keep_B c (grid0.coords t) (ms0_0 t) (hs0_0 t) (ms0_1 t) (hs0_1 t) (ms0_2 t) (hs0_2 t) (ms0_3 t) (hs0_3 t) scM0_0 (Memref.isWhole_whole _)
      (iblk m c 0 t) (iblk m c 1 t) (iblk m c 2 t) (outsAt0 m c (t.val - 1) (Nat.lt_of_le_of_lt (Nat.sub_le _ _) t.isLt)).2 (cols m c t) (start t) (in0_start m c t) (fun h => h0 ((hcond0_0 t).mp h)) j q hj
    have e := congrArg Prod.snd (outsAt0_B m c t h0)
    dsimp only at e
    rw [e]
    exact hk

end Block

section Block
variable (t : Fin cfg0.N)

theorem before (h0 : ¬t.val % 32 = 0) (j : Fin 528) (q : Fin 1024) (hj : j.val < 16) :
    ((outsAt0 m c (t.val - 1) (Nat.lt_of_le_of_lt (Nat.sub_le _ _) t.isLt)).2 (ix2 j q) : EReal) = ext (cols m c t) (start t) q j.val := by
  have e0 := at_0 t
  have e1 := at_1 t
  have f0 := at_0 ⟨t.val - 1, Nat.lt_of_le_of_lt (Nat.sub_le _ _) t.isLt⟩
  have f1 := at_1 ⟨t.val - 1, Nat.lt_of_le_of_lt (Nat.sub_le _ _) t.isLt⟩
  refine (kept m c ⟨t.val - 1, Nat.lt_of_le_of_lt (Nat.sub_le _ _) t.isLt⟩ j q hj).trans ?_
  have hc : grid0.coords ⟨t.val - 1, Nat.lt_of_le_of_lt (Nat.sub_le _ _) t.isLt⟩ 0 = grid0.coords t 0 :=
    Fin.ext (f0.trans (Eq.trans (show (t.val - 1) / 32 = t.val / 32 by omega) e0.symm))
  have hs : start ⟨t.val - 1, Nat.lt_of_le_of_lt (Nat.sub_le _ _) t.isLt⟩ + 512 = start t := by
    unfold start
    rw [f1, e1]
    show 512 * ((t.val - 1) % 32) + 512 = 512 * (t.val % 32)
    omega
  unfold cols
  rw [hc, hs]

theorem stored (r : Fin 512) (q : Fin 1024) :
    ((outsAt0 m c t.val t.isLt).1 (ix3 (0 : Fin 1) r q) : EReal)
      = outv (cols m c t) (w1Of (iblk m c 1 t)) (s1Of (iblk m c 2 t)) (start t + r.val) (grp q) (plc q) := by
  by_cases h0 : t.val % 32 = 0
  · have hk := out_A c (grid0.coords t) (ms0_0 t) (hs0_0 t) (ms0_1 t) (hs0_1 t) (ms0_2 t) (hs0_2 t) (ms0_3 t) (hs0_3 t) scM0_0 (Memref.isWhole_whole _)
      (iblk m c 0 t) (iblk m c 1 t) (iblk m c 2 t) (cols m c t) (start t) rfl (in0_start m c t) ((hcond0_0 t).mpr h0)
      (by unfold start; rw [at_1 t, h0]) r q
    have e := congrArg Prod.fst (outsAt0_A m c t h0)
    dsimp only at e
    rw [e]
    exact hk
  · have hk := out_B c (grid0.coords t) (ms0_0 t) (hs0_0 t) (ms0_1 t) (hs0_1 t) (ms0_2 t) (hs0_2 t) (ms0_3 t) (hs0_3 t) scM0_0 (Memref.isWhole_whole _)
      (iblk m c 0 t) (iblk m c 1 t) (iblk m c 2 t) (outsAt0 m c (t.val - 1) (Nat.lt_of_le_of_lt (Nat.sub_le _ _) t.isLt)).2 (cols m c t) (start t) rfl (in0_start m c t) (fun h => h0 ((hcond0_0 t).mp h))
      (fun j q hj => before m c t h0 j q hj) r q
    have e := congrArg Prod.fst (outsAt0_B m c t h0)
    dsimp only at e
    rw [e]
    exact hk

theorem stored_value (r : Fin 512) (q : Fin 1024) :
    ((outsAt0 m c t.val t.isLt).1 (ix3 (0 : Fin 1) r q) : EReal)
      = value (m ((c : Thread nD τ).loc main_arg0)) (m ((c : Thread nD τ).loc main_arg1)) (m ((c : Thread nD τ).loc main_arg2)) (grid0.coords t 0) (start t + r.val) q := by
  refine (stored m c t r q).trans ?_
  have hw : w1Of (iblk m c 1 t) = wOf (m ((c : Thread nD τ).loc main_arg1)) := funext fun g => funext fun k => funext fun o => in1 m c t g k o
  have hs : s1Of (iblk m c 2 t) = sOf (m ((c : Thread nD τ).loc main_arg2)) := funext fun q => in2 m c t q
  rw [hw, hs]
  rfl

end Block

/-! ## The result -/

/-- The pooling mixer's result. -/
def whole3 : FVec Ideal S2x16384x1024 .bf16 := fun y =>
  value (m ((c : Thread nD τ).loc main_arg0)) (m ((c : Thread nD τ).loc main_arg1)) (m ((c : Thread nD τ).loc main_arg2)) (y 0) (y 1).val (y 2)

theorem result_3 : (dats m 0 c).arrAt 3 cfg0.N = whole3 m c := by
  refine (dats m 0 c).arrAt_eq_of_covers 3 _ ?_ fun t hf y => ?_
  · exact (cfg0.win 3).covers_of_indexMap_surj rfl (fun (a : Fin 3) => match a with | 0 => (by decide : 0 < 1) | 1 => (by decide : 0 < 512) | 2 => (by decide : 0 < 1024)) fun β => by
      obtain ⟨b0, hb0⟩ : ∃ b0 : Fin 2, b0.val = (β (0 : Fin 3)).val :=
        ⟨⟨(β (0 : Fin 3)).val, lt_of_lt_of_eq (β (0 : Fin 3)).isLt (show (2 + 1 - 1) / 1 = 2 by norm_num)⟩, rfl⟩
      obtain ⟨b1, hb1⟩ : ∃ b1 : Fin 32, b1.val = (β (1 : Fin 3)).val :=
        ⟨⟨(β (1 : Fin 3)).val, lt_of_lt_of_eq (β (1 : Fin 3)).isLt (show (16384 + 512 - 1) / 512 = 32 by norm_num)⟩, rfl⟩
      have h0 := b0.isLt
      have h1 := b1.isLt
      refine ⟨fun (a : Fin 2) => match a with | 0 => b0 | 1 => b1, fun (a : Fin 3) => ?_⟩
      match a with
      | 0 =>
        refine Eq.trans ?_ hb0
        show (BitVec.ofNat 32 b0.val).toNat = b0.val
        rw [BitVec.toNat_ofNat, Nat.mod_eq_of_lt (by omega)]
      | 1 =>
        refine Eq.trans ?_ hb1
        show (BitVec.ofNat 32 b1.val).toNat = b1.val
        rw [BitVec.toNat_ofNat, Nat.mod_eq_of_lt (by omega)]
      | 2 =>
        have hz : (β (2 : Fin 3)).val < 1 := lt_of_lt_of_eq (β (2 : Fin 3)).isLt (show (1024 + 1024 - 1) / 1024 = 1 by norm_num)
        show 0 = (β (2 : Fin 3)).val
        omega
  · have h0 : (grid0.coords t 0).val < 2 := (grid0.coords t 0).isLt
    have h1 : (grid0.coords t 1).val < 32 := (grid0.coords t 1).isLt
    have hx : (cfg0.win 3).index t = ![(grid0.coords t 0).val, (grid0.coords t 1).val, 0] := by
      show ![(BitVec.ofNat 32 (grid0.coords t 0).val).toNat, (BitVec.ofNat 32 (grid0.coords t 1).val).toNat, 0] = _
      rw [BitVec.toNat_ofNat, BitVec.toNat_ofNat, Nat.mod_eq_of_lt (by omega), Nat.mod_eq_of_lt (by omega)]
    obtain ⟨z, p, q, rfl⟩ : ∃ (z : Fin 1) (p : Fin 512) (q : Fin 1024), y = ix3 z p q :=
      ⟨y (0 : Fin 3), y (1 : Fin 3), y (2 : Fin 3), ValueIdx.eq_ix3 (n0 := 1) (n1 := 512) (n2 := 1024) y⟩
    obtain rfl : z = 0 := Subsingleton.elim _ _
    have hp := p.isLt
    have hemb : ((cfg0.win 3).blk t).view.emb (ix3 (0 : Fin 1) p q) = ix3 (grid0.coords t 0) (⟨start t + p.val, by unfold start; omega⟩ : Fin 16384) q := by
      refine funext fun (i : Fin 3) => Fin.ext ?_
      refine (Window.rect_emb_val (cfg0.win 3) t (ix3 (0 : Fin 1) p q) i).trans ?_
      rw [hx]
      match i with
      | 0 => show (grid0.coords t 0).val * 1 + 0 = (grid0.coords t 0).val; omega
      | 1 => show (grid0.coords t 1).val * 512 + p.val = 512 * (grid0.coords t 1).val + p.val; omega
      | 2 => show 0 * 1024 + q.val = q.val; omega
    have hv : value (m ((c : Thread nD τ).loc main_arg0)) (m ((c : Thread nD τ).loc main_arg1)) (m ((c : Thread nD τ).loc main_arg2)) (grid0.coords t 0) (start t + p.val) q
        = whole3 m c (ix3 (grid0.coords t 0) (⟨start t + p.val, by unfold start; omega⟩ : Fin 16384) q) := rfl
    have hs := (stored_value m c t p q).trans hv
    refine Eq.trans ?_ (hs.trans (congrArg (whole3 m c) hemb.symm))
    exact congrFun (after0_3 m c t) (ix3 (0 : Fin 1) p q)

end Cert.Kernel5Ideal.Pool

end
-- ==== Proof.MdValue.lean ====
/- The blocks the modulation's windows read, and from the stored blocks the result. -/
module

public import proofs.«01_k».proof.Proof.MdBody
public import Idealize.ShloMosaic.Lib.Pipeline.Covers
public import Idealize.ShloMosaic.Lib.Claim

@[expose] public section

set_option maxRecDepth 16384

noncomputable section

namespace Cert.Kernel6Ideal.Mod

open Cert.Kernel6Ideal.Gen
open Idealize.ShloMosaic.ValueIdx (ix1 ix2 ix3 ix4 ix5 contrEquiv1)
open Idealize.ShloMosaic hiding ix1 ix2 ix3 ix4 ix5
open Idealize.ShloMosaic.TcCoe
open Idealize.ShloMosaic.Pipeline (Dat Cfg Window)

variable (m : (ℓ : Loc nD τ sig) → Buf (Elt Ideal) ℓ) (c : Dev nD)

/-! ## The windows' arrays as the region finds them -/

theorem rows_read (r : Fin 8) (k : Fin 2048) : (V m c main_v0 (ix2 r k) : EReal) = padded (m ((c : Thread nD τ).loc main_arg0)) (ix2 r k) := by
  entry_read
  rfl

theorem bias_read (l : Fin 2) (q : Fin 12288) : (V m c main_v1 (ix3 l (0 : Fin 1) q) : EReal) = m ((c : Thread nD τ).loc main_arg2) (ix2 l q) := by
  entry_read
  exact shapeCast_apply (m ((c : Thread nD τ).loc main_arg2) : FVec Ideal S2x12288 .f32) shapeCasts_S2x12288_S2x1x12288 (ix3 l (0 : Fin 1) q) (ix2 l q)
    ((Shape.rowMajor_val_two (d := ![2, 12288]) _).trans (Eq.trans
      (by show l.val * 12288 + q.val = (l.val * 1 + 0) * 12288 + q.val; omega) (Shape.rowMajor_val_three (d := ![2, 1, 12288]) _).symm))

/-! ## The blocks of a point -/

section Block
variable (t : Fin cfg0.N)

theorem coord_0 : (grid0.coords t 0).val < 2 := (grid0.coords t 0).isLt

theorem coord_1 : (grid0.coords t 1).val < 12 := (grid0.coords t 1).isLt

/-- The column of the result a point's column stands at. -/
def colAt (o : Fin 1024) : Fin 12288 :=
  ⟨1024 * (grid0.coords t 1).val + o.val, by have h1 := coord_1 t; have ho := o.isLt; omega⟩

theorem in0 (r : Fin 8) (k : Fin 2048) : (iblk m c 0 t (ix2 r k) : EReal) = padded (m ((c : Thread nD τ).loc main_arg0)) (ix2 r k) := by
  refine Eq.trans ?_ (rows_read m c r k)
  refine congrArg (V m c main_v0) (funext fun (a : Fin 2) => Fin.ext ?_)
  refine (Window.rect_emb_val (cfg0.win 0) t (ix2 r k) a).trans ?_
  have hx : (cfg0.win 0).index t = ![0, 0] := rfl
  rw [hx]
  match a with
  | 0 => show 0 * 8 + r.val = r.val; omega
  | 1 => show 0 * 2048 + k.val = k.val; omega

theorem in1 (k : Fin 2048) (o : Fin 1024) :
    (iblk m c 1 t (ix3 (0 : Fin 1) k o) : EReal) = m ((c : Thread nD τ).loc main_arg1) (ix3 (grid0.coords t 0) k (colAt t o)) := by
  have h0 := coord_0 t
  have h1 := coord_1 t
  refine Eq.trans ?_ (congrFun (V_main_arg1 m c) _)
  refine congrArg (V m c main_arg1) (funext fun (a : Fin 3) => Fin.ext ?_)
  refine (Window.rect_emb_val (cfg0.win 1) t (ix3 (0 : Fin 1) k o) a).trans ?_
  have hx : (cfg0.win 1).index t = ![(grid0.coords t 0).val, 0, (grid0.coords t 1).val] := by
    show ![(BitVec.ofNat 32 (grid0.coords t 0).val).toNat, 0, (BitVec.ofNat 32 (grid0.coords t 1).val).toNat] = _
    rw [BitVec.toNat_ofNat, BitVec.toNat_ofNat, Nat.mod_eq_of_lt (by omega), Nat.mod_eq_of_lt (by omega)]
  rw [hx]
  match a with
  | 0 => show (grid0.coords t 0).val * 1 + 0 = (grid0.coords t 0).val; omega
  | 1 => show 0 * 2048 + k.val = k.val; omega
  | 2 => show (grid0.coords t 1).val * 1024 + o.val = 1024 * (grid0.coords t 1).val + o.val; omega

theorem in2 (o : Fin 1024) :
    (iblk m c 2 t (ix3 (0 : Fin 1) (0 : Fin 1) o) : EReal) = m ((c : Thread nD τ).loc main_arg2) (ix2 (grid0.coords t 0) (colAt t o)) := by
  have h0 := coord_0 t
  have h1 := coord_1 t
  refine Eq.trans ?_ (bias_read m c (grid0.coords t 0) (colAt t o))
  refine congrArg (V m c main_v1) (funext fun (a : Fin 3) => Fin.ext ?_)
  refine (Window.rect_emb_val (cfg0.win 2) t (ix3 (0 : Fin 1) (0 : Fin 1) o) a).trans ?_
  have hx : (cfg0.win 2).index t = ![(grid0.coords t 0).val, 0, (grid0.coords t 1).val] := by
    show ![(BitVec.ofNat 32 (grid0.coords t 0).val).toNat, 0, (BitVec.ofNat 32 (grid0.coords t 1).val).toNat] = _
    rw [BitVec.toNat_ofNat, BitVec.toNat_ofNat, Nat.mod_eq_of_lt (by omega), Nat.mod_eq_of_lt (by omega)]
  rw [hx]
  match a with
  | 0 => show (grid0.coords t 0).val * 1 + 0 = (grid0.coords t 0).val; omega
  | 1 => rfl
  | 2 => show (grid0.coords t 1).val * 1024 + o.val = 1024 * (grid0.coords t 1).val + o.val; omega

theorem stored_value (r : Fin 8) (o : Fin 1024) :
    (out0_3 (F := Ideal) (iblk m c 0 t) (iblk m c 1 t) (iblk m c 2 t) (ix3 (0 : Fin 1) r o) : EReal)
      = value (m ((c : Thread nD τ).loc main_arg0)) (m ((c : Thread nD τ).loc main_arg1)) (m ((c : Thread nD τ).loc main_arg2)) (grid0.coords t 0) r (colAt t o) := by
  refine (stored _ _ _ r o).trans ?_
  refine congrArg₂ (HAdd.hAdd (α := EReal) (β := EReal) (γ := EReal)) (Finset.sum_congr rfl fun k _ => ?_) (in2 m c t o)
  exact congrArg₂ (HMul.hMul (α := EReal) (β := EReal) (γ := EReal)) (congrArg gate (in0 m c t r k)) (in1 m c t k o)

end Block

/-! ## The result -/

/-- The modulation's result. -/
def whole3 : FVec Ideal S2x8x12288 .f32 := fun y =>
  value (m ((c : Thread nD τ).loc main_arg0)) (m ((c : Thread nD τ).loc main_arg1)) (m ((c : Thread nD τ).loc main_arg2)) (y 0) (y 1) (y 2)

theorem result_3 : (dats m 0 c).arrAt 3 cfg0.N = whole3 m c := by
  refine (dats m 0 c).arrAt_eq_of_covers 3 _ ?_ fun t hf y => ?_
  · exact (cfg0.win 3).covers_of_indexMap_surj rfl (fun (a : Fin 3) => match a with | 0 => (by decide : 0 < 1) | 1 => (by decide : 0 < 8) | 2 => (by decide : 0 < 1024)) fun β => by
      obtain ⟨b0, hb0⟩ : ∃ b0 : Fin 2, b0.val = (β (0 : Fin 3)).val :=
        ⟨⟨(β (0 : Fin 3)).val, lt_of_lt_of_eq (β (0 : Fin 3)).isLt (show (2 + 1 - 1) / 1 = 2 by norm_num)⟩, rfl⟩
      obtain ⟨b1, hb1⟩ : ∃ b1 : Fin 12, b1.val = (β (2 : Fin 3)).val :=
        ⟨⟨(β (2 : Fin 3)).val, lt_of_lt_of_eq (β (2 : Fin 3)).isLt (show (12288 + 1024 - 1) / 1024 = 12 by norm_num)⟩, rfl⟩
      have h0 := b0.isLt
      have h1 := b1.isLt
      refine ⟨fun (a : Fin 2) => match a with | 0 => b0 | 1 => b1, fun (a : Fin 3) => ?_⟩
      match a with
      | 0 =>
        refine Eq.trans ?_ hb0
        show (BitVec.ofNat 32 b0.val).toNat = b0.val
        rw [BitVec.toNat_ofNat, Nat.mod_eq_of_lt (by omega)]
      | 1 =>
        have hz : (β (1 : Fin 3)).val < 1 := lt_of_lt_of_eq (β (1 : Fin 3)).isLt (show (8 + 8 - 1) / 8 = 1 by norm_num)
        show 0 = (β (1 : Fin 3)).val
        omega
      | 2 =>
        refine Eq.trans ?_ hb1
        show (BitVec.ofNat 32 b1.val).toNat = b1.val
        rw [BitVec.toNat_ofNat, Nat.mod_eq_of_lt (by omega)]
  · have h0 := coord_0 t
    have h1 := coord_1 t
    have hx : (cfg0.win 3).index t = ![(grid0.coords t 0).val, 0, (grid0.coords t 1).val] := by
      show ![(BitVec.ofNat 32 (grid0.coords t 0).val).toNat, 0, (BitVec.ofNat 32 (grid0.coords t 1).val).toNat] = _
      rw [BitVec.toNat_ofNat, BitVec.toNat_ofNat, Nat.mod_eq_of_lt (by omega), Nat.mod_eq_of_lt (by omega)]
    obtain ⟨z, r, o, rfl⟩ : ∃ (z : Fin 1) (r : Fin 8) (o : Fin 1024), y = ix3 z r o :=
      ⟨y (0 : Fin 3), y (1 : Fin 3), y (2 : Fin 3), ValueIdx.eq_ix3 (n0 := 1) (n1 := 8) (n2 := 1024) y⟩
    obtain rfl : z = 0 := Subsingleton.elim _ _
    have hemb : ((cfg0.win 3).blk t).view.emb (ix3 (0 : Fin 1) r o) = ix3 (grid0.coords t 0) r (colAt t o) := by
      refine funext fun (i : Fin 3) => Fin.ext ?_
      refine (Window.rect_emb_val (cfg0.win 3) t (ix3 (0 : Fin 1) r o) i).trans ?_
      rw [hx]
      match i with
      | 0 => show (grid0.coords t 0).val * 1 + 0 = (grid0.coords t 0).val; omega
      | 1 => show 0 * 8 + r.val = r.val; omega
      | 2 => show (grid0.coords t 1).val * 1024 + o.val = 1024 * (grid0.coords t 1).val + o.val; omega
    have hv : value (m ((c : Thread nD τ).loc main_arg0)) (m ((c : Thread nD τ).loc main_arg1)) (m ((c : Thread nD τ).loc main_arg2)) (grid0.coords t 0) r (colAt t o)
        = whole3 m c (ix3 (grid0.coords t 0) r (colAt t o)) := rfl
    have hs := (stored_value m c t r o).trans hv
    refine Eq.trans ?_ (hs.trans (congrArg (whole3 m c) hemb.symm))
    exact congrFun (after0_3 m c t) (ix3 (0 : Fin 1) r o)

end Cert.Kernel6Ideal.Mod

end
-- ==== Proof.DsBody.lean ====
/- The places of the rows: the plain formula, and the block the body leaves. -/
module

public import proofs.«01_k».proof.Proof.Gen.Kernel7Ideal.Value
public import Idealize.ShloMosaic.Lib.Pipeline.ValueKit.Tiles
public import Idealize.ShloMosaic.Lib.Pipeline.ValueKit.Basic
public import Idealize.ShloMosaic.Lib.WritesUnit
public import Idealize.ShloMosaic.Lib.WholeRead
public import Idealize.ShloMosaic.Lib.VecWindow
public import Idealize.ShloMosaic.Lib.KernelVsHost
public import Idealize.ShloMosaic.Lib.ValueIdxCore
public import Idealize.ShloMosaic.Lib.Pointwise.Tactic
public import Idealize.ShloMosaic.Lib.IdealHost
public import Idealize.ShloMosaic.PureOps.Ideal.Laws

@[expose] public section

set_option maxRecDepth 16384

noncomputable section

namespace Cert.Kernel7Ideal.Dest

open Cert.Kernel7Ideal.Gen
open Idealize.ShloMosaic.ValueIdx (ix1 ix2 ix3 ix4 ix5 contrEquiv1)
open Idealize.ShloMosaic hiding ix1 ix2 ix3 ix4 ix5
open Idealize.ShloMosaic.TcCoe Idealize.SL.Sem

/-- One comparison: the start of segment `k` is added where the word is `k`. -/
def step (w : BitVec 32) (s : ℕ → BitVec 32) (a : BitVec 32) (k : ℕ) : BitVec 32 :=
  IntOp.addi a (Scalar.select (IntOp.cmpi .eq w (BitVec.ofNat 32 k)) (s k) 0#32)

theorem step_eq (w : BitVec 32) (s : ℕ → BitVec 32) (a : BitVec 32) (k : ℕ) (hk : k < 4294967296) :
    step w s a k = if w.toNat = k then a + s k else a := by
  unfold step IntOp.cmpi
  have hc : (w = BitVec.ofNat 32 k) ↔ w.toNat = k := by
    constructor
    · intro h
      rw [h, BitVec.toNat_ofNat]
      exact Nat.mod_eq_of_lt hk
    · intro h
      rw [← h, BitVec.ofNat_toNat, BitVec.setWidth_eq]
  by_cases h : w.toNat = k
  · have e : (w == BitVec.ofNat 32 k) = true := beq_iff_eq.2 (hc.2 h)
    rw [if_pos h]
    dsimp only
    rw [e]
    rfl
  · have e : (w == BitVec.ofNat 32 k) = false := beq_eq_false_iff_ne.2 fun h' => h (hc.1 h')
    rw [if_neg h]
    dsimp only
    rw [e]
    exact BitVec.add_zero a

/-- All the comparisons one after another add just the start of the word's own segment. -/
theorem steps_eq (w : BitVec 32) (s : ℕ → BitVec 32) (a : BitVec 32) (n : ℕ) (hn : n ≤ 4294967296) :
    (List.range n).foldl (step w s) a = if w.toNat < n then a + s w.toNat else a := by
  induction n with
  | zero => rfl
  | succ n ih =>
    rw [List.range_succ, List.foldl_append, ih (by omega)]
    show step w s _ n = _
    rw [step_eq _ _ _ _ (by omega)]
    by_cases h : w.toNat = n
    · subst h
      rw [if_pos rfl, if_neg (by omega), if_pos (by omega)]
    · rw [if_neg h]
      by_cases h' : w.toNat < n
      · rw [if_pos h', if_pos (by omega)]
      · rw [if_neg h', if_neg (by omega)]

/-- The starts, read by a number. -/
def startAt (x : IVec S32 32) (k : ℕ) : BitVec 32 := if h : k < 32 then x (ix1 (⟨k, h⟩ : Fin 32)) else 0#32

/-- The place of a row: its rank in its segment, and the segment's start. -/
def value (x0 : IVec S32 32) (x1 x2 : IVec S4x32768 32) : IVec S4x32768 32 :=
  fun y => if (x1 y).toNat < 32 then x2 y + startAt x0 (x1 y).toNat else x2 y

theorem start_apply (arg0 : Memref sig .tc .smem S32 .i32) (harg0 : arg0.IsWhole) (x0 : IVec S32 32) (k : ℕ) (hk : k < 32)
    (inb : ∀ a, (![k] : Fin 1 → ℕ) a + (![1] : Fin 1 → ℕ) a ≤ S32.size a) (p : 0 < (Rect.unit (s := S32) ![k] ![1] inb).shape.numel) :
    View.readAt (Elt Ideal) arg0.view (Rect.unit (s := S32) ![k] ![1] inb).toLoadRect (harg0.unread (Val := Elt Ideal) x0) (Shape.Idx.first p)
      = startAt x0 k := by
  refine (harg0.readAt_unread (Val := Elt Ideal) x0 _ _).trans ?_
  unfold startAt
  rw [dif_pos hk]
  refine congrArg x0 (funext fun a => Fin.ext ?_)
  match a with
  | 0 => rfl

theorem whole_apply (arg : Memref sig .tc .vmem S4x32768 .i32) (harg : arg.IsWhole) (x : IVec S4x32768 32) :
    View.readAt (Elt Ideal) arg.view (Rect.unit (s := S4x32768) ![0, 0] ![4, 32768] inb_S4x32768_S4x32768_0_0).toLoadRect (harg.unread (Val := Elt Ideal) x) = x := by
  exact (View.readAt_full (Val := Elt Ideal) _ _ _).trans (harg.read_unread (Val := Elt Ideal) x)

theorem part_0 (w r : IVec S4x32768 32) (s : ℕ → BitVec 32) (y : S4x32768.Idx) :
    k0_pay2 (F := Ideal) w r (s 0) (s 1) (s 2) (s 3) (s 4) y = [0, 1, 2, 3, 4].foldl (step (w y) s) (r y) := rfl

theorem part_5 (w r : IVec S4x32768 32) (s : ℕ → BitVec 32) (y : S4x32768.Idx) :
    k0_pay4 (F := Ideal) w r (k0_pay3 (F := Ideal) w) (s 5) (s 6) (s 7) (s 8) (s 9) (s 10) y = [5, 6, 7, 8, 9, 10].foldl (step (w y) s) (r y) := rfl

theorem part_11 (w r : IVec S4x32768 32) (s : ℕ → BitVec 32) (y : S4x32768.Idx) :
    k0_pay6 (F := Ideal) w r (k0_pay5 (F := Ideal) w) (s 11) (s 12) (s 13) (s 14) (s 15) (s 16) y = [11, 12, 13, 14, 15, 16].foldl (step (w y) s) (r y) := rfl

theorem part_17 (w r : IVec S4x32768 32) (s : ℕ → BitVec 32) (y : S4x32768.Idx) :
    k0_pay8 (F := Ideal) w r (k0_pay7 (F := Ideal) w) (s 17) (s 18) (s 19) (s 20) (s 21) (s 22) y = [17, 18, 19, 20, 21, 22].foldl (step (w y) s) (r y) := rfl

theorem part_23 (w r : IVec S4x32768 32) (s : ℕ → BitVec 32) (y : S4x32768.Idx) :
    k0_pay10 (F := Ideal) w r (k0_pay9 (F := Ideal) w) (s 23) (s 24) (s 25) (s 26) (s 27) (s 28) y = [23, 24, 25, 26, 27, 28].foldl (step (w y) s) (r y) := rfl

theorem part_29 (w r : IVec S4x32768 32) (s : ℕ → BitVec 32) (y : S4x32768.Idx) :
    k0_pay1 (F := Ideal) w r (k0_pay11 (F := Ideal) w) (s 29) (s 30) (s 31) y = [29, 30, 31].foldl (step (w y) s) (r y) := rfl

theorem parts (w r : IVec S4x32768 32) (s : ℕ → BitVec 32) (y : S4x32768.Idx) :
    k0_pay1 (F := Ideal) w (k0_pay10 (F := Ideal) w (k0_pay8 (F := Ideal) w (k0_pay6 (F := Ideal) w (k0_pay4 (F := Ideal) w (k0_pay2 (F := Ideal) w r (s 0) (s 1) (s 2) (s 3) (s 4)) (k0_pay3 (F := Ideal) w) (s 5) (s 6) (s 7) (s 8) (s 9) (s 10)) (k0_pay5 (F := Ideal) w) (s 11) (s 12) (s 13) (s 14) (s 15) (s 16)) (k0_pay7 (F := Ideal) w) (s 17) (s 18) (s 19) (s 20) (s 21) (s 22)) (k0_pay9 (F := Ideal) w) (s 23) (s 24) (s 25) (s 26) (s 27) (s 28)) (k0_pay11 (F := Ideal) w) (s 29) (s 30) (s 31) y
      = (List.range 32).foldl (step (w y) s) (r y) := by
  rw [part_29, part_23, part_17, part_11, part_5, part_0]
  rfl

theorem stored (c : Dev nD) (arg0 : Memref sig .tc .smem S32 .i32) (harg0 : arg0.IsWhole) (arg1 : Memref sig .tc .vmem S4x32768 .i32) (harg1 : arg1.IsWhole)
    (arg2 : Memref sig .tc .vmem S4x32768 .i32) (harg2 : arg2.IsWhole) (arg3 : Memref sig .tc .vmem S4x32768 .i32) (harg3 : arg3.IsWhole)
    (x0 : IVec S32 32) (x1 x2 : IVec S4x32768 32) :
    out0_A_3 (F := Ideal) c arg0 harg0 arg1 harg1 arg2 harg2 arg3 harg3 x0 x1 x2 = value x0 x1 x2 := by
  unfold out0_A_3 kernelRun0_A
  dsimp only
  refine (View.read_writes_full (Val := Elt Ideal) _ _ _ _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42]
  rw [whole_apply arg1 harg1 x1, whole_apply arg2 harg2 x2]
  rw [start_apply arg0 harg0 x0 0 (by decide), start_apply arg0 harg0 x0 1 (by decide), start_apply arg0 harg0 x0 2 (by decide), start_apply arg0 harg0 x0 3 (by decide), start_apply arg0 harg0 x0 4 (by decide), start_apply arg0 harg0 x0 5 (by decide), start_apply arg0 harg0 x0 6 (by decide), start_apply arg0 harg0 x0 7 (by decide), start_apply arg0 harg0 x0 8 (by decide), start_apply arg0 harg0 x0 9 (by decide), start_apply arg0 harg0 x0 10 (by decide), start_apply arg0 harg0 x0 11 (by decide), start_apply arg0 harg0 x0 12 (by decide), start_apply arg0 harg0 x0 13 (by decide), start_apply arg0 harg0 x0 14 (by decide), start_apply arg0 harg0 x0 15 (by decide), start_apply arg0 harg0 x0 16 (by decide), start_apply arg0 harg0 x0 17 (by decide), start_apply arg0 harg0 x0 18 (by decide), start_apply arg0 harg0 x0 19 (by decide), start_apply arg0 harg0 x0 20 (by decide), start_apply arg0 harg0 x0 21 (by decide), start_apply arg0 harg0 x0 22 (by decide), start_apply arg0 harg0 x0 23 (by decide), start_apply arg0 harg0 x0 24 (by decide), start_apply arg0 harg0 x0 25 (by decide), start_apply arg0 harg0 x0 26 (by decide), start_apply arg0 harg0 x0 27 (by decide), start_apply arg0 harg0 x0 28 (by decide), start_apply arg0 harg0 x0 29 (by decide), start_apply arg0 harg0 x0 30 (by decide), start_apply arg0 harg0 x0 31 (by decide)]
  funext y
  exact (parts x1 x2 (startAt x0) y).trans (steps_eq (x1 y) (startAt x0) (x2 y) 32 (by decide))

end Cert.Kernel7Ideal.Dest
-- ==== Proof.DsRef.lean ====
/- The reference of the places read at an entry: the plain formula, at expert numbers in their range. -/
module

public import proofs.«01_k».proof.Proof.DsBody
public import proofs.«01_k».proof.Proof.UpSide
public import proofs.«01_k».proof.Proof.Gen.Reference7Ideal.Read
public import proofs.«01_k».proof.Pre_experts
public import Idealize.ShloMosaic.Lib.Routing.Ops

@[expose] public section

set_option maxRecDepth 16384

noncomputable section

namespace Cert.Reference7Ideal.Dest

open Cert.Reference7Ideal Cert.Reference7Ideal.Gen Cert.Reference7Ideal.Read
open Idealize.ShloMosaic.ValueIdx (ix1 ix2 ix3 ix4 ix5)
open Cert.Kernel7Ideal.Dest (startAt value)
open Cert.KernelIdeal.Up (word_range word_nonneg and_one)
open Idealize.ShloMosaic hiding ix1 ix2 ix3 ix4 ix5

/-- The precondition, read: every expert's number is one of the experts. -/
theorem words_of_pre {F : FTy → Type} [FloatOps F] [Cert.Pre_experts.Facts] {x0 : IVec S32 32} {x1 x2 : IVec S4x32768 32}
    (h : Cert.Pre_experts.fn (F := F) x0 x1 x2 = fun _ => 1#1) : ∀ i, (x1 i).toNat < 32 := by
  haveI : Subsingleton Cert.Pre_experts.S_.Idx := ⟨fun a b => funext fun k => k.elim0⟩
  have h0 := congrFun h (fun a => a.elim0)
  unfold Cert.Pre_experts.fn at h0
  intro i
  obtain ⟨a, b⟩ := and_one (Host.reduce_andi_all _ _ _ _ _ h0 i)
  exact word_range (n := 32) (by decide) (word_nonneg a) b

/-- A start, by its expert's number. -/
theorem gather_start {α : Type} (x : S32.Idx → α) (idx : IVec S4x32768x1 32) (r : Fin 4) (k : Fin 32768) (e : Fin 32)
    (he : idx (ix3 r k (0 : Fin 1)) = BitVec.ofNat 32 e.val) :
    Host.gather gather_S32_S4x32768x1_S4x32768_n_0_n_n_0_2_1 x idx (ix2 r k) = x (ix1 e) := by
  unfold Host.gather
  refine congrArg x (funext fun a => Fin.ext ?_)
  let d := gather_S32_S4x32768x1_S4x32768_n_0_n_n_0_2_1
  match a with
  | ⟨0, _⟩ =>
    show d.start (ix2 r k) idx 0 + d.batchCoord (ix2 r k) 0 + d.offCoord (ix2 r k) 0 = e.val
    rw [d.batchCoord_eq_zero _ _ (by decide), d.offCoord_eq_zero _ _ (by decide)]
    simp only [Nat.add_zero]
    unfold GatherDims.start
    rw [dif_pos (show (0 : Fin 1) ∈ d.startIndexMap by decide)]
    have hsi : d.siIdx (ix2 r k) ⟨d.startIndexMap.idxOf 0, List.idxOf_lt_length_iff.2 (by decide)⟩ = ix3 r k (0 : Fin 1) := by
      funext b'
      match b' with
      | ⟨0, _⟩ => rfl
      | ⟨1, _⟩ => rfl
      | ⟨2, _⟩ => rfl
    have hbl := e.isLt
    rw [hsi, he, StableHlo.Predicate.toInt_ofNat_small _ (by omega)]
    show min ((e.val : Int)).toNat 31 = e.val
    omega

theorem expert_word {w : BitVec 32} (hl : w.toNat < 32) : Scalar.select (IntOp.cmpi .slt w 0#32) (IntOp.addi w 32#32) w = BitVec.ofNat 32 w.toNat := by
  have e : w.slt 0#32 = false := by
    rw [BitVec.slt_eq_decide, BitVec.toInt_eq_toNat_cond, if_pos (by omega)]
    exact decide_eq_false (by simp)
  unfold IntOp.cmpi
  dsimp only
  rw [e]
  show w = _
  exact (BitVec.eq_of_toNat_eq (by rw [BitVec.toNat_ofNat]; exact (Nat.mod_eq_of_lt (by omega)).symm))

variable (x0 : IVec S32 32) (x1 x2 : IVec S4x32768 32) (h : ∀ i, (x1 i).toNat < 32)

include h in
theorem index_eq (r : Fin 4) (k : Fin 32768) : val_main_v5 (F := Ideal) x1 (ix3 r k (0 : Fin 1)) = BitVec.ofNat 32 (x1 (ix2 r k)).toNat := by
  have e : idx_main_v5 (ix3 r k (0 : Fin 1)) = ix2 r k := funext fun (a : Fin 2) => by
    match a with
    | 0 => rfl
    | 1 => rfl
  rw [val_main_v5_apply, e, val_main_v4_apply, val_main_v1_apply, val_main_v3_apply, val_main_v0_apply, val_main_v2_apply, val_main_c_apply, val_main_c_0_apply]
  exact expert_word (h _)

include h in
theorem reference_value : val_main_v7 (F := Ideal) x0 x1 x2 = value x0 x1 x2 := by
  funext y
  obtain ⟨r, k, rfl⟩ : ∃ (r : Fin 4) (k : Fin 32768), y = ix2 r k :=
    ⟨y (0 : Fin 2), y (1 : Fin 2), ValueIdx.eq_ix2 (n0 := 4) (n1 := 32768) y⟩
  have hw := h (ix2 r k)
  rw [val_main_v7_apply]
  unfold val_main_v6 value startAt
  rw [gather_start x0 _ r k ⟨(x1 (ix2 r k)).toNat, hw⟩ (index_eq x1 h r k), if_pos hw, dif_pos hw]
  exact BitVec.add_comm _ _

end Cert.Reference7Ideal.Dest

end
-- ==== Proof.DsValue.lean ====
/- The blocks the places' windows read, and from the stored block the result. -/
module

public import proofs.«01_k».proof.Proof.DsBody
public import Idealize.ShloMosaic.Lib.Pipeline.Covers
public import Idealize.ShloMosaic.Lib.Claim

@[expose] public section

set_option maxRecDepth 16384

noncomputable section

namespace Cert.Kernel7Ideal.Dest

open Cert.Kernel7Ideal.Gen
open Idealize.ShloMosaic.ValueIdx (ix1 ix2 ix3 ix4 ix5 contrEquiv1)
open Idealize.ShloMosaic hiding ix1 ix2 ix3 ix4 ix5
open Idealize.ShloMosaic.TcCoe
open Idealize.ShloMosaic.Pipeline (Dat Cfg Window)

variable (m : (ℓ : Loc nD τ sig) → Buf (Elt Ideal) ℓ) (c : Dev nD) (t : Fin cfg0.N)

theorem in0 : iblk m c 0 t = m ((c : Thread nD τ).loc main_arg0) := by
  funext y
  refine congrArg (V m c main_arg0) (funext fun (a : Fin 1) => Fin.ext ?_)
  refine (Window.rect_emb_val (cfg0.win 0) t y a).trans ?_
  match a with
  | 0 => exact Nat.zero_add _

theorem in1 : iblk m c 1 t = m ((c : Thread nD τ).loc main_arg1) := by
  funext y
  refine congrArg (V m c main_arg1) (funext fun (a : Fin 2) => Fin.ext ?_)
  refine (Window.rect_emb_val (cfg0.win 1) t y a).trans ?_
  match a with
  | 0 => show 0 * 4 + (y (0 : Fin 2)).val = (y (0 : Fin 2)).val; omega
  | 1 => show 0 * 32768 + (y (1 : Fin 2)).val = (y (1 : Fin 2)).val; omega

theorem in2 : iblk m c 2 t = m ((c : Thread nD τ).loc main_arg2) := by
  funext y
  refine congrArg (V m c main_arg2) (funext fun (a : Fin 2) => Fin.ext ?_)
  refine (Window.rect_emb_val (cfg0.win 2) t y a).trans ?_
  match a with
  | 0 => show 0 * 4 + (y (0 : Fin 2)).val = (y (0 : Fin 2)).val; omega
  | 1 => show 0 * 32768 + (y (1 : Fin 2)).val = (y (1 : Fin 2)).val; omega

/-- The places. -/
def whole3 : IVec S4x32768 32 :=
  value (m ((c : Thread nD τ).loc main_arg0)) (m ((c : Thread nD τ).loc main_arg1)) (m ((c : Thread nD τ).loc main_arg2))

theorem result_3 : (dats m 0 c).arrAt 3 cfg0.N = whole3 m c := by
  refine (dats m 0 c).arrAt_eq_of_covers 3 _ ?_ fun t hf y => ?_
  · exact (cfg0.win 3).covers_of_indexMap_surj rfl (fun (a : Fin 2) => match a with | 0 => (by decide : 0 < 4) | 1 => (by decide : 0 < 32768)) fun β => by
      refine ⟨(fun a => a.elim0), fun (a : Fin 2) => ?_⟩
      match a with
      | 0 =>
        have hz : (β (0 : Fin 2)).val < 1 := lt_of_lt_of_eq (β (0 : Fin 2)).isLt (show (4 + 4 - 1) / 4 = 1 by norm_num)
        show 0 = (β (0 : Fin 2)).val
        omega
      | 1 =>
        have hz : (β (1 : Fin 2)).val < 1 := lt_of_lt_of_eq (β (1 : Fin 2)).isLt (show (32768 + 32768 - 1) / 32768 = 1 by norm_num)
        show 0 = (β (1 : Fin 2)).val
        omega
  · have hemb : ((cfg0.win 3).blk t).view.emb y = y := by
      refine funext fun (i : Fin 2) => Fin.ext ?_
      refine (Window.rect_emb_val (cfg0.win 3) t y i).trans ?_
      match i with
      | 0 => show 0 * 4 + (y (0 : Fin 2)).val = (y (0 : Fin 2)).val; omega
      | 1 => show 0 * 32768 + (y (1 : Fin 2)).val = (y (1 : Fin 2)).val; omega
    have hs := stored c (ms0_0 t) (hs0_0 t) (ms0_1 t) (hs0_1 t) (ms0_2 t) (hs0_2 t) (ms0_3 t) (hs0_3 t) (iblk m c 0 t) (iblk m c 1 t) (iblk m c 2 t)
    rw [in0 m c t, in1 m c t, in2 m c t] at hs
    refine Eq.trans ?_ (congrArg (whole3 m c) hemb.symm)
    refine (congrFun (after0_3 m c t) y).trans ?_
    unfold outsAt0
    rw [in0 m c t, in1 m c t, in2 m c t]
    exact congrFun hs y

end Cert.Kernel7Ideal.Dest

end
-- ==== Proof.lean ====
/- The proof of the certificate's claim about the seven calls: the experts' frames from one run of its
   launch (Proof/UpRun.lean, Proof/DnRun.lean), its values from Proof/UpValue.lean and Proof/DnValue.lean;
   the input projection's values from Proof/InValue.lean, the compression's from Proof/CpValue.lean,
   the pooling mixer's from Proof/PlValue.lean, the modulation's from Proof/MdValue.lean, the places of the rows from Proof/DsValue.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_tables
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_tables2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_experts
public import proofs.«01_k».proof.Proof.UpRun
public import proofs.«01_k».proof.Proof.UpSide
public import proofs.«01_k».proof.Proof.UpRef
public import proofs.«01_k».proof.Proof.UpValue
public import proofs.«01_k».proof.Proof.DnRun
public import proofs.«01_k».proof.Proof.DnSide
public import proofs.«01_k».proof.Proof.DnRef
public import proofs.«01_k».proof.Proof.DnValue
public import proofs.«01_k».proof.Proof.InValue
public import proofs.«01_k».proof.Proof.CpPlain
public import proofs.«01_k».proof.Proof.CpRef
public import proofs.«01_k».proof.Proof.CpBody
public import proofs.«01_k».proof.Proof.CpValue
public import proofs.«01_k».proof.Proof.InRef
public import proofs.«01_k».proof.Proof.PlPlain
public import proofs.«01_k».proof.Proof.PlRef
public import proofs.«01_k».proof.Proof.MdBody
public import proofs.«01_k».proof.Proof.MdRef
public import proofs.«01_k».proof.Proof.PlBody
public import proofs.«01_k».proof.Proof.PlStores
public import proofs.«01_k».proof.Proof.PlValue
public import proofs.«01_k».proof.Proof.MdValue
public import proofs.«01_k».proof.Proof.DsBody
public import proofs.«01_k».proof.Proof.DsRef
public import proofs.«01_k».proof.Proof.DsValue
public import Idealize.ShloMosaic.Lib.Quiescent
public import Idealize.ShloMosaic.Adequacy
public import Idealize.ShloMosaic.Init

@[expose] public section

noncomputable section

namespace Cert.Proof

open Idealize.ShloMosaic Idealize.SL.Sem

theorem frame_KernelIdeal : Cert.quiescent_KernelIdeal (hKernelIdeal := Cert.KernelIdeal.Gen.facts) (hPre_tables := Cert.Pre_tables.Gen.facts) := by
  intro m ρ hp
  haveI := Cert.Pre_tables.Gen.facts
  exact (θ_run Cert.KernelIdeal.defs _ _).mono (fun _ h => ⟨fun c => (h.1 c).2, h.2⟩)
    (Cert.KernelIdeal.Up.run_main m ρ (Cert.KernelIdeal.Up.ok_of_args m (Cert.KernelIdeal.Up.words_of_pre (hp 0))))

theorem frame_words (m : (ℓ : Loc Cert.KernelIdeal.nD Cert.KernelIdeal.τ Cert.KernelIdeal.sig) → Buf (Elt Bits) ℓ) (ρ : Dev Cert.KernelIdeal.nD → PrngReg)
    (hO : Cert.KernelIdeal.Up.Ok m) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  (θ_run Cert.KernelIdeal.defs _ _).mono (fun _ h => ⟨fun c => (h.1 c).2, h.2⟩) (Cert.KernelIdeal.Up.run_main (F := Bits) m ρ hO)

/-- The two programs' regions are the same text. -/
theorem regions_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun x => ?_)
  match l, x with
  | ⟨0, _⟩, _ => rfl

theorem programs_eq {F : FTy → Type} [FloatOps F] : Cert.Kernel.defs (F := F) = Cert.KernelIdeal.defs (F := F) := by
  show Pipeline.defs Cert.KernelIdeal.pcfgs Cert.Kernel.defs₀ = Pipeline.defs Cert.KernelIdeal.pcfgs Cert.KernelIdeal.defs₀
  rw [regions_eq]

theorem frame_Kernel : Cert.quiescent_Kernel (hKernel := Cert.Kernel.Gen.facts) (hPre_tables := Cert.Pre_tables.Gen.facts) := by
  intro m ρ hp
  haveI := Cert.Pre_tables.Gen.facts
  have hO : Cert.KernelIdeal.Up.Ok (F := Bits) m := Cert.KernelIdeal.Up.ok_of_args (F := Bits) m (Cert.KernelIdeal.Up.words_of_pre (hp 0))
  have h := frame_words m ρ hO
  rw [← programs_eq] at h
  exact h

theorem frame_ReferenceIdeal : Cert.quiescent_ReferenceIdeal (hReferenceIdeal := Cert.ReferenceIdeal.Gen.facts) (hPre_tables := Cert.Pre_tables.Gen.facts) := by
  intro m ρ _
  exact (θ_run Cert.ReferenceIdeal.defs _ _).mono (fun _ h => ⟨fun c => (h c).2, sem_eq_zero_of_no_sems rfl _⟩) (Cert.ReferenceIdeal.Value.run m ρ)

/-- Two pairs of equal tables give one result. -/
theorem hidden_congr {be be' : IVec Cert.KernelIdeal.S159 32} {nu nu' : IVec Cert.KernelIdeal.S1 32} (h : Cert.KernelIdeal.Up.Words be nu)
    (h' : Cert.KernelIdeal.Up.Words be' nu') (e : be = be') (e' : nu = nu') (xs wg bg wu bu) :
    Cert.KernelIdeal.Up.hidden h xs wg bg wu bu = Cert.KernelIdeal.Up.hidden h' xs wg bg wu bu := by
  subst e; subst e'; rfl

theorem algebraic : Cert.algebraic_KernelIdeal_ReferenceIdeal (hKernelIdeal := Cert.KernelIdeal.Gen.facts) (hReferenceIdeal := Cert.ReferenceIdeal.Gen.facts)
    (hPre_tables := Cert.Pre_tables.Gen.facts) := by
  intro m g m' g' hp ha
  haveI := Cert.Pre_tables.Gen.facts
  have hw := Cert.KernelIdeal.Up.words_of_pre (hp 0)
  have hO : Cert.KernelIdeal.Up.Ok m := Cert.KernelIdeal.Up.ok_of_args m hw
  have ht : Cert.KernelIdeal.Up.Words (Cert.KernelIdeal.Up.tbl m 0) (Cert.KernelIdeal.Up.tbl m 1) := by
    rw [Cert.KernelIdeal.Up.tbl0_eq, Cert.KernelIdeal.Up.tbl1_eq]; exact hw
  refine ⟨fun c => (Cert.KernelIdeal.Up.dats m hO 0 c).arrAt 5 (Cert.KernelIdeal.Up.cfgM m hO).N,
    (θ_run Cert.KernelIdeal.defs _ _).mono (fun _ h c => h.1 c) (Cert.KernelIdeal.Up.run_main m g hO),
    (θ_run Cert.ReferenceIdeal.defs _ _).mono (fun _ h c => ⟨(h c).1.trans ?_, (h c).2⟩) (Cert.ReferenceIdeal.Value.run m' g')⟩
  obtain rfl : c = (0 : Fin 1) := Subsingleton.elim (α := Fin 1) _ _
  obtain ⟨e0, e1, e2, e3, e4, e5, e6⟩ := ha 0
  refine (Cert.ReferenceIdeal.Read.val_main_v74_eq m' 0).trans ?_
  rw [e0, e1, e2, e3, e4, e5, e6]
  refine (Cert.ReferenceIdeal.Up.result_eq hw _ _ _ _ _).trans ?_
  exact (hidden_congr hw ht (Cert.KernelIdeal.Up.tbl0_eq m).symm (Cert.KernelIdeal.Up.tbl1_eq m).symm _ _ _ _ _).trans
    (Cert.KernelIdeal.Up.result_eq m hO ht 0).symm

theorem frame_Kernel2Ideal : Cert.quiescent_Kernel2Ideal (hKernel2Ideal := Cert.Kernel2Ideal.Gen.facts) (hPre_tables2 := Cert.Pre_tables2.Gen.facts) := by
  intro m ρ hp
  haveI := Cert.Pre_tables2.Gen.facts
  exact (θ_run Cert.Kernel2Ideal.defs _ _).mono (fun _ h => ⟨fun c => (h.1 c).2, h.2⟩)
    (Cert.Kernel2Ideal.Down.run_main m ρ (Cert.Kernel2Ideal.Down.ok_of_args m (Cert.Kernel2Ideal.Down.words_of_pre (hp 0))))

theorem frame_words2 (m : (ℓ : Loc Cert.Kernel2Ideal.nD Cert.Kernel2Ideal.τ Cert.Kernel2Ideal.sig) → Buf (Elt Bits) ℓ) (ρ : Dev Cert.Kernel2Ideal.nD → PrngReg)
    (hO : Cert.Kernel2Ideal.Down.Ok m) :
    θ_run (Cert.Kernel2Ideal.defs (F := Bits)) (onTc (τ := Cert.Kernel2Ideal.τ) (Cert.Kernel2Ideal.main (F := Bits))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0) :=
  (θ_run Cert.Kernel2Ideal.defs _ _).mono (fun _ h => ⟨fun c => (h.1 c).2, h.2⟩) (Cert.Kernel2Ideal.Down.run_main (F := Bits) m ρ hO)

theorem regions_eq2 {F : FTy → Type} [FloatOps F] : Cert.Kernel2.defs₀ (F := F) = Cert.Kernel2Ideal.defs₀ (F := F) := by
  unfold Cert.Kernel2.defs₀ Cert.Kernel2Ideal.defs₀
  refine congrArg Defs.onTc (funext fun l => funext fun x => ?_)
  match l, x with
  | ⟨0, _⟩, _ => rfl

theorem programs_eq2 {F : FTy → Type} [FloatOps F] : Cert.Kernel2.defs (F := F) = Cert.Kernel2Ideal.defs (F := F) := by
  show Pipeline.defs Cert.Kernel2Ideal.pcfgs Cert.Kernel2.defs₀ = Pipeline.defs Cert.Kernel2Ideal.pcfgs Cert.Kernel2Ideal.defs₀
  rw [regions_eq2]

theorem frame_Kernel2 : Cert.quiescent_Kernel2 (hKernel2 := Cert.Kernel2.Gen.facts) (hPre_tables2 := Cert.Pre_tables2.Gen.facts) := by
  intro m ρ hp
  haveI := Cert.Pre_tables2.Gen.facts
  have hO : Cert.Kernel2Ideal.Down.Ok (F := Bits) m := Cert.Kernel2Ideal.Down.ok_of_args (F := Bits) m (Cert.Kernel2Ideal.Down.words_of_pre (hp 0))
  have h := frame_words2 m ρ hO
  rw [← programs_eq2] at h
  exact h

theorem frame_Reference2Ideal : Cert.quiescent_Reference2Ideal (hReference2Ideal := Cert.Reference2Ideal.Gen.facts) (hPre_tables2 := Cert.Pre_tables2.Gen.facts) := by
  intro m ρ _
  exact (θ_run Cert.Reference2Ideal.defs _ _).mono (fun _ h => ⟨fun c => (h c).2, sem_eq_zero_of_no_sems rfl _⟩) (Cert.Reference2Ideal.Value.run m ρ)

theorem down_congr {be be' : IVec Cert.KernelIdeal.S159 32} {nu nu' : IVec Cert.KernelIdeal.S1 32} (h : Cert.KernelIdeal.Up.Words be nu)
    (h' : Cert.KernelIdeal.Up.Words be' nu') (e : be = be') (e' : nu = nu') (x w b) :
    Cert.Kernel2Ideal.Down.down h x w b = Cert.Kernel2Ideal.Down.down h' x w b := by
  subst e; subst e'; rfl

theorem algebraic2 : Cert.algebraic_Kernel2Ideal_Reference2Ideal (hKernel2Ideal := Cert.Kernel2Ideal.Gen.facts) (hReference2Ideal := Cert.Reference2Ideal.Gen.facts)
    (hPre_tables2 := Cert.Pre_tables2.Gen.facts) := by
  intro m g m' g' hp ha
  haveI := Cert.Pre_tables2.Gen.facts
  have hw := Cert.Kernel2Ideal.Down.words_of_pre (hp 0)
  have hO : Cert.Kernel2Ideal.Down.Ok m := Cert.Kernel2Ideal.Down.ok_of_args m hw
  have ht : Cert.KernelIdeal.Up.Words (Cert.Kernel2Ideal.Down.tbl m 0) (Cert.Kernel2Ideal.Down.tbl m 1) := by
    rw [Cert.Kernel2Ideal.Down.tbl0_eq, Cert.Kernel2Ideal.Down.tbl1_eq]; exact hw
  refine ⟨fun c => (Cert.Kernel2Ideal.Down.dats m hO 0 c).arrAt 3 (Cert.Kernel2Ideal.Down.cfgM m hO).N,
    (θ_run Cert.Kernel2Ideal.defs _ _).mono (fun _ h c => h.1 c) (Cert.Kernel2Ideal.Down.run_main m g hO),
    (θ_run Cert.Reference2Ideal.defs _ _).mono (fun _ h c => ⟨(h c).1.trans ?_, (h c).2⟩) (Cert.Reference2Ideal.Value.run m' g')⟩
  obtain rfl : c = (0 : Fin 1) := Subsingleton.elim (α := Fin 1) _ _
  obtain ⟨e0, e1, e2, e3, e4⟩ := ha 0
  refine (Cert.Reference2Ideal.Read.val_main_v31_eq _ _ _ _ _).trans ?_
  rw [e0, e1, e2, e3, e4]
  refine (Cert.Reference2Ideal.Down.result_eq hw _ _ _).trans ?_
  exact (down_congr hw ht (Cert.Kernel2Ideal.Down.tbl0_eq m).symm (Cert.Kernel2Ideal.Down.tbl1_eq m).symm _ _ _).trans
    (Cert.Kernel2Ideal.Down.result_eq m hO ht 0).symm

theorem frame_Kernel3 : Cert.quiescent_Kernel3 (hKernel3 := Cert.Kernel3.Gen.facts) := fun m ρ _ => Cert.Kernel3.Gen.frame m ρ

theorem frame_Kernel3Ideal : Cert.quiescent_Kernel3Ideal (hKernel3Ideal := Cert.Kernel3Ideal.Gen.facts) := fun m ρ _ => Cert.Kernel3Ideal.Gen.frame m ρ

theorem frame_Reference3Ideal : Cert.quiescent_Reference3Ideal (hReference3Ideal := Cert.Reference3Ideal.Gen.facts) := by
  intro m ρ _
  exact (θ_run Cert.Reference3Ideal.defs _ _).mono (fun _ h => ⟨fun c => (h c).2.2.2.2.2.2.2.2, sem_eq_zero_of_no_sems rfl _⟩) (Cert.Reference3Ideal.Value.run m ρ)

theorem algebraic3 : Cert.algebraic_Kernel3Ideal_Reference3Ideal (hKernel3Ideal := Cert.Kernel3Ideal.Gen.facts) (hReference3Ideal := Cert.Reference3Ideal.Gen.facts) := by
  intro m g m' g' _ ha
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N,
    fun c => (Cert.Kernel3Ideal.Gen.dats m 0 c).arrAt 8 Cert.Kernel3Ideal.cfg0.N, fun c => (Cert.Kernel3Ideal.Gen.dats m 0 c).arrAt 9 Cert.Kernel3Ideal.cfg0.N,
    fun c => (Cert.Kernel3Ideal.Gen.dats m 0 c).arrAt 10 Cert.Kernel3Ideal.cfg0.N, fun c => (Cert.Kernel3Ideal.Gen.dats m 0 c).arrAt 11 Cert.Kernel3Ideal.cfg0.N,
    fun c => (Cert.Kernel3Ideal.Gen.dats m 0 c).arrAt 12 Cert.Kernel3Ideal.cfg0.N, fun c => (Cert.Kernel3Ideal.Gen.dats m 0 c).arrAt 13 Cert.Kernel3Ideal.cfg0.N,
    Cert.Kernel3Ideal.Value.run_blocks m g,
    (θ_run Cert.Reference3Ideal.defs _ _).mono (fun _ h c => ?_) (Cert.Reference3Ideal.Value.run m' g')⟩
  obtain rfl : c = (0 : Fin 1) := Subsingleton.elim (α := Fin 1) _ _
  obtain ⟨e0, e1, e2, e3, e4⟩ := ha 0
  obtain ⟨r0, r1, r2, r3, r4, r5, r6, r7, kept⟩ := h 0
  refine ⟨r0.trans ?_, r1.trans ?_, r2.trans ?_, r3.trans ?_, r4.trans ?_, r5.trans ?_, r6.trans ?_, r7.trans ?_, kept⟩
  · refine (Cert.Reference3Ideal.Read.val_main_v48_eq _ _ _ _ _).trans ?_
    rw [e0, e1, e2, e3, e4]
    exact (funext fun y => Cert.Reference3Ideal.Proj.result_48 _ _ _ _ _ y).trans (Cert.Kernel3Ideal.Proj.result_6 m 0).symm
  · refine (Cert.Reference3Ideal.Read.val_main_v52_eq _ _ _ _ _).trans ?_
    rw [e0, e1, e2, e3, e4]
    exact (funext fun y => Cert.Reference3Ideal.Proj.result_52 _ _ _ _ _ y).trans (Cert.Kernel3Ideal.Proj.result_7 m 0).symm
  · refine (Cert.Reference3Ideal.Read.val_main_v57_eq _ _ _ _ _).trans ?_
    rw [e0, e1, e2, e3, e4]
    exact (funext fun y => Cert.Reference3Ideal.Proj.result_57 _ _ _ _ _ y).trans (Cert.Kernel3Ideal.Proj.result_8 m 0).symm
  · refine (Cert.Reference3Ideal.Read.val_main_v63_eq m' 0).trans ?_
    rw [e0, e1, e2, e3, e4]
    exact (funext fun y => Cert.Reference3Ideal.Proj.result_63 _ _ _ _ _ y).trans (Cert.Kernel3Ideal.Proj.result_9 m 0).symm
  · refine (Cert.Reference3Ideal.Read.val_main_v70_eq _ _ _ _ _).trans ?_
    rw [e0, e1, e2, e3, e4]
    exact (funext fun y => Cert.Reference3Ideal.Proj.result_70 _ _ _ _ _ y).trans (Cert.Kernel3Ideal.Proj.result_10 m 0).symm
  · refine (Cert.Reference3Ideal.Read.val_main_v73_eq _ _ _ _ _).trans ?_
    rw [e0, e1, e2, e3, e4]
    exact (funext fun y => Cert.Reference3Ideal.Proj.result_73 _ _ _ _ _ y).trans (Cert.Kernel3Ideal.Proj.result_11 m 0).symm
  · refine (Cert.Reference3Ideal.Read.val_main_v80_eq _ _ _ _ _).trans ?_
    rw [e0, e1, e2, e3, e4]
    exact (funext fun y => Cert.Reference3Ideal.Proj.result_80 _ _ _ _ _ y).trans (Cert.Kernel3Ideal.Proj.result_12 m 0).symm
  · refine (Cert.Reference3Ideal.Read.val_main_v81_eq _ _ _ _ _).trans ?_
    rw [e0, e1, e2, e3, e4]
    exact (funext fun y => Cert.Reference3Ideal.Proj.result_81 _ _ _ _ _ y).trans (Cert.Kernel3Ideal.Proj.result_13 m 0).symm

theorem frame_Kernel4 : Cert.quiescent_Kernel4 (hKernel4 := Cert.Kernel4.Gen.facts) := fun m ρ _ => Cert.Kernel4.Gen.frame m ρ

theorem frame_Kernel4Ideal : Cert.quiescent_Kernel4Ideal (hKernel4Ideal := Cert.Kernel4Ideal.Gen.facts) := fun m ρ _ => Cert.Kernel4Ideal.Gen.frame m ρ

theorem frame_Reference4Ideal : Cert.quiescent_Reference4Ideal (hReference4Ideal := Cert.Reference4Ideal.Gen.facts) := by
  intro m ρ _
  exact (θ_run Cert.Reference4Ideal.defs _ _).mono (fun _ h => ⟨fun c => (h c).2.2, sem_eq_zero_of_no_sems rfl _⟩) (Cert.Reference4Ideal.Value.run m ρ)

theorem algebraic4 : Cert.algebraic_Kernel4Ideal_Reference4Ideal (hKernel4Ideal := Cert.Kernel4Ideal.Gen.facts) (hReference4Ideal := Cert.Reference4Ideal.Gen.facts) := by
  intro m g m' g' _ ha
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N,
    Cert.Kernel4Ideal.Value.run_blocks m g,
    (θ_run Cert.Reference4Ideal.defs _ _).mono (fun _ h c => ?_) (Cert.Reference4Ideal.Value.run m' g')⟩
  obtain rfl : c = (0 : Fin 1) := Subsingleton.elim (α := Fin 1) _ _
  obtain ⟨e0, e1, e2, e3, e4, e5, e6, e7, e8, e9, e10⟩ := ha 0
  obtain ⟨r0, r1, kept⟩ := h 0
  refine ⟨r0.trans ?_, r1.trans ?_, kept⟩
  · refine (Cert.Reference4Ideal.Read.val_main_v83_eq m' 0).trans ?_
    rw [e0, e1, e2, e3, e4, e5, e6, e7, e8, e9, e10]
    exact (funext fun y => Cert.Reference4Ideal.Cmp.result_83 _ _ _ _ _ _ _ _ _ _ _ y).trans (Cert.Kernel4Ideal.Cmp.result_6 m 0).symm
  · refine (Cert.Reference4Ideal.Read.val_main_v85_eq m' 0).trans ?_
    rw [e0, e1, e2, e3, e4, e5, e6, e7, e8, e9, e10]
    exact (funext fun y => Cert.Reference4Ideal.Cmp.result_85 _ _ _ _ _ _ _ _ _ _ _ y).trans (Cert.Kernel4Ideal.Cmp.result_7 m 0).symm

theorem frame_Kernel5 : Cert.quiescent_Kernel5 (hKernel5 := Cert.Kernel5.Gen.facts) := fun m ρ _ => Cert.Kernel5.Gen.frame m ρ

theorem frame_Kernel5Ideal : Cert.quiescent_Kernel5Ideal (hKernel5Ideal := Cert.Kernel5Ideal.Gen.facts) := fun m ρ _ => Cert.Kernel5Ideal.Gen.frame m ρ

theorem frame_Reference5Ideal : Cert.quiescent_Reference5Ideal (hReference5Ideal := Cert.Reference5Ideal.Gen.facts) := by
  intro m ρ _
  exact (θ_run Cert.Reference5Ideal.defs _ _).mono (fun _ h => ⟨fun c => (h c).2, sem_eq_zero_of_no_sems rfl _⟩) (Cert.Reference5Ideal.Value.run m ρ)

theorem algebraic5 : Cert.algebraic_Kernel5Ideal_Reference5Ideal (hKernel5Ideal := Cert.Kernel5Ideal.Gen.facts) (hReference5Ideal := Cert.Reference5Ideal.Gen.facts) := by
  intro m g m' g' _ ha
  refine ⟨fun c => (Cert.Kernel5Ideal.Gen.dats m 0 c).arrAt 3 Cert.Kernel5Ideal.cfg0.N,
    Cert.Kernel5Ideal.Value.run_blocks m g,
    (θ_run Cert.Reference5Ideal.defs _ _).mono (fun _ h c => ?_) (Cert.Reference5Ideal.Value.run m' g')⟩
  obtain rfl : c = (0 : Fin 1) := Subsingleton.elim (α := Fin 1) _ _
  obtain ⟨e0, e1, e2⟩ := ha 0
  obtain ⟨r0, kept⟩ := h 0
  refine ⟨r0.trans ?_, kept⟩
  refine (Cert.Reference5Ideal.Read.val_main_v67_eq m' 0).trans ?_
  rw [e0, e1, e2]
  exact (funext fun y => Cert.Reference5Ideal.Pool.result_67 _ _ _ y).trans (Cert.Kernel5Ideal.Pool.result_3 m 0).symm

theorem frame_Kernel6 : Cert.quiescent_Kernel6 (hKernel6 := Cert.Kernel6.Gen.facts) := fun m ρ _ => Cert.Kernel6.Gen.frame m ρ

theorem frame_Kernel6Ideal : Cert.quiescent_Kernel6Ideal (hKernel6Ideal := Cert.Kernel6Ideal.Gen.facts) := fun m ρ _ => Cert.Kernel6Ideal.Gen.frame m ρ

theorem frame_Reference6Ideal : Cert.quiescent_Reference6Ideal (hReference6Ideal := Cert.Reference6Ideal.Gen.facts) := by
  intro m ρ _
  exact (θ_run Cert.Reference6Ideal.defs _ _).mono (fun _ h => ⟨fun c => (h c).2, sem_eq_zero_of_no_sems rfl _⟩) (Cert.Reference6Ideal.Value.run m ρ)

theorem algebraic6 : Cert.algebraic_Kernel6Ideal_Reference6Ideal (hKernel6Ideal := Cert.Kernel6Ideal.Gen.facts) (hReference6Ideal := Cert.Reference6Ideal.Gen.facts) := by
  intro m g m' g' _ ha
  refine ⟨fun c => (Cert.Kernel6Ideal.Gen.dats m 0 c).arrAt 3 Cert.Kernel6Ideal.cfg0.N,
    Cert.Kernel6Ideal.Value.run_blocks m g,
    (θ_run Cert.Reference6Ideal.defs _ _).mono (fun _ h c => ?_) (Cert.Reference6Ideal.Value.run m' g')⟩
  obtain rfl : c = (0 : Fin 1) := Subsingleton.elim (α := Fin 1) _ _
  obtain ⟨e0, e1, e2⟩ := ha 0
  obtain ⟨r0, kept⟩ := h 0
  refine ⟨r0.trans ?_, kept⟩
  refine (Cert.Reference6Ideal.Read.val_main_v20_eq _ _ _).trans ?_
  rw [e0, e1, e2]
  exact (funext fun y => Cert.Reference6Ideal.Mod.result_20 _ _ _ y).trans (Cert.Kernel6Ideal.Mod.result_3 m 0).symm

theorem frame_Kernel7 : Cert.quiescent_Kernel7 (hKernel7 := Cert.Kernel7.Gen.facts) (hPre_experts := Cert.Pre_experts.Gen.facts) := fun m ρ _ => Cert.Kernel7.Gen.frame m ρ

theorem frame_Kernel7Ideal : Cert.quiescent_Kernel7Ideal (hKernel7Ideal := Cert.Kernel7Ideal.Gen.facts) (hPre_experts := Cert.Pre_experts.Gen.facts) := fun m ρ _ => Cert.Kernel7Ideal.Gen.frame m ρ

theorem frame_Reference7Ideal : Cert.quiescent_Reference7Ideal (hReference7Ideal := Cert.Reference7Ideal.Gen.facts) (hPre_experts := Cert.Pre_experts.Gen.facts) := by
  intro m ρ _
  exact (θ_run Cert.Reference7Ideal.defs _ _).mono (fun _ h => ⟨fun c => (h c).2, sem_eq_zero_of_no_sems rfl _⟩) (Cert.Reference7Ideal.Value.run m ρ)

theorem algebraic7 : Cert.algebraic_Kernel7Ideal_Reference7Ideal (hKernel7Ideal := Cert.Kernel7Ideal.Gen.facts) (hReference7Ideal := Cert.Reference7Ideal.Gen.facts)
    (hPre_experts := Cert.Pre_experts.Gen.facts) := by
  intro m g m' g' hp ha
  haveI := Cert.Pre_experts.Gen.facts
  have hw := Cert.Reference7Ideal.Dest.words_of_pre (hp 0)
  refine ⟨fun c => (Cert.Kernel7Ideal.Gen.dats m 0 c).arrAt 3 Cert.Kernel7Ideal.cfg0.N,
    Cert.Kernel7Ideal.Value.run_blocks m g,
    (θ_run Cert.Reference7Ideal.defs _ _).mono (fun _ h c => ?_) (Cert.Reference7Ideal.Value.run m' g')⟩
  obtain rfl : c = (0 : Fin 1) := Subsingleton.elim (α := Fin 1) _ _
  obtain ⟨e0, e1, e2⟩ := ha 0
  obtain ⟨r0, kept⟩ := h 0
  refine ⟨r0.trans ?_, kept⟩
  refine (Cert.Reference7Ideal.Read.val_main_v7_eq _ _ _).trans ?_
  rw [e0, e1, e2]
  exact (Cert.Reference7Ideal.Dest.reference_value _ _ _ hw).trans (Cert.Kernel7Ideal.Dest.result_3 m 0).symm

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts,
  Cert.Pre_tables.Gen.facts, Cert.Pre_tables2.Gen.facts, Cert.Pre_experts.Gen.facts,
  frame_Kernel, frame_KernelIdeal, frame_ReferenceIdeal, frame_Kernel2, frame_Kernel2Ideal, frame_Reference2Ideal, frame_Kernel3, frame_Kernel3Ideal, frame_Reference3Ideal,
  frame_Kernel4, frame_Kernel4Ideal, frame_Reference4Ideal, frame_Kernel5, frame_Kernel5Ideal, frame_Reference5Ideal,
  frame_Kernel6, frame_Kernel6Ideal, frame_Reference6Ideal, frame_Kernel7, frame_Kernel7Ideal, frame_Reference7Ideal,
  trivial, algebraic, trivial, algebraic2, trivial, algebraic3, trivial, algebraic4, trivial, algebraic5, trivial, algebraic6, trivial, algebraic7⟩

end Cert.Proof

end
